-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).2.2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))).2.2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).2.2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))).2.2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.2.1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.2.2.1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.2.2.2.1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.2.2.2.2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.2.1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.2.2.1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.2.2.2.1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.2.2.2.2 = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_v37) = v1 c
          ∧ r.2.mem ((c.tc : Thread Cert.Reference11Ideal.nD Cert.Reference11Ideal.τ).loc Cert.Reference11Ideal.main_v28) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)) (v2 : (c : Dev Cert.Kernel12Ideal.nD) → Buf (Elt Ideal) ((c.tc : Thread Cert.Kernel12Ideal.nD Cert.Kernel12Ideal.τ).loc Cert.Kernel12Ideal.main_v8_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_v8_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v52) = v0 c
          ∧ r.2.mem ((c.tc : Thread Cert.Reference12Ideal.nD Cert.Reference12Ideal.τ).loc Cert.Reference12Ideal.main_v32) = v1 c
          ∧ r.2.mem ((c.tc : Thread Cert.Reference12Ideal.nD Cert.Reference12Ideal.τ).loc Cert.Reference12Ideal.main_v37) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v8_1)) (v2 : (c : Dev Cert.Kernel13Ideal.nD) → Buf (Elt Ideal) ((c.tc : Thread Cert.Kernel13Ideal.nD Cert.Kernel13Ideal.τ).loc Cert.Kernel13Ideal.main_v8_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v8_1) = v1 c
          ∧ r.2.mem ((c.tc : Thread Cert.Kernel13Ideal.nD Cert.Kernel13Ideal.τ).loc Cert.Kernel13Ideal.main_v8_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v52) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_v37) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v8_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v8_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v81) = v0 c
          ∧ r.2.mem ((c.tc : Thread Cert.Reference14Ideal.nD Cert.Reference14Ideal.τ).loc Cert.Reference14Ideal.main_v52) = v1 c
          ∧ r.2.mem ((c.tc : Thread Cert.Reference14Ideal.nD Cert.Reference14Ideal.τ).loc Cert.Reference14Ideal.main_v65) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v8_0)) (v1 : (c : Dev Cert.Kernel15Ideal.nD) → Buf (Elt Ideal) ((c.tc : Thread Cert.Kernel15Ideal.nD Cert.Kernel15Ideal.τ).loc Cert.Kernel15Ideal.main_v8_1)) (v2 : (c : Dev Cert.Kernel15Ideal.nD) → Buf (Elt Ideal) ((c.tc : Thread Cert.Kernel15Ideal.nD Cert.Kernel15Ideal.τ).loc Cert.Kernel15Ideal.main_v8_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8_0) = v0 c
          ∧ r.2.mem ((c.tc : Thread Cert.Kernel15Ideal.nD Cert.Kernel15Ideal.τ).loc Cert.Kernel15Ideal.main_v8_1) = v1 c
          ∧ r.2.mem ((c.tc : Thread Cert.Kernel15Ideal.nD Cert.Kernel15Ideal.τ).loc Cert.Kernel15Ideal.main_v8_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v80) = v0 c
          ∧ r.2.mem ((c.tc : Thread Cert.Reference15Ideal.nD Cert.Reference15Ideal.τ).loc Cert.Reference15Ideal.main_v51) = v1 c
          ∧ r.2.mem ((c.tc : Thread Cert.Reference15Ideal.nD Cert.Reference15Ideal.τ).loc Cert.Reference15Ideal.main_v64) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v20) = v0 c
          ∧ r.2.mem ((c.tc : Thread Cert.Reference16Ideal.nD Cert.Reference16Ideal.τ).loc Cert.Reference16Ideal.main_v7) = v1 c
          ∧ r.2.mem ((c.tc : Thread Cert.Reference16Ideal.nD Cert.Reference16Ideal.τ).loc Cert.Reference16Ideal.main_v23) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v20) = v0 c
          ∧ r.2.mem ((c.tc : Thread Cert.Reference17Ideal.nD Cert.Reference17Ideal.τ).loc Cert.Reference17Ideal.main_v7) = v1 c
          ∧ r.2.mem ((c.tc : Thread Cert.Reference17Ideal.nD Cert.Reference17Ideal.τ).loc Cert.Reference17Ideal.main_v23) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v30) = v0 c
          ∧ r.2.mem ((c.tc : Thread Cert.Reference18Ideal.nD Cert.Reference18Ideal.τ).loc Cert.Reference18Ideal.main_v7) = v1 c
          ∧ r.2.mem ((c.tc : Thread Cert.Reference18Ideal.nD Cert.Reference18Ideal.τ).loc Cert.Reference18Ideal.main_v33) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v31) = v1 c
          ∧ r.2.mem ((c.tc : Thread Cert.Reference19Ideal.nD Cert.Reference19Ideal.τ).loc Cert.Reference19Ideal.main_v8) = v2 c
          ∧ r.2.mem ((c.tc : Thread Cert.Reference19Ideal.nD Cert.Reference19Ideal.τ).loc Cert.Reference19Ideal.main_v34) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v7) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_v8) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_v12) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v57) = v1 c
          ∧ r.2.mem ((c.tc : Thread Cert.Reference23Ideal.nD Cert.Reference23Ideal.τ).loc Cert.Reference23Ideal.main_v56) = v2 c
          ∧ r.2.mem ((c.tc : Thread Cert.Reference23Ideal.nD Cert.Reference23Ideal.τ).loc Cert.Reference23Ideal.main_v40) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v33) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v158) = v0 c
          ∧ r.2.mem ((c.tc : Thread Cert.Reference25Ideal.nD Cert.Reference25Ideal.τ).loc Cert.Reference25Ideal.main_v159) = v1 c
          ∧ r.2.mem ((c.tc : Thread Cert.Reference25Ideal.nD Cert.Reference25Ideal.τ).loc Cert.Reference25Ideal.main_v164) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite12 : Cert.Pre_finite12.Facts) (hPre_finite13 : Cert.Pre_finite13.Facts) (hPre_finite14 : Cert.Pre_finite14.Facts) (hPre_finite15 : Cert.Pre_finite15.Facts) (hPre_finite23 : Cert.Pre_finite23.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite23 (hKernel23Ideal := hKernel23Ideal) (hReference23Ideal := hReference23Ideal) (hPre_finite23 := hPre_finite23)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S2048x1024 : Shape := ⟨2, ![2048, 1024]⟩
abbrev S2048x4096 : Shape := ⟨2, ![2048, 4096]⟩
abbrev S3x1024 : Shape := ⟨2, ![3, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x4096 : S_.BroadcastsInDim S2048x4096 (![] : Fin 0 → Fin S2048x4096.rank)
  bcast_S_S3x1024 : S_.BroadcastsInDim S3x1024 (![] : Fin 0 → Fin S3x1024.rank)
  bcast_S_S1x1024 : S_.BroadcastsInDim S1x1024 (![] : Fin 0 → Fin S1x1024.rank)

variable [Facts]

def fn {F : FTy → Type} [FloatOps F] (main_arg0 : FVec F S2048x1024 .bf16) (main_arg1 : FVec F S2048x4096 .bf16) (main_arg2 : FVec F S3x1024 .f32) (main_arg3 : FVec F S1x1024 .f32) : IVec S2048x1024 1 × IVec S2048x4096 1 × IVec S3x1024 1 × IVec S1x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x4096 .f32 := (extf .f32 · bitsLt_bf16_f32) main_arg1
  let main_v5 : FVec F S2048x4096 .f32 := Host.absf main_v4
  let main_cst_0 : FVec F S_ .f32 := constant S_ .f32 0x7F800000#32
  let main_v6 : FVec F S2048x4096 .f32 := broadcastInDim S2048x4096 ![] bcast_S_S2048x4096 main_cst_0
  let main_v7 : IVec S2048x4096 1 := cmpf .olt main_v5 main_v6
  let main_v8 : FVec F S3x1024 .f32 := Host.absf main_arg2
  let main_cst_1 : FVec F S_ .f32 := constant S_ .f32 0x7F800000#32
  let main_v9 : FVec F S3x1024 .f32 := broadcastInDim S3x1024 ![] bcast_S_S3x1024 main_cst_1
  let main_v10 : IVec S3x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Pre_finite12.lean ====
abbrev S4x2048x1024 : Shape := ⟨3, ![4, 2048, 1024]⟩
abbrev S1024x4096 : Shape := ⟨2, ![1024, 4096]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  bcast_S_S1024x4096 : S_.BroadcastsInDim S1024x4096 (![] : Fin 0 → Fin S1024x4096.rank)
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x1x1024 : S_.BroadcastsInDim S1x1x1024 (![] : Fin 0 → Fin S1x1x1024.rank)

variable [Facts]

def fn {F : FTy → Type} [FloatOps F] (main_arg0 : FVec F S4x2048x1024 .bf16) (main_arg1 : FVec F S1024x4096 .bf16) (main_arg2 : FVec F S2048x1024 .f32) (main_arg3 : FVec F S1x1024 .f32) (main_arg4 : FVec F S1x1x1024 .f32) (main_arg5 : FVec F S2048x1024 .f32) : IVec S4x2048x1024 1 × IVec S1024x4096 1 × IVec S2048x1024 1 × IVec S1x1024 1 × IVec S1x1x1024 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1x1x1024 .f32 := Host.absf main_arg4
  let main_cst_3 : FVec F S_ .f32 := constant S_ .f32 0x7F800000#32
  let main_v15 : FVec F S1x1x1024 .f32 := broadcastInDim S1x1x1024 ![] bcast_S_S1x1x1024 main_cst_3
  let main_v16 : IVec S1x1x1024 1 := cmpf .olt main_v14 main_v15
  (main_v3, main_v7, main_v10, main_v13, main_v16)
-- ==== Pre_finite13.lean ====
abbrev S2x2048x1024 : Shape := ⟨3, ![2, 2048, 1024]⟩
abbrev S1024x2048 : Shape := ⟨2, ![1024, 2048]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩

class Facts : Prop where
  bitsLt_bf16_f32 : FTy.bits .bf16 < FTy.bits .f32
  bcast_S_S2x2048x1024 : S_.BroadcastsInDim S2x2048x1024 (![] : Fin 0 → Fin S2x2048x1024.rank)
  bcast_S_S1024x2048 : S_.BroadcastsInDim S1024x2048 (![] : Fin 0 → Fin S1024x2048.rank)
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x1x1024 : S_.BroadcastsInDim S1x1x1024 (![] : Fin 0 → Fin S1x1x1024.rank)

variable [Facts]

def fn {F : FTy → Type} [FloatOps F] (main_arg0 : FVec F S2x2048x1024 .bf16) (main_arg1 : FVec F S1024x2048 .bf16) (main_arg2 : FVec F S2048x1024 .f32) (main_arg3 : FVec F S1x1024 .f32) (main_arg4 : FVec F S1x1x1024 .f32) (main_arg5 : FVec F S2048x1024 .f32) : IVec S2x2048x1024 1 × IVec S1024x2048 1 × IVec S2048x1024 1 × IVec S1x1024 1 × IVec S1x1x1024 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_v4 : FVec F S1024x2048 .f32 := (extf .f32 · bitsLt_bf16_f32) main_arg1
  let main_v5 : FVec F S1024x2048 .f32 := Host.absf main_v4
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1x1x1024 .f32 := Host.absf main_arg4
  let main_cst_3 : FVec F S_ .f32 := constant S_ .f32 0x7F800000#32
  let main_v15 : FVec F S1x1x1024 .f32 := broadcastInDim S1x1x1024 ![] bcast_S_S1x1x1024 main_cst_3
  let main_v16 : IVec S1x1x1024 1 := cmpf .olt main_v14 main_v15
  (main_v3, main_v7, main_v10, main_v13, main_v16)
-- ==== Pre_finite14.lean ====
abbrev S4x2304x1024 : Shape := ⟨3, ![4, 2304, 1024]⟩
abbrev S1024x4096 : Shape := ⟨2, ![1024, 4096]⟩
abbrev S2304x1024 : Shape := ⟨2, ![2304, 1024]⟩
abbrev S1x1024 : Shape := ⟨2, ![1, 1024]⟩
abbrev S2x1x1024 : Shape := ⟨3, ![2, 1, 1024]⟩
abbrev S2048x1024 : Shape := ⟨2, ![2048, 1024]⟩
abbrev S_ : Shape := ⟨0, ![]⟩

class Facts : Prop where
  bitsLt_bf16_f32 : FTy.bits .bf16 < FTy.bits .f32
  bcast_S_S4x2304x1024 : S_.BroadcastsInDim S4x2304x1024 (![] : Fin 0 → Fin S4x2304x1024.rank)
  bcast_S_S1024x4096 : S_.BroadcastsInDim S1024x4096 (![] : Fin 0 → Fin S1024x4096.rank)
  bcast_S_S2304x1024 : S_.BroadcastsInDim S2304x1024 (![] : Fin 0 → Fin S2304x1024.rank)
  bcast_S_S1x1024 : S_.BroadcastsInDim S1x1024 (![] : Fin 0 → Fin S1x1024.rank)
  bcast_S_S2x1x1024 : S_.BroadcastsInDim S2x1x1024 (![] : Fin 0 → Fin S2x1x1024.rank)

variable [Facts]

def fn {F : FTy → Type} [FloatOps F] (main_arg0 : FVec F S4x2304x1024 .bf16) (main_arg1 : FVec F S1024x4096 .bf16) (main_arg2 : FVec F S2304x1024 .f32) (main_arg3 : FVec F S1x1024 .f32) (main_arg4 : FVec F S2x1x1024 .f32) (main_arg5 : FVec F S2048x1024 .f32) : IVec S4x2304x1024 1 × IVec S1024x4096 1 × IVec S2304x1024 1 × IVec S1x1024 1 × IVec S2x1x1024 1 :=
  let main_v0 : FVec F S4x2304x1024 .f32 := (extf .f32 · bitsLt_bf16_f32) main_arg0
  let main_v1 : FVec F S4x2304x1024 .f32 := Host.absf main_v0
  let main_cst : FVec F S_ .f32 := constant S_ .f32 0x7F800000#32
  let main_v2 : FVec F S4x2304x1024 .f32 := broadcastInDim S4x2304x1024 ![] bcast_S_S4x2304x1024 main_cst
  let main_v3 : IVec S4x2304x1024 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S2304x1024 .f32 := Host.absf main_arg2
  let main_cst_1 : FVec F S_ .f32 := constant S_ .f32 0x7F800000#32
  let main_v9 : FVec F S2304x1024 .f32 := broadcastInDim S2304x1024 ![] bcast_S_S2304x1024 main_cst_1
  let main_v10 : IVec S2304x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S2x1x1024 .f32 := Host.absf main_arg4
  let main_cst_3 : FVec F S_ .f32 := constant S_ .f32 0x7F800000#32
  let main_v15 : FVec F S2x1x1024 .f32 := broadcastInDim S2x1x1024 ![] bcast_S_S2x1x1024 main_cst_3
  let main_v16 : IVec S2x1x1024 1 := cmpf .olt main_v14 main_v15
  (main_v3, main_v7, main_v10, main_v13, main_v16)
-- ==== Pre_finite15.lean ====
abbrev S2x2304x1024 : Shape := ⟨3, ![2, 2304, 1024]⟩
abbrev S1024x2048 : Shape := ⟨2, ![1024, 2048]⟩
abbrev S2304x1024 : Shape := ⟨2, ![2304, 1024]⟩
abbrev S1x1024 : Shape := ⟨2, ![1, 1024]⟩
abbrev S2x1x1024 : Shape := ⟨3, ![2, 1, 1024]⟩
abbrev S_ : Shape := ⟨0, ![]⟩

class Facts : Prop where
  bitsLt_bf16_f32 : FTy.bits .bf16 < FTy.bits .f32
  bcast_S_S2x2304x1024 : S_.BroadcastsInDim S2x2304x1024 (![] : Fin 0 → Fin S2x2304x1024.rank)
  bcast_S_S1024x2048 : S_.BroadcastsInDim S1024x2048 (![] : Fin 0 → Fin S1024x2048.rank)
  bcast_S_S2304x1024 : S_.BroadcastsInDim S2304x1024 (![] : Fin 0 → Fin S2304x1024.rank)
  bcast_S_S1x1024 : S_.BroadcastsInDim S1x1024 (![] : Fin 0 → Fin S1x1024.rank)
  bcast_S_S2x1x1024 : S_.BroadcastsInDim S2x1x1024 (![] : Fin 0 → Fin S2x1x1024.rank)

variable [Facts]

def fn {F : FTy → Type} [FloatOps F] (main_arg0 : FVec F S2x2304x1024 .bf16) (main_arg1 : FVec F S1024x2048 .bf16) (main_arg2 : FVec F S2304x1024 .f32) (main_arg3 : FVec F S1x1024 .f32) (main_arg4 : FVec F S2x1x1024 .f32) (main_arg5 : FVec F S2304x1024 .f32) : IVec S2x2304x1024 1 × IVec S1024x2048 1 × IVec S2304x1024 1 × IVec S1x1024 1 × IVec S2x1x1024 1 :=
  let main_v0 : FVec F S2x2304x1024 .f32 := (extf .f32 · bitsLt_bf16_f32) main_arg0
  let main_v1 : FVec F S2x2304x1024 .f32 := Host.absf main_v0
  let main_cst : FVec F S_ .f32 := constant S_ .f32 0x7F800000#32
  let main_v2 : FVec F S2x2304x1024 .f32 := broadcastInDim S2x2304x1024 ![] bcast_S_S2x2304x1024 main_cst
  let main_v3 : IVec S2x2304x1024 1 := cmpf .olt main_v1 main_v2
  let main_v4 : FVec F S1024x2048 .f32 := (extf .f32 · bitsLt_bf16_f32) main_arg1
  let main_v5 : FVec F S1024x2048 .f32 := Host.absf main_v4
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_v8 : FVec F S2304x1024 .f32 := Host.absf main_arg2
  let main_cst_1 : FVec F S_ .f32 := constant S_ .f32 0x7F800000#32
  let main_v9 : FVec F S2304x1024 .f32 := broadcastInDim S2304x1024 ![] bcast_S_S2304x1024 main_cst_1
  let main_v10 : IVec S2304x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S2x1x1024 .f32 := Host.absf main_arg4
  let main_cst_3 : FVec F S_ .f32 := constant S_ .f32 0x7F800000#32
  let main_v15 : FVec F S2x1x1024 .f32 := broadcastInDim S2x1x1024 ![] bcast_S_S2x1x1024 main_cst_3
  let main_v16 : IVec S2x1x1024 1 := cmpf .olt main_v14 main_v15
  (main_v3, main_v7, main_v10, main_v13, main_v16)
-- ==== Pre_finite23.lean ====
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S1x1x1024 : S_.BroadcastsInDim S1x1x1024 (![] : Fin 0 → Fin S1x1x1024.rank)
  bcast_S_S1x1024 : S_.BroadcastsInDim S1x1024 (![] : Fin 0 → Fin S1x1024.rank)

variable [Facts]

def fn_part1 {F : FTy → Type} [FloatOps F] (main_v3 : IVec S2048x1024 1) (main_v7 : IVec S1024x1024 1) (main_v10 : IVec S2048x1024 1) (main_v13 : IVec S1x1x1024 1) (main_v16 : IVec S1x1024 1) (main_v17 : FVec F S2048x1024 .f32) (main_cst_4 : FVec F S_ .f32) : IVec S2048x1024 1 × IVec S1024x1024 1 × IVec S2048x1024 1 × IVec S1x1x1024 1 × IVec S1x1024 1 × IVec S2048x1024 1 :=
  let main_v18 : FVec F S2048x1024 .f32 := broadcastInDim S2048x1024 ![] bcast_S_S2048x1024 main_cst_4
  let main_v19 : IVec S2048x1024 1 := cmpf .olt main_v17 main_v18
  (main_v3, main_v7, main_v10, main_v13, main_v16, main_v19)

def fn {F : FTy → Type} [FloatOps F] (main_arg0 : FVec F S2048x1024 .bf16) (main_arg1 : FVec F S1024x1024 .bf16) (main_arg2 : FVec F S2048x1024 .f32) (main_arg3 : FVec F S1x1x1024 .f32) (main_arg4 : FVec F S1x1024 .f32) (main_arg5 : FVec F S2048x1024 .f32) : IVec S2048x1024 1 × IVec S1024x1024 1 × IVec S2048x1024 1 × IVec S1x1x1024 1 × IVec S1x1024 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S1x1x1024 .f32 := Host.absf main_arg3
  let main_cst_2 : FVec F S_ .f32 := constant S_ .f32 0x7F800000#32
  let main_v12 : FVec F S1x1x1024 .f32 := broadcastInDim S1x1x1024 ![] bcast_S_S1x1x1024 main_cst_2
  let main_v13 : IVec S1x1x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S2048x1024 .f32 := Host.absf main_arg5
  let main_cst_4 : FVec F S_ .f32 := constant S_ .f32 0x7F800000#32
  fn_part1 (F := F) main_v3 main_v7 main_v10 main_v13 main_v16 main_v17 main_cst_4
-- ==== Kernel.lean ====
abbrev S2048x1024 : Shape := ⟨2, ![2048, 1024]⟩
abbrev S2048x4096 : Shape := ⟨2, ![2048, 4096]⟩
abbrev S3x1024 : Shape := ⟨2, ![3, 1024]⟩
abbrev S1x1024 : Shape := ⟨2, ![1, 1024]⟩
abbrev S4x2048x1024 : Shape := ⟨3, ![4, 2048, 1024]⟩
abbrev S2048x128 : Shape := ⟨2, ![2048, 128]⟩
abbrev S3x128 : Shape := ⟨2, ![3, 128]⟩
abbrev S1x128 : Shape := ⟨2, ![1, 128]⟩
abbrev S4x2048x128 : Shape := ⟨3, ![4, 2048, 128]⟩
abbrev S1x2048x128 : Shape := ⟨3, ![1, 2048, 128]⟩
abbrev S128 : Shape := ⟨1, ![128]⟩

abbrev nBuf : Space → Nat
  | .hbm => 7
  | .vmem => 20
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S3x1024, .f32⟩
  | .hbm, ⟨3, _⟩ => ⟨S1x1024, .f32⟩
  | .hbm, ⟨4, _⟩ => ⟨S4x2048x1024, .bf16⟩
  | .hbm, ⟨5, _⟩ => ⟨S3x1024, .f32⟩
  | .hbm, ⟨6, _⟩ => ⟨S1x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S4x2048x128, .bf16⟩
  | .local _ .vmem, ⟨15, _⟩ => ⟨S4x2048x128, .bf16⟩
  | .local _ .vmem, ⟨16, _⟩ => ⟨S3x128, .f32⟩
  | .local _ .vmem, ⟨17, _⟩ => ⟨S3x128, .f32⟩
  | .local _ .vmem, ⟨18, _⟩ => ⟨S1x128, .f32⟩
  | .local _ .vmem, ⟨19, _⟩ => ⟨S1x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x1024 : Shape := ⟨2, ![2048, 1024]⟩
abbrev S2048x4096 : Shape := ⟨2, ![2048, 4096]⟩
abbrev S3x1024 : Shape := ⟨2, ![3, 1024]⟩
abbrev S1x1024 : Shape := ⟨2, ![1, 1024]⟩
abbrev S_ : Shape := ⟨0, ![]⟩
abbrev S2047x1024 : Shape := ⟨2, ![2047, 1024]⟩
abbrev S1024 : Shape := ⟨1, ![1024]⟩
abbrev S2048x4x1024 : Shape := ⟨3, ![2048, 4, 1024]⟩
abbrev S4x2048x1024 : Shape := ⟨3, ![4, 2048, 1024]⟩

abbrev nBuf : Space → Nat
  | .hbm => 117
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S3x1024, .f32⟩
  | .hbm, ⟨3, _⟩ => ⟨S1x1024, .f32⟩
  | .hbm, ⟨4, _⟩ => ⟨S2048x1024, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S1x1024, .f32⟩
  | .hbm, ⟨13, _⟩ => ⟨S2047x1024, .f32⟩
  | .hbm, ⟨14, _⟩ => ⟨S2048x1024, .f32⟩
  | .hbm, ⟨15, _⟩ => ⟨S_, .f32⟩
  | .hbm, ⟨16, _⟩ => ⟨S1x1024, .f32⟩
  | .hbm, ⟨17, _⟩ => ⟨S2047x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S3x1024, .f32⟩
  | .hbm, ⟨88, _⟩ => ⟨S3x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S_, .f32⟩
  | .hbm, ⟨99, _⟩ => ⟨S3x1024, .f32⟩
  | .hbm, ⟨100, _⟩ => ⟨S3x1024, .f32⟩
  | .hbm, ⟨101, _⟩ => ⟨S2047x1024, .f32⟩
  | .hbm, ⟨102, _⟩ => ⟨S1x1024, .f32⟩
  | .hbm, ⟨103, _⟩ => ⟨S_, .f32⟩
  | .hbm, ⟨104, _⟩ => ⟨S2048x1024, .f32⟩
  | .hbm, ⟨105, _⟩ => ⟨S2048x1024, .f32⟩
  | .hbm, ⟨106, _⟩ => ⟨S1x1024, .f32⟩
  | .hbm, ⟨107, _⟩ => ⟨S2047x1024, .f32⟩
  | .hbm, ⟨108, _⟩ => ⟨S_, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x4096, .f32⟩
  | .hbm, ⟨114, _⟩ => ⟨S2048x4x1024, .f32⟩
  | .hbm, ⟨115, _⟩ => ⟨S4x2048x1024, .f32⟩
  | .hbm, ⟨116, _⟩ => ⟨S4x2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]
-- ==== Kernel2.lean ====
abbrev S2048x1024 : Shape := ⟨2, ![2048, 1024]⟩
abbrev S4x2048x1024 : Shape := ⟨3, ![4, 2048, 1024]⟩
abbrev S1024x4096 : Shape := ⟨2, ![1024, 4096]⟩
abbrev S1x2048x1024 : Shape := ⟨3, ![1, 2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x2048x1024, .bf16⟩
  | .hbm, ⟨2, _⟩ => ⟨S1024x4096, .bf16⟩
  | .local _ .vmem, ⟨0, _⟩ => ⟨S2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x1024 : Shape := ⟨2, ![2048, 1024]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048x1024, .bf16⟩
  | .hbm, ⟨2, _⟩ => ⟨S2048x4x1024, .bf16⟩
  | .hbm, ⟨3, _⟩ => ⟨S2048x4096, .bf16⟩
  | .hbm, ⟨4, _⟩ => ⟨S2048x4096, .f32⟩
  | .hbm, ⟨5, _⟩ => ⟨S2048x1024, .f32⟩
  | .hbm, ⟨6, _⟩ => ⟨S_, .f32⟩
  | .hbm, ⟨7, _⟩ => ⟨S1024x4096, .f32⟩
  | .hbm, ⟨8, _⟩ => ⟨S2048x4096, .f32⟩
  | .hbm, ⟨9, _⟩ => ⟨S4096x1024, .f32⟩
  | .hbm, ⟨10, _⟩ => ⟨S1024x4096, .f32⟩
  | .hbm, ⟨11, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2304x1024 : Shape := ⟨2, ![2304, 1024]⟩
abbrev S4x2304x1024 : Shape := ⟨3, ![4, 2304, 1024]⟩
abbrev S1024x4096 : Shape := ⟨2, ![1024, 4096]⟩
abbrev S1x2304x1024 : Shape := ⟨3, ![1, 2304, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S4x2304x1024, .bf16⟩
  | .hbm, ⟨2, _⟩ => ⟨S1024x4096, .bf16⟩
  | .local _ .vmem, ⟨0, _⟩ => ⟨S2304x1024, .bf16⟩
  | .local _ .vmem, ⟨1, _⟩ => ⟨S1x2304x1024, .bf16⟩
  | .local _ .vmem, ⟨2, _⟩ => ⟨S1x2304x1024, .bf16⟩
  | .local _ .vmem, ⟨3, _⟩ => ⟨S1024x1024, .bf16⟩
  | .local _ .vmem, ⟨4, _⟩ => ⟨S1024x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2304x1024 : Shape := ⟨2, ![2304, 1024]⟩
abbrev S4x2304x1024 : Shape := ⟨3, ![4, 2304, 1024]⟩
abbrev S2304x4x1024 : Shape := ⟨3, ![2304, 4, 1024]⟩
abbrev S2304x4096 : Shape := ⟨2, ![2304, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S4x2304x1024, .bf16⟩
  | .hbm, ⟨2, _⟩ => ⟨S2304x4x1024, .bf16⟩
  | .hbm, ⟨3, _⟩ => ⟨S2304x4096, .bf16⟩
  | .hbm, ⟨4, _⟩ => ⟨S2304x4096, .f32⟩
  | .hbm, ⟨5, _⟩ => ⟨S2304x1024, .f32⟩
  | .hbm, ⟨6, _⟩ => ⟨S_, .f32⟩
  | .hbm, ⟨7, _⟩ => ⟨S1024x4096, .f32⟩
  | .hbm, ⟨8, _⟩ => ⟨S2304x4096, .f32⟩
  | .hbm, ⟨9, _⟩ => ⟨S4096x1024, .f32⟩
  | .hbm, ⟨10, _⟩ => ⟨S1024x4096, .f32⟩
  | .hbm, ⟨11, _⟩ => ⟨S1024x4096, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2304x1024 : Shape := ⟨2, ![2304, 1024]⟩
abbrev S2x2304x1024 : Shape := ⟨3, ![2, 2304, 1024]⟩
abbrev S1024x2048 : Shape := ⟨2, ![1024, 2048]⟩
abbrev S1x2304x1024 : Shape := ⟨3, ![1, 2304, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S2x2304x1024, .bf16⟩
  | .hbm, ⟨2, _⟩ => ⟨S1024x2048, .bf16⟩
  | .local _ .vmem, ⟨0, _⟩ => ⟨S2304x1024, .bf16⟩
  | .local _ .vmem, ⟨1, _⟩ => ⟨S1x2304x1024, .bf16⟩
  | .local _ .vmem, ⟨2, _⟩ => ⟨S1x2304x1024, .bf16⟩
  | .local _ .vmem, ⟨3, _⟩ => ⟨S1024x1024, .bf16⟩
  | .local _ .vmem, ⟨4, _⟩ => ⟨S1024x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2304x1024 : Shape := ⟨2, ![2304, 1024]⟩
abbrev S2x2304x1024 : Shape := ⟨3, ![2, 2304, 1024]⟩
abbrev S2304x2x1024 : Shape := ⟨3, ![2304, 2, 1024]⟩
abbrev S2304x2048 : Shape := ⟨2, ![2304, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2x2304x1024, .bf16⟩
  | .hbm, ⟨2, _⟩ => ⟨S2304x2x1024, .bf16⟩
  | .hbm, ⟨3, _⟩ => ⟨S2304x2048, .bf16⟩
  | .hbm, ⟨4, _⟩ => ⟨S2304x2048, .f32⟩
  | .hbm, ⟨5, _⟩ => ⟨S2304x1024, .f32⟩
  | .hbm, ⟨6, _⟩ => ⟨S_, .f32⟩
  | .hbm, ⟨7, _⟩ => ⟨S1024x2048, .f32⟩
  | .hbm, ⟨8, _⟩ => ⟨S2304x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x1024 : Shape := ⟨2, ![2048, 1024]⟩
abbrev S2x2048x1024 : Shape := ⟨3, ![2, 2048, 1024]⟩
abbrev S1024x2048 : Shape := ⟨2, ![1024, 2048]⟩
abbrev S1x2048x1024 : Shape := ⟨3, ![1, 2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x2048x1024, .bf16⟩
  | .hbm, ⟨2, _⟩ => ⟨S1024x2048, .bf16⟩
  | .local _ .vmem, ⟨0, _⟩ => ⟨S2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S2x2048x1024 : Shape := ⟨3, ![2, 2048, 1024]⟩
abbrev S2048x2x1024 : Shape := ⟨3, ![2048, 2, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x1024, .bf16⟩
  | .hbm, ⟨2, _⟩ => ⟨S2048x2x1024, .bf16⟩
  | .hbm, ⟨3, _⟩ => ⟨S2048x2048, .bf16⟩
  | .hbm, ⟨4, _⟩ => ⟨S2048x2048, .f32⟩
  | .hbm, ⟨5, _⟩ => ⟨S2048x1024, .f32⟩
  | .hbm, ⟨6, _⟩ => ⟨S_, .f32⟩
  | .hbm, ⟨7, _⟩ => ⟨S1024x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2304x1024 : Shape := ⟨2, ![2304, 1024]⟩
abbrev S1024x1024 : Shape := ⟨2, ![1024, 1024]⟩
abbrev S2304x512 : Shape := ⟨2, ![2304, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S1024x1024, .bf16⟩
  | .local _ .vmem, ⟨0, _⟩ => ⟨S2304x512, .bf16⟩
  | .local _ .vmem, ⟨1, _⟩ => ⟨S2304x512, .bf16⟩
  | .local _ .vmem, ⟨2, _⟩ => ⟨S2304x1024, .bf16⟩
  | .local _ .vmem, ⟨3, _⟩ => ⟨S512x1024, .bf16⟩
  | .local _ .vmem, ⟨4, _⟩ => ⟨S512x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2304x1024 : Shape := ⟨2, ![2304, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x1024, .f32⟩
  | .hbm, ⟨3, _⟩ => ⟨S2304x1024, .f32⟩
  | .hbm, ⟨4, _⟩ => ⟨S_, .f32⟩
  | .hbm, ⟨5, _⟩ => ⟨S1024x1024, .f32⟩
  | .hbm, ⟨6, _⟩ => ⟨S2304x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x1024 : Shape := ⟨2, ![2048, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S2048x1024 : Shape := ⟨2, ![2048, 1024]⟩
abbrev S1x2048x4x256 : Shape := ⟨4, ![1, 2048, 4, 256]⟩
abbrev S_ : Shape := ⟨0, ![]⟩
abbrev S4x256x256 : Shape := ⟨3, ![4, 256, 256]⟩
abbrev S4x256x1x2048 : Shape := ⟨4, ![4, 256, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S1x2048x4x256, .f32⟩
  | .hbm, ⟨4, _⟩ => ⟨S2048x1024, .f32⟩
  | .hbm, ⟨5, _⟩ => ⟨S1x2048x4x256, .f32⟩
  | .hbm, ⟨6, _⟩ => ⟨S_, .f32⟩
  | .hbm, ⟨7, _⟩ => ⟨S4x256x256, .f32⟩
  | .hbm, ⟨8, _⟩ => ⟨S4x256x1x2048, .f32⟩
  | .hbm, ⟨9, _⟩ => ⟨S1x2048x4x256, .f32⟩
  | .hbm, ⟨10, _⟩ => ⟨S4x256x1x2048, .f32⟩
  | .hbm, ⟨11, _⟩ => ⟨S4x256x256, .f32⟩
  | .hbm, ⟨12, _⟩ => ⟨S4x256x256, .f32⟩
  | .hbm, ⟨13, _⟩ => ⟨S4x256x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S2304x1024 : Shape := ⟨2, ![2304, 1024]⟩
abbrev S4x256x256 : Shape := ⟨3, ![4, 256, 256]⟩
abbrev S2304x256 : Shape := ⟨2, ![2304, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S4x256x256, .bf16⟩
  | .local _ .vmem, ⟨0, _⟩ => ⟨S2304x256, .bf16⟩
  | .local _ .vmem, ⟨1, _⟩ => ⟨S2304x256, .bf16⟩
  | .local _ .vmem, ⟨2, _⟩ => ⟨S2304x256, .bf16⟩
  | .local _ .vmem, ⟨3, _⟩ => ⟨S2304x256, .bf16⟩
  | .local _ .vmem, ⟨4, _⟩ => ⟨S1x256x256, .bf16⟩
  | .local _ .vmem, ⟨5, _⟩ => ⟨S1x256x256, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2304x1024 : Shape := ⟨2, ![2304, 1024]⟩
abbrev S1x2304x4x256 : Shape := ⟨4, ![1, 2304, 4, 256]⟩
abbrev S_ : Shape := ⟨0, ![]⟩
abbrev S4x256x256 : Shape := ⟨3, ![4, 256, 256]⟩
abbrev S4x256x1x2304 : Shape := ⟨4, ![4, 256, 1, 2304]⟩

abbrev nBuf : Space → Nat
  | .hbm => 14
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x1024, .f32⟩
  | .hbm, ⟨3, _⟩ => ⟨S1x2304x4x256, .f32⟩
  | .hbm, ⟨4, _⟩ => ⟨S2304x1024, .f32⟩
  | .hbm, ⟨5, _⟩ => ⟨S1x2304x4x256, .f32⟩
  | .hbm, ⟨6, _⟩ => ⟨S_, .f32⟩
  | .hbm, ⟨7, _⟩ => ⟨S4x256x256, .f32⟩
  | .hbm, ⟨8, _⟩ => ⟨S4x256x1x2304, .f32⟩
  | .hbm, ⟨9, _⟩ => ⟨S1x2304x4x256, .f32⟩
  | .hbm, ⟨10, _⟩ => ⟨S4x256x1x2304, .f32⟩
  | .hbm, ⟨11, _⟩ => ⟨S4x256x256, .f32⟩
  | .hbm, ⟨12, _⟩ => ⟨S4x256x256, .f32⟩
  | .hbm, ⟨13, _⟩ => ⟨S4x256x256, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel10.lean ====
abbrev S2048x1024 : Shape := ⟨2, ![2048, 1024]⟩
abbrev S1x1x1024 : Shape := ⟨3, ![1, 1, 1024]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1x1024, .f32⟩
  | .hbm, ⟨3, _⟩ => ⟨S1024x1024, .bf16⟩
  | .hbm, ⟨4, _⟩ => ⟨S2048x1024, .bf16⟩
  | .hbm, ⟨5, _⟩ => ⟨S2048x1024, .bf16⟩
  | .hbm, ⟨6, _⟩ => ⟨S1x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v17 : BitVec 32 := Scalar.extui v14
  let c0_i32_13 : BitVec 32 := 0#32
  let v18 : BitVec 1 := Scalar.cmpi .ne v17 c0_i32_13
  v18

def k0_cond2 (i : grid0.Coords) : BitVec 1 :=
  let arg0 : BitVec 32 := BitVec.ofNat 32 (i 0).val
  let c0_i32 : BitVec 32 := 0#32
  let v14 : BitVec 1 := Scalar.cmpi .eq arg0 c0_i32
  let v_true : BitVec 1 := 1#1
  let v19 : BitVec 1 := Scalar.xori v14 v_true
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S2048x1024 : Shape := ⟨2, ![2048, 1024]⟩
abbrev S1x1x1024 : Shape := ⟨3, ![1, 1, 1024]⟩
abbrev S1024x1024 : Shape := ⟨2, ![1024, 1024]⟩
abbrev S0x1024 : Shape := ⟨2, ![0, 1024]⟩
abbrev S1x1024 : Shape := ⟨2, ![1, 1024]⟩
abbrev S_ : Shape := ⟨0, ![]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1x1024, .f32⟩
  | .hbm, ⟨3, _⟩ => ⟨S1024x1024, .bf16⟩
  | .hbm, ⟨4, _⟩ => ⟨S2048x1024, .f32⟩
  | .hbm, ⟨5, _⟩ => ⟨S0x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S2304x1024 : Shape := ⟨2, ![2304, 1024]⟩
abbrev S2x1x1024 : Shape := ⟨3, ![2, 1, 1024]⟩
abbrev S1024x1024 : Shape := ⟨2, ![1024, 1024]⟩
abbrev S768x1024 : Shape := ⟨2, ![768, 1024]⟩
abbrev S768x1 : Shape := ⟨2, ![768, 1]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2304x1024, .f32⟩
  | .hbm, ⟨1, _⟩ => ⟨S2304x1024, .bf16⟩
  | .hbm, ⟨2, _⟩ => ⟨S2x1x1024, .f32⟩
  | .hbm, ⟨3, _⟩ => ⟨S1024x1024, .bf16⟩
  | .hbm, ⟨4, _⟩ => ⟨S2304x1024, .bf16⟩
  | .hbm, ⟨5, _⟩ => ⟨S2304x1024, .bf16⟩
  | .hbm, ⟨6, _⟩ => ⟨S2x1x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S2x1x1024, .f32⟩
  | .local _ .vmem, ⟨5, _⟩ => ⟨S1024x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | .local _ .vmem, ⟨10, _⟩ => ⟨S2x1x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v41 : BitVec 32 := Scalar.extui v28
  let c0_i32_18 : BitVec 32 := 0#32
  let v42 : BitVec 1 := Scalar.cmpi .ne v41 c0_i32_18
  v42

def k0_cond2 (i : grid0.Coords) : BitVec 1 :=
  let arg0 : BitVec 32 := BitVec.ofNat 32 (i 0).val
  let c0_i32 : BitVec 32 := 0#32
  let v28 : BitVec 1 := Scalar.cmpi .eq arg0 c0_i32
  let v_true : BitVec 1 := 1#1
  let v43 : BitVec 1 := Scalar.xori v28 v_true
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S2304x1024 : Shape := ⟨2, ![2304, 1024]⟩
abbrev S2x1x1024 : Shape := ⟨3, ![2, 1, 1024]⟩
abbrev S1024x1024 : Shape := ⟨2, ![1024, 1024]⟩
abbrev S2048x1024 : Shape := ⟨2, ![2048, 1024]⟩
abbrev S256x1024 : Shape := ⟨2, ![256, 1024]⟩
abbrev S1x1x1024 : Shape := ⟨3, ![1, 1, 1024]⟩
abbrev S1x1024 : Shape := ⟨2, ![1, 1024]⟩
abbrev S_ : Shape := ⟨0, ![]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .bf16⟩
  | .hbm, ⟨2, _⟩ => ⟨S2x1x1024, .f32⟩
  | .hbm, ⟨3, _⟩ => ⟨S1024x1024, .bf16⟩
  | .hbm, ⟨4, _⟩ => ⟨S2304x1024, .f32⟩
  | .hbm, ⟨5, _⟩ => ⟨S2048x1024, .f32⟩
  | .hbm, ⟨6, _⟩ => ⟨S256x1024, .f32⟩
  | .hbm, ⟨7, _⟩ => ⟨S1x1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S1x1x1024, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S2304x1024, .f32⟩
  | .hbm, ⟨16, _⟩ => ⟨S2048x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S1x1x1024, .f32⟩
  | .hbm, ⟨25, _⟩ => ⟨S_, .f32⟩
  | .hbm, ⟨26, _⟩ => ⟨S2x1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S1x1x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S_, .f32⟩
  | .hbm, ⟨38, _⟩ => ⟨S2304x1024, .f32⟩
  | .hbm, ⟨39, _⟩ => ⟨S_, .f32⟩
  | .hbm, ⟨40, _⟩ => ⟨S2304x1024, .f32⟩
  | .hbm, ⟨41, _⟩ => ⟨S2304x1024, .f32⟩
  | .hbm, ⟨42, _⟩ => ⟨S1024x1024, .f32⟩
  | .hbm, ⟨43, _⟩ => ⟨S_, .f32⟩
  | .hbm, ⟨44, _⟩ => ⟨S2304x1024, .f32⟩
  | .hbm, ⟨45, _⟩ => ⟨S2304x1024, .f32⟩
  | .hbm, ⟨46, _⟩ => ⟨S2304x1024, .f32⟩
  | .hbm, ⟨47, _⟩ => ⟨S2304x1024, .bf16⟩
  | .hbm, ⟨48, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel12.lean ====
abbrev S4x2048x1024 : Shape := ⟨3, ![4, 2048, 1024]⟩
abbrev S1024x4096 : Shape := ⟨2, ![1024, 4096]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩
abbrev S2048 : Shape := ⟨1, ![2048]⟩
abbrev S2048x1 : Shape := ⟨2, ![2048, 1]⟩
abbrev S4x512x1024 : Shape := ⟨3, ![4, 512, 1024]⟩
abbrev S512x1024 : Shape := ⟨2, ![512, 1024]⟩
abbrev S512x1 : Shape := ⟨2, ![512, 1]⟩
abbrev S256x1024 : Shape := ⟨2, ![256, 1024]⟩
abbrev S1x512x1024 : Shape := ⟨3, ![1, 512, 1024]⟩
abbrev S1024x1024 : Shape := ⟨2, ![1024, 1024]⟩
abbrev S512 : Shape := ⟨1, ![512]⟩
abbrev S1024 : Shape := ⟨1, ![1024]⟩

abbrev nBuf : Space → Nat
  | .hbm => 20
  | .vmem => 17
  | .smem => 0
  | _ => 0

abbrev bufTy : (tb : Table) → Fin (tcTables nBuf tb) → BufTy
  | .hbm, ⟨0, _⟩ => ⟨S4x2048x1024, .bf16⟩
  | .hbm, ⟨1, _⟩ => ⟨S1024x4096, .bf16⟩
  | .hbm, ⟨2, _⟩ => ⟨S2048x1024, .f32⟩
  | .hbm, ⟨3, _⟩ => ⟨S1x1024, .f32⟩
  | .hbm, ⟨4, _⟩ => ⟨S1x1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S1x1x1024, .f32⟩
  | .hbm, ⟨19, _⟩ => ⟨S1x1x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v55 : BitVec 32 := Scalar.extui v52
  let c0_i32_37 : BitVec 32 := 0#32
  let v56 : BitVec 1 := Scalar.cmpi .ne v55 c0_i32_37
  v56

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v57 : BitVec 1 := Scalar.xori v52 v_true
  let v58 : BitVec 32 := Scalar.extui v57
  let c0_i32_38 : BitVec 32 := 0#32
  let v59 : BitVec 1 := Scalar.cmpi .ne v58 c0_i32_38
  v59

def k0_cond3 (i : grid0.Coords) : BitVec 1 :=
  let arg0 : BitVec 32 := BitVec.ofNat 32 (i 0).val
  let c0_i32_39 : BitVec 32 := 0#32
  let v61 : BitVec 1 := Scalar.cmpi .eq arg0 c0_i32_39
  let v64 : BitVec 32 := Scalar.extui v61
  let c0_i32_41 : BitVec 32 := 0#32
  let v65 : BitVec 1 := Scalar.cmpi .ne v64 c0_i32_41
  v65

def k0_cond4 (i : grid0.Coords) : BitVec 1 :=
  let arg0 : BitVec 32 := BitVec.ofNat 32 (i 0).val
  let c0_i32_39 : BitVec 32 := 0#32
  let v61 : BitVec 1 := Scalar.cmpi .eq arg0 c0_i32_39
  let true_42 : BitVec 1 := 1#1
  let v66 : BitVec 1 := Scalar.xori v61 true_42
  let v67 : BitVec 32 := Scalar.extui v66
  let c0_i32_43 : BitVec 32 := 0#32
  let v68 : BitVec 1 := Scalar.cmpi .ne v67 c0_i32_43
  v68

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference12Ideal.lean ====
abbrev S4x2048x1024 : Shape := ⟨3, ![4, 2048, 1024]⟩
abbrev S1024x4096 : Shape := ⟨2, ![1024, 4096]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S2048x4x1024 : Shape := ⟨3, ![2048, 4, 1024]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S1024x4096, .bf16⟩
  | .hbm, ⟨2, _⟩ => ⟨S2048x1024, .f32⟩
  | .hbm, ⟨3, _⟩ => ⟨S1x1024, .f32⟩
  | .hbm, ⟨4, _⟩ => ⟨S1x1x1024, .f32⟩
  | .hbm, ⟨5, _⟩ => ⟨S2048x1024, .f32⟩
  | .hbm, ⟨6, _⟩ => ⟨S1024x4096, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S_, .f32⟩
  | .hbm, ⟨13, _⟩ => ⟨S1x1x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x4096, .f32⟩
  | .hbm, ⟨38, _⟩ => ⟨S2048x4x1024, .bf16⟩
  | .hbm, ⟨39, _⟩ => ⟨S2048x4096, .bf16⟩
  | .hbm, ⟨40, _⟩ => ⟨S2048x4096, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1x1x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x1x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel13.lean ====
abbrev S2x2048x1024 : Shape := ⟨3, ![2, 2048, 1024]⟩
abbrev S1024x2048 : Shape := ⟨2, ![1024, 2048]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩
abbrev S2048 : Shape := ⟨1, ![2048]⟩
abbrev S2048x1 : Shape := ⟨2, ![2048, 1]⟩
abbrev S2x512x1024 : Shape := ⟨3, ![2, 512, 1024]⟩
abbrev S512x1024 : Shape := ⟨2, ![512, 1024]⟩
abbrev S512x1 : Shape := ⟨2, ![512, 1]⟩
abbrev S256x1024 : Shape := ⟨2, ![256, 1024]⟩
abbrev S1x512x1024 : Shape := ⟨3, ![1, 512, 1024]⟩
abbrev S1024x1024 : Shape := ⟨2, ![1024, 1024]⟩
abbrev S512 : Shape := ⟨1, ![512]⟩
abbrev S1024 : Shape := ⟨1, ![1024]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x1024, .bf16⟩
  | .hbm, ⟨1, _⟩ => ⟨S1024x2048, .bf16⟩
  | .hbm, ⟨2, _⟩ => ⟨S2048x1024, .f32⟩
  | .hbm, ⟨3, _⟩ => ⟨S1x1024, .f32⟩
  | .hbm, ⟨4, _⟩ => ⟨S1x1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S1x1x1024, .f32⟩
  | .hbm, ⟨19, _⟩ => ⟨S1x1x1024, .f32⟩
  | .local _ .vmem, ⟨0, _⟩ => ⟨S2x512x1024, .bf16⟩
  | .local _ .vmem, ⟨1, _⟩ => ⟨S2x512x1024, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v45 : BitVec 32 := Scalar.extui v42
  let c0_i32_29 : BitVec 32 := 0#32
  let v46 : BitVec 1 := Scalar.cmpi .ne v45 c0_i32_29
  v46

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v47 : BitVec 1 := Scalar.xori v42 v_true
  let v48 : BitVec 32 := Scalar.extui v47
  let c0_i32_30 : BitVec 32 := 0#32
  let v49 : BitVec 1 := Scalar.cmpi .ne v48 c0_i32_30
  v49

def k0_cond3 (i : grid0.Coords) : BitVec 1 :=
  let arg0 : BitVec 32 := BitVec.ofNat 32 (i 0).val
  let c0_i32_31 : BitVec 32 := 0#32
  let v51 : BitVec 1 := Scalar.cmpi .eq arg0 c0_i32_31
  let v54 : BitVec 32 := Scalar.extui v51
  let c0_i32_33 : BitVec 32 := 0#32
  let v55 : BitVec 1 := Scalar.cmpi .ne v54 c0_i32_33
  v55

def k0_cond4 (i : grid0.Coords) : BitVec 1 :=
  let arg0 : BitVec 32 := BitVec.ofNat 32 (i 0).val
  let c0_i32_31 : BitVec 32 := 0#32
  let v51 : BitVec 1 := Scalar.cmpi .eq arg0 c0_i32_31
  let true_34 : BitVec 1 := 1#1
  let v56 : BitVec 1 := Scalar.xori v51 true_34
  let v57 : BitVec 32 := Scalar.extui v56
  let c0_i32_35 : BitVec 32 := 0#32
  let v58 : BitVec 1 := Scalar.cmpi .ne v57 c0_i32_35
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference13Ideal.lean ====
abbrev S2x2048x1024 : Shape := ⟨3, ![2, 2048, 1024]⟩
abbrev S1024x2048 : Shape := ⟨2, ![1024, 2048]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2048x2x1024 : Shape := ⟨3, ![2048, 2, 1024]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x2048, .bf16⟩
  | .hbm, ⟨2, _⟩ => ⟨S2048x1024, .f32⟩
  | .hbm, ⟨3, _⟩ => ⟨S1x1024, .f32⟩
  | .hbm, ⟨4, _⟩ => ⟨S1x1x1024, .f32⟩
  | .hbm, ⟨5, _⟩ => ⟨S2048x1024, .f32⟩
  | .hbm, ⟨6, _⟩ => ⟨S1024x2048, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S_, .f32⟩
  | .hbm, ⟨13, _⟩ => ⟨S1x1x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x2048, .f32⟩
  | .hbm, ⟨38, _⟩ => ⟨S2048x2x1024, .bf16⟩
  | .hbm, ⟨39, _⟩ => ⟨S2048x2048, .bf16⟩
  | .hbm, ⟨40, _⟩ => ⟨S2048x2048, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1x1x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x1x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel14.lean ====
abbrev S4x2304x1024 : Shape := ⟨3, ![4, 2304, 1024]⟩
abbrev S1024x4096 : Shape := ⟨2, ![1024, 4096]⟩
abbrev S2304x1024 : Shape := ⟨2, ![2304, 1024]⟩
abbrev S1x1024 : Shape := ⟨2, ![1, 1024]⟩
abbrev S2x1x1024 : Shape := ⟨3, ![2, 1, 1024]⟩
abbrev S2048x1024 : Shape := ⟨2, ![2048, 1024]⟩
abbrev S_ : Shape := ⟨0, ![]⟩
abbrev S2304 : Shape := ⟨1, ![2304]⟩
abbrev S2304x1 : Shape := ⟨2, ![2304, 1]⟩
abbrev S4x768x1024 : Shape := ⟨3, ![4, 768, 1024]⟩
abbrev S768x1024 : Shape := ⟨2, ![768, 1024]⟩
abbrev S768x1 : Shape := ⟨2, ![768, 1]⟩
abbrev S256x1024 : Shape := ⟨2, ![256, 1024]⟩
abbrev S1x768x1024 : Shape := ⟨3, ![1, 768, 1024]⟩
abbrev S1024x1024 : Shape := ⟨2, ![1024, 1024]⟩
abbrev S1x1x1024 : Shape := ⟨3, ![1, 1, 1024]⟩
abbrev S768 : Shape := ⟨1, ![768]⟩
abbrev S1024 : Shape := ⟨1, ![1024]⟩

abbrev nBuf : Space → Nat
  | .hbm => 20
  | .vmem => 19
  | .smem => 0
  | _ => 0

abbrev bufTy : (tb : Table) → Fin (tcTables nBuf tb) → BufTy
  | .hbm, ⟨0, _⟩ => ⟨S4x2304x1024, .bf16⟩
  | .hbm, ⟨1, _⟩ => ⟨S1024x4096, .bf16⟩
  | .hbm, ⟨2, _⟩ => ⟨S2304x1024, .f32⟩
  | .hbm, ⟨3, _⟩ => ⟨S1x1024, .f32⟩
  | .hbm, ⟨4, _⟩ => ⟨S2x1x1024, .f32⟩
  | .hbm, ⟨5, _⟩ => ⟨S2048x1024, .f32⟩
  | .hbm, ⟨6, _⟩ => ⟨S2304x1024, .f32⟩
  | .hbm, ⟨7, _⟩ => ⟨S_, .f32⟩
  | .hbm, ⟨8, _⟩ => ⟨S2304, .f32⟩
  | .hbm, ⟨9, _⟩ => ⟨S2304x1, .f32⟩
  | .hbm, ⟨10, _⟩ => ⟨S_, .f32⟩
  | .hbm, ⟨11, _⟩ => ⟨S2304x1, .f32⟩
  | .hbm, ⟨12, _⟩ => ⟨S2304x1, .f32⟩
  | .hbm, ⟨13, _⟩ => ⟨S_, .f32⟩
  | .hbm, ⟨14, _⟩ => ⟨S2304x1, .f32⟩
  | .hbm, ⟨15, _⟩ => ⟨S2304x1, .f32⟩
  | .hbm, ⟨16, _⟩ => ⟨S2304x1, .f32⟩
  | .hbm, ⟨17, _⟩ => ⟨S2304x1024, .f32⟩
  | .hbm, ⟨18, _⟩ => ⟨S2x1x1024, .f32⟩
  | .hbm, ⟨19, _⟩ => ⟨S2x1x1024, .f32⟩
  | .local _ .vmem, ⟨0, _⟩ => ⟨S4x768x1024, .bf16⟩
  | .local _ .vmem, ⟨1, _⟩ => ⟨S4x768x1024, .bf16⟩
  | .local _ .vmem, ⟨2, _⟩ => ⟨S1024x4096, .bf16⟩
  | .local _ .vmem, ⟨3, _⟩ => ⟨S768x1024, .f32⟩
  | .local _ .vmem, ⟨4, _⟩ => ⟨S768x1024, .f32⟩
  | .local _ .vmem, ⟨5, _⟩ => ⟨S768x1, .f32⟩
  | .local _ .vmem, ⟨6, _⟩ => ⟨S768x1, .f32⟩
  | .local _ .vmem, ⟨7, _⟩ => ⟨S1x1024, .f32⟩
  | .local _ .vmem, ⟨8, _⟩ => ⟨S2x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S768x1024, .f32⟩
  | .local _ .vmem, ⟨16, _⟩ => ⟨S768x1024, .f32⟩
  | .local _ .vmem, ⟨17, _⟩ => ⟨S2x1x1024, .f32⟩
  | .local _ .vmem, ⟨18, _⟩ => ⟨S2x1x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg0 : BitVec 32 := BitVec.ofNat 32 (i 0).val
  let c0_i32_49 : BitVec 32 := 0#32
  let v86 : BitVec 1 := Scalar.cmpi .eq arg0 c0_i32_49
  let v99 : BitVec 32 := Scalar.extui v86
  let c0_i32_54 : BitVec 32 := 0#32
  let v100 : BitVec 1 := Scalar.cmpi .ne v99 c0_i32_54
  v100

def k0_cond2 (i : grid0.Coords) : BitVec 1 :=
  let arg0 : BitVec 32 := BitVec.ofNat 32 (i 0).val
  let c0_i32_49 : BitVec 32 := 0#32
  let v86 : BitVec 1 := Scalar.cmpi .eq arg0 c0_i32_49
  let v_true : BitVec 1 := 1#1
  let v101 : BitVec 1 := Scalar.xori v86 v_true
  let v102 : BitVec 32 := Scalar.extui v101
  let c0_i32_55 : BitVec 32 := 0#32
  let v103 : BitVec 1 := Scalar.cmpi .ne v102 c0_i32_55
  v103

def k0_cond3 (i : grid0.Coords) : BitVec 1 :=
  let arg0 : BitVec 32 := BitVec.ofNat 32 (i 0).val
  let c0_i32_56 : BitVec 32 := 0#32
  let v105 : BitVec 1 := Scalar.cmpi .eq arg0 c0_i32_56
  let v118 : BitVec 32 := Scalar.extui v105
  let c0_i32_61 : BitVec 32 := 0#32
  let v119 : BitVec 1 := Scalar.cmpi .ne v118 c0_i32_61
  v119

def k0_cond4 (i : grid0.Coords) : BitVec 1 :=
  let arg0 : BitVec 32 := BitVec.ofNat 32 (i 0).val
  let c0_i32_56 : BitVec 32 := 0#32
  let v105 : BitVec 1 := Scalar.cmpi .eq arg0 c0_i32_56
  let true_62 : BitVec 1 := 1#1
  let v120 : BitVec 1 := Scalar.xori v105 true_62
  let v121 : BitVec 32 := Scalar.extui v120
  let c0_i32_63 : BitVec 32 := 0#32
  let v122 : BitVec 1 := Scalar.cmpi .ne v121 c0_i32_63
  v122

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference14Ideal.lean ====
abbrev S4x2304x1024 : Shape := ⟨3, ![4, 2304, 1024]⟩
abbrev S1024x4096 : Shape := ⟨2, ![1024, 4096]⟩
abbrev S2304x1024 : Shape := ⟨2, ![2304, 1024]⟩
abbrev S1x1024 : Shape := ⟨2, ![1, 1024]⟩
abbrev S2x1x1024 : Shape := ⟨3, ![2, 1, 1024]⟩
abbrev S2048x1024 : Shape := ⟨2, ![2048, 1024]⟩
abbrev S_ : Shape := ⟨0, ![]⟩
abbrev S1x1x1024 : Shape := ⟨3, ![1, 1, 1024]⟩
abbrev S2304 : Shape := ⟨1, ![2304]⟩
abbrev S2304x1 : Shape := ⟨2, ![2304, 1]⟩
abbrev S256x1024 : Shape := ⟨2, ![256, 1024]⟩
abbrev S2304x4096 : Shape := ⟨2, ![2304, 4096]⟩
abbrev S2304x4x1024 : Shape := ⟨3, ![2304, 4, 1024]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S1024x4096, .bf16⟩
  | .hbm, ⟨2, _⟩ => ⟨S2304x1024, .f32⟩
  | .hbm, ⟨3, _⟩ => ⟨S1x1024, .f32⟩
  | .hbm, ⟨4, _⟩ => ⟨S2x1x1024, .f32⟩
  | .hbm, ⟨5, _⟩ => ⟨S2048x1024, .f32⟩
  | .hbm, ⟨6, _⟩ => ⟨S1024x4096, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S1x1x1024, .f32⟩
  | .hbm, ⟨11, _⟩ => ⟨S2x1x1024, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2048x1024, .f32⟩
  | .hbm, ⟨16, _⟩ => ⟨S2304x1024, .f32⟩
  | .hbm, ⟨17, _⟩ => ⟨S_, .f32⟩
  | .hbm, ⟨18, _⟩ => ⟨S2304, .f32⟩
  | .hbm, ⟨19, _⟩ => ⟨S2304x1, .f32⟩
  | .hbm, ⟨20, _⟩ => ⟨S_, .f32⟩
  | .hbm, ⟨21, _⟩ => ⟨S2304x1, .f32⟩
  | .hbm, ⟨22, _⟩ => ⟨S2304x1, .f32⟩
  | .hbm, ⟨23, _⟩ => ⟨S_, .f32⟩
  | .hbm, ⟨24, _⟩ => ⟨S2304x1, .f32⟩
  | .hbm, ⟨25, _⟩ => ⟨S2304x1, .f32⟩
  | .hbm, ⟨26, _⟩ => ⟨S2304x1, .f32⟩
  | .hbm, ⟨27, _⟩ => ⟨S2304x1, .f32⟩
  | .hbm, ⟨28, _⟩ => ⟨S_, .f32⟩
  | .hbm, ⟨29, _⟩ => ⟨S2304x1, .f32⟩
  | .hbm, ⟨30, _⟩ => ⟨S2304x1, .f32⟩
  | .hbm, ⟨31, _⟩ => ⟨S2304x1024, .f32⟩
  | .hbm, ⟨32, _⟩ => ⟨S2304x1024, .f32⟩
  | .hbm, ⟨33, _⟩ => ⟨S1x1x1024, .f32⟩
  | .hbm, ⟨34, _⟩ => ⟨S1x1024, .f32⟩
  | .hbm, ⟨35, _⟩ => ⟨S2048x1024, .f32⟩
  | .hbm, ⟨36, _⟩ => ⟨S1x1x1024, .f32⟩
  | .hbm, ⟨37, _⟩ => ⟨S1x1024, .f32⟩
  | .hbm, ⟨38, _⟩ => ⟨S256x1024, .f32⟩
  | .hbm, ⟨39, _⟩ => ⟨S2304x1024, .f32⟩
  | .hbm, ⟨40, _⟩ => ⟨S2304x1024, .f32⟩
  | .hbm, ⟨41, _⟩ => ⟨S1x1x1024, .f32⟩
  | .hbm, ⟨42, _⟩ => ⟨S1x1024, .f32⟩
  | .hbm, ⟨43, _⟩ => ⟨S2048x1024, .f32⟩
  | .hbm, ⟨44, _⟩ => ⟨S1x1x1024, .f32⟩
  | .hbm, ⟨45, _⟩ => ⟨S1x1024, .f32⟩
  | .hbm, ⟨46, _⟩ => ⟨S256x1024, .f32⟩
  | .hbm, ⟨47, _⟩ => ⟨S2304x1024, .f32⟩
  | .hbm, ⟨48, _⟩ => ⟨S2304x1024, .f32⟩
  | .hbm, ⟨49, _⟩ => ⟨S2304x4096, .f32⟩
  | .hbm, ⟨50, _⟩ => ⟨S2304x4x1024, .bf16⟩
  | .hbm, ⟨51, _⟩ => ⟨S2304x4096, .bf16⟩
  | .hbm, ⟨52, _⟩ => ⟨S2304x4096, .f32⟩
  | .hbm, ⟨53, _⟩ => ⟨S2304x1024, .f32⟩
  | .hbm, ⟨54, _⟩ => ⟨S2048x1024, .f32⟩
  | .hbm, ⟨55, _⟩ => ⟨S256x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S1x1x1024, .f32⟩
  | .hbm, ⟨60, _⟩ => ⟨S_, .f32⟩
  | .hbm, ⟨61, _⟩ => ⟨S2x1x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S1x1x1024, .f32⟩
  | .hbm, ⟨66, _⟩ => ⟨S_, .f32⟩
  | .hbm, ⟨67, _⟩ => ⟨S2x1x1024, .f32⟩
  | .hbm, ⟨68, _⟩ => ⟨S2x1x1024, .f32⟩
  | .hbm, ⟨69, _⟩ => ⟨S2304x1024, .f32⟩
  | .hbm, ⟨70, _⟩ => ⟨S2304x1024, .f32⟩
  | .hbm, ⟨71, _⟩ => ⟨S2048x1024, .f32⟩
  | .hbm, ⟨72, _⟩ => ⟨S256x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S1x1x1024, .f32⟩
  | .hbm, ⟨77, _⟩ => ⟨S_, .f32⟩
  | .hbm, ⟨78, _⟩ => ⟨S2x1x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S1x1x1024, .f32⟩
  | .hbm, ⟨83, _⟩ => ⟨S_, .f32⟩
  | .hbm, ⟨84, _⟩ => ⟨S2x1x1024, .f32⟩
  | .hbm, ⟨85, _⟩ => ⟨S2x1x1024, .f32⟩
  | .hbm, ⟨86, _⟩ => ⟨S2304x1024, .f32⟩
  | .hbm, ⟨87, _⟩ => ⟨S_, .f32⟩
  | .hbm, ⟨88, _⟩ => ⟨S2304, .f32⟩
  | .hbm, ⟨89, _⟩ => ⟨S2304x1, .f32⟩
  | .hbm, ⟨90, _⟩ => ⟨S2304x1024, .f32⟩
  | .hbm, ⟨91, _⟩ => ⟨S2304x1024, .f32⟩
  | .hbm, ⟨92, _⟩ => ⟨S2304x1, .f32⟩
  | .hbm, ⟨93, _⟩ => ⟨S_, .f32⟩
  | .hbm, ⟨94, _⟩ => ⟨S2304x1, .f32⟩
  | .hbm, ⟨95, _⟩ => ⟨S2304x1, .f32⟩
  | .hbm, ⟨96, _⟩ => ⟨S_, .f32⟩
  | .hbm, ⟨97, _⟩ => ⟨S2304, .f32⟩
  | .hbm, ⟨98, _⟩ => ⟨S2304x1024, .f32⟩
  | .hbm, ⟨99, _⟩ => ⟨S2304x1024, .f32⟩
  | .hbm, ⟨100, _⟩ => ⟨S2304x1024, .f32⟩
  | .hbm, ⟨101, _⟩ => ⟨S2304x1024, .f32⟩
  | .hbm, ⟨102, _⟩ => ⟨S2304x1024, .f32⟩
  | .hbm, ⟨103, _⟩ => ⟨S_, .f32⟩
  | .hbm, ⟨104, _⟩ => ⟨S2304x1024, .f32⟩
  | .hbm, ⟨105, _⟩ => ⟨S2304x1024, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== Kernel15.lean ====
abbrev S2x2304x1024 : Shape := ⟨3, ![2, 2304, 1024]⟩
abbrev S1024x2048 : Shape := ⟨2, ![1024, 2048]⟩
abbrev S2304x1024 : Shape := ⟨2, ![2304, 1024]⟩
abbrev S1x1024 : Shape := ⟨2, ![1, 1024]⟩
abbrev S2x1x1024 : Shape := ⟨3, ![2, 1, 1024]⟩
abbrev S_ : Shape := ⟨0, ![]⟩
abbrev S2304 : Shape := ⟨1, ![2304]⟩
abbrev S2304x1 : Shape := ⟨2, ![2304, 1]⟩
abbrev S2048x1024 : Shape := ⟨2, ![2048, 1024]⟩
abbrev S2x768x1024 : Shape := ⟨3, ![2, 768, 1024]⟩
abbrev S768x1024 : Shape := ⟨2, ![768, 1024]⟩
abbrev S768x1 : Shape := ⟨2, ![768, 1]⟩
abbrev S256x1024 : Shape := ⟨2, ![256, 1024]⟩
abbrev S1x768x1024 : Shape := ⟨3, ![1, 768, 1024]⟩
abbrev S1024x1024 : Shape := ⟨2, ![1024, 1024]⟩
abbrev S1x1x1024 : Shape := ⟨3, ![1, 1, 1024]⟩
abbrev S768 : Shape := ⟨1, ![768]⟩
abbrev S1024 : Shape := ⟨1, ![1024]⟩

abbrev nBuf : Space → Nat
  | .hbm => 20
  | .vmem => 19
  | .smem => 0
  | _ => 0

abbrev bufTy : (tb : Table) → Fin (tcTables nBuf tb) → BufTy
  | .hbm, ⟨0, _⟩ => ⟨S2x2304x1024, .bf16⟩
  | .hbm, ⟨1, _⟩ => ⟨S1024x2048, .bf16⟩
  | .hbm, ⟨2, _⟩ => ⟨S2304x1024, .f32⟩
  | .hbm, ⟨3, _⟩ => ⟨S1x1024, .f32⟩
  | .hbm, ⟨4, _⟩ => ⟨S2x1x1024, .f32⟩
  | .hbm, ⟨5, _⟩ => ⟨S2304x1024, .f32⟩
  | .hbm, ⟨6, _⟩ => ⟨S2304x1024, .f32⟩
  | .hbm, ⟨7, _⟩ => ⟨S_, .f32⟩
  | .hbm, ⟨8, _⟩ => ⟨S2304, .f32⟩
  | .hbm, ⟨9, _⟩ => ⟨S2304x1, .f32⟩
  | .hbm, ⟨10, _⟩ => ⟨S_, .f32⟩
  | .hbm, ⟨11, _⟩ => ⟨S2304x1, .f32⟩
  | .hbm, ⟨12, _⟩ => ⟨S2304x1, .f32⟩
  | .hbm, ⟨13, _⟩ => ⟨S_, .f32⟩
  | .hbm, ⟨14, _⟩ => ⟨S2304x1, .f32⟩
  | .hbm, ⟨15, _⟩ => ⟨S2304x1, .f32⟩
  | .hbm, ⟨16, _⟩ => ⟨S2304x1, .f32⟩
  | .hbm, ⟨17, _⟩ => ⟨S2048x1024, .f32⟩
  | .hbm, ⟨18, _⟩ => ⟨S2x1x1024, .f32⟩
  | .hbm, ⟨19, _⟩ => ⟨S2x1x1024, .f32⟩
  | .local _ .vmem, ⟨0, _⟩ => ⟨S2x768x1024, .bf16⟩
  | .local _ .vmem, ⟨1, _⟩ => ⟨S2x768x1024, .bf16⟩
  | .local _ .vmem, ⟨2, _⟩ => ⟨S1024x2048, .bf16⟩
  | .local _ .vmem, ⟨3, _⟩ => ⟨S768x1024, .f32⟩
  | .local _ .vmem, ⟨4, _⟩ => ⟨S768x1024, .f32⟩
  | .local _ .vmem, ⟨5, _⟩ => ⟨S768x1, .f32⟩
  | .local _ .vmem, ⟨6, _⟩ => ⟨S768x1, .f32⟩
  | .local _ .vmem, ⟨7, _⟩ => ⟨S1x1024, .f32⟩
  | .local _ .vmem, ⟨8, _⟩ => ⟨S2x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S768x1024, .f32⟩
  | .local _ .vmem, ⟨16, _⟩ => ⟨S768x1024, .f32⟩
  | .local _ .vmem, ⟨17, _⟩ => ⟨S2x1x1024, .f32⟩
  | .local _ .vmem, ⟨18, _⟩ => ⟨S2x1x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v74 : BitVec 32 := Scalar.extui v61
  let c0_i32_38 : BitVec 32 := 0#32
  let v75 : BitVec 1 := Scalar.cmpi .ne v74 c0_i32_38
  v75

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let v_true : BitVec 1 := 1#1
  let v76 : BitVec 1 := Scalar.xori v61 v_true
  let v77 : BitVec 32 := Scalar.extui v76
  let c0_i32_39 : BitVec 32 := 0#32
  let v78 : BitVec 1 := Scalar.cmpi .ne v77 c0_i32_39
  v78

def k0_cond3 (i : grid0.Coords) : BitVec 1 :=
  let arg0 : BitVec 32 := BitVec.ofNat 32 (i 0).val
  let c0_i32_40 : BitVec 32 := 0#32
  let v80 : BitVec 1 := Scalar.cmpi .eq arg0 c0_i32_40
  let v93 : BitVec 32 := Scalar.extui v80
  let c0_i32_45 : BitVec 32 := 0#32
  let v94 : BitVec 1 := Scalar.cmpi .ne v93 c0_i32_45
  v94

def k0_cond4 (i : grid0.Coords) : BitVec 1 :=
  let arg0 : BitVec 32 := BitVec.ofNat 32 (i 0).val
  let c0_i32_40 : BitVec 32 := 0#32
  let v80 : BitVec 1 := Scalar.cmpi .eq arg0 c0_i32_40
  let true_46 : BitVec 1 := 1#1
  let v95 : BitVec 1 := Scalar.xori v80 true_46
  let v96 : BitVec 32 := Scalar.extui v95
  let c0_i32_47 : BitVec 32 := 0#32
  let v97 : BitVec 1 := Scalar.cmpi .ne v96 c0_i32_47
  v97

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c8_i32 : BitVec 32 := 8#32
  let v2 : BitVec 32 := Scalar.minsi v1 c8_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c8_i32 : BitVec 32 := 8#32
  let v2 : BitVec 32 := Scalar.minsi v1 c8_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c8_i32 : BitVec 32 := 8#32
  let v2 : BitVec 32 := Scalar.minsi v1 c8_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference15Ideal.lean ====
abbrev S2x2304x1024 : Shape := ⟨3, ![2, 2304, 1024]⟩
abbrev S1024x2048 : Shape := ⟨2, ![1024, 2048]⟩
abbrev S2304x1024 : Shape := ⟨2, ![2304, 1024]⟩
abbrev S1x1024 : Shape := ⟨2, ![1, 1024]⟩
abbrev S2x1x1024 : Shape := ⟨3, ![2, 1, 1024]⟩
abbrev S_ : Shape := ⟨0, ![]⟩
abbrev S1x1x1024 : Shape := ⟨3, ![1, 1, 1024]⟩
abbrev S2304 : Shape := ⟨1, ![2304]⟩
abbrev S2304x1 : Shape := ⟨2, ![2304, 1]⟩
abbrev S2048x1024 : Shape := ⟨2, ![2048, 1024]⟩
abbrev S256x1024 : Shape := ⟨2, ![256, 1024]⟩
abbrev S2304x2048 : Shape := ⟨2, ![2304, 2048]⟩
abbrev S2304x2x1024 : Shape := ⟨3, ![2304, 2, 1024]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x2048, .bf16⟩
  | .hbm, ⟨2, _⟩ => ⟨S2304x1024, .f32⟩
  | .hbm, ⟨3, _⟩ => ⟨S1x1024, .f32⟩
  | .hbm, ⟨4, _⟩ => ⟨S2x1x1024, .f32⟩
  | .hbm, ⟨5, _⟩ => ⟨S2304x1024, .f32⟩
  | .hbm, ⟨6, _⟩ => ⟨S1024x2048, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S1x1x1024, .f32⟩
  | .hbm, ⟨11, _⟩ => ⟨S2x1x1024, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2304x1024, .f32⟩
  | .hbm, ⟨16, _⟩ => ⟨S_, .f32⟩
  | .hbm, ⟨17, _⟩ => ⟨S2304, .f32⟩
  | .hbm, ⟨18, _⟩ => ⟨S2304x1, .f32⟩
  | .hbm, ⟨19, _⟩ => ⟨S_, .f32⟩
  | .hbm, ⟨20, _⟩ => ⟨S2304x1, .f32⟩
  | .hbm, ⟨21, _⟩ => ⟨S2304x1, .f32⟩
  | .hbm, ⟨22, _⟩ => ⟨S_, .f32⟩
  | .hbm, ⟨23, _⟩ => ⟨S2304x1, .f32⟩
  | .hbm, ⟨24, _⟩ => ⟨S2304x1, .f32⟩
  | .hbm, ⟨25, _⟩ => ⟨S2304x1, .f32⟩
  | .hbm, ⟨26, _⟩ => ⟨S2304x1, .f32⟩
  | .hbm, ⟨27, _⟩ => ⟨S_, .f32⟩
  | .hbm, ⟨28, _⟩ => ⟨S2304x1, .f32⟩
  | .hbm, ⟨29, _⟩ => ⟨S2304x1, .f32⟩
  | .hbm, ⟨30, _⟩ => ⟨S2304x1024, .f32⟩
  | .hbm, ⟨31, _⟩ => ⟨S2304x1024, .f32⟩
  | .hbm, ⟨32, _⟩ => ⟨S1x1x1024, .f32⟩
  | .hbm, ⟨33, _⟩ => ⟨S1x1024, .f32⟩
  | .hbm, ⟨34, _⟩ => ⟨S2048x1024, .f32⟩
  | .hbm, ⟨35, _⟩ => ⟨S1x1x1024, .f32⟩
  | .hbm, ⟨36, _⟩ => ⟨S1x1024, .f32⟩
  | .hbm, ⟨37, _⟩ => ⟨S256x1024, .f32⟩
  | .hbm, ⟨38, _⟩ => ⟨S2304x1024, .f32⟩
  | .hbm, ⟨39, _⟩ => ⟨S2304x1024, .f32⟩
  | .hbm, ⟨40, _⟩ => ⟨S1x1x1024, .f32⟩
  | .hbm, ⟨41, _⟩ => ⟨S1x1024, .f32⟩
  | .hbm, ⟨42, _⟩ => ⟨S2048x1024, .f32⟩
  | .hbm, ⟨43, _⟩ => ⟨S1x1x1024, .f32⟩
  | .hbm, ⟨44, _⟩ => ⟨S1x1024, .f32⟩
  | .hbm, ⟨45, _⟩ => ⟨S256x1024, .f32⟩
  | .hbm, ⟨46, _⟩ => ⟨S2304x1024, .f32⟩
  | .hbm, ⟨47, _⟩ => ⟨S2304x1024, .f32⟩
  | .hbm, ⟨48, _⟩ => ⟨S2304x2048, .f32⟩
  | .hbm, ⟨49, _⟩ => ⟨S2304x2x1024, .bf16⟩
  | .hbm, ⟨50, _⟩ => ⟨S2304x2048, .bf16⟩
  | .hbm, ⟨51, _⟩ => ⟨S2304x2048, .f32⟩
  | .hbm, ⟨52, _⟩ => ⟨S2304x1024, .f32⟩
  | .hbm, ⟨53, _⟩ => ⟨S2048x1024, .f32⟩
  | .hbm, ⟨54, _⟩ => ⟨S256x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S1x1x1024, .f32⟩
  | .hbm, ⟨59, _⟩ => ⟨S_, .f32⟩
  | .hbm, ⟨60, _⟩ => ⟨S2x1x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1x1x1024, .f32⟩
  | .hbm, ⟨65, _⟩ => ⟨S_, .f32⟩
  | .hbm, ⟨66, _⟩ => ⟨S2x1x1024, .f32⟩
  | .hbm, ⟨67, _⟩ => ⟨S2x1x1024, .f32⟩
  | .hbm, ⟨68, _⟩ => ⟨S2304x1024, .f32⟩
  | .hbm, ⟨69, _⟩ => ⟨S2304x1024, .f32⟩
  | .hbm, ⟨70, _⟩ => ⟨S2048x1024, .f32⟩
  | .hbm, ⟨71, _⟩ => ⟨S256x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S1x1x1024, .f32⟩
  | .hbm, ⟨76, _⟩ => ⟨S_, .f32⟩
  | .hbm, ⟨77, _⟩ => ⟨S2x1x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S1x1x1024, .f32⟩
  | .hbm, ⟨82, _⟩ => ⟨S_, .f32⟩
  | .hbm, ⟨83, _⟩ => ⟨S2x1x1024, .f32⟩
  | .hbm, ⟨84, _⟩ => ⟨S2x1x1024, .f32⟩
  | .hbm, ⟨85, _⟩ => ⟨S2304x1024, .f32⟩
  | .hbm, ⟨86, _⟩ => ⟨S_, .f32⟩
  | .hbm, ⟨87, _⟩ => ⟨S2304, .f32⟩
  | .hbm, ⟨88, _⟩ => ⟨S2304x1, .f32⟩
  | .hbm, ⟨89, _⟩ => ⟨S2304x1024, .f32⟩
  | .hbm, ⟨90, _⟩ => ⟨S2304x1024, .f32⟩
  | .hbm, ⟨91, _⟩ => ⟨S2304x1024, .f32⟩
  | .hbm, ⟨92, _⟩ => ⟨S2304x1, .f32⟩
  | .hbm, ⟨93, _⟩ => ⟨S_, .f32⟩
  | .hbm, ⟨94, _⟩ => ⟨S2304x1, .f32⟩
  | .hbm, ⟨95, _⟩ => ⟨S2304x1, .f32⟩
  | .hbm, ⟨96, _⟩ => ⟨S_, .f32⟩
  | .hbm, ⟨97, _⟩ => ⟨S2304, .f32⟩
  | .hbm, ⟨98, _⟩ => ⟨S2304x1024, .f32⟩
  | .hbm, ⟨99, _⟩ => ⟨S2304x1024, .f32⟩
  | .hbm, ⟨100, _⟩ => ⟨S2304x1024, .f32⟩
  | .hbm, ⟨101, _⟩ => ⟨S2304x1024, .f32⟩
  | .hbm, ⟨102, _⟩ => ⟨S2304x1024, .f32⟩
  | .hbm, ⟨103, _⟩ => ⟨S2048x1024, .f32⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== Kernel16.lean ====
abbrev S2048x1024 : Shape := ⟨2, ![2048, 1024]⟩
abbrev S1x1024 : Shape := ⟨2, ![1, 1024]⟩
abbrev S1x1x1024 : Shape := ⟨3, ![1, 1, 1024]⟩
abbrev S1024x4096 : Shape := ⟨2, ![1024, 4096]⟩
abbrev S2048x1 : Shape := ⟨2, ![2048, 1]⟩
abbrev S2048x4096 : Shape := ⟨2, ![2048, 4096]⟩
abbrev S512x1024 : Shape := ⟨2, ![512, 1024]⟩
abbrev S512x1 : Shape := ⟨2, ![512, 1]⟩
abbrev S512x4096 : Shape := ⟨2, ![512, 4096]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1024x4096, .bf16⟩
  | .hbm, ⟨5, _⟩ => ⟨S2048x1024, .bf16⟩
  | .hbm, ⟨6, _⟩ => ⟨S2048x1, .f32⟩
  | .hbm, ⟨7, _⟩ => ⟨S2048x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x4096, .bf16⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | .local _ .vmem, ⟨10, _⟩ => ⟨S512x4096, .bf16⟩
  | .local _ .vmem, ⟨11, _⟩ => ⟨S512x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S2048x1024 : Shape := ⟨2, ![2048, 1024]⟩
abbrev S1x1024 : Shape := ⟨2, ![1, 1024]⟩
abbrev S1x1x1024 : Shape := ⟨3, ![1, 1, 1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1024x4096, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S1024x4096, .f32⟩
  | .hbm, ⟨31, _⟩ => ⟨S2048x4096, .f32⟩
  | .hbm, ⟨32, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel17.lean ====
abbrev S2048x1024 : Shape := ⟨2, ![2048, 1024]⟩
abbrev S1x1024 : Shape := ⟨2, ![1, 1024]⟩
abbrev S1x1x1024 : Shape := ⟨3, ![1, 1, 1024]⟩
abbrev S1024x2048 : Shape := ⟨2, ![1024, 2048]⟩
abbrev S2048x1 : Shape := ⟨2, ![2048, 1]⟩
abbrev S2048x2048 : Shape := ⟨2, ![2048, 2048]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1024x2048, .bf16⟩
  | .hbm, ⟨5, _⟩ => ⟨S2048x1024, .bf16⟩
  | .hbm, ⟨6, _⟩ => ⟨S2048x1, .f32⟩
  | .hbm, ⟨7, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | .local _ .vmem, ⟨10, _⟩ => ⟨S512x2048, .bf16⟩
  | .local _ .vmem, ⟨11, _⟩ => ⟨S512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S2048x1024 : Shape := ⟨2, ![2048, 1024]⟩
abbrev S1x1024 : Shape := ⟨2, ![1, 1024]⟩
abbrev S1x1x1024 : Shape := ⟨3, ![1, 1, 1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1024x2048, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S1024x2048, .f32⟩
  | .hbm, ⟨31, _⟩ => ⟨S2048x2048, .f32⟩
  | .hbm, ⟨32, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel18.lean ====
abbrev S2304x1024 : Shape := ⟨2, ![2304, 1024]⟩
abbrev S1x1024 : Shape := ⟨2, ![1, 1024]⟩
abbrev S2x1x1024 : Shape := ⟨3, ![2, 1, 1024]⟩
abbrev S1024x4096 : Shape := ⟨2, ![1024, 4096]⟩
abbrev S2304x1 : Shape := ⟨2, ![2304, 1]⟩
abbrev S2304x4096 : Shape := ⟨2, ![2304, 4096]⟩
abbrev S768x1024 : Shape := ⟨2, ![768, 1024]⟩
abbrev S768x1 : Shape := ⟨2, ![768, 1]⟩
abbrev S768x4096 : Shape := ⟨2, ![768, 4096]⟩
abbrev S768 : Shape := ⟨1, ![768]⟩
abbrev S1x1x1024 : Shape := ⟨3, ![1, 1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S2304x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x4096, .bf16⟩
  | .hbm, ⟨5, _⟩ => ⟨S2304x1024, .bf16⟩
  | .hbm, ⟨6, _⟩ => ⟨S2304x1, .f32⟩
  | .hbm, ⟨7, _⟩ => ⟨S2304x4096, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S2x1x1024, .f32⟩
  | .local _ .vmem, ⟨4, _⟩ => ⟨S2x1x1024, .f32⟩
  | .local _ .vmem, ⟨5, _⟩ => ⟨S1024x4096, .bf16⟩
  | .local _ .vmem, ⟨6, _⟩ => ⟨S768x1024, .bf16⟩
  | .local _ .vmem, ⟨7, _⟩ => ⟨S768x1024, .bf16⟩
  | .local _ .vmem, ⟨8, _⟩ => ⟨S768x1, .f32⟩
  | .local _ .vmem, ⟨9, _⟩ => ⟨S768x1, .f32⟩
  | .local _ .vmem, ⟨10, _⟩ => ⟨S768x4096, .bf16⟩
  | .local _ .vmem, ⟨11, _⟩ => ⟨S768x4096, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S2304x1024 : Shape := ⟨2, ![2304, 1024]⟩
abbrev S1x1024 : Shape := ⟨2, ![1, 1024]⟩
abbrev S2x1x1024 : Shape := ⟨3, ![2, 1, 1024]⟩
abbrev S1024x4096 : Shape := ⟨2, ![1024, 4096]⟩
abbrev S_ : Shape := ⟨0, ![]⟩
abbrev S2304 : Shape := ⟨1, ![2304]⟩
abbrev S2304x1 : Shape := ⟨2, ![2304, 1]⟩
abbrev S1x1x1024 : Shape := ⟨3, ![1, 1, 1024]⟩
abbrev S2048x1024 : Shape := ⟨2, ![2048, 1024]⟩
abbrev S256x1024 : Shape := ⟨2, ![256, 1024]⟩
abbrev S2304x4096 : Shape := ⟨2, ![2304, 4096]⟩

abbrev nBuf : Space → Nat
  | .hbm => 43
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x4096, .bf16⟩
  | .hbm, ⟨5, _⟩ => ⟨S2304x1024, .f32⟩
  | .hbm, ⟨6, _⟩ => ⟨S_, .f32⟩
  | .hbm, ⟨7, _⟩ => ⟨S2304, .f32⟩
  | .hbm, ⟨8, _⟩ => ⟨S2304x1, .f32⟩
  | .hbm, ⟨9, _⟩ => ⟨S_, .f32⟩
  | .hbm, ⟨10, _⟩ => ⟨S2304x1, .f32⟩
  | .hbm, ⟨11, _⟩ => ⟨S2304x1, .f32⟩
  | .hbm, ⟨12, _⟩ => ⟨S_, .f32⟩
  | .hbm, ⟨13, _⟩ => ⟨S2304x1, .f32⟩
  | .hbm, ⟨14, _⟩ => ⟨S2304x1, .f32⟩
  | .hbm, ⟨15, _⟩ => ⟨S2304x1, .f32⟩
  | .hbm, ⟨16, _⟩ => ⟨S2304x1024, .f32⟩
  | .hbm, ⟨17, _⟩ => ⟨S2304x1024, .f32⟩
  | .hbm, ⟨18, _⟩ => ⟨S2304x1024, .f32⟩
  | .hbm, ⟨19, _⟩ => ⟨S2304x1024, .f32⟩
  | .hbm, ⟨20, _⟩ => ⟨S1x1x1024, .f32⟩
  | .hbm, ⟨21, _⟩ => ⟨S1x1024, .f32⟩
  | .hbm, ⟨22, _⟩ => ⟨S2048x1024, .f32⟩
  | .hbm, ⟨23, _⟩ => ⟨S1x1x1024, .f32⟩
  | .hbm, ⟨24, _⟩ => ⟨S1x1024, .f32⟩
  | .hbm, ⟨25, _⟩ => ⟨S256x1024, .f32⟩
  | .hbm, ⟨26, _⟩ => ⟨S2304x1024, .f32⟩
  | .hbm, ⟨27, _⟩ => ⟨S_, .f32⟩
  | .hbm, ⟨28, _⟩ => ⟨S2304x1024, .f32⟩
  | .hbm, ⟨29, _⟩ => ⟨S2304x1024, .f32⟩
  | .hbm, ⟨30, _⟩ => ⟨S2304x1024, .f32⟩
  | .hbm, ⟨31, _⟩ => ⟨S1x1x1024, .f32⟩
  | .hbm, ⟨32, _⟩ => ⟨S1x1024, .f32⟩
  | .hbm, ⟨33, _⟩ => ⟨S2048x1024, .f32⟩
  | .hbm, ⟨34, _⟩ => ⟨S1x1x1024, .f32⟩
  | .hbm, ⟨35, _⟩ => ⟨S1x1024, .f32⟩
  | .hbm, ⟨36, _⟩ => ⟨S256x1024, .f32⟩
  | .hbm, ⟨37, _⟩ => ⟨S2304x1024, .f32⟩
  | .hbm, ⟨38, _⟩ => ⟨S2304x1024, .f32⟩
  | .hbm, ⟨39, _⟩ => ⟨S2304x1024, .bf16⟩
  | .hbm, ⟨40, _⟩ => ⟨S1024x4096, .f32⟩
  | .hbm, ⟨41, _⟩ => ⟨S2304x4096, .f32⟩
  | .hbm, ⟨42, _⟩ => ⟨S2304x4096, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel19.lean ====
abbrev S2048x1024 : Shape := ⟨2, ![2048, 1024]⟩
abbrev S256x1024 : Shape := ⟨2, ![256, 1024]⟩
abbrev S1x1024 : Shape := ⟨2, ![1, 1024]⟩
abbrev S2x1x1024 : Shape := ⟨3, ![2, 1, 1024]⟩
abbrev S1024x2048 : Shape := ⟨2, ![1024, 2048]⟩
abbrev S2304x1024 : Shape := ⟨2, ![2304, 1024]⟩
abbrev S2304x1 : Shape := ⟨2, ![2304, 1]⟩
abbrev S2304x2048 : Shape := ⟨2, ![2304, 2048]⟩
abbrev S768x1024 : Shape := ⟨2, ![768, 1024]⟩
abbrev S768x1 : Shape := ⟨2, ![768, 1]⟩
abbrev S768x2048 : Shape := ⟨2, ![768, 2048]⟩
abbrev S768 : Shape := ⟨1, ![768]⟩
abbrev S1x1x1024 : Shape := ⟨3, ![1, 1, 1024]⟩

abbrev nBuf : Space → Nat
  | .hbm => 10
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x2048, .bf16⟩
  | .hbm, ⟨6, _⟩ => ⟨S2304x1024, .f32⟩
  | .hbm, ⟨7, _⟩ => ⟨S2304x1024, .bf16⟩
  | .hbm, ⟨8, _⟩ => ⟨S2304x1, .f32⟩
  | .hbm, ⟨9, _⟩ => ⟨S2304x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S2x1x1024, .f32⟩
  | .local _ .vmem, ⟨9, _⟩ => ⟨S2x1x1024, .f32⟩
  | .local _ .vmem, ⟨10, _⟩ => ⟨S1024x2048, .bf16⟩
  | .local _ .vmem, ⟨11, _⟩ => ⟨S768x1024, .f32⟩
  | .local _ .vmem, ⟨12, _⟩ => ⟨S768x1024, .f32⟩
  | .local _ .vmem, ⟨13, _⟩ => ⟨S768x1024, .bf16⟩
  | .local _ .vmem, ⟨14, _⟩ => ⟨S768x1024, .bf16⟩
  | .local _ .vmem, ⟨15, _⟩ => ⟨S768x1, .f32⟩
  | .local _ .vmem, ⟨16, _⟩ => ⟨S768x1, .f32⟩
  | .local _ .vmem, ⟨17, _⟩ => ⟨S768x2048, .bf16⟩
  | .local _ .vmem, ⟨18, _⟩ => ⟨S768x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S768x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S768x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference19Ideal.lean ====
abbrev S2048x1024 : Shape := ⟨2, ![2048, 1024]⟩
abbrev S256x1024 : Shape := ⟨2, ![256, 1024]⟩
abbrev S1x1024 : Shape := ⟨2, ![1, 1024]⟩
abbrev S2x1x1024 : Shape := ⟨3, ![2, 1, 1024]⟩
abbrev S1024x2048 : Shape := ⟨2, ![1024, 2048]⟩
abbrev S2304x1024 : Shape := ⟨2, ![2304, 1024]⟩
abbrev S_ : Shape := ⟨0, ![]⟩
abbrev S2304 : Shape := ⟨1, ![2304]⟩
abbrev S2304x1 : Shape := ⟨2, ![2304, 1]⟩
abbrev S1x1x1024 : Shape := ⟨3, ![1, 1, 1024]⟩
abbrev S2304x2048 : Shape := ⟨2, ![2304, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x2048, .bf16⟩
  | .hbm, ⟨6, _⟩ => ⟨S2304x1024, .f32⟩
  | .hbm, ⟨7, _⟩ => ⟨S2304x1024, .f32⟩
  | .hbm, ⟨8, _⟩ => ⟨S_, .f32⟩
  | .hbm, ⟨9, _⟩ => ⟨S2304, .f32⟩
  | .hbm, ⟨10, _⟩ => ⟨S2304x1, .f32⟩
  | .hbm, ⟨11, _⟩ => ⟨S_, .f32⟩
  | .hbm, ⟨12, _⟩ => ⟨S2304x1, .f32⟩
  | .hbm, ⟨13, _⟩ => ⟨S2304x1, .f32⟩
  | .hbm, ⟨14, _⟩ => ⟨S_, .f32⟩
  | .hbm, ⟨15, _⟩ => ⟨S2304x1, .f32⟩
  | .hbm, ⟨16, _⟩ => ⟨S2304x1, .f32⟩
  | .hbm, ⟨17, _⟩ => ⟨S2304x1, .f32⟩
  | .hbm, ⟨18, _⟩ => ⟨S2304x1024, .f32⟩
  | .hbm, ⟨19, _⟩ => ⟨S2304x1024, .f32⟩
  | .hbm, ⟨20, _⟩ => ⟨S2304x1024, .f32⟩
  | .hbm, ⟨21, _⟩ => ⟨S2304x1024, .f32⟩
  | .hbm, ⟨22, _⟩ => ⟨S1x1x1024, .f32⟩
  | .hbm, ⟨23, _⟩ => ⟨S1x1024, .f32⟩
  | .hbm, ⟨24, _⟩ => ⟨S2048x1024, .f32⟩
  | .hbm, ⟨25, _⟩ => ⟨S1x1x1024, .f32⟩
  | .hbm, ⟨26, _⟩ => ⟨S1x1024, .f32⟩
  | .hbm, ⟨27, _⟩ => ⟨S256x1024, .f32⟩
  | .hbm, ⟨28, _⟩ => ⟨S2304x1024, .f32⟩
  | .hbm, ⟨29, _⟩ => ⟨S_, .f32⟩
  | .hbm, ⟨30, _⟩ => ⟨S2304x1024, .f32⟩
  | .hbm, ⟨31, _⟩ => ⟨S2304x1024, .f32⟩
  | .hbm, ⟨32, _⟩ => ⟨S2304x1024, .f32⟩
  | .hbm, ⟨33, _⟩ => ⟨S1x1x1024, .f32⟩
  | .hbm, ⟨34, _⟩ => ⟨S1x1024, .f32⟩
  | .hbm, ⟨35, _⟩ => ⟨S2048x1024, .f32⟩
  | .hbm, ⟨36, _⟩ => ⟨S1x1x1024, .f32⟩
  | .hbm, ⟨37, _⟩ => ⟨S1x1024, .f32⟩
  | .hbm, ⟨38, _⟩ => ⟨S256x1024, .f32⟩
  | .hbm, ⟨39, _⟩ => ⟨S2304x1024, .f32⟩
  | .hbm, ⟨40, _⟩ => ⟨S2304x1024, .f32⟩
  | .hbm, ⟨41, _⟩ => ⟨S2304x1024, .bf16⟩
  | .hbm, ⟨42, _⟩ => ⟨S1024x2048, .f32⟩
  | .hbm, ⟨43, _⟩ => ⟨S2304x2048, .f32⟩
  | .hbm, ⟨44, _⟩ => ⟨S2304x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel20.lean ====
abbrev S2048x1024 : Shape := ⟨2, ![2048, 1024]⟩
abbrev S1024x1024 : Shape := ⟨2, ![1024, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1x1024, .f32⟩
  | .hbm, ⟨4, _⟩ => ⟨S2048x1024, .bf16⟩
  | .hbm, ⟨5, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference20Ideal.lean ====
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel21.lean ====
abbrev S2048x1024 : Shape := ⟨2, ![2048, 1024]⟩
abbrev S1024x1024 : Shape := ⟨2, ![1024, 1024]⟩
abbrev S2304x1024 : Shape := ⟨2, ![2304, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2304x1024, .f32⟩
  | .hbm, ⟨3, _⟩ => ⟨S1x1x1024, .f32⟩
  | .hbm, ⟨4, _⟩ => ⟨S2048x1024, .bf16⟩
  | .hbm, ⟨5, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S2048x1024 : Shape := ⟨2, ![2048, 1024]⟩
abbrev S1024x1024 : Shape := ⟨2, ![1024, 1024]⟩
abbrev S2304x1024 : Shape := ⟨2, ![2304, 1024]⟩
abbrev S1x1x1024 : Shape := ⟨3, ![1, 1, 1024]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2304x1024, .f32⟩
  | .hbm, ⟨3, _⟩ => ⟨S1x1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel22.lean ====
abbrev S2304x1024 : Shape := ⟨2, ![2304, 1024]⟩
abbrev S1024x1024 : Shape := ⟨2, ![1024, 1024]⟩
abbrev S2x1x1024 : Shape := ⟨3, ![2, 1, 1024]⟩
abbrev S768x1024 : Shape := ⟨2, ![768, 1024]⟩
abbrev S768x1 : Shape := ⟨2, ![768, 1]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .f32⟩
  | .hbm, ⟨3, _⟩ => ⟨S2x1x1024, .f32⟩
  | .hbm, ⟨4, _⟩ => ⟨S2304x1024, .bf16⟩
  | .hbm, ⟨5, _⟩ => ⟨S2304x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S2x1x1024, .f32⟩
  | .local _ .vmem, ⟨6, _⟩ => ⟨S768x1024, .bf16⟩
  | .local _ .vmem, ⟨7, _⟩ => ⟨S768x1024, .bf16⟩
  | .local _ .vmem, ⟨8, _⟩ => ⟨S768x1024, .f32⟩
  | .local _ .vmem, ⟨9, _⟩ => ⟨S768x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S2304x1024 : Shape := ⟨2, ![2304, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩
abbrev S2048x1024 : Shape := ⟨2, ![2048, 1024]⟩
abbrev S256x1024 : Shape := ⟨2, ![256, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .f32⟩
  | .hbm, ⟨3, _⟩ => ⟨S2x1x1024, .f32⟩
  | .hbm, ⟨4, _⟩ => ⟨S2304x1024, .f32⟩
  | .hbm, ⟨5, _⟩ => ⟨S1024x1024, .f32⟩
  | .hbm, ⟨6, _⟩ => ⟨S2304x1024, .f32⟩
  | .hbm, ⟨7, _⟩ => ⟨S2304x1024, .bf16⟩
  | .hbm, ⟨8, _⟩ => ⟨S1x1x1024, .f32⟩
  | .hbm, ⟨9, _⟩ => ⟨S1x1024, .f32⟩
  | .hbm, ⟨10, _⟩ => ⟨S2048x1024, .f32⟩
  | .hbm, ⟨11, _⟩ => ⟨S1x1x1024, .f32⟩
  | .hbm, ⟨12, _⟩ => ⟨S1x1024, .f32⟩
  | .hbm, ⟨13, _⟩ => ⟨S256x1024, .f32⟩
  | .hbm, ⟨14, _⟩ => ⟨S2304x1024, .f32⟩
  | .hbm, ⟨15, _⟩ => ⟨S2304x1024, .f32⟩
  | .hbm, ⟨16, _⟩ => ⟨S2304x1024, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel23.lean ====
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩
abbrev S1x128 : Shape := ⟨2, ![1, 128]⟩
abbrev S512x1024 : Shape := ⟨2, ![512, 1024]⟩
abbrev S1x1 : Shape := ⟨2, ![1, 1]⟩
abbrev S512 : Shape := ⟨1, ![512]⟩
abbrev S512x1 : Shape := ⟨2, ![512, 1]⟩
abbrev S1024 : Shape := ⟨1, ![1024]⟩
abbrev S1 : Shape := ⟨1, ![1]⟩

abbrev nBuf : Space → Nat
  | .hbm => 10
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x128, .f32⟩
  | .hbm, ⟨8, _⟩ => ⟨S2048x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v57 : BitVec 1 := Scalar.cmpi .eq arg0 c3_i32
  let v58 : BitVec 32 := Scalar.extui v57
  let c0_i32_29 : BitVec 32 := 0#32
  let v59 : BitVec 1 := Scalar.cmpi .ne v58 c0_i32_29
  v59

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_26 : BitVec 32 := 0#32
  let v53 : BitVec 1 := Scalar.cmpi .ne v52 c0_i32_26
  v53

def k0_cond2 (i : grid0.Coords) : BitVec 1 :=
  let arg0 : BitVec 32 := BitVec.ofNat 32 (i 0).val
  let c0_i32_27 : BitVec 32 := 0#32
  let v54 : BitVec 1 := Scalar.cmpi .sgt arg0 c0_i32_27
  let v55 : BitVec 32 := Scalar.extui v54
  let c0_i32_28 : BitVec 32 := 0#32
  let v56 : BitVec 1 := Scalar.cmpi .ne v55 c0_i32_28
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference23Ideal.lean ====
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x1024, .f32⟩
  | .hbm, ⟨67, _⟩ => ⟨S2048x1024, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S1x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel24.lean ====
abbrev S2048x4096 : Shape := ⟨2, ![2048, 4096]⟩
abbrev S3x1024 : Shape := ⟨2, ![3, 1024]⟩
abbrev S1x1024 : Shape := ⟨2, ![1, 1024]⟩
abbrev S2048x1024 : Shape := ⟨2, ![2048, 1024]⟩
abbrev S2048x128 : Shape := ⟨2, ![2048, 128]⟩
abbrev S3x128 : Shape := ⟨2, ![3, 128]⟩
abbrev S1x128 : Shape := ⟨2, ![1, 128]⟩

abbrev nBuf : Space → Nat
  | .hbm => 4
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S3x1024, .f32⟩
  | .hbm, ⟨2, _⟩ => ⟨S1x1024, .f32⟩
  | .hbm, ⟨3, _⟩ => ⟨S2048x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S2048x4096 : Shape := ⟨2, ![2048, 4096]⟩
abbrev S3x1024 : Shape := ⟨2, ![3, 1024]⟩
abbrev S1x1024 : Shape := ⟨2, ![1, 1024]⟩
abbrev S2048x1024 : Shape := ⟨2, ![2048, 1024]⟩
abbrev S_ : Shape := ⟨0, ![]⟩
abbrev S2047x1024 : Shape := ⟨2, ![2047, 1024]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S3x1024, .f32⟩
  | .hbm, ⟨2, _⟩ => ⟨S1x1024, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1x1024, .f32⟩
  | .hbm, ⟨11, _⟩ => ⟨S2047x1024, .f32⟩
  | .hbm, ⟨12, _⟩ => ⟨S2048x1024, .f32⟩
  | .hbm, ⟨13, _⟩ => ⟨S2047x1024, .f32⟩
  | .hbm, ⟨14, _⟩ => ⟨S2048x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel25.lean ====
abbrev S2048x2048 : Shape := ⟨2, ![2048, 2048]⟩
abbrev S4x256x256 : Shape := ⟨3, ![4, 256, 256]⟩
abbrev S1x1024 : Shape := ⟨2, ![1, 1024]⟩
abbrev S2048x1024 : Shape := ⟨2, ![2048, 1024]⟩
abbrev S2048x256 : Shape := ⟨2, ![2048, 256]⟩
abbrev S1x256x256 : Shape := ⟨3, ![1, 256, 256]⟩
abbrev S1x256 : Shape := ⟨2, ![1, 256]⟩
abbrev S2096x256 : Shape := ⟨2, ![2096, 256]⟩
abbrev S16x256 : Shape := ⟨2, ![16, 256]⟩
abbrev S32x256 : Shape := ⟨2, ![32, 256]⟩
abbrev S2048x1 : Shape := ⟨2, ![2048, 1]⟩
abbrev S256x256 : Shape := ⟨2, ![256, 256]⟩

abbrev nBuf : Space → Nat
  | .hbm => 6
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S4x256x256, .bf16⟩
  | .hbm, ⟨2, _⟩ => ⟨S1x1024, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2096x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S2048x2048 : Shape := ⟨2, ![2048, 2048]⟩
abbrev S4x256x256 : Shape := ⟨3, ![4, 256, 256]⟩
abbrev S1x1024 : Shape := ⟨2, ![1, 1024]⟩
abbrev S2048x1024 : Shape := ⟨2, ![2048, 1024]⟩
abbrev S2048x256 : Shape := ⟨2, ![2048, 256]⟩
abbrev S2048 : Shape := ⟨1, ![2048]⟩
abbrev S1x2048 : Shape := ⟨2, ![1, 2048]⟩
abbrev S_ : Shape := ⟨0, ![]⟩
abbrev S2048x1 : Shape := ⟨2, ![2048, 1]⟩
abbrev S1x256x256 : Shape := ⟨3, ![1, 256, 256]⟩
abbrev S256x256 : Shape := ⟨2, ![256, 256]⟩

abbrev nBuf : Space → Nat
  | .hbm => 216
  | .vmem => 0
  | .smem => 0
  | _ => 0

abbrev hbmTy0_0 (i : Nat) : BufTy := match i % 128 with
  | 0 => ⟨S2048x2048, .bf16⟩
  | 1 => ⟨S4x256x256, .bf16⟩
  | 2 => ⟨S1x1024, .f32⟩
  | 3 => ⟨S2048x1024, .bf16⟩
  | 4 => ⟨S2048x1024, .f32⟩
  | 5 => ⟨S2048x1024, .bf16⟩
  | 6 => ⟨S2048x1024, .f32⟩
  | 7 => ⟨S2048x256, .f32⟩
  | 8 => ⟨S2048x256, .f32⟩
  | 9 => ⟨S2048x256, .f32⟩
  | 10 => ⟨S2048x256, .f32⟩
  | 11 => ⟨S2048, .i32⟩
  | 12 => ⟨S1x2048, .i32⟩
  | 13 => ⟨S_, .i32⟩
  | 14 => ⟨S1x2048, .i32⟩
  | 15 => ⟨S1x2048, .i32⟩
  | 16 => ⟨S2048x1, .i32⟩
  | 17 => ⟨S2048x2048, .i32⟩
  | 18 => ⟨S2048x2048, .i32⟩
  | 19 => ⟨S2048x2048, .i1⟩
  | 20 => ⟨S1x2048, .i32⟩
  | 21 => ⟨S2048x1, .i32⟩
  | 22 => ⟨S_, .i32⟩
  | 23 => ⟨S2048x1, .i32⟩
  | 24 => ⟨S2048x1, .i32⟩
  | 25 => ⟨S2048x2048, .i32⟩
  | 26 => ⟨S2048x2048, .i32⟩
  | 27 => ⟨S2048x2048, .i1⟩
  | 28 => ⟨S2048x2048, .i1⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i32⟩
  | 41 => ⟨S2048, .i32⟩
  | 42 => ⟨S2048, .f32⟩
  | 43 => ⟨S_, .f32⟩
  | 44 => ⟨S_, .f32⟩
  | 45 => ⟨S2048x2048, .f32⟩
  | 46 => ⟨S2048x2048, .f32⟩
  | 47 => ⟨S2048x2048, .f32⟩
  | 48 => ⟨S2048x2048, .f32⟩
  | 49 => ⟨S2048x256, .f32⟩
  | 50 => ⟨S2048x1, .f32⟩
  | 51 => ⟨S2048x256, .f32⟩
  | 52 => ⟨S2048x256, .f32⟩
  | 53 => ⟨S2048x256, .f32⟩
  | 54 => ⟨S2048, .i32⟩
  | 55 => ⟨S1x2048, .i32⟩
  | 56 => ⟨S_, .i32⟩
  | 57 => ⟨S1x2048, .i32⟩
  | 58 => ⟨S1x2048, .i32⟩
  | 59 => ⟨S2048x1, .i32⟩
  | 60 => ⟨S2048x2048, .i32⟩
  | 61 => ⟨S2048x2048, .i32⟩
  | 62 => ⟨S2048x2048, .i1⟩
  | 63 => ⟨S1x2048, .i32⟩
  | 64 => ⟨S2048x1, .i32⟩
  | 65 => ⟨S_, .i32⟩
  | 66 => ⟨S2048x1, .i32⟩
  | 67 => ⟨S2048x1, .i32⟩
  | 68 => ⟨S2048x2048, .i32⟩
  | 69 => ⟨S2048x2048, .i32⟩
  | 70 => ⟨S2048x2048, .i1⟩
  | 71 => ⟨S2048x2048, .i1⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S_, .i32⟩
  | 79 => ⟨S2048, .i32⟩
  | 80 => ⟨S2048, .i32⟩
  | 81 => ⟨S_, .i32⟩
  | 82 => ⟨S2048, .i32⟩
  | 83 => ⟨S2048, .i32⟩
  | 84 => ⟨S2048, .i32⟩
  | 85 => ⟨S2048, .f32⟩
  | 86 => ⟨S_, .f32⟩
  | 87 => ⟨S_, .f32⟩
  | 88 => ⟨S2048x2048, .f32⟩
  | 89 => ⟨S2048x2048, .f32⟩
  | 90 => ⟨S2048x2048, .f32⟩
  | 91 => ⟨S2048x2048, .f32⟩
  | 92 => ⟨S2048x256, .f32⟩
  | 93 => ⟨S2048x1, .f32⟩
  | 94 => ⟨S2048x256, .f32⟩
  | 95 => ⟨S2048x256, .f32⟩
  | 96 => ⟨S2048x256, .f32⟩
  | 97 => ⟨S2048, .i32⟩
  | 98 => ⟨S1x2048, .i32⟩
  | 99 => ⟨S_, .i32⟩
  | 100 => ⟨S1x2048, .i32⟩
  | 101 => ⟨S1x2048, .i32⟩
  | 102 => ⟨S2048x1, .i32⟩
  | 103 => ⟨S2048x2048, .i32⟩
  | 104 => ⟨S2048x2048, .i32⟩
  | 105 => ⟨S2048x2048, .i1⟩
  | 106 => ⟨S1x2048, .i32⟩
  | 107 => ⟨S2048x1, .i32⟩
  | 108 => ⟨S_, .i32⟩
  | 109 => ⟨S2048x1, .i32⟩
  | 110 => ⟨S2048x1, .i32⟩
  | 111 => ⟨S2048x2048, .i32⟩
  | 112 => ⟨S2048x2048, .i32⟩
  | 113 => ⟨S2048x2048, .i1⟩
  | 114 => ⟨S2048x2048, .i1⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S2048, .i32⟩
  | _ => ⟨S2048x2048, .bf16⟩

abbrev hbmTy0_1 (i : Nat) : BufTy := match i % 128 with
  | 0 => ⟨S2048, .f32⟩
  | 1 => ⟨S_, .f32⟩
  | 2 => ⟨S_, .f32⟩
  | 3 => ⟨S2048x2048, .f32⟩
  | 4 => ⟨S2048x2048, .f32⟩
  | 5 => ⟨S2048x2048, .f32⟩
  | 6 => ⟨S2048x2048, .f32⟩
  | 7 => ⟨S2048x256, .f32⟩
  | 8 => ⟨S2048x1, .f32⟩
  | 9 => ⟨S2048x256, .f32⟩
  | 10 => ⟨S2048x256, .f32⟩
  | 11 => ⟨S2048x256, .f32⟩
  | 12 => ⟨S2048, .i32⟩
  | 13 => ⟨S1x2048, .i32⟩
  | 14 => ⟨S_, .i32⟩
  | 15 => ⟨S1x2048, .i32⟩
  | 16 => ⟨S1x2048, .i32⟩
  | 17 => ⟨S2048x1, .i32⟩
  | 18 => ⟨S2048x2048, .i32⟩
  | 19 => ⟨S2048x2048, .i32⟩
  | 20 => ⟨S2048x2048, .i1⟩
  | 21 => ⟨S1x2048, .i32⟩
  | 22 => ⟨S2048x1, .i32⟩
  | 23 => ⟨S_, .i32⟩
  | 24 => ⟨S2048x1, .i32⟩
  | 25 => ⟨S2048x1, .i32⟩
  | 26 => ⟨S2048x2048, .i32⟩
  | 27 => ⟨S2048x2048, .i32⟩
  | 28 => ⟨S2048x2048, .i1⟩
  | 29 => ⟨S2048x2048, .i1⟩
  | 30 => ⟨S_, .i32⟩
  | 31 => ⟨S2048, .i32⟩
  | 32 => ⟨S2048, .i32⟩
  | 33 => ⟨S_, .i32⟩
  | 34 => ⟨S2048, .i32⟩
  | 35 => ⟨S2048, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S2048, .i32⟩
  | 43 => ⟨S2048, .f32⟩
  | 44 => ⟨S_, .f32⟩
  | 45 => ⟨S_, .f32⟩
  | 46 => ⟨S2048x2048, .f32⟩
  | 47 => ⟨S2048x2048, .f32⟩
  | 48 => ⟨S2048x2048, .f32⟩
  | 49 => ⟨S2048x2048, .f32⟩
  | 50 => ⟨S2048x256, .f32⟩
  | 51 => ⟨S2048x1, .f32⟩
  | 52 => ⟨S2048x256, .f32⟩
  | 53 => ⟨S2048x256, .f32⟩
  | 54 => ⟨S2048x256, .f32⟩
  | 55 => ⟨S1x256x256, .bf16⟩
  | 56 => ⟨S256x256, .bf16⟩
  | 57 => ⟨S256x256, .f32⟩
  | 58 => ⟨S2048x256, .f32⟩
  | 59 => ⟨S1x256x256, .bf16⟩
  | 60 => ⟨S256x256, .bf16⟩
  | 61 => ⟨S256x256, .f32⟩
  | 62 => ⟨S2048x256, .f32⟩
  | 63 => ⟨S1x256x256, .bf16⟩
  | 64 => ⟨S256x256, .bf16⟩
  | 65 => ⟨S256x256, .f32⟩
  | 66 => ⟨S2048x256, .f32⟩
  | 67 => ⟨S1x256x256, .bf16⟩
  | 68 => ⟨S256x256, .bf16⟩
  | 69 => ⟨S256x256, .f32⟩
  | 70 => ⟨S2048x256, .f32⟩
  | 71 => ⟨S2048x1024, .f32⟩
  | 72 => ⟨S2048x1024, .f32⟩
  | 73 => ⟨S2048x1024, .bf16⟩
  | 74 => ⟨S2048x1024, .bf16⟩
  | 75 => ⟨S2048x1024, .f32⟩
  | 76 => ⟨S2048x1024, .f32⟩
  | 77 => ⟨S2048x1024, .f32⟩
  | 78 => ⟨S2048x1024, .f32⟩
  | 79 => ⟨S_, .f32⟩
  | 80 => ⟨S2048x1024, .f32⟩
  | 81 => ⟨S2048x1024, .f32⟩
  | 82 => ⟨S_, .f32⟩
  | 83 => ⟨S2048x1024, .f32⟩
  | 84 => ⟨S2048x1024, .f32⟩
  | 85 => ⟨S2048x1024, .f32⟩
  | 86 => ⟨S2048x1024, .f32⟩
  | 87 => ⟨S2048x1024, .bf16⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_c_3 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_8 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_c_10 : Ref sig .tc := ⟨.hbm, 78, rfl⟩
abbrev main_v61 : Ref sig .tc := ⟨.hbm, 79, rfl⟩
abbrev main_v62 : Ref sig .tc := ⟨.hbm, 80, rfl⟩
abbrev main_c_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_15 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_c_16 : Ref sig .tc := ⟨.hbm, 115, rfl⟩
abbrev main_v90 : Ref sig .tc := ⟨.hbm, 116, rfl⟩
abbrev main_v91 : Ref sig .tc := ⟨.hbm, 117, rfl⟩
abbrev main_c_17 : Ref sig .tc := ⟨.hbm, 118, rfl⟩
abbrev main_v92 : Ref sig .tc := ⟨.hbm, 119, rfl⟩
abbrev main_v93 : Ref sig .tc := ⟨.hbm, 120, rfl⟩
abbrev main_c_18 : Ref sig .tc := ⟨.hbm, 121, rfl⟩
abbrev main_v94 : Ref sig .tc := ⟨.hbm, 122, rfl⟩
abbrev main_v95 : Ref sig .tc := ⟨.hbm, 123, rfl⟩
abbrev main_c_19 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_cst_21 : Ref sig .tc := ⟨.hbm, 130, rfl⟩
abbrev main_call2_v0 : Ref sig .tc := ⟨.hbm, 131, rfl⟩
abbrev main_call2_v1 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c_22 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_23 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_24 : Ref sig .tc := ⟨.hbm, 158, rfl⟩
abbrev main_v123 : Ref sig .tc := ⟨.hbm, 159, rfl⟩
abbrev main_v124 : Ref sig .tc := ⟨.hbm, 160, rfl⟩
abbrev main_c_25 : Ref sig .tc := ⟨.hbm, 161, rfl⟩
abbrev main_v125 : Ref sig .tc := ⟨.hbm, 162, rfl⟩
abbrev main_v126 : Ref sig .tc := ⟨.hbm, 163, rfl⟩
abbrev main_c_26 : Ref sig .tc := ⟨.hbm, 164, rfl⟩
abbrev main_v127 : Ref sig .tc := ⟨.hbm, 165, rfl⟩
abbrev main_v128 : Ref sig .tc := ⟨.hbm, 166, rfl⟩
abbrev main_c_27 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_28 : Ref sig .tc := ⟨.hbm, 172, rfl⟩
abbrev main_cst_29 : Ref sig .tc := ⟨.hbm, 173, rfl⟩
abbrev main_call3_v0 : Ref sig .tc := ⟨.hbm, 174, rfl⟩
abbrev main_call3_v1 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_call4_v0 : Ref sig .tc := ⟨.hbm, 205, rfl⟩
abbrev main_call4_v1 : Ref sig .tc := ⟨.hbm, 206, rfl⟩
abbrev main_call4_cst : Ref sig .tc := ⟨.hbm, 207, rfl⟩
abbrev main_call4_v2 : Ref sig .tc := ⟨.hbm, 208, rfl⟩
abbrev main_call4_v3 : Ref sig .tc := ⟨.hbm, 209, rfl⟩
abbrev main_call4_cst_0 : Ref sig .tc := ⟨.hbm, 210, rfl⟩
abbrev main_call4_v4 : Ref sig .tc := ⟨.hbm, 211, rfl⟩
abbrev main_call4_v5 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩

abbrev nD : Nat := 1
abbrev τ : Topo := Topo.v7x

variable {F : FTy → Type} [FloatOps F]
-- ==== Proof.ConvMath.lean ====
/- The gated convolution's backward pass, one channel at a time: a channel is its column of 2048 time steps. -/
module

public import Idealize.ShloMosaic.Lib.Pipeline.ValueKit

@[expose] public section

noncomputable section

namespace Cert.ConvMath

open Idealize.ShloMosaic

/-- A column: one channel over all time steps. -/
abbrev Col := Fin 2048 → EReal

/-- The column one step earlier, zero before the first step. -/
def prev (f : Col) (r : Fin 2048) : EReal := if h : 1 ≤ r.val then f ⟨r.val - 1, by omega⟩ else 0

/-- The column one step later, zero past the last step. -/
def next (f : Col) (r : Fin 2048) : EReal := if h : r.val < 2047 then f ⟨r.val + 1, by omega⟩ else 0

/-- The logistic function. -/
def lgst (x : EReal) : EReal := Ideal.div 1 (1 + Ideal.exp (-x))

/-- The three-tap convolution of a column, with bias. -/
def conv (w0 w1 w2 b : EReal) (f : Col) (r : Fin 2048) : EReal := w0 * prev f r + w1 * f r + w2 * next f r + b

/-- The cotangent of the convolution: the incoming one times the activated gate times the output gate. -/
def dconv (a bg g : Col) (r : Fin 2048) : EReal := a r * (g r * lgst (g r)) * bg r

/-- The cotangent of the convolution's input: the same taps, run backwards. -/
def dtap (w0 w1 w2 : EReal) (f : Col) (r : Fin 2048) : EReal := w0 * next f r + w1 * f r + w2 * prev f r

/-- The four cotangents of the projected channels: output gate, input gate, value, activated gate. -/
def grad4 (a bg cg v g : Col) (w0 w1 w2 b : EReal) (k : Fin 4) (r : Fin 2048) : EReal :=
  match k with
  | 0 => a r * (g r * lgst (g r)) * conv w0 w1 w2 b (fun r => cg r * v r) r
  | 1 => dtap w0 w1 w2 (dconv a bg g) r * v r
  | 2 => dtap w0 w1 w2 (dconv a bg g) r * cg r
  | 3 => a r * (bg r * conv w0 w1 w2 b (fun r => cg r * v r) r) * (lgst (g r) * (1 + g r * (1 - lgst (g r))))

/-- The three tap gradients: the cotangent against the input one step earlier, in place, one step later. -/
def gradTap (a bg cg v g : Col) (k : Fin 3) : EReal :=
  match k with
  | 0 => ∑ r, dconv a bg g r * prev (fun r => cg r * v r) r
  | 1 => ∑ r, dconv a bg g r * (cg r * v r)
  | 2 => ∑ r, dconv a bg g r * next (fun r => cg r * v r) r

/-- An extended real that is a real number. -/
def Real' (x : EReal) : Prop := ∃ y : ℝ, x = (y : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.of_abs_lt {x : EReal} (h : max x (-x) < ⊤) : Real' x := by
  induction x with
  | bot => simp at h
  | coe y => exact ⟨y, rfl⟩
  | top => simp at h

theorem Real'.prev {f : Col} (hf : ∀ r, Real' (f r)) (r : Fin 2048) : Real' (prev f r) := by
  unfold ConvMath.prev; split
  · exact hf _
  · exact ⟨0, rfl⟩

theorem Real'.next {f : Col} (hf : ∀ r, Real' (f r)) (r : Fin 2048) : Real' (next f r) := by
  unfold ConvMath.next; split
  · exact hf _
  · exact ⟨0, rfl⟩

theorem Real'.conv {w0 w1 w2 b : EReal} {f : Col} (h0 : Real' w0) (h1 : Real' w1) (h2 : Real' w2) (hb : Real' b)
    (hf : ∀ r, Real' (f r)) (r : Fin 2048) : Real' (conv w0 w1 w2 b f r) :=
  (((h0.mul (Real'.prev hf r)).add (h1.mul (hf r))).add (h2.mul (Real'.next hf r))).add hb

theorem Real'.lgst {x : EReal} (hx : Real' x) : Real' (lgst x) := by
  obtain ⟨a, rfl⟩ := hx
  have he : Ideal.exp (-(a : EReal)) = ((Real.exp (-a) : ℝ) : EReal) := rfl
  have hs : (1 : EReal) + ((Real.exp (-a) : ℝ) : EReal) = ((1 + Real.exp (-a) : ℝ) : EReal) := by
    rw [EReal.coe_add]; rfl
  have hne : ((1 + Real.exp (-a) : ℝ) : EReal) ≠ 0 := by
    intro h
    have : (1 + Real.exp (-a) : ℝ) = 0 := by exact_mod_cast h
    have := Real.exp_pos (-a)
    linarith
  unfold ConvMath.lgst Ideal.div
  rw [he, hs, if_neg hne, one_mul, ← EReal.coe_inv]
  exact ⟨_, rfl⟩

/-- The derivative of the activated gate, factored (`s (1 + g (1 - s))`) and by the product rule
    (`s + g s (1 - s)`, each term times the cotangent): equal where the cotangent, the gate and its logistic are real. -/
theorem dsilu_eq {a y g s : EReal} (ha : Real' a) (hy : Real' y) (hg : Real' g) (hs : Real' s) :
    a * y * (s * (1 + g * (1 - s))) = y * a * s + g * (y * a) * (s * (1 - s)) := by
  obtain ⟨a, rfl⟩ := ha; obtain ⟨y, rfl⟩ := hy; obtain ⟨g, rfl⟩ := hg; obtain ⟨s, rfl⟩ := hs
  norm_cast
  ring

end Cert.ConvMath

end
-- ==== Proof.ConvKernel.lean ====
/- The kernel's side: what each grid point computes from its blocks, a column at a time, and the result arrays. -/
module

public import proofs.«01_k».proof.Proof.ConvMath
public import proofs.«01_k».proof.Proof.Gen.KernelIdeal.Value

@[expose] public section

set_option maxRecDepth 16384

noncomputable section

namespace Cert.ConvKernel

open Idealize.ShloMosaic Idealize.ShloMosaic.TcCoe Idealize.SL.Sem
open Idealize.ShloMosaic.Pipeline (Dat)
open Idealize.ShloMosaic.WordCmp (ofBool_decide_eq_one_iff)
open Cert.KernelIdeal Cert.KernelIdeal.Gen Cert.ConvMath

/-! ## A rotation masked at the end it wraps round is a shift -/

theorem select_rot_one (f : Col) (r : Fin 2048) :
    Scalar.select (IntOp.cmpi .sge (BitVec.ofNat 32 r.val) 1#32) (f ⟨(r.val + 2048 - 1) % 2048, Nat.mod_lt _ (by omega)⟩) 0
      = prev f r := by
  have hr := r.isLt
  rw [show (1#32 : BitVec 32) = BitVec.ofNat 32 1 from rfl, WordCmp.cmpi_sge_ofNat (by omega) (by omega)]
  unfold prev Scalar.select
  by_cases h : 1 ≤ r.val
  · refine ((if_pos ((ofBool_decide_eq_one_iff _).2 h)).trans ?_).trans (dif_pos h).symm
    exact congrArg f (Fin.ext (by show (r.val + 2048 - 1) % 2048 = r.val - 1; omega))
  · exact (if_neg fun e => h ((ofBool_decide_eq_one_iff _).1 e)).trans (Eq.symm (dif_neg h : dite _ _ _ = (0 : EReal)))

theorem select_rot_back (f : Col) (r : Fin 2048) :
    Scalar.select (IntOp.cmpi .slt (BitVec.ofNat 32 r.val) 2047#32) (f ⟨(r.val + 2048 - 2047) % 2048, Nat.mod_lt _ (by omega)⟩) 0
      = next f r := by
  have hr := r.isLt
  rw [show (2047#32 : BitVec 32) = BitVec.ofNat 32 2047 from rfl, WordCmp.cmpi_slt_ofNat (by omega) (by omega)]
  unfold next Scalar.select
  by_cases h : r.val < 2047
  · refine ((if_pos ((ofBool_decide_eq_one_iff _).2 h)).trans ?_).trans (dif_pos h).symm
    exact congrArg f (Fin.ext (by show (r.val + 2048 - 2047) % 2048 = r.val + 1; omega))
  · exact (if_neg fun e => h ((ofBool_decide_eq_one_iff _).1 e)).trans (Eq.symm (dif_neg h : dite _ _ _ = (0 : EReal)))

/-! ## The body's values at a row and a column -/

section Block
variable (A B C V G : FVec Ideal S2048x128 .bf16) (W : FVec Ideal S3x128 .f32) (D : FVec Ideal S1x128 .f32)
variable (r : Fin 2048) (l : Fin 128)

/-- Column `l` of a block. -/
abbrev col (X : FVec Ideal S2048x128 .bf16) (l : Fin 128) : Col := fun r => X (ix2 r l)

theorem pay7_at : k0_pay7 (F := Ideal) C V (ix2 r l) = prev (fun r => col C l r * col V l r) r := by
  refine Eq.trans ?_ (select_rot_one _ r)
  pointwise [k0_pay7, k0_pay6, k0_pay2, k0_pay3]

theorem pay8_at : k0_pay8 (F := Ideal) C V (ix2 r l) = next (fun r => col C l r * col V l r) r := by
  refine Eq.trans ?_ (select_rot_back _ r)
  pointwise [k0_pay8, k0_pay6, k0_pay2, k0_pay3]

theorem pay9_at (w0 w1 w2 : FVec Ideal S1x128 .f32) : k0_pay9 (F := Ideal) C V w0 w1 w2 D (ix2 r l)
    = conv (w0 (ix2 0 l)) (w1 (ix2 0 l)) (w2 (ix2 0 l)) (D (ix2 0 l)) (fun r => col C l r * col V l r) r := by
  unfold conv
  rw [← pay7_at, ← pay8_at]
  pointwise [k0_pay9, k0_pay6, k0_pay2, k0_pay3]

theorem pay12_at : k0_pay12 (F := Ideal) (k0_pay5 G) A (ix2 r l) = col A l r * (col G l r * lgst (col G l r)) := by
  unfold lgst
  rw [← zero_sub (col G l r)]
  pointwise [k0_pay12, k0_pay11, k0_pay5]

theorem pay15_at : k0_pay15 (F := Ideal) (k0_pay4 B) (k0_pay5 G) A (ix2 r l) = dconv (col A l) (col B l) (col G l) r := by
  unfold dconv
  rw [← pay12_at]
  pointwise [k0_pay15, k0_pay4]

theorem pay20_at (w0 w1 w2 : FVec Ideal S1x128 .f32) (X : FVec Ideal S2048x128 .f32) :
    k0_pay20 (F := Ideal) w0 w1 w2 X (ix2 r l)
      = dtap (w0 (ix2 0 l)) (w1 (ix2 0 l)) (w2 (ix2 0 l)) (fun r => X (ix2 r l)) r := by
  unfold dtap
  rw [← select_rot_one, ← select_rot_back]
  pointwise [k0_pay20]

theorem pay14_at (w0 w1 w2 : FVec Ideal S1x128 .f32) : k0_pay14 (F := Ideal) (k0_pay5 G) (k0_pay9 C V w0 w1 w2 D) A (ix3 0 r l)
    = grad4 (col A l) (col B l) (col C l) (col V l) (col G l) (w0 (ix2 0 l)) (w1 (ix2 0 l)) (w2 (ix2 0 l)) (D (ix2 0 l)) 0 r := by
  unfold grad4
  rw [← pay12_at, ← pay9_at]
  pointwise [k0_pay14]

theorem pay13_at (w0 w1 w2 : FVec Ideal S1x128 .f32) :
    k0_pay13 (F := Ideal) (k0_pay5 G) (k0_pay10 C V B w0 w1 w2 D) A (ix3 0 r l)
    = grad4 (col A l) (col B l) (col C l) (col V l) (col G l) (w0 (ix2 0 l)) (w1 (ix2 0 l)) (w2 (ix2 0 l)) (D (ix2 0 l)) 3 r := by
  unfold grad4 lgst
  rw [← zero_sub (col G l r), ← pay9_at]
  pointwise [k0_pay13, k0_pay10, k0_pay11, k0_pay5, k0_pay4]

theorem pay21_at (w0 w1 w2 d : FVec Ideal S1x128 .f32) :
    k0_pay21 (F := Ideal) (k0_pay3 V) w0 w1 w2 (k0_pay15 (k0_pay4 B) (k0_pay5 G) A) (ix3 0 r l)
    = grad4 (col A l) (col B l) (col C l) (col V l) (col G l) (w0 (ix2 0 l)) (w1 (ix2 0 l)) (w2 (ix2 0 l)) (d (ix2 0 l)) 1 r := by
  unfold grad4
  rw [← funext (pay15_at A B G · l), ← pay20_at]
  pointwise [k0_pay21, k0_pay3]

theorem pay22_at (w0 w1 w2 d : FVec Ideal S1x128 .f32) :
    k0_pay1 (F := Ideal) (k0_pay22 (k0_pay2 C) w0 w1 w2 (k0_pay15 (k0_pay4 B) (k0_pay5 G) A)) (ix3 0 r l)
    = grad4 (col A l) (col B l) (col C l) (col V l) (col G l) (w0 (ix2 0 l)) (w1 (ix2 0 l)) (w2 (ix2 0 l)) (d (ix2 0 l)) 2 r := by
  unfold grad4
  rw [← funext (pay15_at A B G · l), ← pay20_at]
  pointwise [k0_pay1, k0_pay22, k0_pay2]

theorem pay16_at : k0_pay16 (F := Ideal) (k0_pay4 B) (k0_pay5 G) A (ix2 0 l) = ∑ r, dconv (col A l) (col B l) (col G l) r := by
  rw [← funext (pay15_at A B G · l)]
  pointwise [k0_pay16]

theorem pay17_at : k0_pay17 (F := Ideal) (k0_pay7 C V) (k0_pay15 (k0_pay4 B) (k0_pay5 G) A) (ix2 0 l)
    = gradTap (col A l) (col B l) (col C l) (col V l) (col G l) 0 := by
  unfold gradTap
  rw [← funext (pay15_at A B G · l), ← funext (pay7_at C V · l)]
  pointwise [k0_pay17]

theorem pay18_at : k0_pay18 (F := Ideal) (k0_pay6 C V) (k0_pay15 (k0_pay4 B) (k0_pay5 G) A) (ix2 0 l)
    = gradTap (col A l) (col B l) (col C l) (col V l) (col G l) 1 := by
  unfold gradTap
  rw [← funext (pay15_at A B G · l)]
  pointwise [k0_pay18, k0_pay6, k0_pay2, k0_pay3]

theorem pay19_at : k0_pay19 (F := Ideal) (k0_pay8 C V) (k0_pay15 (k0_pay4 B) (k0_pay5 G) A) (ix2 0 l)
    = gradTap (col A l) (col B l) (col C l) (col V l) (col G l) 2 := by
  unfold gradTap
  rw [← funext (pay15_at A B G · l), ← funext (pay8_at C V · l)]
  pointwise [k0_pay19]

theorem ld0 (X : Vec Ideal S2048x128 .bf16) : View.ld (Val := Elt Ideal) (e' := .bf16) X r0_0 = X := View.ld_unit_lit _ X (by decide)

theorem ld1 (X : Vec Ideal S3x128 .f32) : View.ld (Val := Elt Ideal) (e' := .f32) X r0_1 (ix2 0 l) = X (ix2 0 l) := by pointwise

theorem ld2 (X : Vec Ideal S3x128 .f32) : View.ld (Val := Elt Ideal) (e' := .f32) X r0_2 (ix2 0 l) = X (ix2 1 l) := by pointwise

theorem ld3 (X : Vec Ideal S3x128 .f32) : View.ld (Val := Elt Ideal) (e' := .f32) X r0_3 (ix2 0 l) = X (ix2 2 l) := by pointwise

theorem ld4 (X : Vec Ideal S1x128 .f32) : View.ld (Val := Elt Ideal) (e' := .f32) X r0_4 = X := View.ld_unit_lit _ X (by decide)

/-- What the body leaves in the block of the four cotangents. -/
theorem out7_at (k : Fin 4) : out0_7 (F := Ideal) A B C V G W D (ix3 k r l)
    = grad4 (col A l) (col B l) (col C l) (col V l) (col G l)
        (W (ix2 0 l)) (W (ix2 1 l)) (W (ix2 2 l)) (D (ix2 0 l)) k r := by
  rw [← ld1 l W, ← ld2 l W, ← ld3 l W]
  unfold_out out0_7
  canon_tiles x h
  all_goals
    obtain ⟨e, r', l', rfl⟩ : ∃ e r' l', x = ix3 (n0 := 1) (n1 := 2048) (n2 := 128) e r' l' := ⟨_, _, _, (ix3_eta x).symm⟩
    obtain rfl : r = r' := Fin.ext h1
    obtain rfl : l = l' := Fin.ext h2
    obtain rfl : e = 0 := Subsingleton.elim _ _
    simp only [ld0, ld4]
  · obtain rfl : k = 2 := Fin.ext h0
    exact pay22_at A B C V G r l _ _ _ D
  · obtain rfl : k = 1 := Fin.ext h0
    exact pay21_at A B C V G r l _ _ _ D
  · obtain rfl : k = 0 := Fin.ext h0
    exact pay14_at A B C V G D r l _ _ _
  · obtain rfl : k = 3 := Fin.ext h0
    exact pay13_at A B C V G D r l _ _ _

/-- What the body leaves in the block of the tap gradients. -/
theorem out8_at (k : Fin 3) : out0_8 (F := Ideal) A B C V G W D (ix2 k l)
    = gradTap (col A l) (col B l) (col C l) (col V l) (col G l) k := by
  unfold_out out0_8
  canon_tiles x h
  all_goals
    obtain ⟨e, l', rfl⟩ : ∃ e l', x = ix2 (n0 := 1) (n1 := 128) e l' := ⟨_, _, (ix2_eta x).symm⟩
    obtain rfl : l = l' := Fin.ext h1
    obtain rfl : e = 0 := Subsingleton.elim _ _
    simp only [ld0, ld4]
  · obtain rfl : k = 2 := Fin.ext h0
    exact pay19_at A B C V G l
  · obtain rfl : k = 1 := Fin.ext h0
    exact pay18_at A B C V G l
  · obtain rfl : k = 0 := Fin.ext h0
    exact pay17_at A B C V G l

/-- What the body leaves in the block of the bias gradient. -/
theorem out9_at (e : Fin 1) : out0_9 (F := Ideal) A B C V G W D (ix2 e l)
    = ∑ r, dconv (col A l) (col B l) (col G l) r := by
  unfold_out out0_9
  canon_tiles x h
  obtain ⟨e', l', rfl⟩ : ∃ e l', x = ix2 (n0 := 1) (n1 := 128) e l' := ⟨_, _, (ix2_eta x).symm⟩
  obtain rfl : l = l' := Fin.ext h1
  obtain rfl : e' = 0 := Subsingleton.elim _ _
  simp only [ld0]
  exact pay16_at A B G l

end Block

/-! ## The windows' blocks in the arrays -/

theorem idx : ∀ t : Fin cfg0.N, win0_0.index t = ![0, t.val] ∧ win0_1.index t = ![0, t.val] ∧ win0_2.index t = ![0, 8 + t.val]
    ∧ win0_3.index t = ![0, 16 + t.val] ∧ win0_4.index t = ![0, 24 + t.val] ∧ win0_5.index t = ![0, t.val]
    ∧ win0_6.index t = ![0, t.val] ∧ win0_7.index t = ![0, 0, t.val] ∧ win0_8.index t = ![0, t.val] ∧ win0_9.index t = ![0, t.val] :=
  (by decide +kernel : ∀ t : Fin grid0.N, _)

variable (m : (ℓ : Loc nD τ sig) → Buf (Elt Ideal) ℓ) (c : Dev nD)

/-- Channel `n` of the incoming cotangent. -/
abbrev colA (X : FVec Ideal S2048x1024 .bf16) (n : Fin 1024) : Col := fun r => X (ix2 r n)

/-- Channel `n` of part `q` of the projected channels. -/
abbrev colP (X : FVec Ideal S2048x4096 .bf16) (q : Fin 4) (n : Fin 1024) : Col :=
  fun r => X (ix2 r ⟨1024 * q.val + n.val, by omega⟩)

/-- The array channel of column `l` of block `t`. -/
abbrev chan (t : Fin cfg0.N) (l : Fin 128) : Fin 1024 := ⟨t.val * 128 + l.val, by have := t.isLt; have : cfg0.N = 8 := N_0; omega⟩

theorem col0 (t : Fin cfg0.N) (l : Fin 128) : col (iblk m c 0 t) l = colA (m ((c : Thread nD τ).loc main_arg0)) (chan t l) := by
  funext r; show (iblk m c 0 t : FVec Ideal S2048x128 .bf16) (ix2 r l) = m ((c : Thread nD τ).loc main_arg0) (ix2 r _); blk_ext! [iblk, V, idx t]
theorem col1 (t : Fin cfg0.N) (l : Fin 128) : col (iblk m c 1 t) l = colP (m ((c : Thread nD τ).loc main_arg1)) 0 (chan t l) := by
  funext r; show (iblk m c 1 t : FVec Ideal S2048x128 .bf16) (ix2 r l) = m ((c : Thread nD τ).loc main_arg1) (ix2 r _); blk_ext! [iblk, V, idx t]
theorem col2 (t : Fin cfg0.N) (l : Fin 128) : col (iblk m c 2 t) l = colP (m ((c : Thread nD τ).loc main_arg1)) 1 (chan t l) := by
  funext r; show (iblk m c 2 t : FVec Ideal S2048x128 .bf16) (ix2 r l) = m ((c : Thread nD τ).loc main_arg1) (ix2 r _); blk_ext! [iblk, V, idx t]
theorem col3 (t : Fin cfg0.N) (l : Fin 128) : col (iblk m c 3 t) l = colP (m ((c : Thread nD τ).loc main_arg1)) 2 (chan t l) := by
  funext r; show (iblk m c 3 t : FVec Ideal S2048x128 .bf16) (ix2 r l) = m ((c : Thread nD τ).loc main_arg1) (ix2 r _); blk_ext! [iblk, V, idx t]
theorem col4 (t : Fin cfg0.N) (l : Fin 128) : col (iblk m c 4 t) l = colP (m ((c : Thread nD τ).loc main_arg1)) 3 (chan t l) := by
  funext r; show (iblk m c 4 t : FVec Ideal S2048x128 .bf16) (ix2 r l) = m ((c : Thread nD τ).loc main_arg1) (ix2 r _); blk_ext! [iblk, V, idx t]
theorem tap5 (t : Fin cfg0.N) (k : Fin 3) (l : Fin 128) : (iblk m c 5 t : FVec Ideal S3x128 .f32) (ix2 k l) = (m ((c : Thread nD τ).loc main_arg2) : FVec Ideal S3x1024 .f32) (ix2 k (chan t l)) := by
  blk_ext! [iblk, V, idx t]
theorem bias6 (t : Fin cfg0.N) (l : Fin 128) : (iblk m c 6 t : FVec Ideal S1x128 .f32) (ix2 0 l) = (m ((c : Thread nD τ).loc main_arg3) : FVec Ideal S1x1024 .f32) (ix2 0 (chan t l)) := by
  blk_ext! [iblk, V, idx t]

/-- The three results as functions of the argument arrays. -/
def res7 (X : FVec Ideal S2048x1024 .bf16) (P : FVec Ideal S2048x4096 .bf16) (W : FVec Ideal S3x1024 .f32) (D : FVec Ideal S1x1024 .f32) :
    FVec Ideal S4x2048x1024 .bf16 := fun i =>
  grad4 (colA X (i 2)) (colP P 0 (i 2)) (colP P 1 (i 2)) (colP P 2 (i 2)) (colP P 3 (i 2))
    (W (ix2 0 (i 2))) (W (ix2 1 (i 2))) (W (ix2 2 (i 2))) (D (ix2 0 (i 2))) (i 0) (i 1)
def res8 (X : FVec Ideal S2048x1024 .bf16) (P : FVec Ideal S2048x4096 .bf16) : FVec Ideal S3x1024 .f32 := fun i =>
  gradTap (colA X (i 1)) (colP P 0 (i 1)) (colP P 1 (i 1)) (colP P 2 (i 1)) (colP P 3 (i 1)) (i 0)
def res9 (X : FVec Ideal S2048x1024 .bf16) (P : FVec Ideal S2048x4096 .bf16) : FVec Ideal S1x1024 .f32 := fun i =>
  ∑ r, dconv (colA X (i 1)) (colP P 0 (i 1)) (colP P 3 (i 1)) r

theorem final7 : (dats m 0 c).arrAt 7 cfg0.N = res7 (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t _ y => ?_
  obtain ⟨k, r, l, rfl⟩ : ∃ k r l, y = ix3 (n0 := 4) (n1 := 2048) (n2 := 128) k r l := ⟨_, _, _, (ix3_eta y).symm⟩
  blk_simp
  rw [after0_7]
  refine (out7_at _ _ _ _ _ _ _ r l k).trans ?_
  rw [col0, col1, col2, col3, col4, tap5, tap5, tap5, bias6]
  refine Eq.trans (b := res7 (m ((c : Thread nD τ).loc main_arg0)) (m ((c : Thread nD τ).loc main_arg1))
    (m ((c : Thread nD τ).loc main_arg2)) (m ((c : Thread nD τ).loc main_arg3)) (ix3 k r (chan t l))) rfl ?_
  generalize res7 (m ((c : Thread nD τ).loc main_arg0)) (m ((c : Thread nD τ).loc main_arg1)) (m ((c : Thread nD τ).loc main_arg2)) (m ((c : Thread nD τ).loc main_arg3)) = X
  blk_ext! [idx t]

theorem final8 : (dats m 0 c).arrAt 8 cfg0.N = res8 (m ((c : Thread nD τ).loc main_arg0)) (m ((c : Thread nD τ).loc main_arg1)) := by
  refine (dats m 0 c).arrAt_eq_of_covers 8 _ (by decide +kernel) fun t _ y => ?_
  obtain ⟨k, l, rfl⟩ : ∃ k l, y = ix2 (n0 := 3) (n1 := 128) k l := ⟨_, _, (ix2_eta y).symm⟩
  blk_simp
  rw [after0_8]
  refine (out8_at _ _ _ _ _ _ _ l k).trans ?_
  rw [col0, col1, col2, col3, col4]
  refine Eq.trans (b := res8 (m ((c : Thread nD τ).loc main_arg0)) (m ((c : Thread nD τ).loc main_arg1)) (ix2 k (chan t l))) rfl ?_
  generalize res8 (m ((c : Thread nD τ).loc main_arg0)) (m ((c : Thread nD τ).loc main_arg1)) = X
  blk_ext! [idx t]

theorem final9 : (dats m 0 c).arrAt 9 cfg0.N = res9 (m ((c : Thread nD τ).loc main_arg0)) (m ((c : Thread nD τ).loc main_arg1)) := by
  refine (dats m 0 c).arrAt_eq_of_covers 9 _ (by decide +kernel) fun t _ y => ?_
  obtain ⟨k, l, rfl⟩ : ∃ k l, y = ix2 (n0 := 1) (n1 := 128) k l := ⟨_, _, (ix2_eta y).symm⟩
  blk_simp
  rw [after0_9]
  refine (out9_at _ _ _ _ _ _ _ l k).trans ?_
  rw [col0, col1, col4]
  refine Eq.trans (b := res9 (m ((c : Thread nD τ).loc main_arg0)) (m ((c : Thread nD τ).loc main_arg1)) (ix2 k (chan t l))) rfl ?_
  generalize res9 (m ((c : Thread nD τ).loc main_arg0)) (m ((c : Thread nD τ).loc main_arg1)) = X
  blk_ext! [idx t]

end Cert.ConvKernel

end
-- ==== Proof.ConvRef.lean ====
/- The reference's side: its values at an index, in the same channel-by-channel terms. -/
module

public import proofs.«01_k».proof.Proof.ConvMath
public import proofs.«01_k».proof.Proof.Gen.ReferenceIdeal.Read

@[expose] public section

set_option maxRecDepth 16384

noncomputable section

namespace Cert.ConvRef

open Idealize.ShloMosaic Idealize.ShloMosaic.TcCoe Idealize.SL.Sem
open Cert.ReferenceIdeal Cert.ReferenceIdeal.Read Cert.ConvMath

variable (X : FVec Ideal S2048x1024 .bf16) (P : FVec Ideal S2048x4096 .bf16) (W : FVec Ideal S3x1024 .f32) (D : FVec Ideal S1x1024 .f32)
variable (r : Fin 2048) (n : Fin 1024)

/-- Channel `n` of the incoming cotangent. -/
abbrev colA (n : Fin 1024) : Col := fun r => X (ix2 r n)

/-- Channel `n` of part `q` of the projected channels. -/
abbrev colP (q : Fin 4) (n : Fin 1024) : Col := fun r => P (ix2 r ⟨1024 * q.val + n.val, by omega⟩)

theorem v2_at : val_main_v2 (F := Ideal) P (ix2 r n) = colP P 0 n r := by
  pointwise [val_main_v2, val_main_v1]
  exact congrArg (fun j => P (ix2 r j)) (Fin.ext (show n.val = 0 + n.val by omega))

theorem v3_at : val_main_v3 (F := Ideal) P (ix2 r n) = colP P 1 n r := by
  pointwise [val_main_v3, val_main_v1]
  exact congrArg (fun j => P (ix2 r j)) (Fin.ext rfl)

theorem v4_at : val_main_v4 (F := Ideal) P (ix2 r n) = colP P 2 n r := by
  pointwise [val_main_v4, val_main_v1]
  exact congrArg (fun j => P (ix2 r j)) (Fin.ext rfl)

theorem v5_at : val_main_v5 (F := Ideal) P (ix2 r n) = colP P 3 n r := by
  pointwise [val_main_v5, val_main_v1]
  exact congrArg (fun j => P (ix2 r j)) (Fin.ext rfl)

theorem v6_at : val_main_v6 (F := Ideal) P (ix2 r n) = colP P 1 n r * colP P 2 n r := by
  rw [← v3_at, ← v4_at]
  pointwise [val_main_v6]

theorem v9_at : val_main_v9 (F := Ideal) P (ix2 r n) = prev (fun r => colP P 1 n r * colP P 2 n r) r := by
  rw [← funext (v6_at P · n)]
  unfold prev
  pointwise [val_main_v9, val_main_v8, val_main_v7, val_main_cst]
  by_cases h : r.val < 1
  · rw [dif_pos h, dif_neg (by omega)]
  · rw [dif_neg h, dif_pos (by omega)]

theorem v12_at : val_main_v12 (F := Ideal) P (ix2 r n) = next (fun r => colP P 1 n r * colP P 2 n r) r := by
  rw [← funext (v6_at P · n)]
  unfold next
  pointwise [val_main_v12, val_main_v11]
  by_cases h : r.val < 2047
  · rw [dif_pos h, dif_pos h]
    exact congrArg (fun j => val_main_v6 (F := Ideal) P (ix2 j n)) (Fin.ext (Nat.add_comm 1 r.val))
  · rw [dif_neg h, dif_neg h]
    pointwise [val_main_v7, val_main_cst, val_main_v10, val_main_cst_0]

theorem v32_at : val_main_v32 (F := Ideal) P W D (ix2 r n) = conv (W (ix2 0 n)) (W (ix2 1 n)) (W (ix2 2 n)) (D (ix2 0 n))
    (fun r => colP P 1 n r * colP P 2 n r) r := by
  unfold conv
  rw [← v9_at, ← v12_at, ← funext (v6_at P · n)]
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14]

theorem s_at : val_main_v34_2 (F := Ideal) P (ix2 r n) = lgst (colP P 3 n r) := by
  unfold lgst
  rw [← v5_at]
  pointwise [val_main_v34_2, val_main_call0_v4, val_main_call0_v3, val_main_call0_v2, val_main_call0_v1, val_main_call0_v0,
    val_main_call0_cst, val_main_call0_cst_0]

theorem v37_at : val_main_v37 (F := Ideal) X P (ix2 r n) = colA X n r * (colP P 3 n r * lgst (colP P 3 n r)) := by
  rw [← s_at, ← v5_at]
  pointwise [val_main_v37, val_main_v34_0, val_main_v0]

theorem v39_at : val_main_v39 (F := Ideal) X P (ix2 r n) = dconv (colA X n) (colP P 0 n) (colP P 3 n) r := by
  unfold dconv
  rw [← v37_at, ← v2_at]
  pointwise! [val_main_v39]

/-- The activated gate's cotangent by the product rule. -/
theorem v38_at : val_main_v38 (F := Ideal) X P W D (ix2 r n)
    = (colP P 0 n r * val_main_v32 (F := Ideal) P W D (ix2 r n)) * colA X n r * lgst (colP P 3 n r)
      + colP P 3 n r * ((colP P 0 n r * val_main_v32 (F := Ideal) P W D (ix2 r n)) * colA X n r)
        * (lgst (colP P 3 n r) * (1 - lgst (colP P 3 n r))) := by
  rw [← s_at, ← v5_at, ← v2_at]
  pointwise [val_main_v38, val_main_call1_v2, val_main_call1_v1, val_main_call1_v0, val_main_v36, val_main_v34_1, val_main_v33, val_main_v0,
    val_main_call0_v7, val_main_call0_v6, val_main_call0_cst_1]

theorem v76_at : val_main_v76 (F := Ideal) X P W (ix2 r n)
    = dtap (W (ix2 0 n)) (W (ix2 1 n)) (W (ix2 2 n)) (dconv (colA X n) (colP P 0 n) (colP P 3 n)) r := by
  unfold dtap next prev
  rw [← funext (v39_at X P · n)]
  have hn (f : Fin 2048 → EReal) (w : EReal) : (if h : r.val < 2047 then w * f ⟨1 + r.val, by omega⟩ else 0)
      = w * (if h : r.val < 2047 then f ⟨r.val + 1, by omega⟩ else 0) := by
    by_cases h : r.val < 2047
    · rw [dif_pos h, dif_pos h]
      exact congrArg (fun j => w * f j) (Fin.ext (Nat.add_comm 1 r.val))
    · rw [dif_neg h, dif_neg h, mul_zero]
  have hp (f : Fin 2048 → EReal) (w : EReal) : (if h : 1 ≤ r.val ∧ r.val - 1 < 2047 then w * f ⟨r.val - 1, by omega⟩ else 0)
      = w * (if h : 1 ≤ r.val then f ⟨r.val - 1, by omega⟩ else 0) := by
    by_cases h : 1 ≤ r.val
    · rw [dif_pos ⟨h, by omega⟩, dif_pos h]
    · rw [dif_neg (fun e => h e.1), dif_neg h, mul_zero]
  rw [← hn (fun j => val_main_v39 (F := Ideal) X P (ix2 j n)), ← hp (fun j => val_main_v39 (F := Ideal) X P (ix2 j n)), add_assoc, add_comm]
  pointwise [val_main_v76, val_main_v75, val_main_v74, val_main_v73, val_main_v72, val_main_v71, val_main_v70, val_main_v69,
    val_main_v61, val_main_v60, val_main_v52, val_main_v51, val_main_v44, val_main_v43, val_main_v28, val_main_v27, val_main_v26, val_main_v25,
    val_main_v22, val_main_v21, val_main_v20, val_main_v19, val_main_v17, val_main_v16, val_main_v15, val_main_v14, val_main_cst_12, val_main_cst_13]

theorem v42_at (e : Fin 1) : val_main_v42 (F := Ideal) X P (ix2 e n) = ∑ r, dconv (colA X n) (colP P 0 n) (colP P 3 n) r := by
  rw [← funext (v39_at X P · n), ← zero_add (∑ r, _)]
  pointwise [val_main_v42, val_main_v41, val_main_cst_2]

theorem v68_at (k : Fin 3) : val_main_v68 (F := Ideal) X P (ix2 k n)
    = gradTap (colA X n) (colP P 0 n) (colP P 1 n) (colP P 2 n) (colP P 3 n) k := by
  match k with
  | 0 =>
    unfold gradTap
    simp only [← v9_at, ← v39_at]
    pointwise [val_main_v68, val_main_v67, val_main_v66, val_main_v65, val_main_v64, val_main_v63, val_main_v62, val_main_v59,
      val_main_v58, val_main_v57, val_main_v56, val_main_v55, val_main_v54, val_main_v53, val_main_v50, val_main_v49, val_main_v48,
      val_main_v47, val_main_v46, val_main_v45, val_main_cst_3, val_main_cst_4, val_main_cst_5, val_main_cst_6, val_main_cst_7, val_main_cst_8,
      val_main_cst_9, val_main_cst_10, val_main_cst_11]
    simp
  | 1 =>
    unfold gradTap
    simp only [← v6_at, ← v39_at]
    pointwise [val_main_v68, val_main_v67, val_main_v66, val_main_v65, val_main_v64, val_main_v63, val_main_v62, val_main_v59,
      val_main_v58, val_main_v57, val_main_v56, val_main_v55, val_main_v54, val_main_v53, val_main_v50, val_main_v49, val_main_v48,
      val_main_v47, val_main_v46, val_main_v45, val_main_cst_3, val_main_cst_4, val_main_cst_5, val_main_cst_6, val_main_cst_7, val_main_cst_8,
      val_main_cst_9, val_main_cst_10, val_main_cst_11]
    simp
  | 2 =>
    unfold gradTap
    simp only [← v12_at, ← v39_at]
    pointwise [val_main_v68, val_main_v67, val_main_v66, val_main_v65, val_main_v64, val_main_v63, val_main_v62, val_main_v59,
      val_main_v58, val_main_v57, val_main_v56, val_main_v55, val_main_v54, val_main_v53, val_main_v50, val_main_v49, val_main_v48,
      val_main_v47, val_main_v46, val_main_v45, val_main_cst_3, val_main_cst_4, val_main_cst_5, val_main_cst_6, val_main_cst_7, val_main_cst_8,
      val_main_cst_9, val_main_cst_10, val_main_cst_11]
    simp

/-- Four arrays of 1024 channels side by side, read at channel `n` of array `k`. -/
theorem four (k : Fin 4) (n : Fin 1024) (f0 f1 f2 f3 : Fin 1024 → EReal) :
    (if h : k.val * 1024 + n.val < 1024 then f0 ⟨k.val * 1024 + n.val, h⟩
      else if h : k.val * 1024 + n.val - 1024 < 1024 then f1 ⟨k.val * 1024 + n.val - 1024, h⟩
      else if h : k.val * 1024 + n.val - 1024 - 1024 < 1024 then f2 ⟨k.val * 1024 + n.val - 1024 - 1024, h⟩
      else f3 ⟨k.val * 1024 + n.val - 1024 - 1024 - 1024, by omega⟩)
    = match k with
      | 0 => f0 n
      | 1 => f1 n
      | 2 => f2 n
      | 3 => f3 n := by
  have hn := n.isLt
  match k with
  | 0 =>
    have e : (0 : Fin 4).val = 0 := rfl
    rw [dif_pos (by omega)]; exact congrArg f0 (Fin.ext (by simp))
  | 1 =>
    have e : (1 : Fin 4).val = 1 := rfl
    rw [dif_neg (by omega), dif_pos (by omega)]; exact congrArg f1 (Fin.ext (by simp))
  | 2 =>
    have e : (2 : Fin 4).val = 2 := rfl
    rw [dif_neg (by omega), dif_neg (by omega), dif_pos (by omega)]; exact congrArg f2 (Fin.ext (by simp; omega))
  | 3 =>
    have e : (3 : Fin 4).val = 3 := rfl
    rw [dif_neg (by omega), dif_neg (by omega), dif_neg (by omega)]; exact congrArg f3 (Fin.ext (by simp; omega))

theorem v82_at (hX : ∀ r, Real' (colA X n r)) (hP : ∀ q r, Real' (colP P q n r)) (hW : ∀ k, Real' (W (ix2 k n))) (hD : Real' (D (ix2 0 n)))
    (k : Fin 4) : val_main_v82 (F := Ideal) X P W D (ix3 k r n)
    = grad4 (colA X n) (colP P 0 n) (colP P 1 n) (colP P 2 n) (colP P 3 n) (W (ix2 0 n)) (W (ix2 1 n)) (W (ix2 2 n)) (D (ix2 0 n)) k r := by
  have h3 : Real' (colP P 0 n r * val_main_v32 (F := Ideal) P W D (ix2 r n)) :=
    (hP 0 r).mul (by rw [v32_at]; exact Real'.conv (hW 0) (hW 1) (hW 2) hD (fun r => (hP 1 r).mul (hP 2 r)) r)
  unfold grad4
  rw [← v76_at, ← v37_at, ← v32_at, dsilu_eq (hX r) h3 (hP 3 r) (hP 3 r).lgst, ← v38_at, ← v3_at, ← v4_at,
    mul_comm (val_main_v76 (F := Ideal) X P W _) (val_main_v3 (F := Ideal) P _)]
  pointwise [val_main_v82, val_main_v81, val_main_v80, val_main_v79, val_main_v40, val_main_v77, val_main_v78]
  exact four k n (fun n => val_main_v37 (F := Ideal) X P (ix2 r n) * val_main_v32 (F := Ideal) P W D (ix2 r n))
    (fun n => val_main_v76 (F := Ideal) X P W (ix2 r n) * val_main_v4 (F := Ideal) P (ix2 r n))
    (fun n => val_main_v3 (F := Ideal) P (ix2 r n) * val_main_v76 (F := Ideal) X P W (ix2 r n)) (fun n => val_main_v38 (F := Ideal) X P W D (ix2 r n))

end Cert.ConvRef

end
-- ==== Proof.ConvFinal.lean ====
/- The short convolution's backward pass: the two runs end at the same arrays. -/
module

public import proofs.«01_k».proof.Defs
public import proofs.«01_k».proof.Proof.ConvKernel
public import proofs.«01_k».proof.Proof.ConvRef
public import proofs.«01_k».proof.Proof.Gen.Pre_finite
public import proofs.«01_k».proof.Proof.Gen.ReferenceIdeal.Run

@[expose] public section

set_option maxRecDepth 16384

noncomputable section

namespace Cert.ConvFinal

open Idealize.ShloMosaic Idealize.ShloMosaic.TcCoe Idealize.SL.Sem
open Cert.ConvMath Cert.ConvKernel

section Pre
variable (X : FVec Ideal Pre_finite.S2048x1024 .bf16) (P : FVec Ideal Pre_finite.S2048x4096 .bf16)
  (W : FVec Ideal Pre_finite.S3x1024 .f32) (D : FVec Ideal Pre_finite.S1x1024 .f32)

theorem real_of_bit {x : EReal} (h : BitVec.ofBool (decide (max x (-x) < Ideal.ofBits FTy.f32 2139095040#32)) = 1#1) : Real' x := by
  refine Real'.of_abs_lt (lt_of_lt_of_le ((WordCmp.ofBool_decide_eq_one_iff _).1 h) le_top)

theorem real0 (h : (Pre_finite.fn (F := Ideal) X P W D).1 = fun _ => 1#1) (r : Fin 2048) (n : Fin 1024) : Real' (X (ix2 r n)) := by
  refine real_of_bit (Eq.trans ?_ (congrFun h (ix2 r n)))
  pointwise [Pre_finite.fn]
  rfl

theorem real1 (h : (Pre_finite.fn (F := Ideal) X P W D).2.1 = fun _ => 1#1) (r : Fin 2048) (n : Fin 4096) : Real' (P (ix2 r n)) := by
  refine real_of_bit (Eq.trans ?_ (congrFun h (ix2 r n)))
  pointwise [Pre_finite.fn]
  rfl

theorem real2 (h : (Pre_finite.fn (F := Ideal) X P W D).2.2.1 = fun _ => 1#1) (r : Fin 3) (n : Fin 1024) : Real' (W (ix2 r n)) := by
  refine real_of_bit (Eq.trans ?_ (congrFun h (ix2 r n)))
  pointwise [Pre_finite.fn]
  rfl

theorem real3 (h : (Pre_finite.fn (F := Ideal) X P W D).2.2.2 = fun _ => 1#1) (r : Fin 1) (n : Fin 1024) : Real' (D (ix2 r n)) := by
  refine real_of_bit (Eq.trans ?_ (congrFun h (ix2 r n)))
  pointwise [Pre_finite.fn]
  rfl

end Pre

theorem algebraic : Cert.algebraic_KernelIdeal_ReferenceIdeal_pre_finite := by
  pair_intro
  · run_from Cert.KernelIdeal.Value.run_blocks m g
  · run_from Cert.ReferenceIdeal.Value.run m' g'
    · rw [ReferenceIdeal.Read.val_main_v82_eq, (hagree c).1, (hagree c).2.1, (hagree c).2.2.1, (hagree c).2.2.2, final7 m c]
      obtain ⟨h0, h1, h2, h3⟩ := hpre c
      funext i
      obtain ⟨k, r, n, rfl⟩ : ∃ k r n, i = ix3 (n0 := 4) (n1 := 2048) (n2 := 1024) k r n := ⟨_, _, _, (ix3_eta i).symm⟩
      exact ConvRef.v82_at _ _ _ _ r n (fun r => real0 _ _ _ _ h0 r n) (fun q r => real1 _ _ _ _ h1 r _)
        (fun k => real2 _ _ _ _ h2 k n) (real3 _ _ _ _ h3 0 n) k
    · rw [ReferenceIdeal.Read.val_main_v68_eq, (hagree c).1, (hagree c).2.1, final8 m c]
      funext i
      obtain ⟨k, n, rfl⟩ : ∃ k n, i = ix2 (n0 := 3) (n1 := 1024) k n := ⟨_, _, (ix2_eta i).symm⟩
      exact ConvRef.v68_at _ _ n k
    · refine Eq.trans (b := ReferenceIdeal.Read.val_main_v42 (F := Ideal) (m ((c.tc : Thread KernelIdeal.nD KernelIdeal.τ).loc KernelIdeal.main_arg0)) (m ((c.tc : Thread KernelIdeal.nD KernelIdeal.τ).loc KernelIdeal.main_arg1))) rfl ?_
      rw [final9 m c]
      funext i
      obtain ⟨k, n, rfl⟩ : ∃ k n, i = ix2 (n0 := 1) (n1 := 1024) k n := ⟨_, _, (ix2_eta i).symm⟩
      exact ConvRef.v42_at _ _ n k

theorem frame_reference (m : (ℓ : Loc ReferenceIdeal.nD ReferenceIdeal.τ ReferenceIdeal.sig) → Buf (Elt Ideal) ℓ)
    (g : Dev ReferenceIdeal.nD → PrngReg) : θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => (h c).2.2.2, sem_eq_zero_of_no_sems (by decide) r.2⟩) (ReferenceIdeal.Value.run m g)

end Cert.ConvFinal

end
-- ==== Proof.Wgrad2.lean ====
/- A projection's weight gradient from 2048 rows, the cotangent in 4 parts. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Wgrad2

open Idealize.ShloMosaic Idealize.ShloMosaic.TcCoe Idealize.SL.Sem
open Idealize.ShloMosaic.Pipeline (Dat)
open Cert.Kernel2Ideal Cert.Kernel2Ideal.Gen
open Cert.Reference2Ideal.Read (val_main_v7 val_main_v6 val_main_v3 val_main_v2 val_main_v1 val_main_v0 val_main_v8 val_main_v8_eq)

variable (m : (ℓ : Loc nD τ sig) → Buf (Elt Ideal) ℓ) (c : Dev nD)

/-- The result array. -/
abbrev res : FVec Ideal S1024x4096 .bf16 :=
  val_main_v8 (F := Ideal) (m ((c : Thread nD τ).loc main_arg0)) (m ((c : Thread nD τ).loc main_arg1))

theorem idx : ∀ t : Fin cfg0.N, win0_0.index t = ![0, 0] ∧ win0_1.index t = ![t.val, 0, 0] ∧ win0_2.index t = ![0, t.val] :=
  (by decide +kernel : ∀ t : Fin grid0.N, _)

theorem pay (X : FVec Ideal S2048x1024 .bf16) (Y : FVec Ideal S1x2048x1024 .bf16) (i : Fin 1024) (j : Fin 1024) :
    k0_pay1 (F := Ideal) X Y (ix2 i j) = ∑ k : Fin 2048, X (ix2 k i) * Y (ix3 0 k j) := by
  pointwise [k0_pay1]

theorem ref_at (x0 : FVec Ideal Reference2Ideal.S2048x1024 .bf16) (x1 : FVec Ideal Reference2Ideal.S4x2048x1024 .bf16)
    (i : Fin 1024) (j : Fin 1024) (q : Fin 4) :
    val_main_v8 (F := Ideal) x0 x1 (ix2 i ⟨q.val * 1024 + j.val, by omega⟩) = ∑ k : Fin 2048, x0 (ix2 k i) * x1 (ix3 q k j) := by
  pointwise [val_main_v8, val_main_v7, val_main_v6, val_main_v3, val_main_v2, val_main_v1, val_main_v0]
  exact Finset.sum_congr rfl fun k _ => mul_comm _ _

theorem point (t : Fin cfg0.N) (i : Fin 1024) (j : Fin 1024) :
    k0_pay1 (F := Ideal) (iblk m c 0 t) (iblk m c 1 t) (ix2 i j) = res m c (((cfg0.win 2).blk t).view.emb (ix2 i j)) := by
  rw [pay]
  have ht : t.val < 4 := t.isLt
  refine Eq.trans ?_ ((ref_at (m ((c : Thread nD τ).loc main_arg0)) (m ((c : Thread nD τ).loc main_arg1)) i j ⟨t.val, ht⟩).symm.trans ?_)
  · refine Finset.sum_congr rfl fun k _ => congrArg₂ (· * ·) ?_ ?_
    · show (iblk m c 0 t : FVec Ideal S2048x1024 .bf16) (ix2 k i) = m ((c : Thread nD τ).loc main_arg0) (ix2 k i)
      blk_ext! [iblk, V, idx t]
    · show (iblk m c 1 t : FVec Ideal S1x2048x1024 .bf16) (ix3 0 k j) = m ((c : Thread nD τ).loc main_arg1) (ix3 ⟨t.val, ht⟩ k j)
      blk_ext! [iblk, V, idx t]
  · show res m c _ = _
    generalize res m c = X
    blk_ext! [idx t]

theorem final : (dats m 0 c).arrAt 2 cfg0.N = res m c := by
  refine (dats m 0 c).arrAt_eq_of_covers 2 _ (by decide +kernel) fun t _ y => ?_
  obtain ⟨i, j, rfl⟩ : ∃ i j, y = ix2 (n0 := 1024) (n1 := 1024) i j := ⟨_, _, (ix2_eta y).symm⟩
  blk_simp
  rw [after0_2]
  refine Eq.trans ?_ (point m c t i j)
  unfold out0_2
  rw [View.ld_unit_lit _ _ (by decide), View.ld_unit_lit _ _ (by decide), View.canon_unit_zero (by decide)]

theorem algebraic : Cert.algebraic_Kernel2Ideal_Reference2Ideal := by
  pair_intro
  · run_from Cert.Kernel2Ideal.Value.run_blocks m g
  · run_from Cert.Reference2Ideal.Value.run m' g'
    exact (final m c).symm

theorem frame_reference : Cert.quiescent_Reference2Ideal := fun m g _ =>
  (θ_run Reference2Ideal.defs _ _).mono (fun r h => ⟨fun c => (h c).2, sem_eq_zero_of_no_sems (by decide) r.2⟩) (Reference2Ideal.Value.run m g)

end Cert.Wgrad2

end
-- ==== Proof.Wgrad3.lean ====
/- A projection's weight gradient from 2304 rows, the cotangent in 4 parts. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Wgrad3

open Idealize.ShloMosaic Idealize.ShloMosaic.TcCoe Idealize.SL.Sem
open Idealize.ShloMosaic.Pipeline (Dat)
open Cert.Kernel3Ideal Cert.Kernel3Ideal.Gen
open Cert.Reference3Ideal.Read (val_main_v7 val_main_v6 val_main_v3 val_main_v2 val_main_v1 val_main_v0 val_main_v8 val_main_v8_eq)

variable (m : (ℓ : Loc nD τ sig) → Buf (Elt Ideal) ℓ) (c : Dev nD)

/-- The result array. -/
abbrev res : FVec Ideal S1024x4096 .bf16 :=
  val_main_v8 (F := Ideal) (m ((c : Thread nD τ).loc main_arg0)) (m ((c : Thread nD τ).loc main_arg1))

theorem idx : ∀ t : Fin cfg0.N, win0_0.index t = ![0, 0] ∧ win0_1.index t = ![t.val, 0, 0] ∧ win0_2.index t = ![0, t.val] :=
  (by decide +kernel : ∀ t : Fin grid0.N, _)

theorem pay (X : FVec Ideal S2304x1024 .bf16) (Y : FVec Ideal S1x2304x1024 .bf16) (i : Fin 1024) (j : Fin 1024) :
    k0_pay1 (F := Ideal) X Y (ix2 i j) = ∑ k : Fin 2304, X (ix2 k i) * Y (ix3 0 k j) := by
  pointwise [k0_pay1]

theorem ref_at (x0 : FVec Ideal Reference3Ideal.S2304x1024 .bf16) (x1 : FVec Ideal Reference3Ideal.S4x2304x1024 .bf16)
    (i : Fin 1024) (j : Fin 1024) (q : Fin 4) :
    val_main_v8 (F := Ideal) x0 x1 (ix2 i ⟨q.val * 1024 + j.val, by omega⟩) = ∑ k : Fin 2304, x0 (ix2 k i) * x1 (ix3 q k j) := by
  pointwise [val_main_v8, val_main_v7, val_main_v6, val_main_v3, val_main_v2, val_main_v1, val_main_v0]
  exact Finset.sum_congr rfl fun k _ => mul_comm _ _

theorem point (t : Fin cfg0.N) (i : Fin 1024) (j : Fin 1024) :
    k0_pay1 (F := Ideal) (iblk m c 0 t) (iblk m c 1 t) (ix2 i j) = res m c (((cfg0.win 2).blk t).view.emb (ix2 i j)) := by
  rw [pay]
  have ht : t.val < 4 := t.isLt
  refine Eq.trans ?_ ((ref_at (m ((c : Thread nD τ).loc main_arg0)) (m ((c : Thread nD τ).loc main_arg1)) i j ⟨t.val, ht⟩).symm.trans ?_)
  · refine Finset.sum_congr rfl fun k _ => congrArg₂ (· * ·) ?_ ?_
    · show (iblk m c 0 t : FVec Ideal S2304x1024 .bf16) (ix2 k i) = m ((c : Thread nD τ).loc main_arg0) (ix2 k i)
      blk_ext! [iblk, V, idx t]
    · show (iblk m c 1 t : FVec Ideal S1x2304x1024 .bf16) (ix3 0 k j) = m ((c : Thread nD τ).loc main_arg1) (ix3 ⟨t.val, ht⟩ k j)
      blk_ext! [iblk, V, idx t]
  · show res m c _ = _
    generalize res m c = X
    blk_ext! [idx t]

theorem final : (dats m 0 c).arrAt 2 cfg0.N = res m c := by
  refine (dats m 0 c).arrAt_eq_of_covers 2 _ (by decide +kernel) fun t _ y => ?_
  obtain ⟨i, j, rfl⟩ : ∃ i j, y = ix2 (n0 := 1024) (n1 := 1024) i j := ⟨_, _, (ix2_eta y).symm⟩
  blk_simp
  rw [after0_2]
  refine Eq.trans ?_ (point m c t i j)
  unfold out0_2
  rw [View.ld_unit_lit _ _ (by decide), View.ld_unit_lit _ _ (by decide), View.canon_unit_zero (by decide)]

theorem algebraic : Cert.algebraic_Kernel3Ideal_Reference3Ideal := by
  pair_intro
  · run_from Cert.Kernel3Ideal.Value.run_blocks m g
  · run_from Cert.Reference3Ideal.Value.run m' g'
    exact (final m c).symm

theorem frame_reference : Cert.quiescent_Reference3Ideal := fun m g _ =>
  (θ_run Reference3Ideal.defs _ _).mono (fun r h => ⟨fun c => (h c).2, sem_eq_zero_of_no_sems (by decide) r.2⟩) (Reference3Ideal.Value.run m g)

end Cert.Wgrad3

end
-- ==== Proof.Wgrad4.lean ====
/- A projection's weight gradient from 2304 rows, the cotangent in 2 parts. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Wgrad4

open Idealize.ShloMosaic Idealize.ShloMosaic.TcCoe Idealize.SL.Sem
open Idealize.ShloMosaic.Pipeline (Dat)
open Cert.Kernel4Ideal Cert.Kernel4Ideal.Gen
open Cert.Reference4Ideal.Read (val_main_v7 val_main_v6 val_main_v3 val_main_v2 val_main_v1 val_main_v0 val_main_v8 val_main_v8_eq)

variable (m : (ℓ : Loc nD τ sig) → Buf (Elt Ideal) ℓ) (c : Dev nD)

/-- The result array. -/
abbrev res : FVec Ideal S1024x2048 .bf16 :=
  val_main_v8 (F := Ideal) (m ((c : Thread nD τ).loc main_arg0)) (m ((c : Thread nD τ).loc main_arg1))

theorem idx : ∀ t : Fin cfg0.N, win0_0.index t = ![0, 0] ∧ win0_1.index t = ![t.val, 0, 0] ∧ win0_2.index t = ![0, t.val] :=
  (by decide +kernel : ∀ t : Fin grid0.N, _)

theorem pay (X : FVec Ideal S2304x1024 .bf16) (Y : FVec Ideal S1x2304x1024 .bf16) (i : Fin 1024) (j : Fin 1024) :
    k0_pay1 (F := Ideal) X Y (ix2 i j) = ∑ k : Fin 2304, X (ix2 k i) * Y (ix3 0 k j) := by
  pointwise [k0_pay1]

theorem ref_at (x0 : FVec Ideal Reference4Ideal.S2304x1024 .bf16) (x1 : FVec Ideal Reference4Ideal.S2x2304x1024 .bf16)
    (i : Fin 1024) (j : Fin 1024) (q : Fin 2) :
    val_main_v8 (F := Ideal) x0 x1 (ix2 i ⟨q.val * 1024 + j.val, by omega⟩) = ∑ k : Fin 2304, x0 (ix2 k i) * x1 (ix3 q k j) := by
  pointwise [val_main_v8, val_main_v7, val_main_v6, val_main_v3, val_main_v2, val_main_v1, val_main_v0]
  exact Finset.sum_congr rfl fun k _ => mul_comm _ _

theorem point (t : Fin cfg0.N) (i : Fin 1024) (j : Fin 1024) :
    k0_pay1 (F := Ideal) (iblk m c 0 t) (iblk m c 1 t) (ix2 i j) = res m c (((cfg0.win 2).blk t).view.emb (ix2 i j)) := by
  rw [pay]
  have ht : t.val < 2 := t.isLt
  refine Eq.trans ?_ ((ref_at (m ((c : Thread nD τ).loc main_arg0)) (m ((c : Thread nD τ).loc main_arg1)) i j ⟨t.val, ht⟩).symm.trans ?_)
  · refine Finset.sum_congr rfl fun k _ => congrArg₂ (· * ·) ?_ ?_
    · show (iblk m c 0 t : FVec Ideal S2304x1024 .bf16) (ix2 k i) = m ((c : Thread nD τ).loc main_arg0) (ix2 k i)
      blk_ext! [iblk, V, idx t]
    · show (iblk m c 1 t : FVec Ideal S1x2304x1024 .bf16) (ix3 0 k j) = m ((c : Thread nD τ).loc main_arg1) (ix3 ⟨t.val, ht⟩ k j)
      blk_ext! [iblk, V, idx t]
  · show res m c _ = _
    generalize res m c = X
    blk_ext! [idx t]

theorem final : (dats m 0 c).arrAt 2 cfg0.N = res m c := by
  refine (dats m 0 c).arrAt_eq_of_covers 2 _ (by decide +kernel) fun t _ y => ?_
  obtain ⟨i, j, rfl⟩ : ∃ i j, y = ix2 (n0 := 1024) (n1 := 1024) i j := ⟨_, _, (ix2_eta y).symm⟩
  blk_simp
  rw [after0_2]
  refine Eq.trans ?_ (point m c t i j)
  unfold out0_2
  rw [View.ld_unit_lit _ _ (by decide), View.ld_unit_lit _ _ (by decide), View.canon_unit_zero (by decide)]

theorem algebraic : Cert.algebraic_Kernel4Ideal_Reference4Ideal := by
  pair_intro
  · run_from Cert.Kernel4Ideal.Value.run_blocks m g
  · run_from Cert.Reference4Ideal.Value.run m' g'
    exact (final m c).symm

theorem frame_reference : Cert.quiescent_Reference4Ideal := fun m g _ =>
  (θ_run Reference4Ideal.defs _ _).mono (fun r h => ⟨fun c => (h c).2, sem_eq_zero_of_no_sems (by decide) r.2⟩) (Reference4Ideal.Value.run m g)

end Cert.Wgrad4

end
-- ==== Proof.Wgrad5.lean ====
/- A projection's weight gradient from 2048 rows, the cotangent in 2 parts. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise

@[expose] public section

set_option maxRecDepth 16384

noncomputable section

namespace Cert.Wgrad5

open Idealize.ShloMosaic Idealize.ShloMosaic.TcCoe Idealize.SL.Sem
open Idealize.ShloMosaic.Pipeline (Dat)
open Cert.Kernel5Ideal Cert.Kernel5Ideal.Gen
open Cert.Reference5Ideal.Read (val_main_v7 val_main_v6 val_main_v3 val_main_v2 val_main_v1 val_main_v0 val_main_v8 val_main_v8_eq)

variable (m : (ℓ : Loc nD τ sig) → Buf (Elt Ideal) ℓ) (c : Dev nD)

/-- The result array. -/
abbrev res : FVec Ideal S1024x2048 .bf16 :=
  val_main_v8 (F := Ideal) (m ((c : Thread nD τ).loc main_arg0)) (m ((c : Thread nD τ).loc main_arg1))

theorem idx : ∀ t : Fin cfg0.N, win0_0.index t = ![0, 0] ∧ win0_1.index t = ![t.val, 0, 0] ∧ win0_2.index t = ![0, t.val] :=
  (by decide +kernel : ∀ t : Fin grid0.N, _)

theorem pay (X : FVec Ideal S2048x1024 .bf16) (Y : FVec Ideal S1x2048x1024 .bf16) (i : Fin 1024) (j : Fin 1024) :
    k0_pay1 (F := Ideal) X Y (ix2 i j) = ∑ k : Fin 2048, X (ix2 k i) * Y (ix3 0 k j) := by
  pointwise [k0_pay1]

theorem ref_at (x0 : FVec Ideal Reference5Ideal.S2048x1024 .bf16) (x1 : FVec Ideal Reference5Ideal.S2x2048x1024 .bf16)
    (i : Fin 1024) (j : Fin 1024) (q : Fin 2) :
    val_main_v8 (F := Ideal) x0 x1 (ix2 i ⟨q.val * 1024 + j.val, by omega⟩) = ∑ k : Fin 2048, x0 (ix2 k i) * x1 (ix3 q k j) := by
  pointwise [val_main_v8, val_main_v7, val_main_v6, val_main_v3, val_main_v2, val_main_v1, val_main_v0]
  exact Finset.sum_congr rfl fun k _ => mul_comm _ _

theorem point (t : Fin cfg0.N) (i : Fin 1024) (j : Fin 1024) :
    k0_pay1 (F := Ideal) (iblk m c 0 t) (iblk m c 1 t) (ix2 i j) = res m c (((cfg0.win 2).blk t).view.emb (ix2 i j)) := by
  rw [pay]
  have ht : t.val < 2 := t.isLt
  refine Eq.trans ?_ ((ref_at (m ((c : Thread nD τ).loc main_arg0)) (m ((c : Thread nD τ).loc main_arg1)) i j ⟨t.val, ht⟩).symm.trans ?_)
  · refine Finset.sum_congr rfl fun k _ => congrArg₂ (· * ·) ?_ ?_
    · show (iblk m c 0 t : FVec Ideal S2048x1024 .bf16) (ix2 k i) = m ((c : Thread nD τ).loc main_arg0) (ix2 k i)
      blk_ext! [iblk, V, idx t]
    · show (iblk m c 1 t : FVec Ideal S1x2048x1024 .bf16) (ix3 0 k j) = m ((c : Thread nD τ).loc main_arg1) (ix3 ⟨t.val, ht⟩ k j)
      blk_ext! [iblk, V, idx t]
  · show res m c _ = _
    generalize res m c = X
    blk_ext! [idx t]

theorem final : (dats m 0 c).arrAt 2 cfg0.N = res m c := by
  refine (dats m 0 c).arrAt_eq_of_covers 2 _ (by decide +kernel) fun t _ y => ?_
  obtain ⟨i, j, rfl⟩ : ∃ i j, y = ix2 (n0 := 1024) (n1 := 1024) i j := ⟨_, _, (ix2_eta y).symm⟩
  blk_simp
  rw [after0_2]
  refine Eq.trans ?_ (point m c t i j)
  unfold out0_2
  rw [View.ld_unit_lit _ _ (by decide), View.ld_unit_lit _ _ (by decide), View.canon_unit_zero (by decide)]

theorem algebraic : Cert.algebraic_Kernel5Ideal_Reference5Ideal := by
  pair_intro
  · run_from Cert.Kernel5Ideal.Value.run_blocks m g
  · run_from Cert.Reference5Ideal.Value.run m' g'
    exact (final m c).symm

theorem frame_reference : Cert.quiescent_Reference5Ideal := fun m g _ =>
  (θ_run Reference5Ideal.defs _ _).mono (fun r h => ⟨fun c => (h c).2, sem_eq_zero_of_no_sems (by decide) r.2⟩) (Reference5Ideal.Value.run m g)

end Cert.Wgrad5

end
-- ==== Proof.Wgrad6.lean ====
/- An output projection's weight gradient from 2048 rows. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise

@[expose] public section

set_option maxRecDepth 16384

noncomputable section

namespace Cert.Wgrad6

open Idealize.ShloMosaic Idealize.ShloMosaic.TcCoe Idealize.SL.Sem
open Idealize.ShloMosaic.Pipeline (Dat)
open Cert.Kernel6Ideal Cert.Kernel6Ideal.Gen
open Cert.Reference6Ideal.Read (val_main_v5 val_main_v4 val_main_v1 val_main_v0 val_main_v6 val_main_v6_eq)

variable (m : (ℓ : Loc nD τ sig) → Buf (Elt Ideal) ℓ) (c : Dev nD)

/-- The result array. -/
abbrev res : FVec Ideal S1024x1024 .bf16 :=
  val_main_v6 (F := Ideal) (m ((c : Thread nD τ).loc main_arg0)) (m ((c : Thread nD τ).loc main_arg1))

theorem idx : ∀ t : Fin cfg0.N, win0_0.index t = ![0, t.val] ∧ win0_1.index t = ![0, 0] ∧ win0_2.index t = ![t.val, 0] :=
  (by decide +kernel : ∀ t : Fin grid0.N, _)

theorem pay (X : FVec Ideal S2048x512 .bf16) (Y : FVec Ideal S2048x1024 .bf16) (i : Fin 512) (j : Fin 1024) :
    k0_pay1 (F := Ideal) X Y (ix2 i j) = ∑ k : Fin 2048, X (ix2 k i) * Y (ix2 k j) := by
  pointwise [k0_pay1]

theorem ref_at (x0 : FVec Ideal Reference6Ideal.S2048x1024 .bf16) (x1 : FVec Ideal Reference6Ideal.S2048x1024 .bf16)
    (i : Fin 512) (j : Fin 1024) (q : Fin 2) :
    val_main_v6 (F := Ideal) x0 x1 (ix2 ⟨q.val * 512 + i.val, by omega⟩ j) = ∑ k : Fin 2048, x0 (ix2 k ⟨q.val * 512 + i.val, by omega⟩) * x1 (ix2 k j) := by
  pointwise [val_main_v6, val_main_v5, val_main_v4, val_main_v1, val_main_v0]
  exact Finset.sum_congr rfl fun k _ => mul_comm _ _

theorem point (t : Fin cfg0.N) (i : Fin 512) (j : Fin 1024) :
    k0_pay1 (F := Ideal) (iblk m c 0 t) (iblk m c 1 t) (ix2 i j) = res m c (((cfg0.win 2).blk t).view.emb (ix2 i j)) := by
  rw [pay]
  have ht : t.val < 2 := t.isLt
  refine Eq.trans ?_ ((ref_at (m ((c : Thread nD τ).loc main_arg0)) (m ((c : Thread nD τ).loc main_arg1)) i j ⟨t.val, ht⟩).symm.trans ?_)
  · refine Finset.sum_congr rfl fun k _ => congrArg₂ (· * ·) ?_ ?_
    · show (iblk m c 0 t : FVec Ideal S2048x512 .bf16) (ix2 k i) = m ((c : Thread nD τ).loc main_arg0) (ix2 k ⟨t.val * 512 + i.val, by omega⟩)
      blk_ext! [iblk, V, idx t]
    · show (iblk m c 1 t : FVec Ideal S2048x1024 .bf16) (ix2 k j) = m ((c : Thread nD τ).loc main_arg1) (ix2 k j)
      blk_ext! [iblk, V, idx t]
  · show res m c _ = _
    generalize res m c = X
    blk_ext! [idx t]

theorem final : (dats m 0 c).arrAt 2 cfg0.N = res m c := by
  refine (dats m 0 c).arrAt_eq_of_covers 2 _ (by decide +kernel) fun t _ y => ?_
  obtain ⟨i, j, rfl⟩ : ∃ i j, y = ix2 (n0 := 512) (n1 := 1024) i j := ⟨_, _, (ix2_eta y).symm⟩
  blk_simp
  rw [after0_2]
  refine Eq.trans ?_ (point m c t i j)
  unfold out0_2
  rw [View.ld_unit_lit _ _ (by decide), View.ld_unit_lit _ _ (by decide), View.canon_unit_zero (by decide)]

theorem algebraic : Cert.algebraic_Kernel6Ideal_Reference6Ideal := by
  pair_intro
  · run_from Cert.Kernel6Ideal.Value.run_blocks m g
  · run_from Cert.Reference6Ideal.Value.run m' g'
    exact (final m c).symm

theorem frame_reference : Cert.quiescent_Reference6Ideal := fun m g _ =>
  (θ_run Reference6Ideal.defs _ _).mono (fun r h => ⟨fun c => (h c).2, sem_eq_zero_of_no_sems (by decide) r.2⟩) (Reference6Ideal.Value.run m g)

end Cert.Wgrad6

end
-- ==== Proof.Wgrad7.lean ====
/- An output projection's weight gradient from 2304 rows. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise

@[expose] public section

set_option maxRecDepth 16384

noncomputable section

namespace Cert.Wgrad7

open Idealize.ShloMosaic Idealize.ShloMosaic.TcCoe Idealize.SL.Sem
open Idealize.ShloMosaic.Pipeline (Dat)
open Cert.Kernel7Ideal Cert.Kernel7Ideal.Gen
open Cert.Reference7Ideal.Read (val_main_v5 val_main_v4 val_main_v1 val_main_v0 val_main_v6 val_main_v6_eq)

variable (m : (ℓ : Loc nD τ sig) → Buf (Elt Ideal) ℓ) (c : Dev nD)

/-- The result array. -/
abbrev res : FVec Ideal S1024x1024 .bf16 :=
  val_main_v6 (F := Ideal) (m ((c : Thread nD τ).loc main_arg0)) (m ((c : Thread nD τ).loc main_arg1))

theorem idx : ∀ t : Fin cfg0.N, win0_0.index t = ![0, t.val] ∧ win0_1.index t = ![0, 0] ∧ win0_2.index t = ![t.val, 0] :=
  (by decide +kernel : ∀ t : Fin grid0.N, _)

theorem pay (X : FVec Ideal S2304x512 .bf16) (Y : FVec Ideal S2304x1024 .bf16) (i : Fin 512) (j : Fin 1024) :
    k0_pay1 (F := Ideal) X Y (ix2 i j) = ∑ k : Fin 2304, X (ix2 k i) * Y (ix2 k j) := by
  pointwise [k0_pay1]

theorem ref_at (x0 : FVec Ideal Reference7Ideal.S2304x1024 .bf16) (x1 : FVec Ideal Reference7Ideal.S2304x1024 .bf16)
    (i : Fin 512) (j : Fin 1024) (q : Fin 2) :
    val_main_v6 (F := Ideal) x0 x1 (ix2 ⟨q.val * 512 + i.val, by omega⟩ j) = ∑ k : Fin 2304, x0 (ix2 k ⟨q.val * 512 + i.val, by omega⟩) * x1 (ix2 k j) := by
  pointwise [val_main_v6, val_main_v5, val_main_v4, val_main_v1, val_main_v0]
  exact Finset.sum_congr rfl fun k _ => mul_comm _ _

theorem point (t : Fin cfg0.N) (i : Fin 512) (j : Fin 1024) :
    k0_pay1 (F := Ideal) (iblk m c 0 t) (iblk m c 1 t) (ix2 i j) = res m c (((cfg0.win 2).blk t).view.emb (ix2 i j)) := by
  rw [pay]
  have ht : t.val < 2 := t.isLt
  refine Eq.trans ?_ ((ref_at (m ((c : Thread nD τ).loc main_arg0)) (m ((c : Thread nD τ).loc main_arg1)) i j ⟨t.val, ht⟩).symm.trans ?_)
  · refine Finset.sum_congr rfl fun k _ => congrArg₂ (· * ·) ?_ ?_
    · show (iblk m c 0 t : FVec Ideal S2304x512 .bf16) (ix2 k i) = m ((c : Thread nD τ).loc main_arg0) (ix2 k ⟨t.val * 512 + i.val, by omega⟩)
      blk_ext! [iblk, V, idx t]
    · show (iblk m c 1 t : FVec Ideal S2304x1024 .bf16) (ix2 k j) = m ((c : Thread nD τ).loc main_arg1) (ix2 k j)
      blk_ext! [iblk, V, idx t]
  · show res m c _ = _
    generalize res m c = X
    blk_ext! [idx t]

theorem final : (dats m 0 c).arrAt 2 cfg0.N = res m c := by
  refine (dats m 0 c).arrAt_eq_of_covers 2 _ (by decide +kernel) fun t _ y => ?_
  obtain ⟨i, j, rfl⟩ : ∃ i j, y = ix2 (n0 := 512) (n1 := 1024) i j := ⟨_, _, (ix2_eta y).symm⟩
  blk_simp
  rw [after0_2]
  refine Eq.trans ?_ (point m c t i j)
  unfold out0_2
  rw [View.ld_unit_lit _ _ (by decide), View.ld_unit_lit _ _ (by decide), View.canon_unit_zero (by decide)]

theorem algebraic : Cert.algebraic_Kernel7Ideal_Reference7Ideal := by
  pair_intro
  · run_from Cert.Kernel7Ideal.Value.run_blocks m g
  · run_from Cert.Reference7Ideal.Value.run m' g'
    exact (final m c).symm

theorem frame_reference : Cert.quiescent_Reference7Ideal := fun m g _ =>
  (θ_run Reference7Ideal.defs _ _).mono (fun r h => ⟨fun c => (h c).2, sem_eq_zero_of_no_sems (by decide) r.2⟩) (Reference7Ideal.Value.run m g)

end Cert.Wgrad7

end
-- ==== Proof.Wgrad8.lean ====
/- The grouped mixing's weight gradient from 2048 rows. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.Wgrad8

open Idealize.ShloMosaic Idealize.ShloMosaic.TcCoe Idealize.SL.Sem
open Idealize.ShloMosaic.Pipeline (Dat)
open Cert.Kernel8Ideal Cert.Kernel8Ideal.Gen
open Cert.Reference8Ideal.Read (val_main_v9 val_main_v8 val_main_v7 val_main_v6 val_main_v3 val_main_v2 val_main_v1 val_main_v0 val_main_v10 val_main_v10_eq)

variable (m : (ℓ : Loc nD τ sig) → Buf (Elt Ideal) ℓ) (c : Dev nD)

/-- The result array. -/
abbrev res : FVec Ideal S4x256x256 .bf16 :=
  val_main_v10 (F := Ideal) (m ((c : Thread nD τ).loc main_arg0)) (m ((c : Thread nD τ).loc main_arg1))

theorem idx : ∀ t : Fin cfg0.N, win0_0.index t = ![0, t.val] ∧ win0_1.index t = ![0, t.val] ∧ win0_2.index t = ![t.val, 0, 0] :=
  (by decide +kernel : ∀ t : Fin grid0.N, _)

theorem pay (X : FVec Ideal S2048x256 .bf16) (Y : FVec Ideal S2048x256 .bf16) (i : Fin 256) (j : Fin 256) :
    k0_pay1 (F := Ideal) X Y (ix3 0 i j) = ∑ k : Fin 2048, X (ix2 k i) * Y (ix2 k j) := by
  pointwise [k0_pay1]

theorem ref_at (x0 : FVec Ideal Reference8Ideal.S2048x1024 .bf16) (x1 : FVec Ideal Reference8Ideal.S2048x1024 .bf16)
    (i : Fin 256) (j : Fin 256) (q : Fin 4) :
    val_main_v10 (F := Ideal) x0 x1 (ix3 q i j) = ∑ k : Fin 2048, x0 (ix2 k ⟨q.val * 256 + i.val, by omega⟩) * x1 (ix2 k ⟨q.val * 256 + j.val, by omega⟩) := by
  pointwise [val_main_v10, val_main_v9, val_main_v8, val_main_v7, val_main_v6, val_main_v3, val_main_v2, val_main_v1, val_main_v0]
  exact (Fin.sum_univ_one _).trans (Finset.sum_congr rfl fun k _ => mul_comm _ _)

theorem point (t : Fin cfg0.N) (i : Fin 256) (j : Fin 256) :
    k0_pay1 (F := Ideal) (iblk m c 0 t) (iblk m c 1 t) (ix3 0 i j) = res m c (((cfg0.win 2).blk t).view.emb (ix3 0 i j)) := by
  rw [pay]
  have ht : t.val < 4 := t.isLt
  refine Eq.trans ?_ ((ref_at (m ((c : Thread nD τ).loc main_arg0)) (m ((c : Thread nD τ).loc main_arg1)) i j ⟨t.val, ht⟩).symm.trans ?_)
  · refine Finset.sum_congr rfl fun k _ => congrArg₂ (· * ·) ?_ ?_
    · show (iblk m c 0 t : FVec Ideal S2048x256 .bf16) (ix2 k i) = m ((c : Thread nD τ).loc main_arg0) (ix2 k ⟨t.val * 256 + i.val, by omega⟩)
      blk_ext! [iblk, V, idx t]
    · show (iblk m c 1 t : FVec Ideal S2048x256 .bf16) (ix2 k j) = m ((c : Thread nD τ).loc main_arg1) (ix2 k ⟨t.val * 256 + j.val, by omega⟩)
      blk_ext! [iblk, V, idx t]
  · show res m c _ = _
    generalize res m c = X
    blk_ext! [idx t]

theorem final : (dats m 0 c).arrAt 2 cfg0.N = res m c := by
  refine (dats m 0 c).arrAt_eq_of_covers 2 _ (by decide +kernel) fun t _ y => ?_
  obtain ⟨e, i, j, rfl⟩ : ∃ e i j, y = ix3 (n0 := 1) (n1 := 256) (n2 := 256) e i j := ⟨_, _, _, (ix3_eta y).symm⟩
  obtain rfl : e = 0 := Subsingleton.elim _ _
  blk_simp
  rw [after0_2]
  refine Eq.trans ?_ (point m c t i j)
  unfold out0_2
  rw [View.ld_unit_lit _ _ (by decide), View.ld_unit_lit _ _ (by decide), View.canon_unit_zero (by decide)]

theorem algebraic : Cert.algebraic_Kernel8Ideal_Reference8Ideal := by
  pair_intro
  · run_from Cert.Kernel8Ideal.Value.run_blocks m g
  · run_from Cert.Reference8Ideal.Value.run m' g'
    exact (final m c).symm

theorem frame_reference : Cert.quiescent_Reference8Ideal := fun m g _ =>
  (θ_run Reference8Ideal.defs _ _).mono (fun r h => ⟨fun c => (h c).2, sem_eq_zero_of_no_sems (by decide) r.2⟩) (Reference8Ideal.Value.run m g)

end Cert.Wgrad8

end
-- ==== Proof.Wgrad9.lean ====
/- The grouped mixing's weight gradient from 2304 rows. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.Wgrad9

open Idealize.ShloMosaic Idealize.ShloMosaic.TcCoe Idealize.SL.Sem
open Idealize.ShloMosaic.Pipeline (Dat)
open Cert.Kernel9Ideal Cert.Kernel9Ideal.Gen
open Cert.Reference9Ideal.Read (val_main_v9 val_main_v8 val_main_v7 val_main_v6 val_main_v3 val_main_v2 val_main_v1 val_main_v0 val_main_v10 val_main_v10_eq)

variable (m : (ℓ : Loc nD τ sig) → Buf (Elt Ideal) ℓ) (c : Dev nD)

/-- The result array. -/
abbrev res : FVec Ideal S4x256x256 .bf16 :=
  val_main_v10 (F := Ideal) (m ((c : Thread nD τ).loc main_arg0)) (m ((c : Thread nD τ).loc main_arg1))

theorem idx : ∀ t : Fin cfg0.N, win0_0.index t = ![0, t.val] ∧ win0_1.index t = ![0, t.val] ∧ win0_2.index t = ![t.val, 0, 0] :=
  (by decide +kernel : ∀ t : Fin grid0.N, _)

theorem pay (X : FVec Ideal S2304x256 .bf16) (Y : FVec Ideal S2304x256 .bf16) (i : Fin 256) (j : Fin 256) :
    k0_pay1 (F := Ideal) X Y (ix3 0 i j) = ∑ k : Fin 2304, X (ix2 k i) * Y (ix2 k j) := by
  pointwise [k0_pay1]

theorem ref_at (x0 : FVec Ideal Reference9Ideal.S2304x1024 .bf16) (x1 : FVec Ideal Reference9Ideal.S2304x1024 .bf16)
    (i : Fin 256) (j : Fin 256) (q : Fin 4) :
    val_main_v10 (F := Ideal) x0 x1 (ix3 q i j) = ∑ k : Fin 2304, x0 (ix2 k ⟨q.val * 256 + i.val, by omega⟩) * x1 (ix2 k ⟨q.val * 256 + j.val, by omega⟩) := by
  pointwise [val_main_v10, val_main_v9, val_main_v8, val_main_v7, val_main_v6, val_main_v3, val_main_v2, val_main_v1, val_main_v0]
  exact (Fin.sum_univ_one _).trans (Finset.sum_congr rfl fun k _ => mul_comm _ _)

theorem point (t : Fin cfg0.N) (i : Fin 256) (j : Fin 256) :
    k0_pay1 (F := Ideal) (iblk m c 0 t) (iblk m c 1 t) (ix3 0 i j) = res m c (((cfg0.win 2).blk t).view.emb (ix3 0 i j)) := by
  rw [pay]
  have ht : t.val < 4 := t.isLt
  refine Eq.trans ?_ ((ref_at (m ((c : Thread nD τ).loc main_arg0)) (m ((c : Thread nD τ).loc main_arg1)) i j ⟨t.val, ht⟩).symm.trans ?_)
  · refine Finset.sum_congr rfl fun k _ => congrArg₂ (· * ·) ?_ ?_
    · show (iblk m c 0 t : FVec Ideal S2304x256 .bf16) (ix2 k i) = m ((c : Thread nD τ).loc main_arg0) (ix2 k ⟨t.val * 256 + i.val, by omega⟩)
      blk_ext! [iblk, V, idx t]
    · show (iblk m c 1 t : FVec Ideal S2304x256 .bf16) (ix2 k j) = m ((c : Thread nD τ).loc main_arg1) (ix2 k ⟨t.val * 256 + j.val, by omega⟩)
      blk_ext! [iblk, V, idx t]
  · show res m c _ = _
    generalize res m c = X
    blk_ext! [idx t]

theorem final : (dats m 0 c).arrAt 2 cfg0.N = res m c := by
  refine (dats m 0 c).arrAt_eq_of_covers 2 _ (by decide +kernel) fun t _ y => ?_
  obtain ⟨e, i, j, rfl⟩ : ∃ e i j, y = ix3 (n0 := 1) (n1 := 256) (n2 := 256) e i j := ⟨_, _, _, (ix3_eta y).symm⟩
  obtain rfl : e = 0 := Subsingleton.elim _ _
  blk_simp
  rw [after0_2]
  refine Eq.trans ?_ (point m c t i j)
  unfold out0_2
  rw [View.ld_unit_lit _ _ (by decide), View.ld_unit_lit _ _ (by decide), View.canon_unit_zero (by decide)]

theorem algebraic : Cert.algebraic_Kernel9Ideal_Reference9Ideal := by
  pair_intro
  · run_from Cert.Kernel9Ideal.Value.run_blocks m g
  · run_from Cert.Reference9Ideal.Value.run m' g'
    exact (final m c).symm

theorem frame_reference : Cert.quiescent_Reference9Ideal := fun m g _ =>
  (θ_run Reference9Ideal.defs _ _).mono (fun r h => ⟨fun c => (h c).2, sem_eq_zero_of_no_sems (by decide) r.2⟩) (Reference9Ideal.Value.run m g)

end Cert.Wgrad9

end
-- ==== Proof.Gate10.lean ====
/- The output projection's backward call over the latent rows: the gate, the projection, the gate's gradient. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise

@[expose] public section

set_option maxRecDepth 16384

noncomputable section

namespace Cert.Gate10

open Idealize.ShloMosaic Idealize.ShloMosaic.TcCoe Idealize.SL.Sem
open Idealize.ShloMosaic.Pipeline (Dat)
open Cert.Kernel10Ideal Cert.Kernel10Ideal.Gen
open Cert.Reference10Ideal.Read (val_main_v0 val_main_v2 val_main_v5 val_main_v6 val_main_v7 val_main_v8 val_main_cst val_main_v9 val_main_v10 val_main_v11 val_main_v14 val_main_v15 val_main_v16)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, 0] ∧ win0_3.index t = ![0, 0]
    ∧ win0_4.index t = ![t.val, 0] ∧ win0_5.index t = ![t.val, 0] ∧ win0_6.index t = ![0, 0, 0] :=
  (by decide +kernel : ∀ t : Fin grid0.N, _)

theorem mul2 {a b x y : EReal} (h : a = b) (k : x = y) : a * x = b * y := by rw [h, k]

/-! ## What the body computes, and the reference, index by index -/

section Pay
variable (X : FVec Ideal S512x1024 .f32) (Y : FVec Ideal S512x1024 .bf16) (G : FVec Ideal S1x1x1024 .f32) (W : FVec Ideal S1024x1024 .bf16)

theorem pay1 (r : Fin 512) (j : Fin 1024) : k0_pay1 (F := Ideal) X G (ix2 r j) = X (ix2 r j) * G (ix3 0 0 j) := by
  pointwise [k0_pay1]

theorem pay2 (r : Fin 512) (i : Fin 1024) :
    k0_pay2 (F := Ideal) X G W (ix2 r i) = ∑ k : Fin 1024, X (ix2 r k) * G (ix3 0 0 k) * W (ix2 i k) := by
  pointwise [k0_pay2, k0_pay1]

theorem pay4 (j : Fin 1024) : k0_pay4 (F := Ideal) X Y (ix3 0 0 j) = ∑ k : Fin 512, X (ix2 k j) * Y (ix2 k j) := by
  pointwise [k0_pay4, k0_pay3]

theorem pay5 (A : FVec Ideal S1x1x1024 .f32) (j : Fin 1024) :
    k0_pay5 (F := Ideal) X Y A (ix3 0 0 j) = A (ix3 0 0 j) + ∑ k : Fin 512, X (ix2 k j) * Y (ix2 k j) := by
  pointwise [k0_pay5, k0_pay3]
end Pay

section Ref
variable (x0 : FVec Ideal Reference10Ideal.S2048x1024 .f32) (x1 : FVec Ideal Reference10Ideal.S2048x1024 .bf16)
  (x2 : FVec Ideal Reference10Ideal.S1x1x1024 .f32) (x3 : FVec Ideal Reference10Ideal.S1024x1024 .bf16)

theorem v15_at (r : Fin 2048) (j : Fin 1024) : val_main_v15 (F := Ideal) x0 x2 (ix2 r j) = x0 (ix2 r j) * x2 (ix3 0 0 j) := by
  refine Eq.trans ?_ (mul_comm _ _)
  pointwise [val_main_v15, val_main_v6, val_main_v5, val_main_v2]

theorem v16_at (r : Fin 2048) (i : Fin 1024) :
    val_main_v16 (F := Ideal) x0 x2 x3 (ix2 r i) = ∑ k : Fin 1024, x0 (ix2 r k) * x2 (ix3 0 0 k) * x3 (ix2 i k) := by
  refine Eq.trans ?_ (Finset.sum_congr rfl fun k _ => mul2 (mul_comm _ _) rfl)
  pointwise [val_main_v16, val_main_v14, val_main_v11, val_main_v6, val_main_v5, val_main_v2]

theorem v10_at (j : Fin 1024) :
    val_main_v10 (F := Ideal) x0 x1 (ix3 0 0 j) = ∑ k : Fin 2048, x0 (ix2 k j) * x1 (ix2 k j) := by
  pointwise [val_main_v10, val_main_v9, val_main_v8, val_main_v7, val_main_v0, val_main_cst]
end Ref

/-! ## The result arrays -/

abbrev A0 : FVec Ideal S2048x1024 .f32 := m ((c : Thread nD τ).loc main_arg0)
abbrev A1 : FVec Ideal S2048x1024 .bf16 := m ((c : Thread nD τ).loc main_arg1)
abbrev A2 : FVec Ideal S1x1x1024 .f32 := m ((c : Thread nD τ).loc main_arg2)
abbrev A3 : FVec Ideal S1024x1024 .bf16 := m ((c : Thread nD τ).loc main_arg3)

abbrev b0 (t : Fin cfg0.N) : FVec Ideal S512x1024 .f32 := iblk m c 0 t
abbrev b1 (t : Fin cfg0.N) : FVec Ideal S512x1024 .bf16 := iblk m c 1 t
abbrev b2 (t : Fin cfg0.N) : FVec Ideal S1x1x1024 .f32 := iblk m c 2 t
abbrev b3 (t : Fin cfg0.N) : FVec Ideal S1024x1024 .bf16 := iblk m c 3 t

theorem blk0 (t : Fin cfg0.N) (r : Fin 512) (j : Fin 1024) :
    b0 m c t (ix2 r j) = A0 m c (ix2 ⟨t.val * 512 + r.val, by have : t.val < 4 := t.isLt; omega⟩ j) := by
  blk_ext! [b0, b1, b2, b3, iblk, V, idx t]
theorem blk1 (t : Fin cfg0.N) (r : Fin 512) (j : Fin 1024) :
    b1 m c t (ix2 r j) = A1 m c (ix2 ⟨t.val * 512 + r.val, by have : t.val < 4 := t.isLt; omega⟩ j) := by
  blk_ext! [b0, b1, b2, b3, iblk, V, idx t]
theorem blk2 (t : Fin cfg0.N) (j : Fin 1024) : b2 m c t (ix3 0 0 j) = A2 m c (ix3 0 0 j) := by
  blk_ext! [b0, b1, b2, b3, iblk, V, idx t]
theorem blk3 (t : Fin cfg0.N) (i j : Fin 1024) : b3 m c t (ix2 i j) = A3 m c (ix2 i j) := by
  blk_ext! [b0, b1, b2, b3, iblk, V, idx t]

theorem early (t : Fin cfg0.N) (h : t.val % 4 = 0) : ¬1 ≤ t.val := by
  have : t.val < 4 := t.isLt
  omega

theorem late (t : Fin cfg0.N) (h : ¬t.val % 4 = 0) : 1 ≤ t.val := by
  omega

theorem out4 (t : Fin cfg0.N) : (outsAt0 m c t.val t.isLt).1 = k0_pay1 (F := Ideal) (b0 m c t) (b2 m c t) := by
  by_cases h : t.val % 4 = 0
  · rw [outsAt0_A m c t h (early t h)]; frame_out
  · rw [outsAt0_B m c t h (late t h)]; frame_out

theorem out5 (t : Fin cfg0.N) : (outsAt0 m c t.val t.isLt).2.1 = k0_pay2 (F := Ideal) (b0 m c t) (b2 m c t) (b3 m c t) := by
  by_cases h : t.val % 4 = 0
  · rw [outsAt0_A m c t h (early t h)]; frame_out
  · rw [outsAt0_B m c t h (late t h)]; frame_out

theorem final4 : (dats m 0 c).arrAt 4 cfg0.N = val_main_v15 (F := Ideal) (A0 m c) (A2 m c) := by
  refine (dats m 0 c).arrAt_eq_of_covers 4 _ (by decide +kernel) fun t _ y => ?_
  obtain ⟨i, j, rfl⟩ : ∃ i j, y = ix2 (n0 := 512) (n1 := 1024) i j := ⟨_, _, (ix2_eta y).symm⟩
  have ht : t.val < 4 := t.isLt
  blk_simp
  rw [after0_4, out4]
  refine (pay1 _ _ i j).trans ((mul2 (blk0 m c t i j) (blk2 m c t j)).trans ((v15_at _ _ _ _).symm.trans ?_))
  generalize val_main_v15 (F := Ideal) (A0 m c) (A2 m c) = X
  blk_ext! [idx t]

theorem final5 : (dats m 0 c).arrAt 5 cfg0.N = val_main_v16 (F := Ideal) (A0 m c) (A2 m c) (A3 m c) := by
  refine (dats m 0 c).arrAt_eq_of_covers 5 _ (by decide +kernel) fun t _ y => ?_
  obtain ⟨i, j, rfl⟩ : ∃ i j, y = ix2 (n0 := 512) (n1 := 1024) i j := ⟨_, _, (ix2_eta y).symm⟩
  have ht : t.val < 4 := t.isLt
  blk_simp
  rw [after0_5, out5]
  refine (pay2 _ _ _ i j).trans ((Finset.sum_congr rfl fun k _ => mul2 (mul2 (blk0 m c t i k) (blk2 m c t k)) (blk3 m c t j k)).trans
    ((v16_at _ _ _ _ _).symm.trans ?_))
  generalize val_main_v16 (F := Ideal) (A0 m c) (A2 m c) (A3 m c) = X
  blk_ext! [idx t]

/-- What a point adds to the gate's gradient. -/
def part (t : Fin cfg0.N) (j : S1x1x1024.Idx) : EReal :=
  ∑ k : Fin 512, (b0 m c t (ix2 k (j 2)) : EReal) * (b1 m c t (ix2 k (j 2)) : EReal)

theorem row (j : S1x1x1024.Idx) : ∃ l : Fin 1024, j = ix3 (n0 := 1) (n1 := 1) (n2 := 1024) 0 0 l :=
  ⟨j 2, (ix3_eta j).symm.trans (by
    rw [show j 0 = (0 : Fin 1) from Subsingleton.elim (α := Fin 1) _ _, show j 1 = (0 : Fin 1) from Subsingleton.elim (α := Fin 1) _ _])⟩

theorem out6_first (t : Fin cfg0.N) (h : t.val % 4 = 0) (j : S1x1x1024.Idx) : (outsAt0 m c t.val t.isLt).2.2 j = 0 + part m c t j := by
  rw [outsAt0_A m c t h (early t h)]; frame_out
  obtain ⟨l, rfl⟩ := row j
  rw [zero_add]
  exact pay4 _ _ _

theorem out6_next (t : Fin cfg0.N) (h : ¬t.val % 4 = 0) (j : S1x1x1024.Idx) :
    (outsAt0 m c t.val t.isLt).2.2 j = (outsAt0 m c (t.val - 1) (Nat.lt_of_le_of_lt (Nat.sub_le _ _) t.isLt)).2.2 j + part m c t j := by
  rw [outsAt0_B m c t h (late t h)]; frame_out
  obtain ⟨l, rfl⟩ := row j
  exact pay5 _ _ _ _

theorem final6 : (dats m 0 c).arrAt 6 cfg0.N = val_main_v10 (F := Ideal) (A0 m c) (A1 m c) := by
  refine (dats m 0 c).arrAt_eq_of_after_last 6 t0_3 (by decide +kernel) _ fun j => ?_
  blk_simp
  rw [after0_6]
  refine (Pipeline.eq_sum_fin_of_reset_step_apply_last (fun n h => (outsAt0 m c n h).2.2) 4 (fun _ => (0 : EReal)) (part m c)
    (out6_first m c) (out6_next m c) (le_of_eq N_0) t0_3 rfl j).trans ?_
  obtain ⟨l, rfl⟩ := row j
  rw [zero_add, v10_at]
  refine Fin.sum_mul_add_congr fun s k hl => ?_
  exact mul2 (blk0 m c s k _) (blk1 m c s k _)

theorem algebraic : Cert.algebraic_Kernel10Ideal_Reference10Ideal := by
  pair_intro
  · run_from Cert.Kernel10Ideal.Value.run_blocks m g
  · refine Idealize.ShloMosaic.θ_run_mono (Cert.Reference10Ideal.Value.run m' g') ?_
    intro r hr c
    obtain ⟨e0, e1, e2, e3⟩ := hagree c
    refine ⟨(hr c).1.trans ((Reference10Ideal.Read.val_main_v15_eq _ _).trans ?_), (hr c).2.1.trans ((Reference10Ideal.Read.val_main_v16_eq _ _ _).trans ?_),
      (hr c).2.2.1.trans ((Reference10Ideal.Read.val_main_v10_eq _ _).trans ?_), (hr c).2.2.2⟩
    · rw [e0, e2]; exact (final4 m c).symm
    · rw [e0, e2, e3]; exact (final5 m c).symm
    · rw [e0, e1]; exact (final6 m c).symm

theorem frame_reference : Cert.quiescent_Reference10Ideal := fun m g _ =>
  (θ_run Reference10Ideal.defs _ _).mono (fun r h => ⟨fun c => (h c).2.2.2, sem_eq_zero_of_no_sems (by decide) r.2⟩) (Reference10Ideal.Value.run m g)

end Cert.Gate10

end
-- ==== Proof.Gate11.lean ====
/- The output projection's backward call over the latent and the context rows: the gate, the projection, the gate's gradient. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise

@[expose] public section

set_option maxRecDepth 16384

noncomputable section

namespace Cert.Gate11

open Idealize.ShloMosaic Idealize.ShloMosaic.TcCoe Idealize.SL.Sem
open Idealize.ShloMosaic.Pipeline (Dat)
open Cert.Kernel11Ideal Cert.Kernel11Ideal.Gen
open Cert.Reference11Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v35 val_main_v36 val_main_v37 val_main_v32 val_main_cst val_main_cst_0 val_main_cst_1 val_main_cst_2 val_main_cst_3 val_main_cst_4)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, 0] ∧ win0_3.index t = ![0, 0]
    ∧ win0_4.index t = ![t.val, 0] ∧ win0_5.index t = ![t.val, 0] ∧ win0_6.index t = ![0, 0, 0] :=
  (by decide +kernel : ∀ t : Fin grid0.N, _)

theorem mul2 {a b x y : EReal} (h : a = b) (k : x = y) : a * x = b * y := by rw [h, k]

theorem at0 : ∀ t : Fin grid0.N, (grid0.coords t 0).val = t.val := by decide +kernel

theorem masked {p : Prop} [Decidable p] {b : BitVec 1} (h : b = 1#1 ↔ p) (x y : EReal) : Scalar.select b x y = if p then x else y := by
  by_cases hp : p
  · rw [if_pos hp]; exact if_pos (h.mpr hp)
  · rw [if_neg hp]; exact if_neg fun hb => hp (h.mp hb)

theorem row_cond (a r : ℕ) (ha : a < 3) (hr : r < 768) :
    IntOp.cmpi CmpIPredicate.sge (IntOp.addi (Scalar.muli (BitVec.ofNat 32 a) 768#32) (BitVec.ofNat 32 r)) 2048#32 = 1#1 ↔ 2048 ≤ a * 768 + r := by
  rw [show IntOp.addi (Scalar.muli (BitVec.ofNat 32 a) 768#32) (BitVec.ofNat 32 r) = BitVec.ofNat 32 (a * 768 + r) from by
    rw [BitVec.ofNat_add, BitVec.ofNat_mul]; rfl]
  exact WordCmp.cmpi_sge_ofNat_eq_one_iff (by omega) (by decide)

theorem pick (p q : Prop) [Decidable p] [Decidable q] (h : p ↔ q) (x y : EReal) : (if p then x else y) = if q then x else y := by
  by_cases hp : p
  · rw [if_pos hp, if_pos (h.mp hp)]
  · rw [if_neg hp, if_neg fun hq => hp (h.mpr hq)]

theorem sides {p : Prop} [Decidable p] (k : ℕ) (x : EReal) :
    (if (p ↔ k = 1) then x else 0) = if k = 1 then (if p then x else 0) else (if p then 0 else x) := by
  by_cases hp : p <;> by_cases hk : k = 1 <;> simp [hp, hk]

/-! ## What the body computes, and the reference, index by index -/

section Pay
variable (X : FVec Ideal S768x1024 .f32) (Y : FVec Ideal S768x1024 .bf16) (G H : FVec Ideal S1x1x1024 .f32) (W : FVec Ideal S1024x1024 .bf16) (i : grid0.Coords)

theorem pay6 (r : Fin 768) : k0_pay6 i (ix2 r 0) = 1#1 ↔ 2048 ≤ (i 0).val * 768 + r.val := by
  pointwise [k0_pay6]
  exact row_cond _ _ (i 0).isLt r.isLt

theorem pay7 (r : Fin 768) (j : Fin 1024) : k0_pay7 (F := Ideal) i X H G (ix2 r j)
    = X (ix2 r j) * (if 2048 ≤ (i 0).val * 768 + r.val then H (ix3 0 0 j) else G (ix3 0 0 j)) := by
  pointwise [k0_pay7]
  exact mul2 rfl (masked (pay6 i r) _ _)

theorem pay8 (r : Fin 768) (j : Fin 1024) : k0_pay8 (F := Ideal) i X H G W (ix2 r j)
    = ∑ k : Fin 1024, X (ix2 r k) * (if 2048 ≤ (i 0).val * 768 + r.val then H (ix3 0 0 k) else G (ix3 0 0 k)) * W (ix2 j k) := by
  refine Eq.trans (b := ∑ k : Fin 1024, k0_pay7 (F := Ideal) i X H G (ix2 r k) * W (ix2 j k)) ?_ (Finset.sum_congr rfl fun k _ => mul2 (pay7 X G H i r k) rfl)
  pointwise [k0_pay8]

theorem pay10 (j : Fin 1024) : k0_pay10 (F := Ideal) i X Y (ix2 0 j)
    = ∑ k : Fin 768, if 2048 ≤ (i 0).val * 768 + k.val then (0 : EReal) else X (ix2 k j) * Y (ix2 k j) := by
  pointwise [k0_pay10, k0_pay9]
  exact Finset.sum_congr rfl fun k _ => masked (pay6 i k) _ _

theorem pay1 (j : Fin 1024) : k0_pay1 (F := Ideal) (k0_pay6 i) (k0_pay9 X Y) (ix2 0 j)
    = ∑ k : Fin 768, if 2048 ≤ (i 0).val * 768 + k.val then X (ix2 k j) * Y (ix2 k j) else (0 : EReal) := by
  pointwise [k0_pay1, k0_pay9]
  exact Finset.sum_congr rfl fun k _ => masked (pay6 i k) _ _

theorem pay2 (j : Fin 1024) : k0_pay2 (F := Ideal) (k0_pay10 i X Y) (ix3 0 0 j) = k0_pay10 (F := Ideal) i X Y (ix2 0 j) := by
  pointwise [k0_pay2]

theorem pay3 (j : Fin 1024) : k0_pay3 (F := Ideal) (k0_pay6 i) (k0_pay9 X Y) (ix3 0 0 j) = k0_pay1 (F := Ideal) (k0_pay6 i) (k0_pay9 X Y) (ix2 0 j) := by
  pointwise [k0_pay3]

theorem pay4 (j : Fin 1024) : k0_pay4 (F := Ideal) (k0_pay10 i X Y) G (ix3 0 0 j) = G (ix3 0 0 j) + k0_pay10 (F := Ideal) i X Y (ix2 0 j) := by
  pointwise [k0_pay4]

theorem pay5 (j : Fin 1024) : k0_pay5 (F := Ideal) (k0_pay6 i) (k0_pay9 X Y) G (ix3 0 0 j) = G (ix3 0 0 j) + k0_pay1 (F := Ideal) (k0_pay6 i) (k0_pay9 X Y) (ix2 0 j) := by
  pointwise [k0_pay5]

end Pay

section Ref
variable (x0 : FVec Ideal Reference11Ideal.S2304x1024 .f32) (x1 : FVec Ideal Reference11Ideal.S2304x1024 .bf16)
  (x2 : FVec Ideal Reference11Ideal.S2x1x1024 .f32) (x3 : FVec Ideal Reference11Ideal.S1024x1024 .bf16)

theorem v31_at (r : Fin 2304) (j : Fin 1024) : val_main_v31 (F := Ideal) x0 x2 (ix2 r j)
    = x0 (ix2 r j) * (if 2048 ≤ r.val then x2 (ix3 1 0 j) else x2 (ix3 0 0 j)) := by
  pointwise [val_main_v31, val_main_v29, val_main_v30, val_main_cst_3, val_main_cst_4, val_main_v15, val_main_v22, val_main_v14, val_main_v8, val_main_v7, val_main_v13,
    val_main_v21, val_main_v4, val_main_v3, val_main_v12]
  have hr := r.isLt
  by_cases h : 2048 ≤ r.val
  · rw [dif_pos (by omega), dif_neg (by omega), if_pos h, mul_comm]
    refine (add_zero _).trans (mul2 (congrArg x0 ?_) rfl)
    exact congrArg (ix2 · j) (Fin.ext (Nat.add_sub_cancel' h))
  · rw [dif_neg (by omega), dif_pos (by omega), if_neg h, mul_comm]
    exact zero_add _

theorem v36_at (r : Fin 2304) (j : Fin 1024) : val_main_v36 (F := Ideal) x0 x2 (ix2 r j)
    = x0 (ix2 r j) * (if 2048 ≤ r.val then x2 (ix3 1 0 j) else x2 (ix3 0 0 j)) := by
  refine Eq.trans ?_ (v31_at x0 x2 r j)
  pointwise [val_main_v36]

theorem v37_at (r : Fin 2304) (j : Fin 1024) : val_main_v37 (F := Ideal) x0 x2 x3 (ix2 r j)
    = ∑ k : Fin 1024, x0 (ix2 r k) * (if 2048 ≤ r.val then x2 (ix3 1 0 k) else x2 (ix3 0 0 k)) * x3 (ix2 j k) := by
  refine Eq.trans (b := ∑ k : Fin 1024, val_main_v31 (F := Ideal) x0 x2 (ix2 r k) * x3 (ix2 j k)) ?_ (Finset.sum_congr rfl fun k _ => mul2 (v31_at x0 x2 r k) rfl)
  pointwise [val_main_v37, val_main_v35, val_main_v32]

theorem v28_at0 (j : Fin 1024) : val_main_v28 (F := Ideal) x0 x1 (ix3 0 0 j) = ∑ k : Fin 2048, x0 (ix2 ⟨k.val, by omega⟩ j) * x1 (ix2 ⟨k.val, by omega⟩ j) := by
  pointwise [val_main_v28, val_main_v20, val_main_v27, val_main_cst_0, val_main_cst_2, val_main_cst, val_main_cst_1, val_main_v26, val_main_v25, val_main_v24, val_main_v23, val_main_v19, val_main_v18, val_main_v17, val_main_v16,
    val_main_v12, val_main_v13, val_main_v0, val_main_v1, val_main_v2]

theorem v28_at1 (j : Fin 1024) : val_main_v28 (F := Ideal) x0 x1 (ix3 1 0 j) = ∑ k : Fin 256, x0 (ix2 ⟨2048 + k.val, by omega⟩ j) * x1 (ix2 ⟨2048 + k.val, by omega⟩ j) := by
  pointwise [val_main_v28, val_main_v20, val_main_v27, val_main_cst_0, val_main_cst_2, val_main_cst, val_main_cst_1, val_main_v26, val_main_v25, val_main_v24, val_main_v23, val_main_v19, val_main_v18, val_main_v17, val_main_v16,
    val_main_v12, val_main_v13, val_main_v0, val_main_v1, val_main_v2]

theorem v28_at (k : Fin 2) (j : Fin 1024) : val_main_v28 (F := Ideal) x0 x1 (ix3 k 0 j)
    = ∑ l : Fin 2304, if (2048 ≤ l.val ↔ k.val = 1) then (x0 (ix2 l j) : EReal) * x1 (ix2 l j) else 0 := by
  refine Eq.trans ?_ (Fin.sum_univ_add (a := 2048) (b := 256) (fun l : Fin (2048 + 256) => if (2048 ≤ l.val ↔ k.val = 1) then (x0 (ix2 l j) : EReal) * x1 (ix2 l j) else 0)).symm
  match k with
  | 0 =>
    rw [v28_at0, Finset.sum_eq_zero (s := (Finset.univ : Finset (Fin 256))) (fun r _ => if_neg (by simp)), add_zero]
    exact Finset.sum_congr rfl fun r _ => (if_pos (by have := r.isLt; simp)).symm
  | 1 =>
    rw [v28_at1, Finset.sum_eq_zero (s := (Finset.univ : Finset (Fin 2048))) (fun r _ => if_neg (by have := r.isLt; simp)), zero_add]
    exact Finset.sum_congr rfl fun r _ => (if_pos (by simp)).symm
end Ref

/-! ## The result arrays -/

abbrev A0 : FVec Ideal S2304x1024 .f32 := m ((c : Thread nD τ).loc main_arg0)
abbrev A1 : FVec Ideal S2304x1024 .bf16 := m ((c : Thread nD τ).loc main_arg1)
abbrev A2 : FVec Ideal S2x1x1024 .f32 := m ((c : Thread nD τ).loc main_arg2)
abbrev A3 : FVec Ideal S1024x1024 .bf16 := m ((c : Thread nD τ).loc main_arg3)
abbrev b0 (t : Fin cfg0.N) : FVec Ideal S768x1024 .f32 := iblk m c 0 t
abbrev b1 (t : Fin cfg0.N) : FVec Ideal S768x1024 .bf16 := iblk m c 1 t
abbrev b2 (t : Fin cfg0.N) : FVec Ideal S2x1x1024 .f32 := iblk m c 2 t
abbrev b3 (t : Fin cfg0.N) : FVec Ideal S1024x1024 .bf16 := iblk m c 3 t
abbrev bG (t : Fin cfg0.N) : FVec Ideal S1x1x1024 .f32 := View.ld (Val := Elt Ideal) (S := S2x1x1024) (e' := .f32) (b2 m c t) (Rect.unit (s := S2x1x1024) ![0, 0, 0] ![1, 1, 1024] inb_S2x1x1024_S1x1x1024_0_0_0)
abbrev bH (t : Fin cfg0.N) : FVec Ideal S1x1x1024 .f32 := View.ld (Val := Elt Ideal) (S := S2x1x1024) (e' := .f32) (b2 m c t) (Rect.unit (s := S2x1x1024) ![1, 0, 0] ![1, 1, 1024] inb_S2x1x1024_S1x1x1024_1_0_0)

theorem ldG (P : FVec Ideal S2x1x1024 .f32) (l : Fin 1024) :
    View.ld (Val := Elt Ideal) (S := S2x1x1024) (e' := .f32) P (Rect.unit (s := S2x1x1024) ![0, 0, 0] ![1, 1, 1024] inb_S2x1x1024_S1x1x1024_0_0_0) (ix3 0 0 l) = P (ix3 0 0 l) := by
  refine View.ld_unit_apply_of (Val := Elt Ideal) (S := S2x1x1024) (e := .f32) P _ _ _ _ _ fun a => ?_
  fin_cases a <;> first | rfl | exact (Nat.zero_add _).symm
theorem ldH (P : FVec Ideal S2x1x1024 .f32) (l : Fin 1024) :
    View.ld (Val := Elt Ideal) (S := S2x1x1024) (e' := .f32) P (Rect.unit (s := S2x1x1024) ![1, 0, 0] ![1, 1, 1024] inb_S2x1x1024_S1x1x1024_1_0_0) (ix3 0 0 l) = P (ix3 1 0 l) := by
  refine View.ld_unit_apply_of (Val := Elt Ideal) (S := S2x1x1024) (e := .f32) P _ _ _ _ _ fun a => ?_
  fin_cases a <;> first | rfl | exact (Nat.zero_add _).symm

theorem blk0 (t : Fin cfg0.N) (r : Fin 768) (j : Fin 1024) :
    b0 m c t (ix2 r j) = A0 m c (ix2 ⟨t.val * 768 + r.val, by have : t.val < 3 := t.isLt; omega⟩ j) := by
  blk_ext! [b0, iblk, V, idx t]
theorem blk1 (t : Fin cfg0.N) (r : Fin 768) (j : Fin 1024) :
    b1 m c t (ix2 r j) = A1 m c (ix2 ⟨t.val * 768 + r.val, by have : t.val < 3 := t.isLt; omega⟩ j) := by
  blk_ext! [b1, iblk, V, idx t]
theorem blkG (t : Fin cfg0.N) (j : Fin 1024) : bG m c t (ix3 0 0 j) = A2 m c (ix3 0 0 j) := by
  blk_ext! [bG, b2, iblk, V, idx t]
theorem blkH (t : Fin cfg0.N) (j : Fin 1024) : bH m c t (ix3 0 0 j) = A2 m c (ix3 1 0 j) := by
  blk_ext! [bH, b2, iblk, V, idx t]
theorem blk3 (t : Fin cfg0.N) (i j : Fin 1024) : b3 m c t (ix2 i j) = A3 m c (ix2 i j) := by
  blk_ext! [b3, iblk, V, idx t]

theorem early (t : Fin cfg0.N) (h : t.val % 3 = 0) : ¬1 ≤ t.val := by
  have : t.val < 3 := t.isLt
  omega

theorem late (t : Fin cfg0.N) (h : ¬t.val % 3 = 0) : 1 ≤ t.val := by
  omega

theorem out4 (t : Fin cfg0.N) : (outsAt0 m c t.val t.isLt).1 = k0_pay7 (F := Ideal) (grid0.coords t) (b0 m c t) (bH m c t) (bG m c t) := by
  by_cases h : t.val % 3 = 0
  · rw [outsAt0_A m c t h (early t h)]; frame_out
  · rw [outsAt0_B m c t h (late t h)]; frame_out

theorem out5 (t : Fin cfg0.N) : (outsAt0 m c t.val t.isLt).2.1 = k0_pay8 (F := Ideal) (grid0.coords t) (b0 m c t) (bH m c t) (bG m c t) (b3 m c t) := by
  by_cases h : t.val % 3 = 0
  · rw [outsAt0_A m c t h (early t h)]; frame_out
  · rw [outsAt0_B m c t h (late t h)]; frame_out

theorem final4 : (dats m 0 c).arrAt 4 cfg0.N = val_main_v36 (F := Ideal) (A0 m c) (A2 m c) := by
  refine (dats m 0 c).arrAt_eq_of_covers 4 _ (by decide +kernel) fun t _ y => ?_
  obtain ⟨i, j, rfl⟩ : ∃ i j, y = ix2 (n0 := 768) (n1 := 1024) i j := ⟨_, _, (ix2_eta y).symm⟩
  have ht : t.val < 3 := t.isLt
  blk_simp
  rw [after0_4, out4]
  refine (pay7 _ _ _ _ i j).trans ((mul2 (blk0 m c t i j) ?_).trans ((v36_at (A0 m c) (A2 m c) ⟨t.val * 768 + i.val, by omega⟩ _).symm.trans ?_))
  · rw [blkG, blkH, at0]
  generalize val_main_v36 (F := Ideal) (A0 m c) (A2 m c) = X
  blk_ext! [idx t]

theorem final5 : (dats m 0 c).arrAt 5 cfg0.N = val_main_v37 (F := Ideal) (A0 m c) (A2 m c) (A3 m c) := by
  refine (dats m 0 c).arrAt_eq_of_covers 5 _ (by decide +kernel) fun t _ y => ?_
  obtain ⟨i, j, rfl⟩ : ∃ i j, y = ix2 (n0 := 768) (n1 := 1024) i j := ⟨_, _, (ix2_eta y).symm⟩
  have ht : t.val < 3 := t.isLt
  blk_simp
  rw [after0_5, out5]
  refine (pay8 _ _ _ _ _ i j).trans ((Finset.sum_congr rfl fun k _ => mul2 (mul2 (blk0 m c t i k) ?_) (blk3 m c t j k)).trans
    ((v37_at (A0 m c) (A2 m c) (A3 m c) ⟨t.val * 768 + i.val, by omega⟩ _).symm.trans ?_))
  · rw [blkG, blkH, at0]
  generalize val_main_v37 (F := Ideal) (A0 m c) (A2 m c) (A3 m c) = X
  blk_ext! [idx t]

/-- What a point adds to the gates' gradients. -/
def part (t : Fin cfg0.N) (y : S2x1x1024.Idx) : EReal :=
  ∑ r : Fin 768, if (2048 ≤ t.val * 768 + r.val ↔ (y 0).val = 1) then (b0 m c t (ix2 r (y 2)) : EReal) * (b1 m c t (ix2 r (y 2)) : EReal) else 0

theorem row (y : S2x1x1024.Idx) : ∃ (k : Fin 2) (l : Fin 1024), y = ix3 (n0 := 2) (n1 := 1) (n2 := 1024) k 0 l :=
  ⟨y 0, y 2, (ix3_eta y).symm.trans (by rw [show y 1 = (0 : Fin 1) from Subsingleton.elim (α := Fin 1) _ _])⟩

theorem part0 (t : Fin cfg0.N) (l : Fin 1024) : k0_pay10 (F := Ideal) (grid0.coords t) (b0 m c t) (b1 m c t) (ix2 0 l) = part m c t (ix3 0 0 l) :=
 by
  rw [part, pay10, at0]
  exact Finset.sum_congr rfl fun r _ => ((sides 0 _).trans (if_neg (by decide))).symm

theorem part1 (t : Fin cfg0.N) (l : Fin 1024) :
    k0_pay1 (F := Ideal) (k0_pay6 (grid0.coords t)) (k0_pay9 (b0 m c t) (b1 m c t)) (ix2 0 l) = part m c t (ix3 1 0 l) :=
 by
  rw [part, pay1, at0]
  exact Finset.sum_congr rfl fun r _ => ((sides 1 _).trans (if_pos rfl)).symm

theorem out6_first (t : Fin cfg0.N) (h : t.val % 3 = 0) (y : S2x1x1024.Idx) : (outsAt0 m c t.val t.isLt).2.2 y = 0 + part m c t y := by
  rw [outsAt0_A m c t h (early t h), zero_add]; frame_out
  clear h
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    exact (pay3 _ _ _ l).trans (part1 m c t l)
  · obtain rfl : k = 0 := Fin.ext h0
    exact (pay2 _ _ _ l).trans (part0 m c t l)

theorem out6_next (t : Fin cfg0.N) (h : ¬t.val % 3 = 0) (y : S2x1x1024.Idx) :
    (outsAt0 m c t.val t.isLt).2.2 y = (outsAt0 m c (t.val - 1) (Nat.lt_of_le_of_lt (Nat.sub_le _ _) t.isLt)).2.2 y + part m c t y := by
  rw [outsAt0_B m c t h (late t h)]; frame_out
  clear h
  generalize (outsAt0 m c (t.val - 1) _).2.2 = P
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    refine (pay5 _ _ _ _ l).trans ?_
    rw [part1]
    refine congrArg (· + part m c t (ix3 1 0 l)) ?_
    exact ldH P l
  · obtain rfl : k = 0 := Fin.ext h0
    refine (pay4 _ _ _ _ l).trans ?_
    rw [part0]
    refine congrArg (· + part m c t (ix3 0 0 l)) ?_
    exact ldG P l

theorem final6 : (dats m 0 c).arrAt 6 cfg0.N = val_main_v28 (F := Ideal) (A0 m c) (A1 m c) := by
  refine (dats m 0 c).arrAt_eq_of_after_last 6 t0_2 (by decide +kernel) _ fun y => ?_
  blk_simp
  rw [after0_6]
  refine (Pipeline.eq_sum_fin_of_reset_step_apply_last (fun n h => (outsAt0 m c n h).2.2) 3 (fun _ => (0 : EReal)) (part m c)
    (out6_first m c) (out6_next m c) (le_of_eq N_0) t0_2 rfl y).trans ?_
  obtain ⟨k, l, rfl⟩ := row y
  rw [zero_add, v28_at]
  unfold part
  refine Fin.sum_mul_add_congr (S := 3) (n := 768) (L := 2304) (f := fun l : Fin 2304 => if (2048 ≤ l.val ↔ k.val = 1) then (A0 m c (ix2 _ _) : EReal) * A1 m c (ix2 _ _) else 0) (fun s r hl => ?_)
  exact congrArg (fun x : EReal => if (2048 ≤ s.val * 768 + r.val ↔ k.val = 1) then x else 0) (mul2 (blk0 m c s r _) (blk1 m c s r _))

theorem algebraic : Cert.algebraic_Kernel11Ideal_Reference11Ideal := by
  pair_intro
  · run_from Cert.Kernel11Ideal.Value.run_blocks m g
  · refine Idealize.ShloMosaic.θ_run_mono (Cert.Reference11Ideal.Value.run m' g') ?_
    intro r hr c
    obtain ⟨e0, e1, e2, e3⟩ := hagree c
    refine ⟨(hr c).1.trans ((Reference11Ideal.Read.val_main_v36_eq _ _).trans ?_), (hr c).2.1.trans ((Reference11Ideal.Read.val_main_v37_eq _ _ _).trans ?_),
      (hr c).2.2.1.trans ((Reference11Ideal.Read.val_main_v28_eq _ _).trans ?_), (hr c).2.2.2⟩
    · rw [e0, e2]; exact (final4 m c).symm
    · rw [e0, e2, e3]; exact (final5 m c).symm
    · rw [e0, e1]; exact (final6 m c).symm

theorem frame_reference : Cert.quiescent_Reference11Ideal := fun m g _ =>
  (θ_run Reference11Ideal.defs _ _).mono (fun r h => ⟨fun c => (h c).2.2.2, sem_eq_zero_of_no_sems (by decide) r.2⟩) (Reference11Ideal.Value.run m g)

end Cert.Gate11

end
-- ==== Proof.LatentMath.lean ====
/- The derivative of a root-mean-square norm, one row at a time: a row is its 1024 channels. -/
module

public import proofs.«01_k».proof.Proof.ConvMath
public import Idealize.ShloMosaic.Lib.WordCmp

@[expose] public section

noncomputable section

namespace Cert.LatentMath

open Idealize.ShloMosaic
open Cert.ConvMath (Real')

/-- The constant under the root, as the program writes it. -/
abbrev eps : EReal := Ideal.ofBits .f32 0x358637BD#32

/-- The number of channels, as the program writes it. -/
abbrev chans : EReal := Ideal.ofBits .f32 0x44800000#32

/-- The factor minus one half, as the program writes it. -/
abbrev mhalf : EReal := Ideal.ofBits .f32 0xBF000000#32

theorem eps_pos : ∃ e : ℝ, 0 < e ∧ eps = (e : EReal) := by
  refine ⟨(8796093 : ℝ) * (2 : ℝ) ^ (-43 : Int), by positivity, ?_⟩
  simp [eps, Ideal.ofBits, Ideal.ieee, -EReal.coe_mul]

theorem chans_eq : chans = ((1024 : ℝ) : EReal) := by
  simp [chans, Ideal.ofBits, Ideal.ieee, -EReal.coe_mul]; norm_num

theorem mhalf_eq : mhalf = ((-(1 / 2) : ℝ) : EReal) := by
  simp [mhalf, Ideal.ofBits, Ideal.ieee, -EReal.coe_mul]; norm_num

theorem div_coe (a b : ℝ) (h : b ≠ 0) : Ideal.div (a : EReal) (b : EReal) = ((a / b : ℝ) : EReal) := by
  have hb : (b : EReal) ≠ 0 := by exact_mod_cast h
  unfold Ideal.div
  rw [if_neg hb, ← EReal.coe_inv, ← EReal.coe_mul, div_eq_mul_inv]

theorem coe_sum {n : ℕ} (f : Fin n → ℝ) : ∑ k, (f k : EReal) = ((∑ k, f k : ℝ) : EReal) := by
  induction n with
  | zero => simp
  | succ n ih => rw [Fin.sum_univ_succ, Fin.sum_univ_succ, EReal.coe_add, ih]

theorem Real'.sum {n : ℕ} {f : Fin n → EReal} (h : ∀ k, Real' (f k)) : Real' (∑ k, f k) := by
  choose g hg using h
  exact ⟨∑ k, g k, by rw [← coe_sum]; exact Finset.sum_congr rfl fun k _ => hg k⟩

theorem real_of_bit {x : EReal} (h : BitVec.ofBool (decide (max x (-x) < Ideal.ofBits FTy.f32 2139095040#32)) = 1#1) : Real' x :=
  Real'.of_abs_lt (lt_of_lt_of_le ((WordCmp.ofBool_decide_eq_one_iff _).1 h) le_top)

theorem Real'.one : Real' 1 := ⟨1, rfl⟩

theorem mul2 {a b x y : EReal} (h : a = b) (k : x = y) : a * x = b * y := by rw [h, k]

/-- A row of channels. -/
abbrev Row := Fin 1024 → EReal

/-- The mean of a row's squares, plus the constant. -/
def msq (x : Row) : EReal := Ideal.div (∑ k, x k * x k) chans + eps

/-- A row's factor: one over the root. -/
def rms (x : Row) : EReal := Ideal.rsqrt (msq x)

/-- The cotangent through the norm, projected off the normalised row. -/
def off (y x : Row) (j : Fin 1024) : EReal :=
  rms x * (y j - x j * rms x * Ideal.div (∑ k, y k * (x k * rms x)) chans)

/-- The factor the product rule gives each of the two terms of the squares' derivative. -/
def pull (y x : Row) : EReal :=
  Ideal.div ((∑ k, x k * y k) * (mhalf * Ideal.div (rms x) (msq x))) chans

/-- Both forms of the norm's derivative, on real rows. -/
theorem off_eq {y x : Row} (hy : ∀ k, Real' (y k)) (hx : ∀ k, Real' (x k)) (d : EReal) (j : Fin 1024) :
    off y x j + d = d + y j * rms x + x j * pull y x + pull y x * x j := by
  choose y' hy using hy
  choose x' hx using hx
  obtain rfl : y = fun k => (y' k : EReal) := funext hy
  obtain rfl : x = fun k => (x' k : EReal) := funext hx
  obtain ⟨e, he, hee⟩ := eps_pos
  have hs : ∑ k, (x' k : EReal) * (x' k : EReal) = ((∑ k, x' k * x' k : ℝ) : EReal) := by
    rw [← coe_sum]; rfl
  have hu : msq (fun k => (x' k : EReal)) = (((∑ k, x' k * x' k) / 1024 + e : ℝ) : EReal) := by
    unfold msq
    rw [hs, chans_eq, div_coe _ _ (by norm_num), hee, ← EReal.coe_add]
  have hp : 0 < (∑ k, x' k * x' k) / 1024 + e := by
    have : 0 ≤ ∑ k, x' k * x' k := Finset.sum_nonneg fun k _ => mul_self_nonneg _
    positivity
  generalize (∑ k, x' k * x' k) / 1024 + e = u at hu hp
  have hr : rms (fun k => (x' k : EReal)) = (((Real.sqrt u)⁻¹ : ℝ) : EReal) := by
    unfold rms
    rw [hu, Ideal.rsqrt_coe, if_neg (not_lt.mpr hp.le), if_neg hp.ne']
  have hq : (Real.sqrt u)⁻¹ * (Real.sqrt u)⁻¹ = 1 / u := by
    rw [← mul_inv, Real.mul_self_sqrt hp.le, one_div]
  have h1 : off (fun k => (y' k : EReal)) (fun k => (x' k : EReal)) j
      = (((Real.sqrt u)⁻¹ * (y' j - x' j * (Real.sqrt u)⁻¹ * ((∑ k, y' k * (x' k * (Real.sqrt u)⁻¹)) / 1024)) : ℝ) : EReal) := by
    unfold off
    rw [hr, chans_eq]
    rw [show ∑ k, (y' k : EReal) * ((x' k : EReal) * (((Real.sqrt u)⁻¹ : ℝ) : EReal))
        = ((∑ k, y' k * (x' k * (Real.sqrt u)⁻¹) : ℝ) : EReal) from by rw [← coe_sum]; rfl,
      div_coe _ _ (by norm_num)]
    simp only [← EReal.coe_mul, ← EReal.coe_sub]
  have h2 : pull (fun k => (y' k : EReal)) (fun k => (x' k : EReal))
      = (((∑ k, x' k * y' k) * (-(1 / 2) * ((Real.sqrt u)⁻¹ / u)) / 1024 : ℝ) : EReal) := by
    unfold pull
    rw [hr, hu, chans_eq, mhalf_eq, div_coe _ _ hp.ne']
    rw [show ∑ k, (x' k : EReal) * (y' k : EReal) = ((∑ k, x' k * y' k : ℝ) : EReal) from by rw [← coe_sum]; rfl,
      ← EReal.coe_mul, ← EReal.coe_mul, div_coe _ _ (by norm_num)]
  rw [h1, h2, hr, add_comm, add_assoc d, add_assoc d]
  refine congrArg (d + ·) ?_
  have hs : ∑ k, y' k * (x' k * (Real.sqrt u)⁻¹) = (∑ k, x' k * y' k) * (Real.sqrt u)⁻¹ := by
    rw [Finset.sum_mul]; exact Finset.sum_congr rfl fun k _ => by ring
  rw [hs]
  simp only [← EReal.coe_mul, ← EReal.coe_add]
  generalize ∑ k, x' k * y' k = s
  have hc : (Real.sqrt u)⁻¹ * (Real.sqrt u)⁻¹ * (Real.sqrt u)⁻¹ = (Real.sqrt u)⁻¹ / u := by rw [hq]; ring
  generalize (Real.sqrt u)⁻¹ = r at hc
  rw [← hc]
  refine congrArg _ ?_
  ring

end Cert.LatentMath

end
-- ==== Proof.Latent12.lean ====
/- The input projection's backward call over the latent rows, four parts: the projection's and the norm's gradients. -/
module

public import proofs.«01_k».proof.Defs
public import proofs.«01_k».proof.Proof.LatentMath
public import proofs.«01_k».proof.Proof.Gen.Pre_finite12
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise

@[expose] public section

set_option maxRecDepth 16384

noncomputable section

namespace Cert.Latent12

open Idealize.ShloMosaic Idealize.ShloMosaic.TcCoe Idealize.SL.Sem
open Idealize.ShloMosaic.Pipeline (Dat)
open Cert.ConvMath (Real')
open Cert.LatentMath (off off_eq pull rms msq chans mul2 real_of_bit Real'.sum Real'.one)
open Cert.Kernel12Ideal Cert.Kernel12Ideal.Gen
open Cert.Reference12Ideal.Read

variable (m : (ℓ : Loc nD τ sig) → Buf (Elt Ideal) ℓ) (c : Dev nD)

theorem idx : ∀ t : Fin cfg0.N, win0_0.index t = ![0, t.val, 0] ∧ win0_1.index t = ![0, 0] ∧ win0_2.index t = ![t.val, 0] ∧ win0_3.index t = ![t.val, 0]
    ∧ win0_4.index t = ![0, 0] ∧ win0_5.index t = ![0, 0, 0] ∧ win0_6.index t = ![t.val * 2, 0] ∧ win0_7.index t = ![t.val * 2 + 1, 0]
    ∧ win0_8.index t = ![t.val, 0] ∧ win0_9.index t = ![0, 0, 0] ∧ win0_10.index t = ![0, 0, 0] :=
  (by decide +kernel : ∀ t : Fin grid0.N, _)

/-! ## What the body computes, and the reference, index by index -/

section Pay
variable (D : FVec Ideal S512x1024 .f32) (r : FVec Ideal S512x1 .f32) (X : FVec Ideal S512x1024 .f32) (g : FVec Ideal S1x1024 .f32) (s : FVec Ideal S1x1x1024 .f32)

/-- A row of the cotangent scaled by the gain. -/
def gained (D : FVec Ideal S512x1024 .f32) (g : FVec Ideal S1x1024 .f32) (s : FVec Ideal S1x1x1024 .f32) (a : Fin 512) (k : Fin 1024) : EReal :=
  D (ix2 a k) * (g (ix2 0 k) * (1 + s (ix3 0 0 k)))

theorem pay6 (a : Fin 512) (j : Fin 1024) : k0_pay6 (F := Ideal) r X (ix2 a j) = X (ix2 a j) * r (ix2 a 0) := by
  pointwise [k0_pay6, k0_pay5]

theorem pay7 (N : FVec Ideal S512x1024 .f32) (a : Fin 512) (j : Fin 1024) : k0_pay7 (F := Ideal) D r N g s (ix2 a j)
    = r (ix2 a 0) * (gained D g s a j - N (ix2 a j) * Ideal.div (∑ k : Fin 1024, gained D g s a k * N (ix2 a k)) chans) := by
  unfold gained
  pointwise [k0_pay7]

theorem pay8 (N : FVec Ideal S512x1024 .f32) (Q : FVec Ideal S256x1024 .f32) (a : Fin 256) (j : Fin 1024) :
    k0_pay8 (F := Ideal) D r N g s Q (ix2 a j) = k0_pay7 (F := Ideal) D r N g s (ix2 ⟨a.val, by omega⟩ j) + Q (ix2 a j) := by
  pointwise [k0_pay8]

theorem pay9 (N : FVec Ideal S512x1024 .f32) (Q : FVec Ideal S256x1024 .f32) (a : Fin 256) (j : Fin 1024) :
    k0_pay9 (F := Ideal) D r N g s Q (ix2 a j) = k0_pay7 (F := Ideal) D r N g s (ix2 ⟨256 + a.val, by omega⟩ j) + Q (ix2 a j) := by
  pointwise [k0_pay9]

theorem pay2 (N : FVec Ideal S512x1024 .f32) (j : Fin 1024) : k0_pay2 (F := Ideal) (k0_pay13 D N) (ix3 0 0 j) = ∑ k : Fin 512, D (ix2 k j) * N (ix2 k j) := by
  pointwise [k0_pay2, k0_pay1, k0_pay13]

theorem pay3 (N : FVec Ideal S512x1024 .f32) (A : FVec Ideal S1x1x1024 .f32) (j : Fin 1024) :
    k0_pay3 (F := Ideal) (k0_pay13 D N) A (ix3 0 0 j) = A (ix3 0 0 j) + ∑ k : Fin 512, D (ix2 k j) * N (ix2 k j) := by
  pointwise [k0_pay3, k0_pay1, k0_pay13]

theorem pay11 (j : Fin 1024) : k0_pay11 (F := Ideal) D (ix3 0 0 j) = ∑ k : Fin 512, D (ix2 k j) := by
  pointwise [k0_pay11, k0_pay10]

theorem pay12 (A : FVec Ideal S1x1x1024 .f32) (j : Fin 1024) : k0_pay12 (F := Ideal) D A (ix3 0 0 j) = A (ix3 0 0 j) + ∑ k : Fin 512, D (ix2 k j) := by
  pointwise [k0_pay12, k0_pay10]

theorem pay4 (P0 P1 P2 P3 : FVec Ideal S1x512x1024 .bf16) (W0 W1 W2 W3 : FVec Ideal S1024x1024 .bf16) (a : Fin 512) (j : Fin 1024) :
    k0_pay4 (F := Ideal) P0 W0 P1 W1 P2 W2 P3 W3 (ix2 a j) = (∑ k : Fin 1024, P0 (ix3 0 a k) * W0 (ix2 j k)) + (∑ k : Fin 1024, P1 (ix3 0 a k) * W1 (ix2 j k))
      + (∑ k : Fin 1024, P2 (ix3 0 a k) * W2 (ix2 j k)) + (∑ k : Fin 1024, P3 (ix3 0 a k) * W3 (ix2 j k)) := by
  pointwise [k0_pay4]
end Pay

section Ref
variable (x0 : FVec Ideal Reference12Ideal.S4x2048x1024 .bf16) (x1 : FVec Ideal Reference12Ideal.S1024x4096 .bf16) (x2 : FVec Ideal Reference12Ideal.S2048x1024 .f32)
  (x3 : FVec Ideal Reference12Ideal.S1x1024 .f32) (x4 : FVec Ideal Reference12Ideal.S1x1x1024 .f32) (x5 : FVec Ideal Reference12Ideal.S2048x1024 .f32)

/-- The cotangent of the projection's operand, part by part. -/
def dh (r : Fin 2048) (j : Fin 1024) : EReal :=
  ∑ q : Fin 4, ∑ k : Fin 1024, x0 (ix3 q r k) * x1 (ix2 j ⟨q.val * 1024 + k.val, by omega⟩)

theorem v29_at (r : Fin 2048) (j : Fin 1024) : val_main_v29 (F := Ideal) x0 x1 (ix2 r j) = dh x0 x1 r j := by
  pointwise [val_main_v29, val_main_v28, val_main_v27, val_main_v26, val_main_v0]
  refine (Fin.sum_mul_add_congr (S := 4) (n := 1024) (L := 4096) fun q k hl => ?_).symm
  refine mul2 (congrArg x0 ?_) rfl
  rw [show (⟨(q.val * 1024 + k.val) / 1024, by omega⟩ : Fin 4) = q from Fin.ext (by show (q.val * 1024 + k.val) / 1024 = q.val; omega),
    show (⟨(q.val * 1024 + k.val) % 1024, by omega⟩ : Fin 1024) = k from Fin.ext (by show (q.val * 1024 + k.val) % 1024 = k.val; omega)]

theorem v13_at (r : Fin 2048) : val_main_v13 (F := Ideal) x2 (ix2 r 0) = rms (fun k => x2 (ix2 r k)) := by
  unfold rms msq
  pointwise [val_main_v13, val_main_v12, val_main_v11, val_main_cst_3, val_main_v10, val_main_v9, val_main_cst_2, val_main_v8, val_main_v7, val_main_cst_1, val_main_v6]

theorem v12_at (r : Fin 2048) : val_main_v12 (F := Ideal) x2 (ix2 r 0) = msq (fun k => x2 (ix2 r k)) := by
  unfold msq
  pointwise [val_main_v12, val_main_v11, val_main_cst_3, val_main_v10, val_main_v9, val_main_cst_2, val_main_v8, val_main_v7, val_main_cst_1, val_main_v6]

/-- A row of the cotangent scaled by the row's gain. -/
def up (r : Fin 2048) (k : Fin 1024) : EReal := dh x0 x1 r k * (x3 (ix2 0 k) * (1 + x4 (ix3 0 0 k)))

theorem v52_at (r : Fin 2048) (j : Fin 1024) : val_main_v52 (F := Ideal) x0 x1 x2 x3 x4 x5 (ix2 r j)
    = x5 (ix2 r j) + up x0 x1 x3 x4 r j * rms (fun k => x2 (ix2 r k)) + x2 (ix2 r j) * pull (up x0 x1 x3 x4 r) (fun k => x2 (ix2 r k))
      + pull (up x0 x1 x3 x4 r) (fun k => x2 (ix2 r k)) * x2 (ix2 r j) := by
  pointwise [val_main_v52, val_main_v51, val_main_v50, val_main_v49, val_main_v48, val_main_v47, val_main_cst_9, val_main_v46, val_main_v45, val_main_cst_8,
    val_main_v44, val_main_v43, val_main_v42, val_main_v41, val_main_v40, val_main_v39, val_main_cst_7, val_main_v38, val_main_v34, val_main_v20, val_main_v19,
    val_main_v4, val_main_v3, val_main_v2, val_main_v1, val_main_cst, val_main_v16, val_main_v15, val_main_cst_4, val_main_v14]
  simp only [Fin.sum_univ_one, v29_at, v13_at, v12_at]
  rfl
theorem v32_at (j : Fin 1024) : val_main_v32 (F := Ideal) x0 x1 (ix3 0 0 j) = ∑ k : Fin 2048, val_main_v29 (F := Ideal) x0 x1 (ix2 k j) := by
  pointwise [val_main_v32, val_main_v31, val_main_v30, val_main_cst_5]
theorem v37_at (j : Fin 1024) : val_main_v37 (F := Ideal) x0 x1 x2 (ix3 0 0 j) = ∑ k : Fin 2048, x2 (ix2 k j) * val_main_v13 (F := Ideal) x2 (ix2 k 0) * val_main_v29 (F := Ideal) x0 x1 (ix2 k j) := by
  pointwise [val_main_v37, val_main_v36, val_main_v35, val_main_cst_6, val_main_v33, val_main_v18, val_main_v17]
end Ref

/-! ## The result arrays -/

abbrev A0 : FVec Ideal S4x2048x1024 .bf16 := m ((c : Thread nD τ).loc main_arg0)
abbrev A1 : FVec Ideal S1024x4096 .bf16 := m ((c : Thread nD τ).loc main_arg1)
abbrev A2 : FVec Ideal S2048x1024 .f32 := m ((c : Thread nD τ).loc main_arg2)
abbrev A3 : FVec Ideal S1x1024 .f32 := m ((c : Thread nD τ).loc main_arg3)
abbrev A4 : FVec Ideal S1x1x1024 .f32 := m ((c : Thread nD τ).loc main_arg4)
abbrev A5 : FVec Ideal S2048x1024 .f32 := m ((c : Thread nD τ).loc main_arg5)

abbrev b0 (t : Fin cfg0.N) : FVec Ideal S4x512x1024 .bf16 := iblk m c 0 t
abbrev b1 (t : Fin cfg0.N) : FVec Ideal S1024x4096 .bf16 := iblk m c 1 t
abbrev b2 (t : Fin cfg0.N) : FVec Ideal S512x1024 .f32 := iblk m c 2 t
abbrev b3 (t : Fin cfg0.N) : FVec Ideal S512x1 .f32 := iblk m c 3 t
abbrev b4 (t : Fin cfg0.N) : FVec Ideal S1x1024 .f32 := iblk m c 4 t
abbrev b5 (t : Fin cfg0.N) : FVec Ideal S1x1x1024 .f32 := iblk m c 5 t
abbrev b6 (t : Fin cfg0.N) : FVec Ideal S256x1024 .f32 := iblk m c 6 t
abbrev b7 (t : Fin cfg0.N) : FVec Ideal S256x1024 .f32 := iblk m c 7 t

theorem V_factor : V m c main_v7 = val_main_v13 (F := Ideal) (A2 m c) := by
  unfold V
  after_results
  rfl

abbrev p0 (t : Fin cfg0.N) : FVec Ideal S1x512x1024 .bf16 := View.ld (Val := Elt Ideal) (S := S4x512x1024) (e' := .bf16) (b0 m c t) (Rect.unit (s := S4x512x1024) ![0, 0, 0] ![1, 512, 1024] inb_S4x512x1024_S1x512x1024_0_0_0)
abbrev p1 (t : Fin cfg0.N) : FVec Ideal S1x512x1024 .bf16 := View.ld (Val := Elt Ideal) (S := S4x512x1024) (e' := .bf16) (b0 m c t) (Rect.unit (s := S4x512x1024) ![1, 0, 0] ![1, 512, 1024] inb_S4x512x1024_S1x512x1024_1_0_0)
abbrev p2 (t : Fin cfg0.N) : FVec Ideal S1x512x1024 .bf16 := View.ld (Val := Elt Ideal) (S := S4x512x1024) (e' := .bf16) (b0 m c t) (Rect.unit (s := S4x512x1024) ![2, 0, 0] ![1, 512, 1024] inb_S4x512x1024_S1x512x1024_2_0_0)
abbrev p3 (t : Fin cfg0.N) : FVec Ideal S1x512x1024 .bf16 := View.ld (Val := Elt Ideal) (S := S4x512x1024) (e' := .bf16) (b0 m c t) (Rect.unit (s := S4x512x1024) ![3, 0, 0] ![1, 512, 1024] inb_S4x512x1024_S1x512x1024_3_0_0)
abbrev w0 (t : Fin cfg0.N) : FVec Ideal S1024x1024 .bf16 := View.ld (Val := Elt Ideal) (S := S1024x4096) (e' := .bf16) (b1 m c t) (Rect.unit (s := S1024x4096) ![0, 0] ![1024, 1024] inb_S1024x4096_S1024x1024_0_0)
abbrev w1 (t : Fin cfg0.N) : FVec Ideal S1024x1024 .bf16 := View.ld (Val := Elt Ideal) (S := S1024x4096) (e' := .bf16) (b1 m c t) (Rect.unit (s := S1024x4096) ![0, 1024] ![1024, 1024] inb_S1024x4096_S1024x1024_0_1024)
abbrev w2 (t : Fin cfg0.N) : FVec Ideal S1024x1024 .bf16 := View.ld (Val := Elt Ideal) (S := S1024x4096) (e' := .bf16) (b1 m c t) (Rect.unit (s := S1024x4096) ![0, 2048] ![1024, 1024] inb_S1024x4096_S1024x1024_0_2048)
abbrev w3 (t : Fin cfg0.N) : FVec Ideal S1024x1024 .bf16 := View.ld (Val := Elt Ideal) (S := S1024x4096) (e' := .bf16) (b1 m c t) (Rect.unit (s := S1024x4096) ![0, 3072] ![1024, 1024] inb_S1024x4096_S1024x1024_0_3072)

/-- The block's rows of the projection's cotangent. -/
abbrev bD (t : Fin cfg0.N) : FVec Ideal S512x1024 .f32 :=
  k0_pay4 (F := Ideal) (p0 m c t) (w0 m c t) (p1 m c t) (w1 m c t) (p2 m c t) (w2 m c t) (p3 m c t) (w3 m c t)

theorem blkp0 (t : Fin cfg0.N) (r : Fin 512) (k : Fin 1024) : p0 m c t (ix3 0 r k) = A0 m c (ix3 0 ⟨t.val * 512 + r.val, by have : t.val < 4 := t.isLt; omega⟩ k) := by
  blk_ext! [p0, b0, iblk, V, idx t]
theorem blkp1 (t : Fin cfg0.N) (r : Fin 512) (k : Fin 1024) : p1 m c t (ix3 0 r k) = A0 m c (ix3 1 ⟨t.val * 512 + r.val, by have : t.val < 4 := t.isLt; omega⟩ k) := by
  blk_ext! [p1, b0, iblk, V, idx t]
theorem blkp2 (t : Fin cfg0.N) (r : Fin 512) (k : Fin 1024) : p2 m c t (ix3 0 r k) = A0 m c (ix3 2 ⟨t.val * 512 + r.val, by have : t.val < 4 := t.isLt; omega⟩ k) := by
  blk_ext! [p2, b0, iblk, V, idx t]
theorem blkp3 (t : Fin cfg0.N) (r : Fin 512) (k : Fin 1024) : p3 m c t (ix3 0 r k) = A0 m c (ix3 3 ⟨t.val * 512 + r.val, by have : t.val < 4 := t.isLt; omega⟩ k) := by
  blk_ext! [p3, b0, iblk, V, idx t]
theorem blkw0 (t : Fin cfg0.N) (j k : Fin 1024) : w0 m c t (ix2 j k) = A1 m c (ix2 j ⟨0 * 1024 + k.val, by omega⟩) := by
  blk_ext! [w0, b1, iblk, V, idx t]
theorem blkw1 (t : Fin cfg0.N) (j k : Fin 1024) : w1 m c t (ix2 j k) = A1 m c (ix2 j ⟨1 * 1024 + k.val, by omega⟩) := by
  blk_ext! [w1, b1, iblk, V, idx t]
theorem blkw2 (t : Fin cfg0.N) (j k : Fin 1024) : w2 m c t (ix2 j k) = A1 m c (ix2 j ⟨2 * 1024 + k.val, by omega⟩) := by
  blk_ext! [w2, b1, iblk, V, idx t]
theorem blkw3 (t : Fin cfg0.N) (j k : Fin 1024) : w3 m c t (ix2 j k) = A1 m c (ix2 j ⟨3 * 1024 + k.val, by omega⟩) := by
  blk_ext! [w3, b1, iblk, V, idx t]
theorem blk2 (t : Fin cfg0.N) (r : Fin 512) (j : Fin 1024) : b2 m c t (ix2 r j) = A2 m c (ix2 ⟨t.val * 512 + r.val, by have : t.val < 4 := t.isLt; omega⟩ j) := by
  blk_ext! [b2, iblk, V, idx t]
theorem blk3 (t : Fin cfg0.N) (r : Fin 512) : b3 m c t (ix2 r 0) = val_main_v13 (F := Ideal) (A2 m c) (ix2 ⟨t.val * 512 + r.val, by have : t.val < 4 := t.isLt; omega⟩ 0) := by
  have e : V m c (Pipeline.arrRef spec0 3) = val_main_v13 (F := Ideal) (A2 m c) := V_factor m c
  unfold b3 iblk
  rw [e]
  generalize val_main_v13 (F := Ideal) (A2 m c) = X
  blk_ext! [idx t]
theorem blk4 (t : Fin cfg0.N) (j : Fin 1024) : b4 m c t (ix2 0 j) = A3 m c (ix2 0 j) := by
  blk_ext! [b4, iblk, V, idx t]
theorem blk5 (t : Fin cfg0.N) (j : Fin 1024) : b5 m c t (ix3 0 0 j) = A4 m c (ix3 0 0 j) := by
  blk_ext! [b5, iblk, V, idx t]
theorem blk6 (t : Fin cfg0.N) (r : Fin 256) (j : Fin 1024) : b6 m c t (ix2 r j) = A5 m c (ix2 ⟨t.val * 512 + r.val, by have : t.val < 4 := t.isLt; omega⟩ j) := by
  blk_ext! [b6, iblk, V, idx t]
theorem blk7 (t : Fin cfg0.N) (r : Fin 256) (j : Fin 1024) : b7 m c t (ix2 r j) = A5 m c (ix2 ⟨t.val * 512 + (256 + r.val), by have : t.val < 4 := t.isLt; omega⟩ j) := by
  blk_ext! [b7, iblk, V, idx t]

theorem early (t : Fin cfg0.N) (h : t.val % 4 = 0) : ¬1 ≤ t.val := by
  have : t.val < 4 := t.isLt
  omega

theorem late (t : Fin cfg0.N) (h : ¬t.val % 4 = 0) : 1 ≤ t.val := by
  omega

/-- The row of the latents a block's row is. -/
abbrev at_ (t : Fin cfg0.N) (r : Fin 512) : Fin 2048 := ⟨t.val * 512 + r.val, by have : t.val < 4 := t.isLt; omega⟩

/-- The block's normalised rows. -/
abbrev bN (t : Fin cfg0.N) : FVec Ideal S512x1024 .f32 := k0_pay6 (F := Ideal) (b3 m c t) (b2 m c t)

/-- A row of the latents. -/
abbrev xrow (r : Fin 2048) (k : Fin 1024) : EReal := A2 m c (ix2 r k)

theorem bD_at (t : Fin cfg0.N) (r : Fin 512) (j : Fin 1024) : bD m c t (ix2 r j) = dh (A0 m c) (A1 m c) (at_ t r) j := by
  refine (pay4 _ _ _ _ _ _ _ _ r j).trans ?_
  unfold dh
  rw [Fin.sum_univ_four]
  refine congrArg₂ (· + ·) (congrArg₂ (· + ·) (congrArg₂ (· + ·) ?_ ?_) ?_) ?_
  · exact Finset.sum_congr rfl fun k _ => mul2 (blkp0 m c t r k) (blkw0 m c t j k)
  · exact Finset.sum_congr rfl fun k _ => mul2 (blkp1 m c t r k) (blkw1 m c t j k)
  · exact Finset.sum_congr rfl fun k _ => mul2 (blkp2 m c t r k) (blkw2 m c t j k)
  · exact Finset.sum_congr rfl fun k _ => mul2 (blkp3 m c t r k) (blkw3 m c t j k)

theorem bN_at (t : Fin cfg0.N) (r : Fin 512) (j : Fin 1024) : bN m c t (ix2 r j) = xrow m c (at_ t r) j * rms (xrow m c (at_ t r)) :=
  (pay6 _ _ r j).trans (mul2 (blk2 m c t r j) ((blk3 m c t r).trans (v13_at _ _)))

theorem gained_at (t : Fin cfg0.N) (r : Fin 512) (j : Fin 1024) :
    gained (bD m c t) (b4 m c t) (b5 m c t) r j = up (A0 m c) (A1 m c) (A3 m c) (A4 m c) (at_ t r) j := by
  unfold gained up
  rw [bD_at, blk4, blk5]

theorem pay7_at (t : Fin cfg0.N) (r : Fin 512) (j : Fin 1024) :
    k0_pay7 (F := Ideal) (bD m c t) (k0_pay5 (b3 m c t)) (bN m c t) (b4 m c t) (b5 m c t) (ix2 r j)
      = off (up (A0 m c) (A1 m c) (A3 m c) (A4 m c) (at_ t r)) (xrow m c (at_ t r)) j := by
  rw [pay7]
  unfold off
  refine mul2 ?_ ?_
  · refine Eq.trans ?_ ((blk3 m c t r).trans (v13_at _ _))
    pointwise [k0_pay5]
  · rw [gained_at, bN_at]
    rw [Finset.sum_congr rfl fun k _ => mul2 (gained_at m c t r k) (bN_at m c t r k)]

theorem out8 (t : Fin cfg0.N) (r : Fin 512) (j : Fin 1024) : (outsAt0 m c t.val t.isLt).1 (ix2 r j)
    = off (up (A0 m c) (A1 m c) (A3 m c) (A4 m c) (at_ t r)) (xrow m c (at_ t r)) j + A5 m c (ix2 (at_ t r) j) := by
  have hx : ∀ x : S256x1024.Idx, ∃ a b, x = ix2 (n0 := 256) (n1 := 1024) a b := fun x => ⟨_, _, (ix2_eta x).symm⟩
  by_cases h : t.val % 4 = 0
  · rw [outsAt0_A m c t h (early t h) h (early t h)]; frame_out
    clear h
    canon_tiles x h
    all_goals
      obtain ⟨a, b, rfl⟩ := hx x
      obtain rfl : j = b := Fin.ext h1
    · obtain rfl : r = ⟨256 + a.val, Nat.add_lt_add_left a.isLt 256⟩ := Fin.ext h0
      exact (pay9 _ _ _ _ _ _ a j).trans (congrArg₂ (· + ·) (pay7_at m c t _ j) (blk7 m c t a j))
    · obtain rfl : r = ⟨a.val, Nat.lt_trans a.isLt (by decide)⟩ := Fin.ext h0
      exact (pay8 _ _ _ _ _ _ a j).trans (congrArg₂ (· + ·) (pay7_at m c t _ j) (blk6 m c t a j))
  · rw [outsAt0_B m c t h (late t h) h (late t h)]; frame_out
    clear h
    canon_tiles x h
    all_goals
      obtain ⟨a, b, rfl⟩ := hx x
      obtain rfl : j = b := Fin.ext h1
    · obtain rfl : r = ⟨256 + a.val, Nat.add_lt_add_left a.isLt 256⟩ := Fin.ext h0
      exact (pay9 _ _ _ _ _ _ a j).trans (congrArg₂ (· + ·) (pay7_at m c t _ j) (blk7 m c t a j))
    · obtain rfl : r = ⟨a.val, Nat.lt_trans a.isLt (by decide)⟩ := Fin.ext h0
      exact (pay8 _ _ _ _ _ _ a j).trans (congrArg₂ (· + ·) (pay7_at m c t _ j) (blk6 m c t a j))

theorem final8 (hy : ∀ r k, Real' (up (A0 m c) (A1 m c) (A3 m c) (A4 m c) r k)) (hx : ∀ r k, Real' (xrow m c r k)) :
    (dats m 0 c).arrAt 8 cfg0.N = val_main_v52 (F := Ideal) (A0 m c) (A1 m c) (A2 m c) (A3 m c) (A4 m c) (A5 m c) := by
  refine (dats m 0 c).arrAt_eq_of_covers 8 _ (by decide +kernel) fun t _ y => ?_
  obtain ⟨i, j, rfl⟩ : ∃ i j, y = ix2 (n0 := 512) (n1 := 1024) i j := ⟨_, _, (ix2_eta y).symm⟩
  blk_simp
  rw [after0_8]
  refine (out8 m c t i j).trans ((off_eq (hy _) (hx _) _ j).trans
    ((v52_at (A0 m c) (A1 m c) (A2 m c) (A3 m c) (A4 m c) (A5 m c) (at_ t i) j).symm.trans ?_))
  have ht : t.val < 4 := t.isLt
  generalize val_main_v52 (F := Ideal) (A0 m c) (A1 m c) (A2 m c) (A3 m c) (A4 m c) (A5 m c) = X
  blk_ext! [idx t]

theorem row (j : S1x1x1024.Idx) : ∃ l : Fin 1024, j = ix3 (n0 := 1) (n1 := 1) (n2 := 1024) 0 0 l :=
  ⟨j 2, (ix3_eta j).symm.trans (by
    rw [show j 0 = (0 : Fin 1) from Subsingleton.elim (α := Fin 1) _ _, show j 1 = (0 : Fin 1) from Subsingleton.elim (α := Fin 1) _ _])⟩

/-- What a point adds to the shift's gradient. -/
def part9 (t : Fin cfg0.N) (j : S1x1x1024.Idx) : EReal := ∑ k : Fin 512, (bD m c t (ix2 k (j 2)) : EReal)

/-- What a point adds to the gain's gradient. -/
def part10 (t : Fin cfg0.N) (j : S1x1x1024.Idx) : EReal := ∑ k : Fin 512, (bD m c t (ix2 k (j 2)) : EReal) * (bN m c t (ix2 k (j 2)) : EReal)

theorem out9_first (t : Fin cfg0.N) (h : t.val % 4 = 0) (j : S1x1x1024.Idx) : (outsAt0 m c t.val t.isLt).2.1 j = 0 + part9 m c t j := by
  rw [outsAt0_A m c t h (early t h) h (early t h)]; frame_out
  obtain ⟨l, rfl⟩ := row j
  rw [zero_add]
  exact pay11 _ _

theorem out9_next (t : Fin cfg0.N) (h : ¬t.val % 4 = 0) (j : S1x1x1024.Idx) :
    (outsAt0 m c t.val t.isLt).2.1 j = (outsAt0 m c (t.val - 1) (Nat.lt_of_le_of_lt (Nat.sub_le _ _) t.isLt)).2.1 j + part9 m c t j := by
  rw [outsAt0_B m c t h (late t h) h (late t h)]; frame_out
  obtain ⟨l, rfl⟩ := row j
  exact pay12 _ _ _

theorem out10_first (t : Fin cfg0.N) (h : t.val % 4 = 0) (j : S1x1x1024.Idx) : (outsAt0 m c t.val t.isLt).2.2 j = 0 + part10 m c t j := by
  rw [outsAt0_A m c t h (early t h) h (early t h)]; frame_out
  obtain ⟨l, rfl⟩ := row j
  rw [zero_add]
  exact pay2 _ _ _

theorem out10_next (t : Fin cfg0.N) (h : ¬t.val % 4 = 0) (j : S1x1x1024.Idx) :
    (outsAt0 m c t.val t.isLt).2.2 j = (outsAt0 m c (t.val - 1) (Nat.lt_of_le_of_lt (Nat.sub_le _ _) t.isLt)).2.2 j + part10 m c t j := by
  rw [outsAt0_B m c t h (late t h) h (late t h)]; frame_out
  obtain ⟨l, rfl⟩ := row j
  exact pay3 _ _ _ _

theorem final9 : (dats m 0 c).arrAt 9 cfg0.N = val_main_v32 (F := Ideal) (A0 m c) (A1 m c) := by
  refine (dats m 0 c).arrAt_eq_of_after_last 9 t0_3 (by decide +kernel) _ fun j => ?_
  blk_simp
  rw [after0_9]
  refine (Pipeline.eq_sum_fin_of_reset_step_apply_last (fun n h => (outsAt0 m c n h).2.1) 4 (fun _ => (0 : EReal)) (part9 m c)
    (out9_first m c) (out9_next m c) (le_of_eq N_0) t0_3 rfl j).trans ?_
  obtain ⟨l, rfl⟩ := row j
  rw [zero_add, v32_at]
  refine Fin.sum_mul_add_congr (S := 4) (n := 512) (L := 2048) fun s k hl => ?_
  exact (bD_at m c s k l).trans (v29_at _ _ _ _).symm

theorem final10 : (dats m 0 c).arrAt 10 cfg0.N = val_main_v37 (F := Ideal) (A0 m c) (A1 m c) (A2 m c) := by
  refine (dats m 0 c).arrAt_eq_of_after_last 10 t0_3 (by decide +kernel) _ fun j => ?_
  blk_simp
  rw [after0_10]
  refine (Pipeline.eq_sum_fin_of_reset_step_apply_last (fun n h => (outsAt0 m c n h).2.2) 4 (fun _ => (0 : EReal)) (part10 m c)
    (out10_first m c) (out10_next m c) (le_of_eq N_0) t0_3 rfl j).trans ?_
  obtain ⟨l, rfl⟩ := row j
  rw [zero_add, v37_at]
  refine Fin.sum_mul_add_congr (S := 4) (n := 512) (L := 2048) fun s k hl => ?_
  refine (mul_comm _ _).trans (mul2 ((bN_at m c s k l).trans (mul2 rfl (v13_at _ _).symm)) ((bD_at m c s k l).trans (v29_at _ _ _ _).symm))

/-! ## The precondition, and the claim -/

section Pre
variable (x0 : FVec Ideal Pre_finite12.S4x2048x1024 .bf16) (x1 : FVec Ideal Pre_finite12.S1024x4096 .bf16) (x2 : FVec Ideal Pre_finite12.S2048x1024 .f32)
  (x3 : FVec Ideal Pre_finite12.S1x1024 .f32) (x4 : FVec Ideal Pre_finite12.S1x1x1024 .f32) (x5 : FVec Ideal Pre_finite12.S2048x1024 .f32)

theorem real0 (h : (Pre_finite12.fn (F := Ideal) x0 x1 x2 x3 x4 x5).1 = fun _ => 1#1) (q : Fin 4) (r : Fin 2048) (k : Fin 1024) : Real' (x0 (ix3 q r k)) := by
  refine real_of_bit (Eq.trans ?_ (congrFun h (ix3 q r k)))
  pointwise [Pre_finite12.fn]
  rfl

theorem real1 (h : (Pre_finite12.fn (F := Ideal) x0 x1 x2 x3 x4 x5).2.1 = fun _ => 1#1) (r : Fin 1024) (k : Fin 4096) : Real' (x1 (ix2 r k)) := by
  refine real_of_bit (Eq.trans ?_ (congrFun h (ix2 r k)))
  pointwise [Pre_finite12.fn]
  rfl

theorem real2 (h : (Pre_finite12.fn (F := Ideal) x0 x1 x2 x3 x4 x5).2.2.1 = fun _ => 1#1) (r : Fin 2048) (k : Fin 1024) : Real' (x2 (ix2 r k)) := by
  refine real_of_bit (Eq.trans ?_ (congrFun h (ix2 r k)))
  pointwise [Pre_finite12.fn]
  rfl

theorem real3 (h : (Pre_finite12.fn (F := Ideal) x0 x1 x2 x3 x4 x5).2.2.2.1 = fun _ => 1#1) (k : Fin 1024) : Real' (x3 (ix2 0 k)) := by
  refine real_of_bit (Eq.trans ?_ (congrFun h (ix2 0 k)))
  pointwise [Pre_finite12.fn]
  rfl

theorem real4 (h : (Pre_finite12.fn (F := Ideal) x0 x1 x2 x3 x4 x5).2.2.2.2 = fun _ => 1#1) (k : Fin 1024) : Real' (x4 (ix3 0 0 k)) := by
  refine real_of_bit (Eq.trans ?_ (congrFun h (ix3 0 0 k)))
  pointwise [Pre_finite12.fn]
  rfl

theorem real_up (h0 : ∀ q r k, Real' (x0 (ix3 q r k))) (h1 : ∀ j k, Real' (x1 (ix2 j k))) (h3 : ∀ k, Real' (x3 (ix2 0 k))) (h4 : ∀ k, Real' (x4 (ix3 0 0 k)))
    (r : Fin 2048) (k : Fin 1024) : Real' (up x0 x1 x3 x4 r k) :=
  (Real'.sum fun q => Real'.sum fun l => (h0 q r l).mul (h1 k _)).mul ((h3 k).mul (Real'.one.add (h4 k)))
end Pre

theorem algebraic : Cert.algebraic_Kernel12Ideal_Reference12Ideal_pre_finite12 := by
  pair_intro
  · run_from Cert.Kernel12Ideal.Value.run_blocks m g
  · refine Idealize.ShloMosaic.θ_run_mono (Cert.Reference12Ideal.Value.run m' g') ?_
    intro r hr c
    obtain ⟨e0, e1, e2, e3, e4, e5⟩ := hagree c
    obtain ⟨h0, h1, h2, h3, h4⟩ := hpre c
    have q8 : val_main_v52 (F := Ideal) (A0 m c) (A1 m c) (A2 m c) (A3 m c) (A4 m c) (A5 m c) = (dats m 0 c).arrAt 8 cfg0.N :=
      (final8 m c (real_up _ _ _ _ (real0 _ _ _ _ _ _ h0) (real1 _ _ _ _ _ _ h1) (real3 _ _ _ _ _ _ h3) (real4 _ _ _ _ _ _ h4)) (real2 _ _ _ _ _ _ h2)).symm
    have q9 : val_main_v32 (F := Ideal) (A0 m c) (A1 m c) = (dats m 0 c).arrAt 9 cfg0.N := (final9 m c).symm
    have q10 : val_main_v37 (F := Ideal) (A0 m c) (A1 m c) (A2 m c) = (dats m 0 c).arrAt 10 cfg0.N := (final10 m c).symm
    refine ⟨(hr c).1.trans ?_, (hr c).2.1.trans ?_, (hr c).2.2.1.trans ?_, (hr c).2.2.2⟩
    · refine (Reference12Ideal.Read.val_main_v52_eq _ _).trans ?_
      rw [e0, e1, e2, e3, e4, e5]
      exact q8
    · refine (Reference12Ideal.Read.val_main_v32_eq _ _).trans ?_
      rw [e0, e1]
      exact q9
    · refine (Reference12Ideal.Read.val_main_v37_eq _ _ _).trans ?_
      rw [e0, e1, e2]
      exact q10

theorem frame_reference : Cert.quiescent_Reference12Ideal := fun m g _ =>
  (θ_run Reference12Ideal.defs _ _).mono (fun r h => ⟨fun c => (h c).2.2.2, sem_eq_zero_of_no_sems (by decide) r.2⟩) (Reference12Ideal.Value.run m g)

end Cert.Latent12

end
-- ==== Proof.Latent13.lean ====
/- The input projection's backward call over the third level's rows, two parts: the projection's and the norm's gradients. -/
module

public import proofs.«01_k».proof.Defs
public import proofs.«01_k».proof.Proof.LatentMath
public import proofs.«01_k».proof.Proof.Gen.Pre_finite13
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise

@[expose] public section

set_option maxRecDepth 16384

noncomputable section

namespace Cert.Latent13

open Idealize.ShloMosaic Idealize.ShloMosaic.TcCoe Idealize.SL.Sem
open Idealize.ShloMosaic.Pipeline (Dat)
open Cert.ConvMath (Real')
open Cert.LatentMath (off off_eq pull rms msq chans mul2 real_of_bit Real'.sum Real'.one)
open Cert.Kernel13Ideal Cert.Kernel13Ideal.Gen
open Cert.Reference13Ideal.Read

variable (m : (ℓ : Loc nD τ sig) → Buf (Elt Ideal) ℓ) (c : Dev nD)

theorem idx : ∀ t : Fin cfg0.N, win0_0.index t = ![0, t.val, 0] ∧ win0_1.index t = ![0, 0] ∧ win0_2.index t = ![t.val, 0] ∧ win0_3.index t = ![t.val, 0]
    ∧ win0_4.index t = ![0, 0] ∧ win0_5.index t = ![0, 0, 0] ∧ win0_6.index t = ![t.val * 2, 0] ∧ win0_7.index t = ![t.val * 2 + 1, 0]
    ∧ win0_8.index t = ![t.val, 0] ∧ win0_9.index t = ![0, 0, 0] ∧ win0_10.index t = ![0, 0, 0] :=
  (by decide +kernel : ∀ t : Fin grid0.N, _)

/-! ## What the body computes, and the reference, index by index -/

section Pay
variable (D : FVec Ideal S512x1024 .f32) (r : FVec Ideal S512x1 .f32) (X : FVec Ideal S512x1024 .f32) (g : FVec Ideal S1x1024 .f32) (s : FVec Ideal S1x1x1024 .f32)

/-- A row of the cotangent scaled by the gain. -/
def gained (D : FVec Ideal S512x1024 .f32) (g : FVec Ideal S1x1024 .f32) (s : FVec Ideal S1x1x1024 .f32) (a : Fin 512) (k : Fin 1024) : EReal :=
  D (ix2 a k) * (g (ix2 0 k) * (1 + s (ix3 0 0 k)))

theorem pay12 (a : Fin 512) (j : Fin 1024) : k0_pay12 (F := Ideal) r X (ix2 a j) = X (ix2 a j) * r (ix2 a 0) := by
  pointwise [k0_pay12, k0_pay11]

theorem pay13 (P0 P1 : FVec Ideal S1x512x1024 .bf16) (W0 W1 : FVec Ideal S1024x1024 .bf16) (a : Fin 512) (j : Fin 1024) :
    k0_pay1 (F := Ideal) (k0_pay13 P0 W0 P1 W1 r X g s) (k0_pay14 r) (ix2 a j)
    = r (ix2 a 0) * (gained (k0_pay10 P0 W0 P1 W1) g s a j
      - k0_pay12 (F := Ideal) r X (ix2 a j) * Ideal.div (∑ k : Fin 1024, gained (k0_pay10 P0 W0 P1 W1) g s a k * k0_pay12 (F := Ideal) r X (ix2 a k)) chans) := by
  unfold gained
  pointwise [k0_pay1, k0_pay13, k0_pay14, k0_pay11]

theorem pay2 (E f : FVec Ideal S512x1024 .f32) (Q : FVec Ideal S256x1024 .f32) (a : Fin 256) (j : Fin 1024) :
    k0_pay2 (F := Ideal) E f Q (ix2 a j) = k0_pay1 (F := Ideal) E f (ix2 ⟨a.val, by omega⟩ j) + Q (ix2 a j) := by
  pointwise [k0_pay2]

theorem pay3 (E f : FVec Ideal S512x1024 .f32) (Q : FVec Ideal S256x1024 .f32) (a : Fin 256) (j : Fin 1024) :
    k0_pay3 (F := Ideal) E f Q (ix2 a j) = k0_pay1 (F := Ideal) E f (ix2 ⟨256 + a.val, by omega⟩ j) + Q (ix2 a j) := by
  pointwise [k0_pay3]

theorem pay8 (N : FVec Ideal S512x1024 .f32) (j : Fin 1024) : k0_pay8 (F := Ideal) D N (ix3 0 0 j) = ∑ k : Fin 512, D (ix2 k j) * N (ix2 k j) := by
  pointwise [k0_pay8, k0_pay7]

theorem pay9 (N : FVec Ideal S512x1024 .f32) (A : FVec Ideal S1x1x1024 .f32) (j : Fin 1024) :
    k0_pay9 (F := Ideal) D N A (ix3 0 0 j) = A (ix3 0 0 j) + ∑ k : Fin 512, D (ix2 k j) * N (ix2 k j) := by
  pointwise [k0_pay9, k0_pay7]

theorem pay5 (j : Fin 1024) : k0_pay5 (F := Ideal) D (ix3 0 0 j) = ∑ k : Fin 512, D (ix2 k j) := by
  pointwise [k0_pay5, k0_pay4]

theorem pay6 (A : FVec Ideal S1x1x1024 .f32) (j : Fin 1024) : k0_pay6 (F := Ideal) D A (ix3 0 0 j) = A (ix3 0 0 j) + ∑ k : Fin 512, D (ix2 k j) := by
  pointwise [k0_pay6, k0_pay4]

theorem pay10 (P0 P1 : FVec Ideal S1x512x1024 .bf16) (W0 W1 : FVec Ideal S1024x1024 .bf16) (a : Fin 512) (j : Fin 1024) :
    k0_pay10 (F := Ideal) P0 W0 P1 W1 (ix2 a j) = (∑ k : Fin 1024, P0 (ix3 0 a k) * W0 (ix2 j k)) + (∑ k : Fin 1024, P1 (ix3 0 a k) * W1 (ix2 j k)) := by
  pointwise [k0_pay10]
end Pay

section Ref
variable (x0 : FVec Ideal Reference13Ideal.S2x2048x1024 .bf16) (x1 : FVec Ideal Reference13Ideal.S1024x2048 .bf16) (x2 : FVec Ideal Reference13Ideal.S2048x1024 .f32)
  (x3 : FVec Ideal Reference13Ideal.S1x1024 .f32) (x4 : FVec Ideal Reference13Ideal.S1x1x1024 .f32) (x5 : FVec Ideal Reference13Ideal.S2048x1024 .f32)

/-- The cotangent of the projection's operand, part by part. -/
def dh (r : Fin 2048) (j : Fin 1024) : EReal :=
  ∑ q : Fin 2, ∑ k : Fin 1024, x0 (ix3 q r k) * x1 (ix2 j ⟨q.val * 1024 + k.val, by omega⟩)

theorem v29_at (r : Fin 2048) (j : Fin 1024) : val_main_v29 (F := Ideal) x0 x1 (ix2 r j) = dh x0 x1 r j := by
  pointwise [val_main_v29, val_main_v28, val_main_v27, val_main_v26, val_main_v0]
  refine (Fin.sum_mul_add_congr (S := 2) (n := 1024) (L := 2048) fun q k hl => ?_).symm
  refine mul2 (congrArg x0 ?_) rfl
  rw [show (⟨(q.val * 1024 + k.val) / 1024, by omega⟩ : Fin 2) = q from Fin.ext (by show (q.val * 1024 + k.val) / 1024 = q.val; omega),
    show (⟨(q.val * 1024 + k.val) % 1024, by omega⟩ : Fin 1024) = k from Fin.ext (by show (q.val * 1024 + k.val) % 1024 = k.val; omega)]

theorem v13_at (r : Fin 2048) : val_main_v13 (F := Ideal) x2 (ix2 r 0) = rms (fun k => x2 (ix2 r k)) := by
  unfold rms msq
  pointwise [val_main_v13, val_main_v12, val_main_v11, val_main_cst_3, val_main_v10, val_main_v9, val_main_cst_2, val_main_v8, val_main_v7, val_main_cst_1, val_main_v6]

theorem v12_at (r : Fin 2048) : val_main_v12 (F := Ideal) x2 (ix2 r 0) = msq (fun k => x2 (ix2 r k)) := by
  unfold msq
  pointwise [val_main_v12, val_main_v11, val_main_cst_3, val_main_v10, val_main_v9, val_main_cst_2, val_main_v8, val_main_v7, val_main_cst_1, val_main_v6]

/-- A row of the cotangent scaled by the row's gain. -/
def up (r : Fin 2048) (k : Fin 1024) : EReal := dh x0 x1 r k * (x3 (ix2 0 k) * (1 + x4 (ix3 0 0 k)))

theorem v52_at (r : Fin 2048) (j : Fin 1024) : val_main_v52 (F := Ideal) x0 x1 x2 x3 x4 x5 (ix2 r j)
    = x5 (ix2 r j) + up x0 x1 x3 x4 r j * rms (fun k => x2 (ix2 r k)) + x2 (ix2 r j) * pull (up x0 x1 x3 x4 r) (fun k => x2 (ix2 r k))
      + pull (up x0 x1 x3 x4 r) (fun k => x2 (ix2 r k)) * x2 (ix2 r j) := by
  pointwise [val_main_v52, val_main_v51, val_main_v50, val_main_v49, val_main_v48, val_main_v47, val_main_cst_9, val_main_v46, val_main_v45, val_main_cst_8,
    val_main_v44, val_main_v43, val_main_v42, val_main_v41, val_main_v40, val_main_v39, val_main_cst_7, val_main_v38, val_main_v34, val_main_v20, val_main_v19,
    val_main_v4, val_main_v3, val_main_v2, val_main_v1, val_main_cst, val_main_v16, val_main_v15, val_main_cst_4, val_main_v14]
  simp only [Fin.sum_univ_one, v29_at, v13_at, v12_at]
  rfl
theorem v32_at (j : Fin 1024) : val_main_v32 (F := Ideal) x0 x1 (ix3 0 0 j) = ∑ k : Fin 2048, val_main_v29 (F := Ideal) x0 x1 (ix2 k j) := by
  pointwise [val_main_v32, val_main_v31, val_main_v30, val_main_cst_5]
theorem v37_at (j : Fin 1024) : val_main_v37 (F := Ideal) x0 x1 x2 (ix3 0 0 j) = ∑ k : Fin 2048, x2 (ix2 k j) * val_main_v13 (F := Ideal) x2 (ix2 k 0) * val_main_v29 (F := Ideal) x0 x1 (ix2 k j) := by
  pointwise [val_main_v37, val_main_v36, val_main_v35, val_main_cst_6, val_main_v33, val_main_v18, val_main_v17]
end Ref

/-! ## The result arrays -/

abbrev A0 : FVec Ideal S2x2048x1024 .bf16 := m ((c : Thread nD τ).loc main_arg0)
abbrev A1 : FVec Ideal S1024x2048 .bf16 := m ((c : Thread nD τ).loc main_arg1)
abbrev A2 : FVec Ideal S2048x1024 .f32 := m ((c : Thread nD τ).loc main_arg2)
abbrev A3 : FVec Ideal S1x1024 .f32 := m ((c : Thread nD τ).loc main_arg3)
abbrev A4 : FVec Ideal S1x1x1024 .f32 := m ((c : Thread nD τ).loc main_arg4)
abbrev A5 : FVec Ideal S2048x1024 .f32 := m ((c : Thread nD τ).loc main_arg5)

abbrev b0 (t : Fin cfg0.N) : FVec Ideal S2x512x1024 .bf16 := iblk m c 0 t
abbrev b1 (t : Fin cfg0.N) : FVec Ideal S1024x2048 .bf16 := iblk m c 1 t
abbrev b2 (t : Fin cfg0.N) : FVec Ideal S512x1024 .f32 := iblk m c 2 t
abbrev b3 (t : Fin cfg0.N) : FVec Ideal S512x1 .f32 := iblk m c 3 t
abbrev b4 (t : Fin cfg0.N) : FVec Ideal S1x1024 .f32 := iblk m c 4 t
abbrev b5 (t : Fin cfg0.N) : FVec Ideal S1x1x1024 .f32 := iblk m c 5 t
abbrev b6 (t : Fin cfg0.N) : FVec Ideal S256x1024 .f32 := iblk m c 6 t
abbrev b7 (t : Fin cfg0.N) : FVec Ideal S256x1024 .f32 := iblk m c 7 t

theorem V_factor : V m c main_v7 = val_main_v13 (F := Ideal) (A2 m c) := by
  unfold V
  after_results
  rfl

abbrev p0 (t : Fin cfg0.N) : FVec Ideal S1x512x1024 .bf16 := View.ld (Val := Elt Ideal) (S := S2x512x1024) (e' := .bf16) (b0 m c t) (Rect.unit (s := S2x512x1024) ![0, 0, 0] ![1, 512, 1024] inb_S2x512x1024_S1x512x1024_0_0_0)
abbrev p1 (t : Fin cfg0.N) : FVec Ideal S1x512x1024 .bf16 := View.ld (Val := Elt Ideal) (S := S2x512x1024) (e' := .bf16) (b0 m c t) (Rect.unit (s := S2x512x1024) ![1, 0, 0] ![1, 512, 1024] inb_S2x512x1024_S1x512x1024_1_0_0)
abbrev w0 (t : Fin cfg0.N) : FVec Ideal S1024x1024 .bf16 := View.ld (Val := Elt Ideal) (S := S1024x2048) (e' := .bf16) (b1 m c t) (Rect.unit (s := S1024x2048) ![0, 0] ![1024, 1024] inb_S1024x2048_S1024x1024_0_0)
abbrev w1 (t : Fin cfg0.N) : FVec Ideal S1024x1024 .bf16 := View.ld (Val := Elt Ideal) (S := S1024x2048) (e' := .bf16) (b1 m c t) (Rect.unit (s := S1024x2048) ![0, 1024] ![1024, 1024] inb_S1024x2048_S1024x1024_0_1024)

/-- The block's rows of the projection's cotangent. -/
abbrev bD (t : Fin cfg0.N) : FVec Ideal S512x1024 .f32 :=
  k0_pay10 (F := Ideal) (p0 m c t) (w0 m c t) (p1 m c t) (w1 m c t)

theorem blkp0 (t : Fin cfg0.N) (r : Fin 512) (k : Fin 1024) : p0 m c t (ix3 0 r k) = A0 m c (ix3 0 ⟨t.val * 512 + r.val, by have : t.val < 4 := t.isLt; omega⟩ k) := by
  blk_ext! [p0, b0, iblk, V, idx t]
theorem blkp1 (t : Fin cfg0.N) (r : Fin 512) (k : Fin 1024) : p1 m c t (ix3 0 r k) = A0 m c (ix3 1 ⟨t.val * 512 + r.val, by have : t.val < 4 := t.isLt; omega⟩ k) := by
  blk_ext! [p1, b0, iblk, V, idx t]
theorem blkw0 (t : Fin cfg0.N) (j k : Fin 1024) : w0 m c t (ix2 j k) = A1 m c (ix2 j ⟨0 * 1024 + k.val, by omega⟩) := by
  blk_ext! [w0, b1, iblk, V, idx t]
theorem blkw1 (t : Fin cfg0.N) (j k : Fin 1024) : w1 m c t (ix2 j k) = A1 m c (ix2 j ⟨1 * 1024 + k.val, by omega⟩) := by
  blk_ext! [w1, b1, iblk, V, idx t]
theorem blk2 (t : Fin cfg0.N) (r : Fin 512) (j : Fin 1024) : b2 m c t (ix2 r j) = A2 m c (ix2 ⟨t.val * 512 + r.val, by have : t.val < 4 := t.isLt; omega⟩ j) := by
  blk_ext! [b2, iblk, V, idx t]
theorem blk3 (t : Fin cfg0.N) (r : Fin 512) : b3 m c t (ix2 r 0) = val_main_v13 (F := Ideal) (A2 m c) (ix2 ⟨t.val * 512 + r.val, by have : t.val < 4 := t.isLt; omega⟩ 0) := by
  have e : V m c (Pipeline.arrRef spec0 3) = val_main_v13 (F := Ideal) (A2 m c) := V_factor m c
  unfold b3 iblk
  rw [e]
  generalize val_main_v13 (F := Ideal) (A2 m c) = X
  blk_ext! [idx t]
theorem blk4 (t : Fin cfg0.N) (j : Fin 1024) : b4 m c t (ix2 0 j) = A3 m c (ix2 0 j) := by
  blk_ext! [b4, iblk, V, idx t]
theorem blk5 (t : Fin cfg0.N) (j : Fin 1024) : b5 m c t (ix3 0 0 j) = A4 m c (ix3 0 0 j) := by
  blk_ext! [b5, iblk, V, idx t]
theorem blk6 (t : Fin cfg0.N) (r : Fin 256) (j : Fin 1024) : b6 m c t (ix2 r j) = A5 m c (ix2 ⟨t.val * 512 + r.val, by have : t.val < 4 := t.isLt; omega⟩ j) := by
  blk_ext! [b6, iblk, V, idx t]
theorem blk7 (t : Fin cfg0.N) (r : Fin 256) (j : Fin 1024) : b7 m c t (ix2 r j) = A5 m c (ix2 ⟨t.val * 512 + (256 + r.val), by have : t.val < 4 := t.isLt; omega⟩ j) := by
  blk_ext! [b7, iblk, V, idx t]

theorem early (t : Fin cfg0.N) (h : t.val % 4 = 0) : ¬1 ≤ t.val := by
  have : t.val < 4 := t.isLt
  omega

theorem late (t : Fin cfg0.N) (h : ¬t.val % 4 = 0) : 1 ≤ t.val := by
  omega

/-- The row of the latents a block's row is. -/
abbrev at_ (t : Fin cfg0.N) (r : Fin 512) : Fin 2048 := ⟨t.val * 512 + r.val, by have : t.val < 4 := t.isLt; omega⟩

/-- The block's normalised rows. -/
abbrev bN (t : Fin cfg0.N) : FVec Ideal S512x1024 .f32 := k0_pay12 (F := Ideal) (b3 m c t) (b2 m c t)

/-- A row of the latents. -/
abbrev xrow (r : Fin 2048) (k : Fin 1024) : EReal := A2 m c (ix2 r k)

theorem bD_at (t : Fin cfg0.N) (r : Fin 512) (j : Fin 1024) : bD m c t (ix2 r j) = dh (A0 m c) (A1 m c) (at_ t r) j := by
  refine (pay10 _ _ _ _ r j).trans ?_
  unfold dh
  rw [Fin.sum_univ_two]
  refine congrArg₂ (· + ·) ?_ ?_
  · exact Finset.sum_congr rfl fun k _ => mul2 (blkp0 m c t r k) (blkw0 m c t j k)
  · exact Finset.sum_congr rfl fun k _ => mul2 (blkp1 m c t r k) (blkw1 m c t j k)

theorem bN_at (t : Fin cfg0.N) (r : Fin 512) (j : Fin 1024) : bN m c t (ix2 r j) = xrow m c (at_ t r) j * rms (xrow m c (at_ t r)) :=
  (pay12 _ _ r j).trans (mul2 (blk2 m c t r j) ((blk3 m c t r).trans (v13_at _ _)))

theorem gained_at (t : Fin cfg0.N) (r : Fin 512) (j : Fin 1024) :
    gained (bD m c t) (b4 m c t) (b5 m c t) r j = up (A0 m c) (A1 m c) (A3 m c) (A4 m c) (at_ t r) j := by
  unfold gained up
  rw [bD_at, blk4, blk5]

theorem pay13_at (t : Fin cfg0.N) (r : Fin 512) (j : Fin 1024) :
    k0_pay1 (F := Ideal) (k0_pay13 (p0 m c t) (w0 m c t) (p1 m c t) (w1 m c t) (b3 m c t) (b2 m c t) (b4 m c t) (b5 m c t)) (k0_pay14 (b3 m c t)) (ix2 r j)
      = off (up (A0 m c) (A1 m c) (A3 m c) (A4 m c) (at_ t r)) (xrow m c (at_ t r)) j := by
  rw [pay13]
  unfold off
  refine mul2 ?_ ?_
  · exact (blk3 m c t r).trans (v13_at _ _)
  · have e : ∀ k, k0_pay12 (F := Ideal) (b3 m c t) (b2 m c t) (ix2 r k) = _ := bN_at m c t r
    rw [gained_at, e j, Finset.sum_congr rfl fun k _ => mul2 (gained_at m c t r k) (e k)]

theorem out8 (t : Fin cfg0.N) (r : Fin 512) (j : Fin 1024) : (outsAt0 m c t.val t.isLt).1 (ix2 r j)
    = off (up (A0 m c) (A1 m c) (A3 m c) (A4 m c) (at_ t r)) (xrow m c (at_ t r)) j + A5 m c (ix2 (at_ t r) j) := by
  have hx : ∀ x : S256x1024.Idx, ∃ a b, x = ix2 (n0 := 256) (n1 := 1024) a b := fun x => ⟨_, _, (ix2_eta x).symm⟩
  by_cases h : t.val % 4 = 0
  · rw [outsAt0_A m c t h (early t h) h (early t h)]; frame_out
    clear h
    canon_tiles x h
    all_goals
      obtain ⟨a, b, rfl⟩ := hx x
      obtain rfl : j = b := Fin.ext h1
    · obtain rfl : r = ⟨256 + a.val, Nat.add_lt_add_left a.isLt 256⟩ := Fin.ext h0
      exact (pay3 _ _ _ a j).trans (congrArg₂ (· + ·) (pay13_at m c t _ j) (blk7 m c t a j))
    · obtain rfl : r = ⟨a.val, Nat.lt_trans a.isLt (by decide)⟩ := Fin.ext h0
      exact (pay2 _ _ _ a j).trans (congrArg₂ (· + ·) (pay13_at m c t _ j) (blk6 m c t a j))
  · rw [outsAt0_B m c t h (late t h) h (late t h)]; frame_out
    clear h
    canon_tiles x h
    all_goals
      obtain ⟨a, b, rfl⟩ := hx x
      obtain rfl : j = b := Fin.ext h1
    · obtain rfl : r = ⟨256 + a.val, Nat.add_lt_add_left a.isLt 256⟩ := Fin.ext h0
      exact (pay3 _ _ _ a j).trans (congrArg₂ (· + ·) (pay13_at m c t _ j) (blk7 m c t a j))
    · obtain rfl : r = ⟨a.val, Nat.lt_trans a.isLt (by decide)⟩ := Fin.ext h0
      exact (pay2 _ _ _ a j).trans (congrArg₂ (· + ·) (pay13_at m c t _ j) (blk6 m c t a j))

theorem final8 (hy : ∀ r k, Real' (up (A0 m c) (A1 m c) (A3 m c) (A4 m c) r k)) (hx : ∀ r k, Real' (xrow m c r k)) :
    (dats m 0 c).arrAt 8 cfg0.N = val_main_v52 (F := Ideal) (A0 m c) (A1 m c) (A2 m c) (A3 m c) (A4 m c) (A5 m c) := by
  refine (dats m 0 c).arrAt_eq_of_covers 8 _ (by decide +kernel) fun t _ y => ?_
  obtain ⟨i, j, rfl⟩ : ∃ i j, y = ix2 (n0 := 512) (n1 := 1024) i j := ⟨_, _, (ix2_eta y).symm⟩
  blk_simp
  rw [after0_8]
  refine (out8 m c t i j).trans ((off_eq (hy _) (hx _) _ j).trans
    ((v52_at (A0 m c) (A1 m c) (A2 m c) (A3 m c) (A4 m c) (A5 m c) (at_ t i) j).symm.trans ?_))
  have ht : t.val < 4 := t.isLt
  generalize val_main_v52 (F := Ideal) (A0 m c) (A1 m c) (A2 m c) (A3 m c) (A4 m c) (A5 m c) = X
  blk_ext! [idx t]

theorem row (j : S1x1x1024.Idx) : ∃ l : Fin 1024, j = ix3 (n0 := 1) (n1 := 1) (n2 := 1024) 0 0 l :=
  ⟨j 2, (ix3_eta j).symm.trans (by
    rw [show j 0 = (0 : Fin 1) from Subsingleton.elim (α := Fin 1) _ _, show j 1 = (0 : Fin 1) from Subsingleton.elim (α := Fin 1) _ _])⟩

/-- What a point adds to the shift's gradient. -/
def part9 (t : Fin cfg0.N) (j : S1x1x1024.Idx) : EReal := ∑ k : Fin 512, (bD m c t (ix2 k (j 2)) : EReal)

/-- What a point adds to the gain's gradient. -/
def part10 (t : Fin cfg0.N) (j : S1x1x1024.Idx) : EReal := ∑ k : Fin 512, (bD m c t (ix2 k (j 2)) : EReal) * (bN m c t (ix2 k (j 2)) : EReal)

theorem out9_first (t : Fin cfg0.N) (h : t.val % 4 = 0) (j : S1x1x1024.Idx) : (outsAt0 m c t.val t.isLt).2.1 j = 0 + part9 m c t j := by
  rw [outsAt0_A m c t h (early t h) h (early t h)]; frame_out
  obtain ⟨l, rfl⟩ := row j
  rw [zero_add]
  exact pay5 _ _

theorem out9_next (t : Fin cfg0.N) (h : ¬t.val % 4 = 0) (j : S1x1x1024.Idx) :
    (outsAt0 m c t.val t.isLt).2.1 j = (outsAt0 m c (t.val - 1) (Nat.lt_of_le_of_lt (Nat.sub_le _ _) t.isLt)).2.1 j + part9 m c t j := by
  rw [outsAt0_B m c t h (late t h) h (late t h)]; frame_out
  obtain ⟨l, rfl⟩ := row j
  exact pay6 _ _ _

theorem out10_first (t : Fin cfg0.N) (h : t.val % 4 = 0) (j : S1x1x1024.Idx) : (outsAt0 m c t.val t.isLt).2.2 j = 0 + part10 m c t j := by
  rw [outsAt0_A m c t h (early t h) h (early t h)]; frame_out
  obtain ⟨l, rfl⟩ := row j
  rw [zero_add]
  exact pay8 _ _ _

theorem out10_next (t : Fin cfg0.N) (h : ¬t.val % 4 = 0) (j : S1x1x1024.Idx) :
    (outsAt0 m c t.val t.isLt).2.2 j = (outsAt0 m c (t.val - 1) (Nat.lt_of_le_of_lt (Nat.sub_le _ _) t.isLt)).2.2 j + part10 m c t j := by
  rw [outsAt0_B m c t h (late t h) h (late t h)]; frame_out
  obtain ⟨l, rfl⟩ := row j
  exact pay9 _ _ _ _

theorem final9 : (dats m 0 c).arrAt 9 cfg0.N = val_main_v32 (F := Ideal) (A0 m c) (A1 m c) := by
  refine (dats m 0 c).arrAt_eq_of_after_last 9 t0_3 (by decide +kernel) _ fun j => ?_
  blk_simp
  rw [after0_9]
  refine (Pipeline.eq_sum_fin_of_reset_step_apply_last (fun n h => (outsAt0 m c n h).2.1) 4 (fun _ => (0 : EReal)) (part9 m c)
    (out9_first m c) (out9_next m c) (le_of_eq N_0) t0_3 rfl j).trans ?_
  obtain ⟨l, rfl⟩ := row j
  rw [zero_add, v32_at]
  refine Fin.sum_mul_add_congr (S := 4) (n := 512) (L := 2048) fun s k hl => ?_
  exact (bD_at m c s k l).trans (v29_at _ _ _ _).symm

theorem final10 : (dats m 0 c).arrAt 10 cfg0.N = val_main_v37 (F := Ideal) (A0 m c) (A1 m c) (A2 m c) := by
  refine (dats m 0 c).arrAt_eq_of_after_last 10 t0_3 (by decide +kernel) _ fun j => ?_
  blk_simp
  rw [after0_10]
  refine (Pipeline.eq_sum_fin_of_reset_step_apply_last (fun n h => (outsAt0 m c n h).2.2) 4 (fun _ => (0 : EReal)) (part10 m c)
    (out10_first m c) (out10_next m c) (le_of_eq N_0) t0_3 rfl j).trans ?_
  obtain ⟨l, rfl⟩ := row j
  rw [zero_add, v37_at]
  refine Fin.sum_mul_add_congr (S := 4) (n := 512) (L := 2048) fun s k hl => ?_
  refine (mul_comm _ _).trans (mul2 ((bN_at m c s k l).trans (mul2 rfl (v13_at _ _).symm)) ((bD_at m c s k l).trans (v29_at _ _ _ _).symm))

/-! ## The precondition, and the claim -/

section Pre
variable (x0 : FVec Ideal Pre_finite13.S2x2048x1024 .bf16) (x1 : FVec Ideal Pre_finite13.S1024x2048 .bf16) (x2 : FVec Ideal Pre_finite13.S2048x1024 .f32)
  (x3 : FVec Ideal Pre_finite13.S1x1024 .f32) (x4 : FVec Ideal Pre_finite13.S1x1x1024 .f32) (x5 : FVec Ideal Pre_finite13.S2048x1024 .f32)

theorem real0 (h : (Pre_finite13.fn (F := Ideal) x0 x1 x2 x3 x4 x5).1 = fun _ => 1#1) (q : Fin 2) (r : Fin 2048) (k : Fin 1024) : Real' (x0 (ix3 q r k)) := by
  refine real_of_bit (Eq.trans ?_ (congrFun h (ix3 q r k)))
  pointwise [Pre_finite13.fn]
  rfl

theorem real1 (h : (Pre_finite13.fn (F := Ideal) x0 x1 x2 x3 x4 x5).2.1 = fun _ => 1#1) (r : Fin 1024) (k : Fin 2048) : Real' (x1 (ix2 r k)) := by
  refine real_of_bit (Eq.trans ?_ (congrFun h (ix2 r k)))
  pointwise [Pre_finite13.fn]
  rfl

theorem real2 (h : (Pre_finite13.fn (F := Ideal) x0 x1 x2 x3 x4 x5).2.2.1 = fun _ => 1#1) (r : Fin 2048) (k : Fin 1024) : Real' (x2 (ix2 r k)) := by
  refine real_of_bit (Eq.trans ?_ (congrFun h (ix2 r k)))
  pointwise [Pre_finite13.fn]
  rfl

theorem real3 (h : (Pre_finite13.fn (F := Ideal) x0 x1 x2 x3 x4 x5).2.2.2.1 = fun _ => 1#1) (k : Fin 1024) : Real' (x3 (ix2 0 k)) := by
  refine real_of_bit (Eq.trans ?_ (congrFun h (ix2 0 k)))
  pointwise [Pre_finite13.fn]
  rfl

theorem real4 (h : (Pre_finite13.fn (F := Ideal) x0 x1 x2 x3 x4 x5).2.2.2.2 = fun _ => 1#1) (k : Fin 1024) : Real' (x4 (ix3 0 0 k)) := by
  refine real_of_bit (Eq.trans ?_ (congrFun h (ix3 0 0 k)))
  pointwise [Pre_finite13.fn]
  rfl

theorem real_up (h0 : ∀ q r k, Real' (x0 (ix3 q r k))) (h1 : ∀ j k, Real' (x1 (ix2 j k))) (h3 : ∀ k, Real' (x3 (ix2 0 k))) (h4 : ∀ k, Real' (x4 (ix3 0 0 k)))
    (r : Fin 2048) (k : Fin 1024) : Real' (up x0 x1 x3 x4 r k) :=
  (Real'.sum fun q => Real'.sum fun l => (h0 q r l).mul (h1 k _)).mul ((h3 k).mul (Real'.one.add (h4 k)))
end Pre

theorem algebraic : Cert.algebraic_Kernel13Ideal_Reference13Ideal_pre_finite13 := by
  pair_intro
  · run_from Cert.Kernel13Ideal.Value.run_blocks m g
  · refine Idealize.ShloMosaic.θ_run_mono (Cert.Reference13Ideal.Value.run m' g') ?_
    intro r hr c
    obtain ⟨e0, e1, e2, e3, e4, e5⟩ := hagree c
    obtain ⟨h0, h1, h2, h3, h4⟩ := hpre c
    have q8 : val_main_v52 (F := Ideal) (A0 m c) (A1 m c) (A2 m c) (A3 m c) (A4 m c) (A5 m c) = (dats m 0 c).arrAt 8 cfg0.N :=
      (final8 m c (real_up _ _ _ _ (real0 _ _ _ _ _ _ h0) (real1 _ _ _ _ _ _ h1) (real3 _ _ _ _ _ _ h3) (real4 _ _ _ _ _ _ h4)) (real2 _ _ _ _ _ _ h2)).symm
    have q9 : val_main_v32 (F := Ideal) (A0 m c) (A1 m c) = (dats m 0 c).arrAt 9 cfg0.N := (final9 m c).symm
    have q10 : val_main_v37 (F := Ideal) (A0 m c) (A1 m c) (A2 m c) = (dats m 0 c).arrAt 10 cfg0.N := (final10 m c).symm
    refine ⟨(hr c).1.trans ?_, (hr c).2.1.trans ?_, (hr c).2.2.1.trans ?_, (hr c).2.2.2⟩
    · refine (Reference13Ideal.Read.val_main_v52_eq _ _).trans ?_
      rw [e0, e1, e2, e3, e4, e5]
      exact q8
    · refine (Reference13Ideal.Read.val_main_v32_eq _ _).trans ?_
      rw [e0, e1]
      exact q9
    · refine (Reference13Ideal.Read.val_main_v37_eq _ _ _).trans ?_
      rw [e0, e1, e2]
      exact q10

theorem frame_reference : Cert.quiescent_Reference13Ideal := fun m g _ =>
  (θ_run Reference13Ideal.defs _ _).mono (fun r h => ⟨fun c => (h c).2.2.2, sem_eq_zero_of_no_sems (by decide) r.2⟩) (Reference13Ideal.Value.run m g)

end Cert.Latent13

end
-- ==== Proof.SegMath.lean ====
/- Rows of two kinds: the latent rows first, the context rows from row 2048 on; the body tells them by a comparison. -/
module

public import proofs.«01_k».proof.Proof.LatentMath
public import Idealize.ShloMosaic.Lib.WordCmp
public import Idealize.ShloMosaic.Lib.Pointwise

@[expose] public section

noncomputable section

namespace Cert.SegMath

open Idealize.ShloMosaic

theorem masked {p : Prop} [Decidable p] {b : BitVec 1} (h : b = 1#1 ↔ p) (x y : EReal) : Scalar.select b x y = if p then x else y := by
  by_cases hp : p
  · rw [if_pos hp]; exact if_pos (h.mpr hp)
  · rw [if_neg hp]; exact if_neg fun hb => hp (h.mp hb)

theorem row_cond (n a r : ℕ) (h : a * n + r < 2304) :
    IntOp.cmpi CmpIPredicate.sge (IntOp.addi (Scalar.muli (BitVec.ofNat 32 a) (BitVec.ofNat 32 n)) (BitVec.ofNat 32 r)) 2048#32 = 1#1 ↔ 2048 ≤ a * n + r := by
  rw [show IntOp.addi (Scalar.muli (BitVec.ofNat 32 a) (BitVec.ofNat 32 n)) (BitVec.ofNat 32 r) = BitVec.ofNat 32 (a * n + r) from by
    rw [BitVec.ofNat_add, BitVec.ofNat_mul]; rfl]
  exact WordCmp.cmpi_sge_ofNat_eq_one_iff (by omega) (by decide)

theorem sides {p : Prop} [Decidable p] (k : ℕ) (x : EReal) :
    (if (p ↔ k = 1) then x else 0) = if k = 1 then (if p then x else 0) else (if p then 0 else x) := by
  by_cases hp : p <;> by_cases hk : k = 1 <;> simp [hp, hk]

/-- The one of two values a row of either kind takes. -/
def sel {α : Type} (r : ℕ) (x y : α) : α := if 2048 ≤ r then y else x

end Cert.SegMath

end
-- ==== Proof.Latent14.lean ====
/- The input projection's backward call over the latent and context rows, four parts: the projection's and the norm's gradients. -/
module

public import proofs.«01_k».proof.Defs
public import proofs.«01_k».proof.Proof.LatentMath
public import proofs.«01_k».proof.Proof.SegMath
public import proofs.«01_k».proof.Proof.Gen.Pre_finite14
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise

@[expose] public section

set_option maxRecDepth 16384

noncomputable section

namespace Cert.Latent14

open Idealize.ShloMosaic Idealize.ShloMosaic.TcCoe Idealize.SL.Sem
open Idealize.ShloMosaic.Pipeline (Dat)
open Cert.ConvMath (Real')
open Cert.LatentMath (off off_eq pull rms msq chans mul2 real_of_bit Real'.sum Real'.one)
open Cert.SegMath (masked row_cond sides)
open Cert.Kernel14Ideal Cert.Kernel14Ideal.Gen
open Cert.Reference14Ideal.Read

variable (m : (ℓ : Loc nD τ sig) → Buf (Elt Ideal) ℓ) (c : Dev nD)

theorem idx : ∀ t : Fin cfg0.N, win0_0.index t = ![0, t.val, 0] ∧ win0_1.index t = ![0, 0] ∧ win0_2.index t = ![t.val, 0] ∧ win0_3.index t = ![t.val, 0]
    ∧ win0_4.index t = ![0, 0] ∧ win0_5.index t = ![0, 0, 0] ∧ win0_6.index t = ![min (t.val * 3) 7, 0] ∧ win0_7.index t = ![min (t.val * 3 + 1) 7, 0]
    ∧ win0_8.index t = ![min (t.val * 3 + 2) 7, 0] ∧ win0_9.index t = ![t.val, 0] ∧ win0_10.index t = ![0, 0, 0] ∧ win0_11.index t = ![0, 0, 0] :=
  (by decide +kernel : ∀ t : Fin grid0.N, _)

theorem at0 : ∀ t : Fin grid0.N, (grid0.coords t 0).val = t.val := by decide +kernel

theorem add_front (a b c d : EReal) : d + a + b + c = a + b + c + d := by
  rw [add_comm (a + b + c) d, ← add_assoc, ← add_assoc]

/-- Whether a piece of a block still has rows of the residual's cotangent. -/
theorem piece_cond (a s : ℕ) (h : a * 3 + s < 9) :
    Scalar.cmpi CmpIPredicate.slt (Scalar.addi (Scalar.muli (BitVec.ofNat 32 a) 3#32) (BitVec.ofNat 32 s)) 8#32 = 1#1 ↔ a * 3 + s < 8 := by
  rw [show Scalar.addi (Scalar.muli (BitVec.ofNat 32 a) 3#32) (BitVec.ofNat 32 s) = BitVec.ofNat 32 (a * 3 + s) from by
    rw [BitVec.ofNat_add, BitVec.ofNat_mul]; rfl]
  exact WordCmp.cmpi_slt_ofNat_eq_one_iff (by omega) (by decide)

/-! ## What the body computes, and the reference, index by index -/

section Pay
variable (D : FVec Ideal S768x1024 .f32) (B : IVec S768x1 1) (R : FVec Ideal S768x1 .f32) (X : FVec Ideal S768x1024 .f32) (g : FVec Ideal S1x1024 .f32)
  (H G : FVec Ideal S1x1x1024 .f32) (i : grid0.Coords)

/-- A row of the cotangent scaled by the gain of the row's kind. -/
def gained (a : Fin 768) (k : Fin 1024) : EReal :=
  D (ix2 a k) * (g (ix2 0 k) * (1 + Scalar.select (B (ix2 a 0)) (H (ix3 0 0 k) : EReal) (G (ix3 0 0 k))))

theorem pay11 (r : Fin 768) : k0_pay11 i (ix2 r 0) = 1#1 ↔ 2048 ≤ (i 0).val * 768 + r.val := by
  pointwise [k0_pay11]
  exact row_cond 768 _ _ (by have := (i 0).isLt; have : (i 0).val < 3 := this; omega)

theorem pay13 (a : Fin 768) (j : Fin 1024) : k0_pay13 (F := Ideal) (k0_pay12 R) X (ix2 a j) = X (ix2 a j) * R (ix2 a 0) := by
  pointwise [k0_pay13, k0_pay12]

theorem pay14 (a : Fin 768) (j : Fin 1024) : k0_pay14 (F := Ideal) D B (k0_pay12 R) X g H G (ix2 a j)
    = R (ix2 a 0) * (gained D B g H G a j - X (ix2 a j) * R (ix2 a 0) * Ideal.div (∑ k : Fin 1024, gained D B g H G a k * (X (ix2 a k) * R (ix2 a 0))) chans) := by
  unfold gained
  pointwise [k0_pay14, k0_pay13, k0_pay12]

theorem pay15 (Q : FVec Ideal S256x1024 .f32) (w : BitVec 32) (a : Fin 256) (j : Fin 1024) :
    k0_pay15 (F := Ideal) w D B (k0_pay12 R) X g H G Q (ix2 a j)
      = k0_pay14 (F := Ideal) D B (k0_pay12 R) X g H G (ix2 ⟨a.val, Nat.lt_trans a.isLt (by decide)⟩ j)
        + Scalar.select (Scalar.cmpi CmpIPredicate.slt (Scalar.addi (Scalar.muli w 3#32) 0#32) 8#32) (Q (ix2 a j) : EReal) 0 := by
  by_cases h : Scalar.cmpi CmpIPredicate.slt (Scalar.addi (Scalar.muli w 3#32) 0#32) 8#32 = 1#1
  · rw [show Scalar.select (Scalar.cmpi CmpIPredicate.slt (Scalar.addi (Scalar.muli w 3#32) 0#32) 8#32) (Q (ix2 a j) : EReal) 0 = Q (ix2 a j) from if_pos h]
    unfold k0_pay15
    rw [show ∀ x y : Vec Ideal S256x1024 .f32, Scalar.select (Scalar.cmpi CmpIPredicate.slt (Scalar.addi (Scalar.muli w 3#32) 0#32) 8#32) x y = x from fun x y => if_pos h]
    generalize k0_pay14 (F := Ideal) D B (k0_pay12 R) X g H G = Y
    pointwise []
  · rw [show Scalar.select (Scalar.cmpi CmpIPredicate.slt (Scalar.addi (Scalar.muli w 3#32) 0#32) 8#32) (Q (ix2 a j) : EReal) 0 = 0 from if_neg h]
    unfold k0_pay15
    rw [show ∀ x y : Vec Ideal S256x1024 .f32, Scalar.select (Scalar.cmpi CmpIPredicate.slt (Scalar.addi (Scalar.muli w 3#32) 0#32) 8#32) x y = y from fun x y => if_neg h]
    generalize k0_pay14 (F := Ideal) D B (k0_pay12 R) X g H G = Y
    pointwise []

theorem pay16 (Y : FVec Ideal S768x1024 .f32) (Q : FVec Ideal S256x1024 .f32) (w : BitVec 32) (a : Fin 256) (j : Fin 1024) :
    k0_pay16 (F := Ideal) w Y Q (ix2 a j) = Y (ix2 ⟨256 + a.val, Nat.lt_of_lt_of_le (Nat.add_lt_add_left a.isLt 256) (by decide)⟩ j)
        + Scalar.select (Scalar.cmpi CmpIPredicate.slt (Scalar.addi (Scalar.muli w 3#32) 1#32) 8#32) (Q (ix2 a j) : EReal) 0 := by
  by_cases h : Scalar.cmpi CmpIPredicate.slt (Scalar.addi (Scalar.muli w 3#32) 1#32) 8#32 = 1#1
  · rw [show Scalar.select (Scalar.cmpi CmpIPredicate.slt (Scalar.addi (Scalar.muli w 3#32) 1#32) 8#32) (Q (ix2 a j) : EReal) 0 = Q (ix2 a j) from if_pos h]
    unfold k0_pay16
    rw [show ∀ x y : Vec Ideal S256x1024 .f32, Scalar.select (Scalar.cmpi CmpIPredicate.slt (Scalar.addi (Scalar.muli w 3#32) 1#32) 8#32) x y = x from fun x y => if_pos h]
    pointwise []
  · rw [show Scalar.select (Scalar.cmpi CmpIPredicate.slt (Scalar.addi (Scalar.muli w 3#32) 1#32) 8#32) (Q (ix2 a j) : EReal) 0 = 0 from if_neg h]
    unfold k0_pay16
    rw [show ∀ x y : Vec Ideal S256x1024 .f32, Scalar.select (Scalar.cmpi CmpIPredicate.slt (Scalar.addi (Scalar.muli w 3#32) 1#32) 8#32) x y = y from fun x y => if_neg h]
    pointwise []

theorem pay17 (Y : FVec Ideal S768x1024 .f32) (Q : FVec Ideal S256x1024 .f32) (w : BitVec 32) (a : Fin 256) (j : Fin 1024) :
    k0_pay17 (F := Ideal) w Y Q (ix2 a j) = Y (ix2 ⟨512 + a.val, Nat.lt_of_lt_of_le (Nat.add_lt_add_left a.isLt 512) (by decide)⟩ j)
        + Scalar.select (Scalar.cmpi CmpIPredicate.slt (Scalar.addi (Scalar.muli w 3#32) 2#32) 8#32) (Q (ix2 a j) : EReal) 0 := by
  by_cases h : Scalar.cmpi CmpIPredicate.slt (Scalar.addi (Scalar.muli w 3#32) 2#32) 8#32 = 1#1
  · rw [show Scalar.select (Scalar.cmpi CmpIPredicate.slt (Scalar.addi (Scalar.muli w 3#32) 2#32) 8#32) (Q (ix2 a j) : EReal) 0 = Q (ix2 a j) from if_pos h]
    unfold k0_pay17
    rw [show ∀ x y : Vec Ideal S256x1024 .f32, Scalar.select (Scalar.cmpi CmpIPredicate.slt (Scalar.addi (Scalar.muli w 3#32) 2#32) 8#32) x y = x from fun x y => if_pos h]
    pointwise []
  · rw [show Scalar.select (Scalar.cmpi CmpIPredicate.slt (Scalar.addi (Scalar.muli w 3#32) 2#32) 8#32) (Q (ix2 a j) : EReal) 0 = 0 from if_neg h]
    unfold k0_pay17
    rw [show ∀ x y : Vec Ideal S256x1024 .f32, Scalar.select (Scalar.cmpi CmpIPredicate.slt (Scalar.addi (Scalar.muli w 3#32) 2#32) 8#32) x y = y from fun x y => if_neg h]
    pointwise []

theorem pay18 (j : Fin 1024) : k0_pay18 (F := Ideal) D (k0_pay11 i) (ix2 0 j) = ∑ k : Fin 768, if 2048 ≤ (i 0).val * 768 + k.val then (0 : EReal) else D (ix2 k j) := by
  pointwise [k0_pay18]
  exact Finset.sum_congr rfl fun k _ => masked (pay11 i k) _ _

theorem pay19 (j : Fin 1024) : k0_pay19 (F := Ideal) D (k0_pay11 i) (ix2 0 j) = ∑ k : Fin 768, if 2048 ≤ (i 0).val * 768 + k.val then D (ix2 k j) else (0 : EReal) := by
  pointwise [k0_pay19]
  exact Finset.sum_congr rfl fun k _ => masked (pay11 i k) _ _

theorem pay4 (j : Fin 1024) : k0_pay4 (F := Ideal) D (k0_pay11 i) X (ix2 0 j) = ∑ k : Fin 768, if 2048 ≤ (i 0).val * 768 + k.val then (0 : EReal) else D (ix2 k j) * X (ix2 k j) := by
  pointwise [k0_pay4, k0_pay3]
  exact Finset.sum_congr rfl fun k _ => masked (pay11 i k) _ _

theorem pay5 (j : Fin 1024) : k0_pay5 (F := Ideal) D (k0_pay11 i) X (ix2 0 j) = ∑ k : Fin 768, if 2048 ≤ (i 0).val * 768 + k.val then D (ix2 k j) * X (ix2 k j) else (0 : EReal) := by
  pointwise [k0_pay5, k0_pay3]
  exact Finset.sum_congr rfl fun k _ => masked (pay11 i k) _ _

theorem pay1 (v : FVec Ideal S1x1024 .f32) (j : Fin 1024) : k0_pay1 (F := Ideal) v G (ix3 0 0 j) = G (ix3 0 0 j) + v (ix2 0 j) := by
  pointwise [k0_pay1]
theorem pay2 (v : FVec Ideal S1x1024 .f32) (j : Fin 1024) : k0_pay2 (F := Ideal) v G (ix3 0 0 j) = G (ix3 0 0 j) + v (ix2 0 j) := by
  pointwise [k0_pay2]
theorem pay6 (j : Fin 1024) : k0_pay6 (F := Ideal) D B X (ix3 0 0 j) = k0_pay4 (F := Ideal) D B X (ix2 0 j) := by
  pointwise [k0_pay6]
theorem pay7 (j : Fin 1024) : k0_pay7 (F := Ideal) D B X (ix3 0 0 j) = k0_pay5 (F := Ideal) D B X (ix2 0 j) := by
  pointwise [k0_pay7]
theorem pay8 (j : Fin 1024) : k0_pay8 (F := Ideal) D B X G (ix3 0 0 j) = G (ix3 0 0 j) + k0_pay4 (F := Ideal) D B X (ix2 0 j) := by
  pointwise [k0_pay8]
theorem pay9 (j : Fin 1024) : k0_pay9 (F := Ideal) D B X G (ix3 0 0 j) = G (ix3 0 0 j) + k0_pay5 (F := Ideal) D B X (ix2 0 j) := by
  pointwise [k0_pay9]
theorem pay20 (j : Fin 1024) : k0_pay20 (F := Ideal) D B (ix3 0 0 j) = k0_pay18 (F := Ideal) D B (ix2 0 j) := by
  pointwise [k0_pay20]
theorem pay21 (j : Fin 1024) : k0_pay21 (F := Ideal) D B (ix3 0 0 j) = k0_pay19 (F := Ideal) D B (ix2 0 j) := by
  pointwise [k0_pay21]

theorem pay10 (P0 P1 P2 P3 : FVec Ideal S1x768x1024 .bf16) (W0 W1 W2 W3 : FVec Ideal S1024x1024 .bf16) (a : Fin 768) (j : Fin 1024) :
    k0_pay10 (F := Ideal) P0 W0 P1 W1 P2 W2 P3 W3 (ix2 a j) = (∑ k : Fin 1024, P0 (ix3 0 a k) * W0 (ix2 j k)) + (∑ k : Fin 1024, P1 (ix3 0 a k) * W1 (ix2 j k))
      + (∑ k : Fin 1024, P2 (ix3 0 a k) * W2 (ix2 j k)) + (∑ k : Fin 1024, P3 (ix3 0 a k) * W3 (ix2 j k)) := by
  pointwise [k0_pay10]
end Pay

section Ref
variable (x0 : FVec Ideal Reference14Ideal.S4x2304x1024 .bf16) (x1 : FVec Ideal Reference14Ideal.S1024x4096 .bf16) (x2 : FVec Ideal Reference14Ideal.S2304x1024 .f32)
  (x3 : FVec Ideal Reference14Ideal.S1x1024 .f32) (x4 : FVec Ideal Reference14Ideal.S2x1x1024 .f32) (x5 : FVec Ideal Reference14Ideal.S2048x1024 .f32)

/-- The cotangent of the projection's operand, part by part. -/
def dh (r : Fin 2304) (j : Fin 1024) : EReal :=
  ∑ q : Fin 4, ∑ k : Fin 1024, x0 (ix3 q r k) * x1 (ix2 j ⟨q.val * 1024 + k.val, by omega⟩)

theorem v41_at (r : Fin 2304) (j : Fin 1024) : val_main_v41 (F := Ideal) x0 x1 (ix2 r j) = dh x0 x1 r j := by
  pointwise [val_main_v41, val_main_v40, val_main_v39, val_main_v38, val_main_v0]
  refine (Fin.sum_mul_add_congr (S := 4) (n := 1024) (L := 4096) fun q k hl => ?_).symm
  refine mul2 (congrArg x0 ?_) rfl
  rw [show (⟨(q.val * 1024 + k.val) / 1024, by omega⟩ : Fin 4) = q from Fin.ext (by show (q.val * 1024 + k.val) / 1024 = q.val; omega),
    show (⟨(q.val * 1024 + k.val) % 1024, by omega⟩ : Fin 1024) = k from Fin.ext (by show (q.val * 1024 + k.val) % 1024 = k.val; omega)]

theorem v14_at (r : Fin 2304) : val_main_v14 (F := Ideal) x2 (ix2 r 0) = msq (fun k => x2 (ix2 r k)) := by
  unfold msq
  pointwise [val_main_v14, val_main_v13, val_main_cst_3, val_main_v12, val_main_v11, val_main_cst_2, val_main_v10, val_main_v9, val_main_cst_1, val_main_v8]

theorem v15_at (r : Fin 2304) : val_main_v15 (F := Ideal) x2 (ix2 r 0) = rms (fun k => x2 (ix2 r k)) := by
  unfold rms
  rw [← v14_at]
  pointwise [val_main_v15]

/-- The gain of a row, of its kind. -/
def gain (r : Fin 2304) (k : Fin 1024) : EReal := x3 (ix2 0 k) * (1 + if 2048 ≤ r.val then x4 (ix3 1 0 k) else x4 (ix3 0 0 k))

theorem v27_at (r : Fin 2304) (j : Fin 1024) : val_main_v27 (F := Ideal) x3 x4 (ix2 r j) = gain x3 x4 r j := by
  unfold gain
  pointwise [val_main_v27, val_main_v26, val_main_v25, val_main_v24, val_main_v23, val_main_v22, val_main_v21, val_main_v5, val_main_v4, val_main_v3, val_main_v2, val_main_v1, val_main_cst]
  by_cases h : 2048 ≤ r.val
  · rw [dif_neg (by omega), if_pos h]
  · rw [dif_pos (by omega), if_neg h]

/-- A row of the cotangent scaled by the row's gain. -/
def up (r : Fin 2304) (k : Fin 1024) : EReal := dh x0 x1 r k * gain x3 x4 r k

theorem v54_at (r : Fin 2304) (j : Fin 1024) : val_main_v54 (F := Ideal) x0 x1 x3 x4 (ix2 r j) = up x0 x1 x3 x4 r j := by
  unfold up
  rw [← v41_at, ← v27_at]
  pointwise [val_main_v54]

/-- The residual's cotangent, nothing in the rows after the latents. -/
def res (r : Fin 2304) (j : Fin 1024) : EReal := if h : r.val < 2048 then x5 (ix2 ⟨r.val, h⟩ j) else 0

theorem v80_at (r : Fin 2304) (j : Fin 1024) : val_main_v80 (F := Ideal) x5 (ix2 r j) = res x5 r j := by
  unfold res
  by_cases h : r.val < 2048
  · rw [dif_pos h]
    pointwise [val_main_v80, val_main_cst_16]
    exact dif_pos h
  · rw [dif_neg h]
    pointwise [val_main_v80, val_main_cst_16]
    exact dif_neg h

theorem v81_at (r : Fin 2304) (j : Fin 1024) : val_main_v81 (F := Ideal) x0 x1 x2 x3 x4 x5 (ix2 r j)
    = up x0 x1 x3 x4 r j * rms (fun k => x2 (ix2 r k)) + x2 (ix2 r j) * pull (up x0 x1 x3 x4 r) (fun k => x2 (ix2 r k))
      + pull (up x0 x1 x3 x4 r) (fun k => x2 (ix2 r k)) * x2 (ix2 r j) + res x5 r j := by
  rw [← v80_at]
  pointwise [val_main_v81, val_main_v79, val_main_v78, val_main_v77, val_main_v76, val_main_v75, val_main_v74, val_main_cst_15, val_main_v73, val_main_v72, val_main_cst_14,
    val_main_v71, val_main_v70, val_main_v69, val_main_v68, val_main_v67, val_main_cst_13, val_main_v66, val_main_v18, val_main_v17, val_main_cst_4, val_main_v16]
  simp only [Fin.sum_univ_one, v54_at, v15_at, v14_at]
  rfl

theorem v52_at0 (j : Fin 1024) : val_main_v52 (F := Ideal) x0 x1 (ix3 0 0 j) = ∑ k : Fin 2048, val_main_v41 (F := Ideal) x0 x1 (ix2 ⟨k.val, by omega⟩ j) := by
  pointwise [val_main_v52, val_main_v51, val_main_cst_8, val_main_v50, val_main_v49, val_main_v48, val_main_cst_7, val_main_v47, val_main_cst_6, val_main_v46, val_main_v45,
    val_main_v44, val_main_cst_5, val_main_v43, val_main_v42]

theorem v52_at1 (j : Fin 1024) : val_main_v52 (F := Ideal) x0 x1 (ix3 1 0 j) = ∑ k : Fin 256, val_main_v41 (F := Ideal) x0 x1 (ix2 ⟨2048 + k.val, by omega⟩ j) := by
  pointwise [val_main_v52, val_main_v51, val_main_cst_8, val_main_v50, val_main_v49, val_main_v48, val_main_cst_7, val_main_v47, val_main_cst_6, val_main_v46, val_main_v45,
    val_main_v44, val_main_cst_5, val_main_v43, val_main_v42]

theorem v65_at0 (j : Fin 1024) : val_main_v65 (F := Ideal) x0 x1 x2 (ix3 0 0 j) = ∑ k : Fin 2048, val_main_v53 (F := Ideal) x0 x1 x2 (ix2 ⟨k.val, by omega⟩ j) := by
  pointwise [val_main_v65, val_main_v64, val_main_cst_12, val_main_v63, val_main_v62, val_main_v61, val_main_cst_11, val_main_v60, val_main_cst_10, val_main_v59, val_main_v58,
    val_main_v57, val_main_cst_9, val_main_v56, val_main_v55]

theorem v65_at1 (j : Fin 1024) : val_main_v65 (F := Ideal) x0 x1 x2 (ix3 1 0 j) = ∑ k : Fin 256, val_main_v53 (F := Ideal) x0 x1 x2 (ix2 ⟨2048 + k.val, by omega⟩ j) := by
  pointwise [val_main_v65, val_main_v64, val_main_cst_12, val_main_v63, val_main_v62, val_main_v61, val_main_cst_11, val_main_v60, val_main_cst_10, val_main_v59, val_main_v58,
    val_main_v57, val_main_cst_9, val_main_v56, val_main_v55]

theorem v53_at (r : Fin 2304) (j : Fin 1024) : val_main_v53 (F := Ideal) x0 x1 x2 (ix2 r j) = dh x0 x1 r j * (x2 (ix2 r j) * rms (fun k => x2 (ix2 r k))) := by
  rw [← v41_at, ← v15_at, mul_comm]
  pointwise [val_main_v53, val_main_v20, val_main_v19]

/-- The two rows of sums, each over its kind's rows. -/
theorem both (f : Fin 2304 → EReal) (k : Fin 2) (S : Fin 2 → EReal) (h0 : S 0 = ∑ l : Fin 2048, f ⟨l.val, by omega⟩) (h1 : S 1 = ∑ l : Fin 256, f ⟨2048 + l.val, by omega⟩) :
    S k = ∑ l : Fin 2304, if (2048 ≤ l.val ↔ k.val = 1) then f l else 0 := by
  refine Eq.trans ?_ (Fin.sum_univ_add (a := 2048) (b := 256) (fun l : Fin (2048 + 256) => if (2048 ≤ l.val ↔ k.val = 1) then f l else 0)).symm
  match k with
  | 0 =>
    rw [h0, Finset.sum_eq_zero (s := (Finset.univ : Finset (Fin 256))) (fun r _ => if_neg (by simp)), add_zero]
    exact Finset.sum_congr rfl fun r _ => (if_pos (by have := r.isLt; simp)).symm
  | 1 =>
    rw [h1, Finset.sum_eq_zero (s := (Finset.univ : Finset (Fin 2048))) (fun r _ => if_neg (by have := r.isLt; simp)), zero_add]
    exact Finset.sum_congr rfl fun r _ => (if_pos (by simp)).symm

theorem v52_at (k : Fin 2) (j : Fin 1024) : val_main_v52 (F := Ideal) x0 x1 (ix3 k 0 j)
    = ∑ l : Fin 2304, if (2048 ≤ l.val ↔ k.val = 1) then dh x0 x1 l j else 0 :=
  both (fun l => dh x0 x1 l j) k (fun k => val_main_v52 (F := Ideal) x0 x1 (ix3 k 0 j)) ((v52_at0 _ _ j).trans (Finset.sum_congr rfl fun _ _ => v41_at _ _ _ _))
    ((v52_at1 _ _ j).trans (Finset.sum_congr rfl fun _ _ => v41_at _ _ _ _))

theorem v65_at (k : Fin 2) (j : Fin 1024) : val_main_v65 (F := Ideal) x0 x1 x2 (ix3 k 0 j)
    = ∑ l : Fin 2304, if (2048 ≤ l.val ↔ k.val = 1) then dh x0 x1 l j * (x2 (ix2 l j) * rms (fun k => x2 (ix2 l k))) else 0 :=
  both (fun l => dh x0 x1 l j * (x2 (ix2 l j) * rms (fun k => x2 (ix2 l k)))) k (fun k => val_main_v65 (F := Ideal) x0 x1 x2 (ix3 k 0 j))
    ((v65_at0 _ _ _ j).trans (Finset.sum_congr rfl fun _ _ => v53_at _ _ _ _ _)) ((v65_at1 _ _ _ j).trans (Finset.sum_congr rfl fun _ _ => v53_at _ _ _ _ _))
end Ref

/-! ## The result arrays -/

abbrev A0 : FVec Ideal S4x2304x1024 .bf16 := m ((c : Thread nD τ).loc main_arg0)
abbrev A1 : FVec Ideal S1024x4096 .bf16 := m ((c : Thread nD τ).loc main_arg1)
abbrev A2 : FVec Ideal S2304x1024 .f32 := m ((c : Thread nD τ).loc main_arg2)
abbrev A3 : FVec Ideal S1x1024 .f32 := m ((c : Thread nD τ).loc main_arg3)
abbrev A4 : FVec Ideal S2x1x1024 .f32 := m ((c : Thread nD τ).loc main_arg4)
abbrev A5 : FVec Ideal S2048x1024 .f32 := m ((c : Thread nD τ).loc main_arg5)

abbrev b0 (t : Fin cfg0.N) : FVec Ideal S4x768x1024 .bf16 := iblk m c 0 t
abbrev b1 (t : Fin cfg0.N) : FVec Ideal S1024x4096 .bf16 := iblk m c 1 t
abbrev b2 (t : Fin cfg0.N) : FVec Ideal S768x1024 .f32 := iblk m c 2 t
abbrev b3 (t : Fin cfg0.N) : FVec Ideal S768x1 .f32 := iblk m c 3 t
abbrev b4 (t : Fin cfg0.N) : FVec Ideal S1x1024 .f32 := iblk m c 4 t
abbrev b5 (t : Fin cfg0.N) : FVec Ideal S2x1x1024 .f32 := iblk m c 5 t
abbrev b6 (t : Fin cfg0.N) : FVec Ideal S256x1024 .f32 := iblk m c 6 t
abbrev b7 (t : Fin cfg0.N) : FVec Ideal S256x1024 .f32 := iblk m c 7 t
abbrev b8 (t : Fin cfg0.N) : FVec Ideal S256x1024 .f32 := iblk m c 8 t

theorem V_factor : V m c main_v7 = val_main_v15 (F := Ideal) (A2 m c) := by
  unfold V
  after_results
  rfl

abbrev p0 (t : Fin cfg0.N) : FVec Ideal S1x768x1024 .bf16 := View.ld (Val := Elt Ideal) (S := S4x768x1024) (e' := .bf16) (b0 m c t) (Rect.unit (s := S4x768x1024) ![0, 0, 0] ![1, 768, 1024] inb_S4x768x1024_S1x768x1024_0_0_0)
abbrev p1 (t : Fin cfg0.N) : FVec Ideal S1x768x1024 .bf16 := View.ld (Val := Elt Ideal) (S := S4x768x1024) (e' := .bf16) (b0 m c t) (Rect.unit (s := S4x768x1024) ![1, 0, 0] ![1, 768, 1024] inb_S4x768x1024_S1x768x1024_1_0_0)
abbrev p2 (t : Fin cfg0.N) : FVec Ideal S1x768x1024 .bf16 := View.ld (Val := Elt Ideal) (S := S4x768x1024) (e' := .bf16) (b0 m c t) (Rect.unit (s := S4x768x1024) ![2, 0, 0] ![1, 768, 1024] inb_S4x768x1024_S1x768x1024_2_0_0)
abbrev p3 (t : Fin cfg0.N) : FVec Ideal S1x768x1024 .bf16 := View.ld (Val := Elt Ideal) (S := S4x768x1024) (e' := .bf16) (b0 m c t) (Rect.unit (s := S4x768x1024) ![3, 0, 0] ![1, 768, 1024] inb_S4x768x1024_S1x768x1024_3_0_0)
abbrev w0 (t : Fin cfg0.N) : FVec Ideal S1024x1024 .bf16 := View.ld (Val := Elt Ideal) (S := S1024x4096) (e' := .bf16) (b1 m c t) (Rect.unit (s := S1024x4096) ![0, 0] ![1024, 1024] inb_S1024x4096_S1024x1024_0_0)
abbrev w1 (t : Fin cfg0.N) : FVec Ideal S1024x1024 .bf16 := View.ld (Val := Elt Ideal) (S := S1024x4096) (e' := .bf16) (b1 m c t) (Rect.unit (s := S1024x4096) ![0, 1024] ![1024, 1024] inb_S1024x4096_S1024x1024_0_1024)
abbrev w2 (t : Fin cfg0.N) : FVec Ideal S1024x1024 .bf16 := View.ld (Val := Elt Ideal) (S := S1024x4096) (e' := .bf16) (b1 m c t) (Rect.unit (s := S1024x4096) ![0, 2048] ![1024, 1024] inb_S1024x4096_S1024x1024_0_2048)
abbrev w3 (t : Fin cfg0.N) : FVec Ideal S1024x1024 .bf16 := View.ld (Val := Elt Ideal) (S := S1024x4096) (e' := .bf16) (b1 m c t) (Rect.unit (s := S1024x4096) ![0, 3072] ![1024, 1024] inb_S1024x4096_S1024x1024_0_3072)
abbrev bG (t : Fin cfg0.N) : FVec Ideal S1x1x1024 .f32 := View.ld (Val := Elt Ideal) (S := S2x1x1024) (e' := .f32) (b5 m c t) (Rect.unit (s := S2x1x1024) ![0, 0, 0] ![1, 1, 1024] inb_S2x1x1024_S1x1x1024_0_0_0)
abbrev bH (t : Fin cfg0.N) : FVec Ideal S1x1x1024 .f32 := View.ld (Val := Elt Ideal) (S := S2x1x1024) (e' := .f32) (b5 m c t) (Rect.unit (s := S2x1x1024) ![1, 0, 0] ![1, 1, 1024] inb_S2x1x1024_S1x1x1024_1_0_0)

/-- The block's rows of the projection's cotangent. -/
abbrev bD (t : Fin cfg0.N) : FVec Ideal S768x1024 .f32 :=
  k0_pay10 (F := Ideal) (p0 m c t) (w0 m c t) (p1 m c t) (w1 m c t) (p2 m c t) (w2 m c t) (p3 m c t) (w3 m c t)

/-- The row of the arrays a block's row is. -/
abbrev at_ (t : Fin cfg0.N) (r : Fin 768) : Fin 2304 := ⟨t.val * 768 + r.val, by have : t.val < 3 := t.isLt; omega⟩

theorem ldG (P : FVec Ideal S2x1x1024 .f32) (l : Fin 1024) :
    View.ld (Val := Elt Ideal) (S := S2x1x1024) (e' := .f32) P (Rect.unit (s := S2x1x1024) ![0, 0, 0] ![1, 1, 1024] inb_S2x1x1024_S1x1x1024_0_0_0) (ix3 0 0 l) = P (ix3 0 0 l) := by
  refine View.ld_unit_apply_of (Val := Elt Ideal) (S := S2x1x1024) (e := .f32) P _ _ _ _ _ fun a => ?_
  fin_cases a <;> first | rfl | exact (Nat.zero_add _).symm
theorem ldH (P : FVec Ideal S2x1x1024 .f32) (l : Fin 1024) :
    View.ld (Val := Elt Ideal) (S := S2x1x1024) (e' := .f32) P (Rect.unit (s := S2x1x1024) ![1, 0, 0] ![1, 1, 1024] inb_S2x1x1024_S1x1x1024_1_0_0) (ix3 0 0 l) = P (ix3 1 0 l) := by
  refine View.ld_unit_apply_of (Val := Elt Ideal) (S := S2x1x1024) (e := .f32) P _ _ _ _ _ fun a => ?_
  fin_cases a <;> first | rfl | exact (Nat.zero_add _).symm

theorem blkp0 (t : Fin cfg0.N) (r : Fin 768) (k : Fin 1024) : p0 m c t (ix3 0 r k) = A0 m c (ix3 0 (at_ t r) k) := by
  blk_ext! [p0, b0, iblk, V, idx t]
theorem blkp1 (t : Fin cfg0.N) (r : Fin 768) (k : Fin 1024) : p1 m c t (ix3 0 r k) = A0 m c (ix3 1 (at_ t r) k) := by
  blk_ext! [p1, b0, iblk, V, idx t]
theorem blkp2 (t : Fin cfg0.N) (r : Fin 768) (k : Fin 1024) : p2 m c t (ix3 0 r k) = A0 m c (ix3 2 (at_ t r) k) := by
  blk_ext! [p2, b0, iblk, V, idx t]
theorem blkp3 (t : Fin cfg0.N) (r : Fin 768) (k : Fin 1024) : p3 m c t (ix3 0 r k) = A0 m c (ix3 3 (at_ t r) k) := by
  blk_ext! [p3, b0, iblk, V, idx t]
theorem blkw0 (t : Fin cfg0.N) (j k : Fin 1024) : w0 m c t (ix2 j k) = A1 m c (ix2 j ⟨0 * 1024 + k.val, by omega⟩) := by
  blk_ext! [w0, b1, iblk, V, idx t]
theorem blkw1 (t : Fin cfg0.N) (j k : Fin 1024) : w1 m c t (ix2 j k) = A1 m c (ix2 j ⟨1 * 1024 + k.val, by omega⟩) := by
  blk_ext! [w1, b1, iblk, V, idx t]
theorem blkw2 (t : Fin cfg0.N) (j k : Fin 1024) : w2 m c t (ix2 j k) = A1 m c (ix2 j ⟨2 * 1024 + k.val, by omega⟩) := by
  blk_ext! [w2, b1, iblk, V, idx t]
theorem blkw3 (t : Fin cfg0.N) (j k : Fin 1024) : w3 m c t (ix2 j k) = A1 m c (ix2 j ⟨3 * 1024 + k.val, by omega⟩) := by
  blk_ext! [w3, b1, iblk, V, idx t]
theorem blk2 (t : Fin cfg0.N) (r : Fin 768) (j : Fin 1024) : b2 m c t (ix2 r j) = A2 m c (ix2 (at_ t r) j) := by
  blk_ext! [b2, iblk, V, idx t]
theorem blk3 (t : Fin cfg0.N) (r : Fin 768) : b3 m c t (ix2 r 0) = val_main_v15 (F := Ideal) (A2 m c) (ix2 (at_ t r) 0) := by
  have e : V m c (Pipeline.arrRef spec0 3) = val_main_v15 (F := Ideal) (A2 m c) := V_factor m c
  unfold b3 iblk
  rw [e]
  generalize val_main_v15 (F := Ideal) (A2 m c) = X
  blk_ext! [idx t]
theorem blk4 (t : Fin cfg0.N) (j : Fin 1024) : b4 m c t (ix2 0 j) = A3 m c (ix2 0 j) := by
  blk_ext! [b4, iblk, V, idx t]
theorem blkG (t : Fin cfg0.N) (j : Fin 1024) : bG m c t (ix3 0 0 j) = A4 m c (ix3 0 0 j) := by
  blk_ext! [bG, b5, iblk, V, idx t]
theorem blkH (t : Fin cfg0.N) (j : Fin 1024) : bH m c t (ix3 0 0 j) = A4 m c (ix3 1 0 j) := by
  blk_ext! [bH, b5, iblk, V, idx t]
theorem blk6 (t : Fin cfg0.N) (r : Fin 256) (j : Fin 1024) : b6 m c t (ix2 r j) = A5 m c (ix2 ⟨min (t.val * 3) 7 * 256 + r.val, by omega⟩ j) := by
  blk_ext! [b6, iblk, V, idx t]
theorem blk7 (t : Fin cfg0.N) (r : Fin 256) (j : Fin 1024) : b7 m c t (ix2 r j) = A5 m c (ix2 ⟨min (t.val * 3 + 1) 7 * 256 + r.val, by omega⟩ j) := by
  blk_ext! [b7, iblk, V, idx t]
theorem blk8 (t : Fin cfg0.N) (r : Fin 256) (j : Fin 1024) : b8 m c t (ix2 r j) = A5 m c (ix2 ⟨min (t.val * 3 + 2) 7 * 256 + r.val, by omega⟩ j) := by
  blk_ext! [b8, iblk, V, idx t]

/-- A piece's rows of the residual's cotangent. -/
theorem piece (t : Fin cfg0.N) (s : ℕ) (hs : s < 3) (r : Fin 256) (j : Fin 1024) (Q : EReal) (R : Fin 768) (hR : R.val = s * 256 + r.val)
    (hQ : Q = A5 m c (ix2 ⟨min (t.val * 3 + s) 7 * 256 + r.val, by omega⟩ j)) :
    Scalar.select (Scalar.cmpi CmpIPredicate.slt (Scalar.addi (Scalar.muli (BitVec.ofNat 32 (grid0.coords t 0).val) 3#32) (BitVec.ofNat 32 s)) 8#32) Q 0 = res (A5 m c) (at_ t R) j := by
  have ht : t.val < 3 := t.isLt
  rw [at0, masked (piece_cond t.val s (by omega)), hQ]
  unfold res
  by_cases h : t.val * 3 + s < 8
  · rw [if_pos h, dif_pos (show t.val * 768 + R.val < 2048 by omega)]
    exact congrArg (fun x => A5 m c (ix2 x j)) (Fin.ext (show min (t.val * 3 + s) 7 * 256 + r.val = t.val * 768 + R.val by omega))
  · rw [if_neg h, dif_neg (show ¬t.val * 768 + R.val < 2048 by omega)]

theorem early (t : Fin cfg0.N) (h : t.val % 3 = 0) : ¬1 ≤ t.val := by
  have : t.val < 3 := t.isLt
  omega

theorem late (t : Fin cfg0.N) (h : ¬t.val % 3 = 0) : 1 ≤ t.val := by
  omega

/-- The block's normalised rows. -/
abbrev bN (t : Fin cfg0.N) : FVec Ideal S768x1024 .f32 := k0_pay13 (F := Ideal) (k0_pay12 (b3 m c t)) (b2 m c t)

/-- A row of the operand. -/
abbrev xrow (r : Fin 2304) (k : Fin 1024) : EReal := A2 m c (ix2 r k)

theorem bD_at (t : Fin cfg0.N) (r : Fin 768) (j : Fin 1024) : bD m c t (ix2 r j) = dh (A0 m c) (A1 m c) (at_ t r) j := by
  refine (pay10 _ _ _ _ _ _ _ _ r j).trans ?_
  unfold dh
  rw [Fin.sum_univ_four]
  refine congrArg₂ (· + ·) (congrArg₂ (· + ·) (congrArg₂ (· + ·) ?_ ?_) ?_) ?_
  · exact Finset.sum_congr rfl fun k _ => mul2 (blkp0 m c t r k) (blkw0 m c t j k)
  · exact Finset.sum_congr rfl fun k _ => mul2 (blkp1 m c t r k) (blkw1 m c t j k)
  · exact Finset.sum_congr rfl fun k _ => mul2 (blkp2 m c t r k) (blkw2 m c t j k)
  · exact Finset.sum_congr rfl fun k _ => mul2 (blkp3 m c t r k) (blkw3 m c t j k)

theorem b3_at (t : Fin cfg0.N) (r : Fin 768) : b3 m c t (ix2 r 0) = rms (xrow m c (at_ t r)) := (blk3 m c t r).trans (v15_at _ _)

theorem bN_at (t : Fin cfg0.N) (r : Fin 768) (j : Fin 1024) : bN m c t (ix2 r j) = xrow m c (at_ t r) j * rms (xrow m c (at_ t r)) :=
  (pay13 _ _ r j).trans (mul2 (blk2 m c t r j) (b3_at m c t r))

theorem gained_at (t : Fin cfg0.N) (r : Fin 768) (j : Fin 1024) :
    gained (bD m c t) (k0_pay11 (grid0.coords t)) (b4 m c t) (bH m c t) (bG m c t) r j = up (A0 m c) (A1 m c) (A3 m c) (A4 m c) (at_ t r) j := by
  unfold gained up gain
  rw [bD_at, blk4, blkH, blkG, masked (pay11 (grid0.coords t) r), at0]

/-- What a block's row holds before the residual's cotangent is added. -/
abbrev bY (t : Fin cfg0.N) : FVec Ideal S768x1024 .f32 :=
  k0_pay14 (F := Ideal) (bD m c t) (k0_pay11 (grid0.coords t)) (k0_pay12 (b3 m c t)) (b2 m c t) (b4 m c t) (bH m c t) (bG m c t)

theorem bY_at (t : Fin cfg0.N) (r : Fin 768) (j : Fin 1024) :
    bY m c t (ix2 r j) = off (up (A0 m c) (A1 m c) (A3 m c) (A4 m c) (at_ t r)) (xrow m c (at_ t r)) j := by
  refine (pay14 _ _ _ _ _ _ _ r j).trans ?_
  unfold off
  rw [b3_at, gained_at, blk2]
  rw [Finset.sum_congr rfl fun k _ => mul2 (gained_at m c t r k) (mul2 (blk2 m c t r k) rfl)]

theorem pay15_at (t : Fin cfg0.N) (a : Fin 256) (j : Fin 1024) (r : Fin 768) (hr : r.val = a.val) :
    k0_pay15 (F := Ideal) (BitVec.ofNat 32 (grid0.coords t 0).val) (bD m c t) (k0_pay11 (grid0.coords t)) (k0_pay12 (b3 m c t)) (b2 m c t) (b4 m c t) (bH m c t) (bG m c t) (b6 m c t) (ix2 a j)
      = off (up (A0 m c) (A1 m c) (A3 m c) (A4 m c) (at_ t r)) (xrow m c (at_ t r)) j + res (A5 m c) (at_ t r) j := by
  obtain rfl : r = ⟨a.val, Nat.lt_trans a.isLt (by decide)⟩ := Fin.ext hr
  exact (pay15 _ _ _ _ _ _ _ _ _ a j).trans (congrArg₂ (· + ·) (bY_at m c t _ j) (piece m c t 0 (by decide) a j _ _ (by simp) (blk6 m c t a j)))

theorem pay16_at (t : Fin cfg0.N) (a : Fin 256) (j : Fin 1024) (r : Fin 768) (hr : r.val = 256 + a.val) :
    k0_pay16 (F := Ideal) (BitVec.ofNat 32 (grid0.coords t 0).val) (bY m c t) (b7 m c t) (ix2 a j)
      = off (up (A0 m c) (A1 m c) (A3 m c) (A4 m c) (at_ t r)) (xrow m c (at_ t r)) j + res (A5 m c) (at_ t r) j := by
  obtain rfl : r = ⟨256 + a.val, Nat.lt_of_lt_of_le (Nat.add_lt_add_left a.isLt 256) (by decide)⟩ := Fin.ext hr
  exact (pay16 _ _ _ a j).trans (congrArg₂ (· + ·) (bY_at m c t _ j) (piece m c t 1 (by decide) a j _ _ (by simp) (blk7 m c t a j)))

theorem pay17_at (t : Fin cfg0.N) (a : Fin 256) (j : Fin 1024) (r : Fin 768) (hr : r.val = 512 + a.val) :
    k0_pay17 (F := Ideal) (BitVec.ofNat 32 (grid0.coords t 0).val) (bY m c t) (b8 m c t) (ix2 a j)
      = off (up (A0 m c) (A1 m c) (A3 m c) (A4 m c) (at_ t r)) (xrow m c (at_ t r)) j + res (A5 m c) (at_ t r) j := by
  obtain rfl : r = ⟨512 + a.val, Nat.lt_of_lt_of_le (Nat.add_lt_add_left a.isLt 512) (by decide)⟩ := Fin.ext hr
  exact (pay17 _ _ _ a j).trans (congrArg₂ (· + ·) (bY_at m c t _ j) (piece m c t 2 (by decide) a j _ _ (by simp) (blk8 m c t a j)))

theorem out9 (t : Fin cfg0.N) (r : Fin 768) (j : Fin 1024) : (outsAt0 m c t.val t.isLt).1 (ix2 r j)
    = off (up (A0 m c) (A1 m c) (A3 m c) (A4 m c) (at_ t r)) (xrow m c (at_ t r)) j + res (A5 m c) (at_ t r) j := by
  have hx : ∀ x : S256x1024.Idx, ∃ a b, x = ix2 (n0 := 256) (n1 := 1024) a b := fun x => ⟨_, _, (ix2_eta x).symm⟩
  by_cases h : t.val % 3 = 0
  · rw [outsAt0_A m c t h (early t h) h (early t h)]; frame_out
    clear h
    canon_tiles x h
    all_goals
      obtain ⟨a, b, rfl⟩ := hx x
      obtain rfl : j = b := Fin.ext h1
    · exact pay17_at m c t a j r h0
    · exact pay16_at m c t a j r h0
    · exact pay15_at m c t a j r h0
  · rw [outsAt0_B m c t h (late t h) h (late t h)]; frame_out
    clear h
    canon_tiles x h
    all_goals
      obtain ⟨a, b, rfl⟩ := hx x
      obtain rfl : j = b := Fin.ext h1
    · exact pay17_at m c t a j r h0
    · exact pay16_at m c t a j r h0
    · exact pay15_at m c t a j r h0

theorem final9 (hy : ∀ r k, Real' (up (A0 m c) (A1 m c) (A3 m c) (A4 m c) r k)) (hx : ∀ r k, Real' (xrow m c r k)) :
    (dats m 0 c).arrAt 9 cfg0.N = val_main_v81 (F := Ideal) (A0 m c) (A1 m c) (A2 m c) (A3 m c) (A4 m c) (A5 m c) := by
  refine (dats m 0 c).arrAt_eq_of_covers 9 _ (by decide +kernel) fun t _ y => ?_
  obtain ⟨i, j, rfl⟩ : ∃ i j, y = ix2 (n0 := 768) (n1 := 1024) i j := ⟨_, _, (ix2_eta y).symm⟩
  blk_simp
  rw [after0_9]
  refine (out9 m c t i j).trans ((off_eq (hy _) (hx _) _ j).trans ((add_front _ _ _ _).trans
    ((v81_at (A0 m c) (A1 m c) (A2 m c) (A3 m c) (A4 m c) (A5 m c) (at_ t i) j).symm.trans ?_)))
  have ht : t.val < 3 := t.isLt
  generalize val_main_v81 (F := Ideal) (A0 m c) (A1 m c) (A2 m c) (A3 m c) (A4 m c) (A5 m c) = X
  blk_ext! [idx t]

theorem row (y : S2x1x1024.Idx) : ∃ (k : Fin 2) (l : Fin 1024), y = ix3 (n0 := 2) (n1 := 1) (n2 := 1024) k 0 l :=
  ⟨y 0, y 2, (ix3_eta y).symm.trans (by rw [show y 1 = (0 : Fin 1) from Subsingleton.elim (α := Fin 1) _ _])⟩

/-- What a point adds to the shift's gradient. -/
def part10 (t : Fin cfg0.N) (y : S2x1x1024.Idx) : EReal :=
  ∑ r : Fin 768, if (2048 ≤ t.val * 768 + r.val ↔ (y 0).val = 1) then (bD m c t (ix2 r (y 2)) : EReal) else 0

/-- What a point adds to the gain's gradient. -/
def part11 (t : Fin cfg0.N) (y : S2x1x1024.Idx) : EReal :=
  ∑ r : Fin 768, if (2048 ≤ t.val * 768 + r.val ↔ (y 0).val = 1) then (bD m c t (ix2 r (y 2)) : EReal) * (bN m c t (ix2 r (y 2)) : EReal) else 0

theorem shift0 (t : Fin cfg0.N) (l : Fin 1024) : k0_pay18 (F := Ideal) (bD m c t) (k0_pay11 (grid0.coords t)) (ix2 0 l) = part10 m c t (ix3 0 0 l) := by
  rw [part10, pay18, at0]
  exact Finset.sum_congr rfl fun r _ => ((sides 0 _).trans (if_neg (by decide))).symm
theorem shift1 (t : Fin cfg0.N) (l : Fin 1024) : k0_pay19 (F := Ideal) (bD m c t) (k0_pay11 (grid0.coords t)) (ix2 0 l) = part10 m c t (ix3 1 0 l) := by
  rw [part10, pay19, at0]
  exact Finset.sum_congr rfl fun r _ => ((sides 1 _).trans (if_pos rfl)).symm
theorem gain0 (t : Fin cfg0.N) (l : Fin 1024) : k0_pay4 (F := Ideal) (bD m c t) (k0_pay11 (grid0.coords t)) (bN m c t) (ix2 0 l) = part11 m c t (ix3 0 0 l) := by
  rw [part11, pay4, at0]
  exact Finset.sum_congr rfl fun r _ => ((sides 0 _).trans (if_neg (by decide))).symm
theorem gain1 (t : Fin cfg0.N) (l : Fin 1024) : k0_pay5 (F := Ideal) (bD m c t) (k0_pay11 (grid0.coords t)) (bN m c t) (ix2 0 l) = part11 m c t (ix3 1 0 l) := by
  rw [part11, pay5, at0]
  exact Finset.sum_congr rfl fun r _ => ((sides 1 _).trans (if_pos rfl)).symm

theorem out10_first (t : Fin cfg0.N) (h : t.val % 3 = 0) (y : S2x1x1024.Idx) : (outsAt0 m c t.val t.isLt).2.1 y = 0 + part10 m c t y := by
  rw [outsAt0_A m c t h (early t h) h (early t h), zero_add]; frame_out
  clear h
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    exact (pay21 _ _ l).trans (shift1 m c t l)
  · obtain rfl : k = 0 := Fin.ext h0
    exact (pay20 _ _ l).trans (shift0 m c t l)

theorem out10_next (t : Fin cfg0.N) (h : ¬t.val % 3 = 0) (y : S2x1x1024.Idx) :
    (outsAt0 m c t.val t.isLt).2.1 y = (outsAt0 m c (t.val - 1) (Nat.lt_of_le_of_lt (Nat.sub_le _ _) t.isLt)).2.1 y + part10 m c t y := by
  rw [outsAt0_B m c t h (late t h) h (late t h)]; frame_out
  clear h
  generalize (outsAt0 m c (t.val - 1) _).2.1 = P
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    refine (pay2 _ _ l).trans ?_
    rw [shift1]
    refine congrArg (· + part10 m c t (ix3 1 0 l)) ?_
    exact ldH P l
  · obtain rfl : k = 0 := Fin.ext h0
    refine (pay1 _ _ l).trans ?_
    rw [shift0]
    refine congrArg (· + part10 m c t (ix3 0 0 l)) ?_
    exact ldG P l

theorem out11_first (t : Fin cfg0.N) (h : t.val % 3 = 0) (y : S2x1x1024.Idx) : (outsAt0 m c t.val t.isLt).2.2 y = 0 + part11 m c t y := by
  rw [outsAt0_A m c t h (early t h) h (early t h), zero_add]; frame_out
  clear h
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    exact (pay7 _ _ _ l).trans (gain1 m c t l)
  · obtain rfl : k = 0 := Fin.ext h0
    exact (pay6 _ _ _ l).trans (gain0 m c t l)

theorem out11_next (t : Fin cfg0.N) (h : ¬t.val % 3 = 0) (y : S2x1x1024.Idx) :
    (outsAt0 m c t.val t.isLt).2.2 y = (outsAt0 m c (t.val - 1) (Nat.lt_of_le_of_lt (Nat.sub_le _ _) t.isLt)).2.2 y + part11 m c t y := by
  rw [outsAt0_B m c t h (late t h) h (late t h)]; frame_out
  clear h
  generalize (outsAt0 m c (t.val - 1) _).2.2 = P
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    refine (pay9 _ _ _ _ l).trans ?_
    rw [gain1]
    refine congrArg (· + part11 m c t (ix3 1 0 l)) ?_
    exact ldH P l
  · obtain rfl : k = 0 := Fin.ext h0
    refine (pay8 _ _ _ _ l).trans ?_
    rw [gain0]
    refine congrArg (· + part11 m c t (ix3 0 0 l)) ?_
    exact ldG P l

theorem final10 : (dats m 0 c).arrAt 10 cfg0.N = val_main_v52 (F := Ideal) (A0 m c) (A1 m c) := by
  refine (dats m 0 c).arrAt_eq_of_after_last 10 t0_2 (by decide +kernel) _ fun y => ?_
  blk_simp
  rw [after0_10]
  refine (Pipeline.eq_sum_fin_of_reset_step_apply_last (fun n h => (outsAt0 m c n h).2.1) 3 (fun _ => (0 : EReal)) (part10 m c)
    (out10_first m c) (out10_next m c) (le_of_eq N_0) t0_2 rfl y).trans ?_
  obtain ⟨k, l, rfl⟩ := row y
  rw [zero_add, v52_at]
  unfold part10
  refine Fin.sum_mul_add_congr (S := 3) (n := 768) (L := 2304) (f := fun l' : Fin 2304 => if (2048 ≤ l'.val ↔ k.val = 1) then dh (A0 m c) (A1 m c) l' l else 0) (fun s r hl => ?_)
  exact congrArg (fun x : EReal => if (2048 ≤ s.val * 768 + r.val ↔ k.val = 1) then x else 0) (bD_at m c s r l)

theorem final11 : (dats m 0 c).arrAt 11 cfg0.N = val_main_v65 (F := Ideal) (A0 m c) (A1 m c) (A2 m c) := by
  refine (dats m 0 c).arrAt_eq_of_after_last 11 t0_2 (by decide +kernel) _ fun y => ?_
  blk_simp
  rw [after0_11]
  refine (Pipeline.eq_sum_fin_of_reset_step_apply_last (fun n h => (outsAt0 m c n h).2.2) 3 (fun _ => (0 : EReal)) (part11 m c)
    (out11_first m c) (out11_next m c) (le_of_eq N_0) t0_2 rfl y).trans ?_
  obtain ⟨k, l, rfl⟩ := row y
  rw [zero_add, v65_at]
  unfold part11
  refine Fin.sum_mul_add_congr (S := 3) (n := 768) (L := 2304) (f := fun l' : Fin 2304 => if (2048 ≤ l'.val ↔ k.val = 1) then dh (A0 m c) (A1 m c) l' l * (xrow m c l' l * rms (xrow m c l')) else 0) (fun s r hl => ?_)
  exact congrArg (fun x : EReal => if (2048 ≤ s.val * 768 + r.val ↔ k.val = 1) then x else 0) (mul2 (bD_at m c s r l) (bN_at m c s r l))

/-! ## The precondition, and the claim -/

section Pre
variable (x0 : FVec Ideal Pre_finite14.S4x2304x1024 .bf16) (x1 : FVec Ideal Pre_finite14.S1024x4096 .bf16) (x2 : FVec Ideal Pre_finite14.S2304x1024 .f32)
  (x3 : FVec Ideal Pre_finite14.S1x1024 .f32) (x4 : FVec Ideal Pre_finite14.S2x1x1024 .f32) (x5 : FVec Ideal Pre_finite14.S2048x1024 .f32)

theorem real0 (h : (Pre_finite14.fn (F := Ideal) x0 x1 x2 x3 x4 x5).1 = fun _ => 1#1) (q : Fin 4) (r : Fin 2304) (k : Fin 1024) : Real' (x0 (ix3 q r k)) := by
  refine real_of_bit (Eq.trans ?_ (congrFun h (ix3 q r k)))
  pointwise [Pre_finite14.fn]
  rfl

theorem real1 (h : (Pre_finite14.fn (F := Ideal) x0 x1 x2 x3 x4 x5).2.1 = fun _ => 1#1) (r : Fin 1024) (k : Fin 4096) : Real' (x1 (ix2 r k)) := by
  refine real_of_bit (Eq.trans ?_ (congrFun h (ix2 r k)))
  pointwise [Pre_finite14.fn]
  rfl

theorem real2 (h : (Pre_finite14.fn (F := Ideal) x0 x1 x2 x3 x4 x5).2.2.1 = fun _ => 1#1) (r : Fin 2304) (k : Fin 1024) : Real' (x2 (ix2 r k)) := by
  refine real_of_bit (Eq.trans ?_ (congrFun h (ix2 r k)))
  pointwise [Pre_finite14.fn]
  rfl

theorem real3 (h : (Pre_finite14.fn (F := Ideal) x0 x1 x2 x3 x4 x5).2.2.2.1 = fun _ => 1#1) (k : Fin 1024) : Real' (x3 (ix2 0 k)) := by
  refine real_of_bit (Eq.trans ?_ (congrFun h (ix2 0 k)))
  pointwise [Pre_finite14.fn]
  rfl

theorem real4 (h : (Pre_finite14.fn (F := Ideal) x0 x1 x2 x3 x4 x5).2.2.2.2 = fun _ => 1#1) (e : Fin 2) (k : Fin 1024) : Real' (x4 (ix3 e 0 k)) := by
  refine real_of_bit (Eq.trans ?_ (congrFun h (ix3 e 0 k)))
  pointwise [Pre_finite14.fn]
  rfl

theorem real_up (h0 : ∀ q r k, Real' (x0 (ix3 q r k))) (h1 : ∀ j k, Real' (x1 (ix2 j k))) (h3 : ∀ k, Real' (x3 (ix2 0 k))) (h4 : ∀ e k, Real' (x4 (ix3 e 0 k)))
    (r : Fin 2304) (k : Fin 1024) : Real' (up x0 x1 x3 x4 r k) :=
  (Real'.sum fun q => Real'.sum fun l => (h0 q r l).mul (h1 k _)).mul ((h3 k).mul (Real'.one.add (by split <;> exact h4 _ k)))
end Pre

theorem algebraic : Cert.algebraic_Kernel14Ideal_Reference14Ideal_pre_finite14 := by
  pair_intro
  · run_from Cert.Kernel14Ideal.Value.run_blocks m g
  · refine Idealize.ShloMosaic.θ_run_mono (Cert.Reference14Ideal.Value.run m' g') ?_
    intro r hr c
    obtain ⟨e0, e1, e2, e3, e4, e5⟩ := hagree c
    obtain ⟨h0, h1, h2, h3, h4⟩ := hpre c
    have q8 : val_main_v81 (F := Ideal) (A0 m c) (A1 m c) (A2 m c) (A3 m c) (A4 m c) (A5 m c) = (dats m 0 c).arrAt 9 cfg0.N :=
      (final9 m c (real_up _ _ _ _ (real0 _ _ _ _ _ _ h0) (real1 _ _ _ _ _ _ h1) (real3 _ _ _ _ _ _ h3) (real4 _ _ _ _ _ _ h4)) (real2 _ _ _ _ _ _ h2)).symm
    have q9 : val_main_v52 (F := Ideal) (A0 m c) (A1 m c) = (dats m 0 c).arrAt 10 cfg0.N := (final10 m c).symm
    have q10 : val_main_v65 (F := Ideal) (A0 m c) (A1 m c) (A2 m c) = (dats m 0 c).arrAt 11 cfg0.N := (final11 m c).symm
    refine ⟨(hr c).1.trans ?_, (hr c).2.1.trans ?_, (hr c).2.2.1.trans ?_, (hr c).2.2.2⟩
    · refine (Reference14Ideal.Read.val_main_v81_eq _ _).trans ?_
      rw [e0, e1, e2, e3, e4, e5]
      exact q8
    · refine (Reference14Ideal.Read.val_main_v52_eq _ _).trans ?_
      rw [e0, e1]
      exact q9
    · refine (Reference14Ideal.Read.val_main_v65_eq _ _ _).trans ?_
      rw [e0, e1, e2]
      exact q10

theorem frame_reference : Cert.quiescent_Reference14Ideal := fun m g _ =>
  (θ_run Reference14Ideal.defs _ _).mono (fun r h => ⟨fun c => (h c).2.2.2, sem_eq_zero_of_no_sems (by decide) r.2⟩) (Reference14Ideal.Value.run m g)

end Cert.Latent14

end
-- ==== Proof.Latent15.lean ====
/- The input projection's backward call over the latent and context rows, two parts: the projection's and the norm's gradients. -/
module

public import proofs.«01_k».proof.Defs
public import proofs.«01_k».proof.Proof.LatentMath
public import proofs.«01_k».proof.Proof.SegMath
public import proofs.«01_k».proof.Proof.Gen.Pre_finite15
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise

@[expose] public section

set_option maxRecDepth 16384

noncomputable section

namespace Cert.Latent15

open Idealize.ShloMosaic Idealize.ShloMosaic.TcCoe Idealize.SL.Sem
open Idealize.ShloMosaic.Pipeline (Dat)
open Cert.ConvMath (Real')
open Cert.LatentMath (off off_eq pull rms msq chans mul2 real_of_bit Real'.sum Real'.one)
open Cert.SegMath (masked row_cond sides)
open Cert.Kernel15Ideal Cert.Kernel15Ideal.Gen
open Cert.Reference15Ideal.Read

variable (m : (ℓ : Loc nD τ sig) → Buf (Elt Ideal) ℓ) (c : Dev nD)

theorem idx : ∀ t : Fin cfg0.N, win0_0.index t = ![0, t.val, 0] ∧ win0_1.index t = ![0, 0] ∧ win0_2.index t = ![t.val, 0] ∧ win0_3.index t = ![t.val, 0]
    ∧ win0_4.index t = ![0, 0] ∧ win0_5.index t = ![0, 0, 0] ∧ win0_6.index t = ![t.val * 3, 0] ∧ win0_7.index t = ![t.val * 3 + 1, 0]
    ∧ win0_8.index t = ![t.val * 3 + 2, 0] ∧ win0_9.index t = ![t.val, 0] ∧ win0_10.index t = ![0, 0, 0] ∧ win0_11.index t = ![0, 0, 0] :=
  (by decide +kernel : ∀ t : Fin grid0.N, _)

theorem at0 : ∀ t : Fin grid0.N, (grid0.coords t 0).val = t.val := by decide +kernel

/-! ## What the body computes, and the reference, index by index -/

section Pay
variable (D : FVec Ideal S768x1024 .f32) (B : IVec S768x1 1) (R : FVec Ideal S768x1 .f32) (X : FVec Ideal S768x1024 .f32) (g : FVec Ideal S1x1024 .f32)
  (H G : FVec Ideal S1x1x1024 .f32) (i : grid0.Coords)

/-- A row of the cotangent scaled by the gain of the row's kind. -/
def gained (a : Fin 768) (k : Fin 1024) : EReal :=
  D (ix2 a k) * (g (ix2 0 k) * (1 + Scalar.select (k0_pay14 i (ix2 a 0)) (H (ix3 0 0 k) : EReal) (G (ix3 0 0 k))))

theorem pay14 (r : Fin 768) : k0_pay14 i (ix2 r 0) = 1#1 ↔ 2048 ≤ (i 0).val * 768 + r.val := by
  pointwise [k0_pay14]
  exact row_cond 768 _ _ (by have := (i 0).isLt; have : (i 0).val < 3 := this; omega)

theorem pay16 (a : Fin 768) (j : Fin 1024) : k0_pay16 (F := Ideal) R X (ix2 a j) = X (ix2 a j) * R (ix2 a 0) := by
  pointwise [k0_pay16, k0_pay15]

/-- What a block's rows hold before the residual's cotangent is added. -/
abbrev mid : FVec Ideal S768x1024 .f32 :=
  k0_pay20 (F := Ideal) D (k0_pay15 R) (k0_pay16 R X) g (k0_pay17 G) (k0_pay18 i) (k0_pay19 H)

theorem pay20 (a : Fin 768) (j : Fin 1024) : mid D R X g H G i (ix2 a j)
    = R (ix2 a 0) * (gained D g H G i a j - X (ix2 a j) * R (ix2 a 0) * Ideal.div (∑ k : Fin 1024, gained D g H G i a k * (X (ix2 a k) * R (ix2 a 0))) chans) := by
  unfold gained mid
  pointwise [k0_pay20, k0_pay19, k0_pay18, k0_pay17, k0_pay16, k0_pay15]

theorem pay21 (Q : FVec Ideal S256x1024 .f32) (a : Fin 256) (j : Fin 1024) :
    k0_pay21 (F := Ideal) D (k0_pay15 R) (k0_pay16 R X) g (k0_pay17 G) (k0_pay18 i) (k0_pay19 H) Q (ix2 a j)
      = mid D R X g H G i (ix2 ⟨a.val, Nat.lt_trans a.isLt (by decide)⟩ j) + Q (ix2 a j) := by
  unfold k0_pay21 mid
  generalize k0_pay20 (F := Ideal) D (k0_pay15 R) (k0_pay16 R X) g (k0_pay17 G) (k0_pay18 i) (k0_pay19 H) = Y
  pointwise []

theorem pay22 (Q : FVec Ideal S256x1024 .f32) (a : Fin 256) (j : Fin 1024) :
    k0_pay22 (F := Ideal) D (k0_pay15 R) (k0_pay16 R X) g (k0_pay17 G) (k0_pay18 i) (k0_pay19 H) Q (ix2 a j)
      = mid D R X g H G i (ix2 ⟨256 + a.val, Nat.lt_of_lt_of_le (Nat.add_lt_add_left a.isLt 256) (by decide)⟩ j) + Q (ix2 a j) := by
  unfold k0_pay22 mid
  generalize k0_pay20 (F := Ideal) D (k0_pay15 R) (k0_pay16 R X) g (k0_pay17 G) (k0_pay18 i) (k0_pay19 H) = Y
  pointwise []

theorem pay23 (Q : FVec Ideal S256x1024 .f32) (a : Fin 256) (j : Fin 1024) :
    k0_pay23 (F := Ideal) D (k0_pay15 R) (k0_pay16 R X) g (k0_pay17 G) (k0_pay18 i) (k0_pay19 H) Q (ix2 a j)
      = mid D R X g H G i (ix2 ⟨512 + a.val, Nat.lt_of_lt_of_le (Nat.add_lt_add_left a.isLt 512) (by decide)⟩ j) + Q (ix2 a j) := by
  unfold k0_pay23 mid
  generalize k0_pay20 (F := Ideal) D (k0_pay15 R) (k0_pay16 R X) g (k0_pay17 G) (k0_pay18 i) (k0_pay19 H) = Y
  pointwise []

theorem pay24 (j : Fin 1024) : k0_pay24 (F := Ideal) D (k0_pay14 i) (ix2 0 j) = ∑ k : Fin 768, if 2048 ≤ (i 0).val * 768 + k.val then (0 : EReal) else D (ix2 k j) := by
  pointwise [k0_pay24]
  exact Finset.sum_congr rfl fun k _ => masked (pay14 i k) _ _

theorem pay1 (j : Fin 1024) : k0_pay1 (F := Ideal) D (Scalar.ofBits .f32 0x00000000#32) (k0_pay25 (k0_pay14 i)) (ix2 0 j)
    = ∑ k : Fin 768, if 2048 ≤ (i 0).val * 768 + k.val then D (ix2 k j) else (0 : EReal) := by
  pointwise [k0_pay1, k0_pay25]
  exact Finset.sum_congr rfl fun k _ => masked (pay14 i k) _ _

theorem pay7 (j : Fin 1024) : k0_pay7 (F := Ideal) D (k0_pay14 i) X (ix2 0 j) = ∑ k : Fin 768, if 2048 ≤ (i 0).val * 768 + k.val then (0 : EReal) else D (ix2 k j) * X (ix2 k j) := by
  pointwise [k0_pay7, k0_pay6]
  exact Finset.sum_congr rfl fun k _ => masked (pay14 i k) _ _

theorem pay8 (j : Fin 1024) : k0_pay8 (F := Ideal) D (k0_pay14 i) X (ix2 0 j) = ∑ k : Fin 768, if 2048 ≤ (i 0).val * 768 + k.val then D (ix2 k j) * X (ix2 k j) else (0 : EReal) := by
  pointwise [k0_pay8, k0_pay6]
  exact Finset.sum_congr rfl fun k _ => masked (pay14 i k) _ _

theorem pay2 (v : FVec Ideal S1x1024 .f32) (j : Fin 1024) : k0_pay2 (F := Ideal) v (ix3 0 0 j) = v (ix2 0 j) := by
  pointwise [k0_pay2]
theorem pay3 (z : Elt Ideal .f32) (j : Fin 1024) : k0_pay3 (F := Ideal) D z B (ix3 0 0 j) = k0_pay1 (F := Ideal) D z B (ix2 0 j) := by
  pointwise [k0_pay3]
theorem pay4 (v : FVec Ideal S1x1024 .f32) (j : Fin 1024) : k0_pay4 (F := Ideal) v G (ix3 0 0 j) = G (ix3 0 0 j) + v (ix2 0 j) := by
  pointwise [k0_pay4]
theorem pay5 (z : Elt Ideal .f32) (j : Fin 1024) : k0_pay5 (F := Ideal) D z B G (ix3 0 0 j) = G (ix3 0 0 j) + k0_pay1 (F := Ideal) D z B (ix2 0 j) := by
  pointwise [k0_pay5]
theorem pay9 (j : Fin 1024) : k0_pay9 (F := Ideal) D B X (ix3 0 0 j) = k0_pay7 (F := Ideal) D B X (ix2 0 j) := by
  pointwise [k0_pay9]
theorem pay10 (j : Fin 1024) : k0_pay10 (F := Ideal) D B X (ix3 0 0 j) = k0_pay8 (F := Ideal) D B X (ix2 0 j) := by
  pointwise [k0_pay10]
theorem pay11 (j : Fin 1024) : k0_pay11 (F := Ideal) D B X G (ix3 0 0 j) = G (ix3 0 0 j) + k0_pay7 (F := Ideal) D B X (ix2 0 j) := by
  pointwise [k0_pay11]
theorem pay12 (j : Fin 1024) : k0_pay12 (F := Ideal) D B X G (ix3 0 0 j) = G (ix3 0 0 j) + k0_pay8 (F := Ideal) D B X (ix2 0 j) := by
  pointwise [k0_pay12]

theorem pay13 (P0 P1 : FVec Ideal S1x768x1024 .bf16) (W0 W1 : FVec Ideal S1024x1024 .bf16) (a : Fin 768) (j : Fin 1024) :
    k0_pay13 (F := Ideal) P0 W0 P1 W1 (ix2 a j) = (∑ k : Fin 1024, P0 (ix3 0 a k) * W0 (ix2 j k)) + (∑ k : Fin 1024, P1 (ix3 0 a k) * W1 (ix2 j k)) := by
  pointwise [k0_pay13]
end Pay

section Ref
variable (x0 : FVec Ideal Reference15Ideal.S2x2304x1024 .bf16) (x1 : FVec Ideal Reference15Ideal.S1024x2048 .bf16) (x2 : FVec Ideal Reference15Ideal.S2304x1024 .f32)
  (x3 : FVec Ideal Reference15Ideal.S1x1024 .f32) (x4 : FVec Ideal Reference15Ideal.S2x1x1024 .f32) (x5 : FVec Ideal Reference15Ideal.S2304x1024 .f32)

/-- The cotangent of the projection's operand, part by part. -/
def dh (r : Fin 2304) (j : Fin 1024) : EReal :=
  ∑ q : Fin 2, ∑ k : Fin 1024, x0 (ix3 q r k) * x1 (ix2 j ⟨q.val * 1024 + k.val, by omega⟩)

theorem v40_at (r : Fin 2304) (j : Fin 1024) : val_main_v40 (F := Ideal) x0 x1 (ix2 r j) = dh x0 x1 r j := by
  pointwise [val_main_v40, val_main_v39, val_main_v38, val_main_v37, val_main_v0]
  refine (Fin.sum_mul_add_congr (S := 2) (n := 1024) (L := 2048) fun q k hl => ?_).symm
  refine mul2 (congrArg x0 ?_) rfl
  rw [show (⟨(q.val * 1024 + k.val) / 1024, by omega⟩ : Fin 2) = q from Fin.ext (by show (q.val * 1024 + k.val) / 1024 = q.val; omega),
    show (⟨(q.val * 1024 + k.val) % 1024, by omega⟩ : Fin 1024) = k from Fin.ext (by show (q.val * 1024 + k.val) % 1024 = k.val; omega)]

theorem v13_at (r : Fin 2304) : val_main_v13 (F := Ideal) x2 (ix2 r 0) = msq (fun k => x2 (ix2 r k)) := by
  unfold msq
  pointwise [val_main_v13, val_main_v12, val_main_cst_3, val_main_v11, val_main_v10, val_main_cst_2, val_main_v9, val_main_v8, val_main_cst_1, val_main_v7]

theorem v14_at (r : Fin 2304) : val_main_v14 (F := Ideal) x2 (ix2 r 0) = rms (fun k => x2 (ix2 r k)) := by
  unfold rms
  rw [← v13_at]
  pointwise [val_main_v14]

/-- The gain of a row, of its kind. -/
def gain (r : Fin 2304) (k : Fin 1024) : EReal := x3 (ix2 0 k) * (1 + if 2048 ≤ r.val then x4 (ix3 1 0 k) else x4 (ix3 0 0 k))

theorem v26_at (r : Fin 2304) (j : Fin 1024) : val_main_v26 (F := Ideal) x3 x4 (ix2 r j) = gain x3 x4 r j := by
  unfold gain
  pointwise [val_main_v26, val_main_v25, val_main_v24, val_main_v23, val_main_v22, val_main_v21, val_main_v20, val_main_v5, val_main_v4, val_main_v3, val_main_v2, val_main_v1, val_main_cst]
  by_cases h : 2048 ≤ r.val
  · rw [dif_neg (by omega), if_pos h]
  · rw [dif_pos (by omega), if_neg h]

/-- A row of the cotangent scaled by the row's gain. -/
def up (r : Fin 2304) (k : Fin 1024) : EReal := dh x0 x1 r k * gain x3 x4 r k

theorem v53_at (r : Fin 2304) (j : Fin 1024) : val_main_v53 (F := Ideal) x0 x1 x3 x4 (ix2 r j) = up x0 x1 x3 x4 r j := by
  unfold up
  rw [← v40_at, ← v26_at]
  pointwise [val_main_v53]

theorem v79_at (r : Fin 2304) (j : Fin 1024) : val_main_v79 (F := Ideal) x0 x1 x2 x3 x4 x5 (ix2 r j)
    = x5 (ix2 r j) + up x0 x1 x3 x4 r j * rms (fun k => x2 (ix2 r k)) + x2 (ix2 r j) * pull (up x0 x1 x3 x4 r) (fun k => x2 (ix2 r k))
      + pull (up x0 x1 x3 x4 r) (fun k => x2 (ix2 r k)) * x2 (ix2 r j) := by
  pointwise [val_main_v79, val_main_v78, val_main_v77, val_main_v76, val_main_v75, val_main_v74, val_main_cst_15, val_main_v73, val_main_v72, val_main_cst_14,
    val_main_v71, val_main_v70, val_main_v69, val_main_v68, val_main_v67, val_main_v66, val_main_cst_13, val_main_v65, val_main_v17, val_main_v16, val_main_cst_4, val_main_v15]
  simp only [Fin.sum_univ_one, v53_at, v14_at, v13_at]
  rfl

theorem v80_at (r : Fin 2048) (j : Fin 1024) : val_main_v80 (F := Ideal) x0 x1 x2 x3 x4 x5 (ix2 r j) = val_main_v79 (F := Ideal) x0 x1 x2 x3 x4 x5 (ix2 ⟨r.val, by omega⟩ j) := by
  unfold val_main_v80
  generalize val_main_v79 (F := Ideal) x0 x1 x2 x3 x4 x5 = X
  pointwise []

theorem v51_at0 (j : Fin 1024) : val_main_v51 (F := Ideal) x0 x1 (ix3 0 0 j) = ∑ k : Fin 2048, val_main_v40 (F := Ideal) x0 x1 (ix2 ⟨k.val, by omega⟩ j) := by
  pointwise [val_main_v51, val_main_v50, val_main_cst_8, val_main_v49, val_main_v48, val_main_v47, val_main_cst_7, val_main_v46, val_main_cst_6, val_main_v45, val_main_v44,
    val_main_v43, val_main_cst_5, val_main_v42, val_main_v41]

theorem v51_at1 (j : Fin 1024) : val_main_v51 (F := Ideal) x0 x1 (ix3 1 0 j) = ∑ k : Fin 256, val_main_v40 (F := Ideal) x0 x1 (ix2 ⟨2048 + k.val, by omega⟩ j) := by
  pointwise [val_main_v51, val_main_v50, val_main_cst_8, val_main_v49, val_main_v48, val_main_v47, val_main_cst_7, val_main_v46, val_main_cst_6, val_main_v45, val_main_v44,
    val_main_v43, val_main_cst_5, val_main_v42, val_main_v41]

theorem v64_at0 (j : Fin 1024) : val_main_v64 (F := Ideal) x0 x1 x2 (ix3 0 0 j) = ∑ k : Fin 2048, val_main_v52 (F := Ideal) x0 x1 x2 (ix2 ⟨k.val, by omega⟩ j) := by
  pointwise [val_main_v64, val_main_v63, val_main_cst_12, val_main_v62, val_main_v61, val_main_v60, val_main_cst_11, val_main_v59, val_main_cst_10, val_main_v58, val_main_v57,
    val_main_v56, val_main_cst_9, val_main_v55, val_main_v54]

theorem v64_at1 (j : Fin 1024) : val_main_v64 (F := Ideal) x0 x1 x2 (ix3 1 0 j) = ∑ k : Fin 256, val_main_v52 (F := Ideal) x0 x1 x2 (ix2 ⟨2048 + k.val, by omega⟩ j) := by
  pointwise [val_main_v64, val_main_v63, val_main_cst_12, val_main_v62, val_main_v61, val_main_v60, val_main_cst_11, val_main_v59, val_main_cst_10, val_main_v58, val_main_v57,
    val_main_v56, val_main_cst_9, val_main_v55, val_main_v54]

theorem v52_at (r : Fin 2304) (j : Fin 1024) : val_main_v52 (F := Ideal) x0 x1 x2 (ix2 r j) = dh x0 x1 r j * (x2 (ix2 r j) * rms (fun k => x2 (ix2 r k))) := by
  rw [← v40_at, ← v14_at, mul_comm]
  pointwise [val_main_v52, val_main_v19, val_main_v18]

/-- The two rows of sums, each over its kind's rows. -/
theorem both (f : Fin 2304 → EReal) (k : Fin 2) (S : Fin 2 → EReal) (h0 : S 0 = ∑ l : Fin 2048, f ⟨l.val, by omega⟩) (h1 : S 1 = ∑ l : Fin 256, f ⟨2048 + l.val, by omega⟩) :
    S k = ∑ l : Fin 2304, if (2048 ≤ l.val ↔ k.val = 1) then f l else 0 := by
  refine Eq.trans ?_ (Fin.sum_univ_add (a := 2048) (b := 256) (fun l : Fin (2048 + 256) => if (2048 ≤ l.val ↔ k.val = 1) then f l else 0)).symm
  match k with
  | 0 =>
    rw [h0, Finset.sum_eq_zero (s := (Finset.univ : Finset (Fin 256))) (fun r _ => if_neg (by simp)), add_zero]
    exact Finset.sum_congr rfl fun r _ => (if_pos (by have := r.isLt; simp)).symm
  | 1 =>
    rw [h1, Finset.sum_eq_zero (s := (Finset.univ : Finset (Fin 2048))) (fun r _ => if_neg (by have := r.isLt; simp)), zero_add]
    exact Finset.sum_congr rfl fun r _ => (if_pos (by simp)).symm

theorem v51_at (k : Fin 2) (j : Fin 1024) : val_main_v51 (F := Ideal) x0 x1 (ix3 k 0 j)
    = ∑ l : Fin 2304, if (2048 ≤ l.val ↔ k.val = 1) then dh x0 x1 l j else 0 :=
  both (fun l => dh x0 x1 l j) k (fun k => val_main_v51 (F := Ideal) x0 x1 (ix3 k 0 j)) ((v51_at0 _ _ j).trans (Finset.sum_congr rfl fun _ _ => v40_at _ _ _ _))
    ((v51_at1 _ _ j).trans (Finset.sum_congr rfl fun _ _ => v40_at _ _ _ _))

theorem v64_at (k : Fin 2) (j : Fin 1024) : val_main_v64 (F := Ideal) x0 x1 x2 (ix3 k 0 j)
    = ∑ l : Fin 2304, if (2048 ≤ l.val ↔ k.val = 1) then dh x0 x1 l j * (x2 (ix2 l j) * rms (fun k => x2 (ix2 l k))) else 0 :=
  both (fun l => dh x0 x1 l j * (x2 (ix2 l j) * rms (fun k => x2 (ix2 l k)))) k (fun k => val_main_v64 (F := Ideal) x0 x1 x2 (ix3 k 0 j))
    ((v64_at0 _ _ _ j).trans (Finset.sum_congr rfl fun _ _ => v52_at _ _ _ _ _)) ((v64_at1 _ _ _ j).trans (Finset.sum_congr rfl fun _ _ => v52_at _ _ _ _ _))
end Ref

/-! ## The result arrays -/

abbrev A0 : FVec Ideal S2x2304x1024 .bf16 := m ((c : Thread nD τ).loc main_arg0)
abbrev A1 : FVec Ideal S1024x2048 .bf16 := m ((c : Thread nD τ).loc main_arg1)
abbrev A2 : FVec Ideal S2304x1024 .f32 := m ((c : Thread nD τ).loc main_arg2)
abbrev A3 : FVec Ideal S1x1024 .f32 := m ((c : Thread nD τ).loc main_arg3)
abbrev A4 : FVec Ideal S2x1x1024 .f32 := m ((c : Thread nD τ).loc main_arg4)
abbrev A5 : FVec Ideal S2304x1024 .f32 := m ((c : Thread nD τ).loc main_arg5)

abbrev b0 (t : Fin cfg0.N) : FVec Ideal S2x768x1024 .bf16 := iblk m c 0 t
abbrev b1 (t : Fin cfg0.N) : FVec Ideal S1024x2048 .bf16 := iblk m c 1 t
abbrev b2 (t : Fin cfg0.N) : FVec Ideal S768x1024 .f32 := iblk m c 2 t
abbrev b3 (t : Fin cfg0.N) : FVec Ideal S768x1 .f32 := iblk m c 3 t
abbrev b4 (t : Fin cfg0.N) : FVec Ideal S1x1024 .f32 := iblk m c 4 t
abbrev b5 (t : Fin cfg0.N) : FVec Ideal S2x1x1024 .f32 := iblk m c 5 t
abbrev b6 (t : Fin cfg0.N) : FVec Ideal S256x1024 .f32 := iblk m c 6 t
abbrev b7 (t : Fin cfg0.N) : FVec Ideal S256x1024 .f32 := iblk m c 7 t
abbrev b8 (t : Fin cfg0.N) : FVec Ideal S256x1024 .f32 := iblk m c 8 t

theorem V_factor : V m c main_v7 = val_main_v14 (F := Ideal) (A2 m c) := by
  unfold V
  after_results
  rfl

abbrev p0 (t : Fin cfg0.N) : FVec Ideal S1x768x1024 .bf16 := View.ld (Val := Elt Ideal) (S := S2x768x1024) (e' := .bf16) (b0 m c t) (Rect.unit (s := S2x768x1024) ![0, 0, 0] ![1, 768, 1024] inb_S2x768x1024_S1x768x1024_0_0_0)
abbrev p1 (t : Fin cfg0.N) : FVec Ideal S1x768x1024 .bf16 := View.ld (Val := Elt Ideal) (S := S2x768x1024) (e' := .bf16) (b0 m c t) (Rect.unit (s := S2x768x1024) ![1, 0, 0] ![1, 768, 1024] inb_S2x768x1024_S1x768x1024_1_0_0)
abbrev w0 (t : Fin cfg0.N) : FVec Ideal S1024x1024 .bf16 := View.ld (Val := Elt Ideal) (S := S1024x2048) (e' := .bf16) (b1 m c t) (Rect.unit (s := S1024x2048) ![0, 0] ![1024, 1024] inb_S1024x2048_S1024x1024_0_0)
abbrev w1 (t : Fin cfg0.N) : FVec Ideal S1024x1024 .bf16 := View.ld (Val := Elt Ideal) (S := S1024x2048) (e' := .bf16) (b1 m c t) (Rect.unit (s := S1024x2048) ![0, 1024] ![1024, 1024] inb_S1024x2048_S1024x1024_0_1024)
abbrev bG (t : Fin cfg0.N) : FVec Ideal S1x1x1024 .f32 := View.ld (Val := Elt Ideal) (S := S2x1x1024) (e' := .f32) (b5 m c t) (Rect.unit (s := S2x1x1024) ![0, 0, 0] ![1, 1, 1024] inb_S2x1x1024_S1x1x1024_0_0_0)
abbrev bH (t : Fin cfg0.N) : FVec Ideal S1x1x1024 .f32 := View.ld (Val := Elt Ideal) (S := S2x1x1024) (e' := .f32) (b5 m c t) (Rect.unit (s := S2x1x1024) ![1, 0, 0] ![1, 1, 1024] inb_S2x1x1024_S1x1x1024_1_0_0)

/-- The block's rows of the projection's cotangent. -/
abbrev bD (t : Fin cfg0.N) : FVec Ideal S768x1024 .f32 :=
  k0_pay13 (F := Ideal) (p0 m c t) (w0 m c t) (p1 m c t) (w1 m c t)

/-- The row of the arrays a block's row is. -/
abbrev at_ (t : Fin cfg0.N) (r : Fin 768) : Fin 2304 := ⟨t.val * 768 + r.val, by have : t.val < 3 := t.isLt; omega⟩

theorem ldG (P : FVec Ideal S2x1x1024 .f32) (l : Fin 1024) :
    View.ld (Val := Elt Ideal) (S := S2x1x1024) (e' := .f32) P (Rect.unit (s := S2x1x1024) ![0, 0, 0] ![1, 1, 1024] inb_S2x1x1024_S1x1x1024_0_0_0) (ix3 0 0 l) = P (ix3 0 0 l) := by
  refine View.ld_unit_apply_of (Val := Elt Ideal) (S := S2x1x1024) (e := .f32) P _ _ _ _ _ fun a => ?_
  fin_cases a <;> first | rfl | exact (Nat.zero_add _).symm
theorem ldH (P : FVec Ideal S2x1x1024 .f32) (l : Fin 1024) :
    View.ld (Val := Elt Ideal) (S := S2x1x1024) (e' := .f32) P (Rect.unit (s := S2x1x1024) ![1, 0, 0] ![1, 1, 1024] inb_S2x1x1024_S1x1x1024_1_0_0) (ix3 0 0 l) = P (ix3 1 0 l) := by
  refine View.ld_unit_apply_of (Val := Elt Ideal) (S := S2x1x1024) (e := .f32) P _ _ _ _ _ fun a => ?_
  fin_cases a <;> first | rfl | exact (Nat.zero_add _).symm

theorem blkp0 (t : Fin cfg0.N) (r : Fin 768) (k : Fin 1024) : p0 m c t (ix3 0 r k) = A0 m c (ix3 0 (at_ t r) k) := by
  blk_ext! [p0, b0, iblk, V, idx t]
theorem blkp1 (t : Fin cfg0.N) (r : Fin 768) (k : Fin 1024) : p1 m c t (ix3 0 r k) = A0 m c (ix3 1 (at_ t r) k) := by
  blk_ext! [p1, b0, iblk, V, idx t]
theorem blkw0 (t : Fin cfg0.N) (j k : Fin 1024) : w0 m c t (ix2 j k) = A1 m c (ix2 j ⟨0 * 1024 + k.val, by omega⟩) := by
  blk_ext! [w0, b1, iblk, V, idx t]
theorem blkw1 (t : Fin cfg0.N) (j k : Fin 1024) : w1 m c t (ix2 j k) = A1 m c (ix2 j ⟨1 * 1024 + k.val, by omega⟩) := by
  blk_ext! [w1, b1, iblk, V, idx t]
theorem blk2 (t : Fin cfg0.N) (r : Fin 768) (j : Fin 1024) : b2 m c t (ix2 r j) = A2 m c (ix2 (at_ t r) j) := by
  blk_ext! [b2, iblk, V, idx t]
theorem blk3 (t : Fin cfg0.N) (r : Fin 768) : b3 m c t (ix2 r 0) = val_main_v14 (F := Ideal) (A2 m c) (ix2 (at_ t r) 0) := by
  have e : V m c (Pipeline.arrRef spec0 3) = val_main_v14 (F := Ideal) (A2 m c) := V_factor m c
  unfold b3 iblk
  rw [e]
  generalize val_main_v14 (F := Ideal) (A2 m c) = X
  blk_ext! [idx t]
theorem blk4 (t : Fin cfg0.N) (j : Fin 1024) : b4 m c t (ix2 0 j) = A3 m c (ix2 0 j) := by
  blk_ext! [b4, iblk, V, idx t]
theorem blkG (t : Fin cfg0.N) (j : Fin 1024) : bG m c t (ix3 0 0 j) = A4 m c (ix3 0 0 j) := by
  blk_ext! [bG, b5, iblk, V, idx t]
theorem blkH (t : Fin cfg0.N) (j : Fin 1024) : bH m c t (ix3 0 0 j) = A4 m c (ix3 1 0 j) := by
  blk_ext! [bH, b5, iblk, V, idx t]
theorem blk6 (t : Fin cfg0.N) (r : Fin 256) (j : Fin 1024) : b6 m c t (ix2 r j) = A5 m c (ix2 (at_ t ⟨r.val, by omega⟩) j) := by
  blk_ext! [b6, iblk, V, idx t]
theorem blk7 (t : Fin cfg0.N) (r : Fin 256) (j : Fin 1024) : b7 m c t (ix2 r j) = A5 m c (ix2 (at_ t ⟨256 + r.val, by omega⟩) j) := by
  blk_ext! [b7, iblk, V, idx t]
theorem blk8 (t : Fin cfg0.N) (r : Fin 256) (j : Fin 1024) : b8 m c t (ix2 r j) = A5 m c (ix2 (at_ t ⟨512 + r.val, by omega⟩) j) := by
  blk_ext! [b8, iblk, V, idx t]

theorem early (t : Fin cfg0.N) (h : t.val % 3 = 0) : ¬1 ≤ t.val := by
  have : t.val < 3 := t.isLt
  omega

theorem late (t : Fin cfg0.N) (h : ¬t.val % 3 = 0) : 1 ≤ t.val := by
  omega

/-- The block's normalised rows. -/
abbrev bN (t : Fin cfg0.N) : FVec Ideal S768x1024 .f32 := k0_pay16 (F := Ideal) (b3 m c t) (b2 m c t)

/-- A row of the operand. -/
abbrev xrow (r : Fin 2304) (k : Fin 1024) : EReal := A2 m c (ix2 r k)

theorem bD_at (t : Fin cfg0.N) (r : Fin 768) (j : Fin 1024) : bD m c t (ix2 r j) = dh (A0 m c) (A1 m c) (at_ t r) j := by
  refine (pay13 _ _ _ _ r j).trans ?_
  unfold dh
  rw [Fin.sum_univ_two]
  refine congrArg₂ (· + ·) ?_ ?_
  · exact Finset.sum_congr rfl fun k _ => mul2 (blkp0 m c t r k) (blkw0 m c t j k)
  · exact Finset.sum_congr rfl fun k _ => mul2 (blkp1 m c t r k) (blkw1 m c t j k)

theorem b3_at (t : Fin cfg0.N) (r : Fin 768) : b3 m c t (ix2 r 0) = rms (xrow m c (at_ t r)) := (blk3 m c t r).trans (v14_at _ _)

theorem bN_at (t : Fin cfg0.N) (r : Fin 768) (j : Fin 1024) : bN m c t (ix2 r j) = xrow m c (at_ t r) j * rms (xrow m c (at_ t r)) :=
  (pay16 _ _ r j).trans (mul2 (blk2 m c t r j) (b3_at m c t r))

theorem gained_at (t : Fin cfg0.N) (r : Fin 768) (j : Fin 1024) :
    gained (bD m c t) (b4 m c t) (bH m c t) (bG m c t) (grid0.coords t) r j = up (A0 m c) (A1 m c) (A3 m c) (A4 m c) (at_ t r) j := by
  unfold gained up gain
  rw [bD_at, blk4, blkH, blkG, masked (pay14 (grid0.coords t) r), at0]

theorem mid_at (t : Fin cfg0.N) (r : Fin 768) (j : Fin 1024) :
    mid (bD m c t) (b3 m c t) (b2 m c t) (b4 m c t) (bH m c t) (bG m c t) (grid0.coords t) (ix2 r j)
      = off (up (A0 m c) (A1 m c) (A3 m c) (A4 m c) (at_ t r)) (xrow m c (at_ t r)) j := by
  refine (pay20 _ _ _ _ _ _ _ r j).trans ?_
  unfold off
  rw [b3_at, gained_at, blk2]
  rw [Finset.sum_congr rfl fun k _ => mul2 (gained_at m c t r k) (mul2 (blk2 m c t r k) rfl)]

theorem out9 (t : Fin cfg0.N) (r : Fin 768) (j : Fin 1024) : (outsAt0 m c t.val t.isLt).1 (ix2 r j)
    = off (up (A0 m c) (A1 m c) (A3 m c) (A4 m c) (at_ t r)) (xrow m c (at_ t r)) j + A5 m c (ix2 (at_ t r) j) := by
  have hx : ∀ x : S256x1024.Idx, ∃ a b, x = ix2 (n0 := 256) (n1 := 1024) a b := fun x => ⟨_, _, (ix2_eta x).symm⟩
  by_cases h : t.val % 3 = 0
  · rw [outsAt0_A m c t h (early t h) h (early t h)]; frame_out
    clear h
    canon_tiles x h
    all_goals
      obtain ⟨a, b, rfl⟩ := hx x
      obtain rfl : j = b := Fin.ext h1
    · obtain rfl : r = ⟨512 + a.val, Nat.lt_of_lt_of_le (Nat.add_lt_add_left a.isLt 512) (by decide)⟩ := Fin.ext h0
      exact (pay23 _ _ _ _ _ _ _ _ a j).trans (congrArg₂ (· + ·) (mid_at m c t _ j) (blk8 m c t a j))
    · obtain rfl : r = ⟨256 + a.val, Nat.lt_of_lt_of_le (Nat.add_lt_add_left a.isLt 256) (by decide)⟩ := Fin.ext h0
      exact (pay22 _ _ _ _ _ _ _ _ a j).trans (congrArg₂ (· + ·) (mid_at m c t _ j) (blk7 m c t a j))
    · obtain rfl : r = ⟨a.val, Nat.lt_trans a.isLt (by decide)⟩ := Fin.ext h0
      exact (pay21 _ _ _ _ _ _ _ _ a j).trans (congrArg₂ (· + ·) (mid_at m c t _ j) (blk6 m c t a j))
  · rw [outsAt0_B m c t h (late t h) h (late t h)]; frame_out
    clear h
    canon_tiles x h
    all_goals
      obtain ⟨a, b, rfl⟩ := hx x
      obtain rfl : j = b := Fin.ext h1
    · obtain rfl : r = ⟨512 + a.val, Nat.lt_of_lt_of_le (Nat.add_lt_add_left a.isLt 512) (by decide)⟩ := Fin.ext h0
      exact (pay23 _ _ _ _ _ _ _ _ a j).trans (congrArg₂ (· + ·) (mid_at m c t _ j) (blk8 m c t a j))
    · obtain rfl : r = ⟨256 + a.val, Nat.lt_of_lt_of_le (Nat.add_lt_add_left a.isLt 256) (by decide)⟩ := Fin.ext h0
      exact (pay22 _ _ _ _ _ _ _ _ a j).trans (congrArg₂ (· + ·) (mid_at m c t _ j) (blk7 m c t a j))
    · obtain rfl : r = ⟨a.val, Nat.lt_trans a.isLt (by decide)⟩ := Fin.ext h0
      exact (pay21 _ _ _ _ _ _ _ _ a j).trans (congrArg₂ (· + ·) (mid_at m c t _ j) (blk6 m c t a j))

theorem point9 (hy : ∀ r k, Real' (up (A0 m c) (A1 m c) (A3 m c) (A4 m c) r k)) (hx : ∀ r k, Real' (xrow m c r k)) (t : Fin cfg0.N)
    (i : Fin 768) (r : Fin 2048) (j : Fin 1024) (h : r.val = t.val * 768 + i.val) :
    (outsAt0 m c t.val t.isLt).1 (ix2 i j) = val_main_v80 (F := Ideal) (A0 m c) (A1 m c) (A2 m c) (A3 m c) (A4 m c) (A5 m c) (ix2 r j) := by
  have hat : at_ t i = ⟨r.val, Nat.lt_trans r.isLt (by decide)⟩ := Fin.ext h.symm
  refine (out9 m c t i j).trans ((off_eq (hy _) (hx _) _ j).trans ?_)
  rw [v80_at, ← hat]
  exact (v79_at (A0 m c) (A1 m c) (A2 m c) (A3 m c) (A4 m c) (A5 m c) (at_ t i) j).symm

/-- Where an element of the first output's block sits in its array; the last block is cut at the array's end. -/
theorem emb9 (t : Fin cfg0.N) (y : ((cfg0.win 9).xblock (cfg0.grid.coords t)).Idx) :
    ((win0_9.blk t).view.emb y 0).val = t.val * 768 + (y 0).val ∧ ((win0_9.blk t).view.emb y 1).val = (y 1).val := by
  have h := idx t
  refine ⟨?_, ?_⟩
  · show win0_9.index t 0 * 768 + 1 * (y 0).val = _
    simp only [h]
    rw [one_mul]; rfl
  · show win0_9.index t 1 * 1024 + 1 * (y 1).val = _
    simp only [h]
    rw [one_mul]; exact Nat.zero_add _

theorem final9 (hy : ∀ r k, Real' (up (A0 m c) (A1 m c) (A3 m c) (A4 m c) r k)) (hx : ∀ r k, Real' (xrow m c r k)) :
    (dats m 0 c).arrAt 9 cfg0.N = val_main_v80 (F := Ideal) (A0 m c) (A1 m c) (A2 m c) (A3 m c) (A4 m c) (A5 m c) := by
  refine (dats m 0 c).arrAt_eq_of_covers 9 _ (by decide +kernel) fun t _ y => ?_
  have ht : t.val < 3 := t.isLt
  blk_simp
  rw [after0_9]
  obtain ⟨i, j, hij⟩ : ∃ i j, (cfg0.win 9).xinj (cfg0.grid.coords t) y = ix2 (n0 := 768) (n1 := 1024) i j := ⟨_, _, (ix2_eta _).symm⟩
  obtain ⟨r, l, hrl⟩ : ∃ r l, (win0_9.blk t).view.emb y = ix2 (n0 := 2048) (n1 := 1024) r l := ⟨_, _, (ix2_eta _).symm⟩
  have hi : (y 0).val = i.val := congrArg (fun z : S768x1024.Idx => (z 0).val) hij
  have hj : (y 1).val = j.val := congrArg (fun z : S768x1024.Idx => (z 1).val) hij
  have hr : ((win0_9.blk t).view.emb y 0).val = r.val := congrArg (fun z : S2048x1024.Idx => (z 0).val) hrl
  have hl : ((win0_9.blk t).view.emb y 1).val = l.val := congrArg (fun z : S2048x1024.Idx => (z 1).val) hrl
  have hr' := (emb9 t y).1.symm.trans hr
  have hl' := (emb9 t y).2.symm.trans hl
  obtain rfl : j = l := Fin.ext (by rw [← hj, ← hl'])
  rw [hij, hrl]
  exact point9 m c hy hx t i r j (by rw [← hr', hi])

theorem row (y : S2x1x1024.Idx) : ∃ (k : Fin 2) (l : Fin 1024), y = ix3 (n0 := 2) (n1 := 1) (n2 := 1024) k 0 l :=
  ⟨y 0, y 2, (ix3_eta y).symm.trans (by rw [show y 1 = (0 : Fin 1) from Subsingleton.elim (α := Fin 1) _ _])⟩

/-- What a point adds to the shift's gradient. -/
def part10 (t : Fin cfg0.N) (y : S2x1x1024.Idx) : EReal :=
  ∑ r : Fin 768, if (2048 ≤ t.val * 768 + r.val ↔ (y 0).val = 1) then (bD m c t (ix2 r (y 2)) : EReal) else 0

/-- What a point adds to the gain's gradient. -/
def part11 (t : Fin cfg0.N) (y : S2x1x1024.Idx) : EReal :=
  ∑ r : Fin 768, if (2048 ≤ t.val * 768 + r.val ↔ (y 0).val = 1) then (bD m c t (ix2 r (y 2)) : EReal) * (bN m c t (ix2 r (y 2)) : EReal) else 0

theorem shift0 (t : Fin cfg0.N) (l : Fin 1024) : k0_pay24 (F := Ideal) (bD m c t) (k0_pay14 (grid0.coords t)) (ix2 0 l) = part10 m c t (ix3 0 0 l) := by
  rw [part10, pay24, at0]
  exact Finset.sum_congr rfl fun r _ => ((sides 0 _).trans (if_neg (by decide))).symm
theorem shift1 (t : Fin cfg0.N) (l : Fin 1024) : k0_pay1 (F := Ideal) (bD m c t) (Scalar.ofBits .f32 0x00000000#32) (k0_pay25 (k0_pay14 (grid0.coords t))) (ix2 0 l) = part10 m c t (ix3 1 0 l) := by
  rw [part10, pay1, at0]
  exact Finset.sum_congr rfl fun r _ => ((sides 1 _).trans (if_pos rfl)).symm
theorem gain0 (t : Fin cfg0.N) (l : Fin 1024) : k0_pay7 (F := Ideal) (bD m c t) (k0_pay14 (grid0.coords t)) (bN m c t) (ix2 0 l) = part11 m c t (ix3 0 0 l) := by
  rw [part11, pay7, at0]
  exact Finset.sum_congr rfl fun r _ => ((sides 0 _).trans (if_neg (by decide))).symm
theorem gain1 (t : Fin cfg0.N) (l : Fin 1024) : k0_pay8 (F := Ideal) (bD m c t) (k0_pay14 (grid0.coords t)) (bN m c t) (ix2 0 l) = part11 m c t (ix3 1 0 l) := by
  rw [part11, pay8, at0]
  exact Finset.sum_congr rfl fun r _ => ((sides 1 _).trans (if_pos rfl)).symm

theorem out10_first (t : Fin cfg0.N) (h : t.val % 3 = 0) (y : S2x1x1024.Idx) : (outsAt0 m c t.val t.isLt).2.1 y = 0 + part10 m c t y := by
  rw [outsAt0_A m c t h (early t h) h (early t h), zero_add]; frame_out
  clear h
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    exact (pay3 _ _ _ l).trans (shift1 m c t l)
  · obtain rfl : k = 0 := Fin.ext h0
    exact (pay2 _ l).trans (shift0 m c t l)

theorem out10_next (t : Fin cfg0.N) (h : ¬t.val % 3 = 0) (y : S2x1x1024.Idx) :
    (outsAt0 m c t.val t.isLt).2.1 y = (outsAt0 m c (t.val - 1) (Nat.lt_of_le_of_lt (Nat.sub_le _ _) t.isLt)).2.1 y + part10 m c t y := by
  rw [outsAt0_B m c t h (late t h) h (late t h)]; frame_out
  clear h
  generalize (outsAt0 m c (t.val - 1) _).2.1 = P
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    refine (pay5 _ _ _ _ l).trans ?_
    rw [shift1]
    refine congrArg (· + part10 m c t (ix3 1 0 l)) ?_
    exact ldH P l
  · obtain rfl : k = 0 := Fin.ext h0
    refine (pay4 _ _ l).trans ?_
    rw [shift0]
    refine congrArg (· + part10 m c t (ix3 0 0 l)) ?_
    exact ldG P l

theorem out11_first (t : Fin cfg0.N) (h : t.val % 3 = 0) (y : S2x1x1024.Idx) : (outsAt0 m c t.val t.isLt).2.2 y = 0 + part11 m c t y := by
  rw [outsAt0_A m c t h (early t h) h (early t h), zero_add]; frame_out
  clear h
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    exact (pay10 _ _ _ l).trans (gain1 m c t l)
  · obtain rfl : k = 0 := Fin.ext h0
    exact (pay9 _ _ _ l).trans (gain0 m c t l)

theorem out11_next (t : Fin cfg0.N) (h : ¬t.val % 3 = 0) (y : S2x1x1024.Idx) :
    (outsAt0 m c t.val t.isLt).2.2 y = (outsAt0 m c (t.val - 1) (Nat.lt_of_le_of_lt (Nat.sub_le _ _) t.isLt)).2.2 y + part11 m c t y := by
  rw [outsAt0_B m c t h (late t h) h (late t h)]; frame_out
  clear h
  generalize (outsAt0 m c (t.val - 1) _).2.2 = P
  obtain ⟨k, l, rfl⟩ := row y
  canon_tiles x h
  all_goals
    obtain ⟨e, e', l', rfl⟩ : ∃ e e' l', x = ix3 (n0 := 1) (n1 := 1) (n2 := 1024) e e' l' := ⟨_, _, _, (ix3_eta x).symm⟩
    obtain rfl : l = l' := Fin.ext h2
    obtain rfl : e = 0 := Subsingleton.elim _ _
    obtain rfl : e' = 0 := Subsingleton.elim _ _
  · obtain rfl : k = 1 := Fin.ext h0
    refine (pay12 _ _ _ _ l).trans ?_
    rw [gain1]
    refine congrArg (· + part11 m c t (ix3 1 0 l)) ?_
    exact ldH P l
  · obtain rfl : k = 0 := Fin.ext h0
    refine (pay11 _ _ _ _ l).trans ?_
    rw [gain0]
    refine congrArg (· + part11 m c t (ix3 0 0 l)) ?_
    exact ldG P l

theorem final10 : (dats m 0 c).arrAt 10 cfg0.N = val_main_v51 (F := Ideal) (A0 m c) (A1 m c) := by
  refine (dats m 0 c).arrAt_eq_of_after_last 10 t0_2 (by decide +kernel) _ fun y => ?_
  blk_simp
  rw [after0_10]
  refine (Pipeline.eq_sum_fin_of_reset_step_apply_last (fun n h => (outsAt0 m c n h).2.1) 3 (fun _ => (0 : EReal)) (part10 m c)
    (out10_first m c) (out10_next m c) (le_of_eq N_0) t0_2 rfl y).trans ?_
  obtain ⟨k, l, rfl⟩ := row y
  rw [zero_add, v51_at]
  unfold part10
  refine Fin.sum_mul_add_congr (S := 3) (n := 768) (L := 2304) (f := fun l' : Fin 2304 => if (2048 ≤ l'.val ↔ k.val = 1) then dh (A0 m c) (A1 m c) l' l else 0) (fun s r hl => ?_)
  exact congrArg (fun x : EReal => if (2048 ≤ s.val * 768 + r.val ↔ k.val = 1) then x else 0) (bD_at m c s r l)

theorem final11 : (dats m 0 c).arrAt 11 cfg0.N = val_main_v64 (F := Ideal) (A0 m c) (A1 m c) (A2 m c) := by
  refine (dats m 0 c).arrAt_eq_of_after_last 11 t0_2 (by decide +kernel) _ fun y => ?_
  blk_simp
  rw [after0_11]
  refine (Pipeline.eq_sum_fin_of_reset_step_apply_last (fun n h => (outsAt0 m c n h).2.2) 3 (fun _ => (0 : EReal)) (part11 m c)
    (out11_first m c) (out11_next m c) (le_of_eq N_0) t0_2 rfl y).trans ?_
  obtain ⟨k, l, rfl⟩ := row y
  rw [zero_add, v64_at]
  unfold part11
  refine Fin.sum_mul_add_congr (S := 3) (n := 768) (L := 2304) (f := fun l' : Fin 2304 => if (2048 ≤ l'.val ↔ k.val = 1) then dh (A0 m c) (A1 m c) l' l * (xrow m c l' l * rms (xrow m c l')) else 0) (fun s r hl => ?_)
  exact congrArg (fun x : EReal => if (2048 ≤ s.val * 768 + r.val ↔ k.val = 1) then x else 0) (mul2 (bD_at m c s r l) (bN_at m c s r l))

/-! ## The precondition, and the claim -/

section Pre
variable (x0 : FVec Ideal Pre_finite15.S2x2304x1024 .bf16) (x1 : FVec Ideal Pre_finite15.S1024x2048 .bf16) (x2 : FVec Ideal Pre_finite15.S2304x1024 .f32)
  (x3 : FVec Ideal Pre_finite15.S1x1024 .f32) (x4 : FVec Ideal Pre_finite15.S2x1x1024 .f32) (x5 : FVec Ideal Pre_finite15.S2304x1024 .f32)

theorem real0 (h : (Pre_finite15.fn (F := Ideal) x0 x1 x2 x3 x4 x5).1 = fun _ => 1#1) (q : Fin 2) (r : Fin 2304) (k : Fin 1024) : Real' (x0 (ix3 q r k)) := by
  refine real_of_bit (Eq.trans ?_ (congrFun h (ix3 q r k)))
  pointwise [Pre_finite15.fn]
  rfl

theorem real1 (h : (Pre_finite15.fn (F := Ideal) x0 x1 x2 x3 x4 x5).2.1 = fun _ => 1#1) (r : Fin 1024) (k : Fin 2048) : Real' (x1 (ix2 r k)) := by
  refine real_of_bit (Eq.trans ?_ (congrFun h (ix2 r k)))
  pointwise [Pre_finite15.fn]
  rfl

theorem real2 (h : (Pre_finite15.fn (F := Ideal) x0 x1 x2 x3 x4 x5).2.2.1 = fun _ => 1#1) (r : Fin 2304) (k : Fin 1024) : Real' (x2 (ix2 r k)) := by
  refine real_of_bit (Eq.trans ?_ (congrFun h (ix2 r k)))
  pointwise [Pre_finite15.fn]
  rfl

theorem real3 (h : (Pre_finite15.fn (F := Ideal) x0 x1 x2 x3 x4 x5).2.2.2.1 = fun _ => 1#1) (k : Fin 1024) : Real' (x3 (ix2 0 k)) := by
  refine real_of_bit (Eq.trans ?_ (congrFun h (ix2 0 k)))
  pointwise [Pre_finite15.fn]
  rfl

theorem real4 (h : (Pre_finite15.fn (F := Ideal) x0 x1 x2 x3 x4 x5).2.2.2.2 = fun _ => 1#1) (e : Fin 2) (k : Fin 1024) : Real' (x4 (ix3 e 0 k)) := by
  refine real_of_bit (Eq.trans ?_ (congrFun h (ix3 e 0 k)))
  pointwise [Pre_finite15.fn]
  rfl

theorem real_up (h0 : ∀ q r k, Real' (x0 (ix3 q r k))) (h1 : ∀ j k, Real' (x1 (ix2 j k))) (h3 : ∀ k, Real' (x3 (ix2 0 k))) (h4 : ∀ e k, Real' (x4 (ix3 e 0 k)))
    (r : Fin 2304) (k : Fin 1024) : Real' (up x0 x1 x3 x4 r k) :=
  (Real'.sum fun q => Real'.sum fun l => (h0 q r l).mul (h1 k _)).mul ((h3 k).mul (Real'.one.add (by split <;> exact h4 _ k)))
end Pre

theorem algebraic : Cert.algebraic_Kernel15Ideal_Reference15Ideal_pre_finite15 := by
  pair_intro
  · run_from Cert.Kernel15Ideal.Value.run_blocks m g
  · refine Idealize.ShloMosaic.θ_run_mono (Cert.Reference15Ideal.Value.run m' g') ?_
    intro r hr c
    obtain ⟨e0, e1, e2, e3, e4, e5⟩ := hagree c
    obtain ⟨h0, h1, h2, h3, h4⟩ := hpre c
    have q8 : val_main_v80 (F := Ideal) (A0 m c) (A1 m c) (A2 m c) (A3 m c) (A4 m c) (A5 m c) = (dats m 0 c).arrAt 9 cfg0.N :=
      (final9 m c (real_up _ _ _ _ (real0 _ _ _ _ _ _ h0) (real1 _ _ _ _ _ _ h1) (real3 _ _ _ _ _ _ h3) (real4 _ _ _ _ _ _ h4)) (real2 _ _ _ _ _ _ h2)).symm
    have q9 : val_main_v51 (F := Ideal) (A0 m c) (A1 m c) = (dats m 0 c).arrAt 10 cfg0.N := (final10 m c).symm
    have q10 : val_main_v64 (F := Ideal) (A0 m c) (A1 m c) (A2 m c) = (dats m 0 c).arrAt 11 cfg0.N := (final11 m c).symm
    refine ⟨(hr c).1.trans ?_, (hr c).2.1.trans ?_, (hr c).2.2.1.trans ?_, (hr c).2.2.2⟩
    · refine (Reference15Ideal.Read.val_main_v80_eq _ _).trans ?_
      rw [e0, e1, e2, e3, e4, e5]
      exact q8
    · refine (Reference15Ideal.Read.val_main_v51_eq _ _).trans ?_
      rw [e0, e1]
      exact q9
    · refine (Reference15Ideal.Read.val_main_v64_eq _ _ _).trans ?_
      rw [e0, e1, e2]
      exact q10

theorem frame_reference : Cert.quiescent_Reference15Ideal := fun m g _ =>
  (θ_run Reference15Ideal.defs _ _).mono (fun r h => ⟨fun c => (h c).2.2.2, sem_eq_zero_of_no_sems (by decide) r.2⟩) (Reference15Ideal.Value.run m g)

end Cert.Latent15

end
-- ==== Proof.NormIn16.lean ====
/- The input projection of the normalised latent rows, four parts. -/
module

public import proofs.«01_k».proof.Defs
public import proofs.«01_k».proof.Proof.LatentMath
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise

@[expose] public section

set_option maxRecDepth 16384

noncomputable section

namespace Cert.NormIn16

open Idealize.ShloMosaic Idealize.ShloMosaic.TcCoe Idealize.SL.Sem
open Idealize.ShloMosaic.Pipeline (Dat)
open Cert.LatentMath (rms msq chans mul2)
open Cert.Kernel16Ideal Cert.Kernel16Ideal.Gen
open Cert.Reference16Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0] ∧ win0_3.index t = ![0, 0, 0]
    ∧ win0_4.index t = ![0, 0] ∧ win0_5.index t = ![t.val, 0] ∧ win0_6.index t = ![t.val, 0] ∧ win0_7.index t = ![t.val, 0] :=
  (by decide +kernel : ∀ t : Fin grid0.N, _)

/-! ## What the body computes, and the reference, index by index -/

section Pay
variable (X : FVec Ideal S512x1024 .f32) (g : FVec Ideal S1x1024 .f32) (s h : FVec Ideal S1x1x1024 .f32)

theorem pay1 (a : Fin 512) : k0_pay1 (F := Ideal) X (ix2 a 0) = rms (fun k => X (ix2 a k)) := by
  unfold rms msq
  pointwise [k0_pay1]

theorem pay2 (a : Fin 512) (j : Fin 1024) : k0_pay2 (F := Ideal) X g s h (ix2 a j)
    = X (ix2 a j) * rms (fun k => X (ix2 a k)) * g (ix2 0 j) * (1 + s (ix3 0 0 j)) + h (ix3 0 0 j) := by
  rw [← pay1]
  pointwise [k0_pay2]

theorem pay3 (H : FVec Ideal S512x1024 .bf16) (W : FVec Ideal S1024x4096 .bf16) (a : Fin 512) (j : Fin 4096) :
    k0_pay3 (F := Ideal) H W (ix2 a j) = ∑ k : Fin 1024, H (ix2 a k) * W (ix2 k j) := by
  pointwise [k0_pay3]
end Pay

section Ref
variable (x0 : FVec Ideal Reference16Ideal.S2048x1024 .f32) (x1 : FVec Ideal Reference16Ideal.S1x1024 .f32)
  (x2 x3 : FVec Ideal Reference16Ideal.S1x1x1024 .f32) (x4 : FVec Ideal Reference16Ideal.S1024x4096 .bf16)

/-- A row of the projection's operand. -/
def hrow (r : Fin 2048) (j : Fin 1024) : EReal :=
  x0 (ix2 r j) * rms (fun k => x0 (ix2 r k)) * x1 (ix2 0 j) * (1 + x2 (ix3 0 0 j)) + x3 (ix3 0 0 j)

theorem v7_at (r : Fin 2048) : val_main_v7 (F := Ideal) x0 (ix2 r 0) = rms (fun k => x0 (ix2 r k)) := by
  unfold rms msq
  pointwise [val_main_v7, val_main_v6, val_main_v5, val_main_cst_1, val_main_v4, val_main_v3, val_main_cst_0, val_main_v2, val_main_v1, val_main_cst, val_main_v0]

theorem v19_at (r : Fin 2048) (j : Fin 1024) : val_main_v19 (F := Ideal) x0 x1 x2 x3 (ix2 r j) = hrow x0 x1 x2 x3 r j := by
  unfold hrow
  rw [← v7_at]
  pointwise [val_main_v19, val_main_v18, val_main_v17, val_main_v16, val_main_v15, val_main_v14, val_main_cst_2, val_main_v13, val_main_v12, val_main_v11, val_main_v10, val_main_v9, val_main_v8]

theorem v20_at (r : Fin 2048) (j : Fin 1024) : val_main_v20 (F := Ideal) x0 x1 x2 x3 (ix2 r j) = hrow x0 x1 x2 x3 r j := by
  rw [← v19_at]
  pointwise [val_main_v20]

theorem v23_at (r : Fin 2048) (j : Fin 4096) : val_main_v23 (F := Ideal) x0 x1 x2 x3 x4 (ix2 r j) = ∑ k : Fin 1024, hrow x0 x1 x2 x3 r k * x4 (ix2 k j) := by
  simp only [← v19_at]
  pointwise [val_main_v23, val_main_v22, val_main_v21]
end Ref

/-! ## The result arrays -/

abbrev A0 : FVec Ideal S2048x1024 .f32 := m ((c : Thread nD τ).loc main_arg0)
abbrev A1 : FVec Ideal S1x1024 .f32 := m ((c : Thread nD τ).loc main_arg1)
abbrev A2 : FVec Ideal S1x1x1024 .f32 := m ((c : Thread nD τ).loc main_arg2)
abbrev A3 : FVec Ideal S1x1x1024 .f32 := m ((c : Thread nD τ).loc main_arg3)
abbrev A4 : FVec Ideal S1024x4096 .bf16 := m ((c : Thread nD τ).loc main_arg4)

abbrev b0 (t : Fin cfg0.N) : FVec Ideal S512x1024 .f32 := iblk m c 0 t
abbrev b1 (t : Fin cfg0.N) : FVec Ideal S1x1024 .f32 := iblk m c 1 t
abbrev b2 (t : Fin cfg0.N) : FVec Ideal S1x1x1024 .f32 := iblk m c 2 t
abbrev b3 (t : Fin cfg0.N) : FVec Ideal S1x1x1024 .f32 := iblk m c 3 t
abbrev b4 (t : Fin cfg0.N) : FVec Ideal S1024x4096 .bf16 := iblk m c 4 t

/-- The row of the latents a block's row is. -/
abbrev at_ (t : Fin cfg0.N) (r : Fin 512) : Fin 2048 := ⟨t.val * 512 + r.val, by have : t.val < 4 := t.isLt; omega⟩

theorem blk0 (t : Fin cfg0.N) (r : Fin 512) (j : Fin 1024) : b0 m c t (ix2 r j) = A0 m c (ix2 (at_ t r) j) := by
  blk_ext! [b0, iblk, V, idx t]
theorem blk1 (t : Fin cfg0.N) (j : Fin 1024) : b1 m c t (ix2 0 j) = A1 m c (ix2 0 j) := by
  blk_ext! [b1, iblk, V, idx t]
theorem blk2 (t : Fin cfg0.N) (j : Fin 1024) : b2 m c t (ix3 0 0 j) = A2 m c (ix3 0 0 j) := by
  blk_ext! [b2, iblk, V, idx t]
theorem blk3 (t : Fin cfg0.N) (j : Fin 1024) : b3 m c t (ix3 0 0 j) = A3 m c (ix3 0 0 j) := by
  blk_ext! [b3, iblk, V, idx t]
theorem blk4 (t : Fin cfg0.N) (i : Fin 1024) (j : Fin 4096) : b4 m c t (ix2 i j) = A4 m c (ix2 i j) := by
  blk_ext! [b4, iblk, V, idx t]

theorem rms_at (t : Fin cfg0.N) (r : Fin 512) : rms (fun k => b0 m c t (ix2 r k)) = rms (fun k => A0 m c (ix2 (at_ t r) k)) :=
  congrArg rms (funext fun k => blk0 m c t r k)

/-- The block's rows of the projection's operand. -/
abbrev bH (t : Fin cfg0.N) : FVec Ideal S512x1024 .bf16 := k0_pay2 (F := Ideal) (b0 m c t) (b1 m c t) (b2 m c t) (b3 m c t)

theorem bH_at (t : Fin cfg0.N) (r : Fin 512) (j : Fin 1024) : bH m c t (ix2 r j) = hrow (A0 m c) (A1 m c) (A2 m c) (A3 m c) (at_ t r) j := by
  refine (pay2 _ _ _ _ r j).trans ?_
  unfold hrow
  rw [blk0, rms_at, blk1, blk2, blk3]

theorem out5 (t : Fin cfg0.N) : (outsAt0 m c t).1 = bH m c t := by
  unfold outsAt0; frame_out

theorem out6 (t : Fin cfg0.N) : (outsAt0 m c t).2.1 = k0_pay1 (F := Ideal) (b0 m c t) := by
  unfold outsAt0; frame_out

theorem out7 (t : Fin cfg0.N) : (outsAt0 m c t).2.2 = k0_pay3 (F := Ideal) (bH m c t) (b4 m c t) := by
  unfold outsAt0; frame_out

theorem final5 : (dats m 0 c).arrAt 5 cfg0.N = val_main_v20 (F := Ideal) (A0 m c) (A1 m c) (A2 m c) (A3 m c) := by
  refine (dats m 0 c).arrAt_eq_of_covers 5 _ (by decide +kernel) fun t _ y => ?_
  obtain ⟨i, j, rfl⟩ : ∃ i j, y = ix2 (n0 := 512) (n1 := 1024) i j := ⟨_, _, (ix2_eta y).symm⟩
  have ht : t.val < 4 := t.isLt
  blk_simp
  rw [after0_5, out5]
  refine (bH_at m c t i j).trans ((v20_at _ _ _ _ _ _).symm.trans ?_)
  generalize val_main_v20 (F := Ideal) (A0 m c) (A1 m c) (A2 m c) (A3 m c) = X
  blk_ext! [idx t]

theorem final6 : (dats m 0 c).arrAt 6 cfg0.N = val_main_v7 (F := Ideal) (A0 m c) := by
  refine (dats m 0 c).arrAt_eq_of_covers 6 _ (by decide +kernel) fun t _ y => ?_
  obtain ⟨i, j, rfl⟩ : ∃ i j, y = ix2 (n0 := 512) (n1 := 1) i j := ⟨_, _, (ix2_eta y).symm⟩
  obtain rfl : j = 0 := Subsingleton.elim _ _
  have ht : t.val < 4 := t.isLt
  blk_simp
  rw [after0_6, out6]
  refine (pay1 _ i).trans ((rms_at m c t i).trans ((v7_at _ _).symm.trans ?_))
  generalize val_main_v7 (F := Ideal) (A0 m c) = X
  blk_ext! [idx t]

theorem final7 : (dats m 0 c).arrAt 7 cfg0.N = val_main_v23 (F := Ideal) (A0 m c) (A1 m c) (A2 m c) (A3 m c) (A4 m c) := by
  refine (dats m 0 c).arrAt_eq_of_covers 7 _ (by decide +kernel) fun t _ y => ?_
  obtain ⟨i, j, rfl⟩ : ∃ i j, y = ix2 (n0 := 512) (n1 := 4096) i j := ⟨_, _, (ix2_eta y).symm⟩
  have ht : t.val < 4 := t.isLt
  blk_simp
  rw [after0_7, out7]
  refine (pay3 _ _ i j).trans ((Finset.sum_congr rfl fun k _ => mul2 (bH_at m c t i k) (blk4 m c t k j)).trans ((v23_at _ _ _ _ _ _ _).symm.trans ?_))
  generalize val_main_v23 (F := Ideal) (A0 m c) (A1 m c) (A2 m c) (A3 m c) (A4 m c) = X
  blk_ext! [idx t]

/-! ## The claims -/

theorem algebraic : Cert.algebraic_Kernel16Ideal_Reference16Ideal := by
  pair_intro
  · run_from Cert.Kernel16Ideal.Value.run_blocks m g
  · refine Idealize.ShloMosaic.θ_run_mono (Cert.Reference16Ideal.Value.run m' g') ?_
    intro r hr c
    obtain ⟨e0, e1, e2, e3, e4⟩ := hagree c
    have q5 : val_main_v20 (F := Ideal) (A0 m c) (A1 m c) (A2 m c) (A3 m c) = (dats m 0 c).arrAt 5 cfg0.N := (final5 m c).symm
    have q6 : val_main_v7 (F := Ideal) (A0 m c) = (dats m 0 c).arrAt 6 cfg0.N := (final6 m c).symm
    have q7 : val_main_v23 (F := Ideal) (A0 m c) (A1 m c) (A2 m c) (A3 m c) (A4 m c) = (dats m 0 c).arrAt 7 cfg0.N := (final7 m c).symm
    refine ⟨(hr c).1.trans ?_, (hr c).2.1.trans ?_, (hr c).2.2.1.trans ?_, (hr c).2.2.2⟩
    · refine (Reference16Ideal.Read.val_main_v20_eq _ _ _ _).trans ?_
      rw [e0, e1, e2, e3]
      exact q5
    · refine (Reference16Ideal.Read.val_main_v7_eq _).trans ?_
      rw [e0]
      exact q6
    · refine (Reference16Ideal.Read.val_main_v23_eq _ _ _ _ _).trans ?_
      rw [e0, e1, e2, e3, e4]
      exact q7

theorem frame_reference : Cert.quiescent_Reference16Ideal := fun m g _ =>
  (θ_run Reference16Ideal.defs _ _).mono (fun r h => ⟨fun c => (h c).2.2.2, sem_eq_zero_of_no_sems (by decide) r.2⟩) (Reference16Ideal.Value.run m g)

end Cert.NormIn16

end
-- ==== Proof.NormIn17.lean ====
/- The input projection of the normalised third level's rows, two parts. -/
module

public import proofs.«01_k».proof.Defs
public import proofs.«01_k».proof.Proof.LatentMath
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pointwise

@[expose] public section

set_option maxRecDepth 16384

noncomputable section

namespace Cert.NormIn17

open Idealize.ShloMosaic Idealize.ShloMosaic.TcCoe Idealize.SL.Sem
open Idealize.ShloMosaic.Pipeline (Dat)
open Cert.LatentMath (rms msq chans mul2)
open Cert.Kernel17Ideal Cert.Kernel17Ideal.Gen
open Cert.Reference17Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0] ∧ win0_3.index t = ![0, 0, 0]
    ∧ win0_4.index t = ![0, 0] ∧ win0_5.index t = ![t.val, 0] ∧ win0_6.index t = ![t.val, 0] ∧ win0_7.index t = ![t.val, 0] :=
  (by decide +kernel : ∀ t : Fin grid0.N, _)

/-! ## What the body computes, and the reference, index by index -/

section Pay
variable (X : FVec Ideal S512x1024 .f32) (g : FVec Ideal S1x1024 .f32) (s h : FVec Ideal S1x1x1024 .f32)

theorem pay1 (a : Fin 512) : k0_pay1 (F := Ideal) X (ix2 a 0) = rms (fun k => X (ix2 a k)) := by
  unfold rms msq
  pointwise [k0_pay1]

theorem pay2 (a : Fin 512) (j : Fin 1024) : k0_pay2 (F := Ideal) X g s h (ix2 a j)
    = X (ix2 a j) * rms (fun k => X (ix2 a k)) * g (ix2 0 j) * (1 + s (ix3 0 0 j)) + h (ix3 0 0 j) := by
  rw [← pay1]
  pointwise [k0_pay2]

theorem pay3 (H : FVec Ideal S512x1024 .bf16) (W : FVec Ideal S1024x2048 .bf16) (a : Fin 512) (j : Fin 2048) :
    k0_pay3 (F := Ideal) H W (ix2 a j) = ∑ k : Fin 1024, H (ix2 a k) * W (ix2 k j) := by
  pointwise [k0_pay3]
end Pay

section Ref
variable (x0 : FVec Ideal Reference17Ideal.S2048x1024 .f32) (x1 : FVec Ideal Reference17Ideal.S1x1024 .f32)
  (x2 x3 : FVec Ideal Reference17Ideal.S1x1x1024 .f32) (x4 : FVec Ideal Reference17Ideal.S1024x2048 .bf16)

/-- A row of the projection's operand. -/
def hrow (r : Fin 2048) (j : Fin 1024) : EReal :=
  x0 (ix2 r j) * rms (fun k => x0 (ix2 r k)) * x1 (ix2 0 j) * (1 + x2 (ix3 0 0 j)) + x3 (ix3 0 0 j)

theorem v7_at (r : Fin 2048) : val_main_v7 (F := Ideal) x0 (ix2 r 0) = rms (fun k => x0 (ix2 r k)) := by
  unfold rms msq
  pointwise [val_main_v7, val_main_v6, val_main_v5, val_main_cst_1, val_main_v4, val_main_v3, val_main_cst_0, val_main_v2, val_main_v1, val_main_cst, val_main_v0]

theorem v19_at (r : Fin 2048) (j : Fin 1024) : val_main_v19 (F := Ideal) x0 x1 x2 x3 (ix2 r j) = hrow x0 x1 x2 x3 r j := by
  unfold hrow
  rw [← v7_at]
  pointwise [val_main_v19, val_main_v18, val_main_v17, val_main_v16, val_main_v15, val_main_v14, val_main_cst_2, val_main_v13, val_main_v12, val_main_v11, val_main_v10, val_main_v9, val_main_v8]

theorem v20_at (r : Fin 2048) (j : Fin 1024) : val_main_v20 (F := Ideal) x0 x1 x2 x3 (ix2 r j) = hrow x0 x1 x2 x3 r j := by
  rw [← v19_at]
  pointwise [val_main_v20]

theorem v23_at (r : Fin 2048) (j : Fin 2048) : val_main_v23 (F := Ideal) x0 x1 x2 x3 x4 (ix2 r j) = ∑ k : Fin 1024, hrow x0 x1 x2 x3 r k * x4 (ix2 k j) := by
  simp only [← v19_at]
  pointwise [val_main_v23, val_main_v22, val_main_v21]
end Ref

/-! ## The result arrays -/

abbrev A0 : FVec Ideal S2048x1024 .f32 := m ((c : Thread nD τ).loc main_arg0)
abbrev A1 : FVec Ideal S1x1024 .f32 := m ((c : Thread nD τ).loc main_arg1)
abbrev A2 : FVec Ideal S1x1x1024 .f32 := m ((c : Thread nD τ).loc main_arg2)
abbrev A3 : FVec Ideal S1x1x1024 .f32 := m ((c : Thread nD τ).loc main_arg3)
abbrev A4 : FVec Ideal S1024x2048 .bf16 := m ((c : Thread nD τ).loc main_arg4)

abbrev b0 (t : Fin cfg0.N) : FVec Ideal S512x1024 .f32 := iblk m c 0 t
abbrev b1 (t : Fin cfg0.N) : FVec Ideal S1x1024 .f32 := iblk m c 1 t
abbrev b2 (t : Fin cfg0.N) : FVec Ideal S1x1x1024 .f32 := iblk m c 2 t
abbrev b3 (t : Fin cfg0.N) : FVec Ideal S1x1x1024 .f32 := iblk m c 3 t
abbrev b4 (t : Fin cfg0.N) : FVec Ideal S1024x2048 .bf16 := iblk m c 4 t

/-- The row of the latents a block's row is. -/
abbrev at_ (t : Fin cfg0.N) (r : Fin 512) : Fin 2048 := ⟨t.val * 512 + r.val, by have : t.val < 4 := t.isLt; omega⟩

theorem blk0 (t : Fin cfg0.N) (r : Fin 512) (j : Fin 1024) : b0 m c t (ix2 r j) = A0 m c (ix2 (at_ t r) j) := by
  blk_ext! [b0, iblk, V, idx t]
theorem blk1 (t : Fin cfg0.N) (j : Fin 1024) : b1 m c t (ix2 0 j) = A1 m c (ix2 0 j) := by
  blk_ext! [b1, iblk, V, idx t]
theorem blk2 (t : Fin cfg0.N) (j : Fin 1024) : b2 m c t (ix3 0 0 j) = A2 m c (ix3 0 0 j) := by
  blk_ext! [b2, iblk, V, idx t]
theorem blk3 (t : Fin cfg0.N) (j : Fin 1024) : b3 m c t (ix3 0 0 j) = A3 m c (ix3 0 0 j) := by
  blk_ext! [b3, iblk, V, idx t]
theorem blk4 (t : Fin cfg0.N) (i : Fin 1024) (j : Fin 2048) : b4 m c t (ix2 i j) = A4 m c (ix2 i j) := by
  blk_ext! [b4, iblk, V, idx t]

theorem rms_at (t : Fin cfg0.N) (r : Fin 512) : rms (fun k => b0 m c t (ix2 r k)) = rms (fun k => A0 m c (ix2 (at_ t r) k)) :=
  congrArg rms (funext fun k => blk0 m c t r k)

/-- The block's rows of the projection's operand. -/
abbrev bH (t : Fin cfg0.N) : FVec Ideal S512x1024 .bf16 := k0_pay2 (F := Ideal) (b0 m c t) (b1 m c t) (b2 m c t) (b3 m c t)

theorem bH_at (t : Fin cfg0.N) (r : Fin 512) (j : Fin 1024) : bH m c t (ix2 r j) = hrow (A0 m c) (A1 m c) (A2 m c) (A3 m c) (at_ t r) j := by
  refine (pay2 _ _ _ _ r j).trans ?_
  unfold hrow
  rw [blk0, rms_at, blk1, blk2, blk3]

theorem out5 (t : Fin cfg0.N) : (outsAt0 m c t).1 = bH m c t := by
  unfold outsAt0; frame_out

theorem out6 (t : Fin cfg0.N) : (outsAt0 m c t).2.1 = k0_pay1 (F := Ideal) (b0 m c t) := by
  unfold outsAt0; frame_out

theorem out7 (t : Fin cfg0.N) : (outsAt0 m c t).2.2 = k0_pay3 (F := Ideal) (bH m c t) (b4 m c t) := by
  unfold outsAt0; frame_out

theorem final5 : (dats m 0 c).arrAt 5 cfg0.N = val_main_v20 (F := Ideal) (A0 m c) (A1 m c) (A2 m c) (A3 m c) := by
  refine (dats m 0 c).arrAt_eq_of_covers 5 _ (by decide +kernel) fun t _ y => ?_
  obtain ⟨i, j, rfl⟩ : ∃ i j, y = ix2 (n0 := 512) (n1 := 1024) i j := ⟨_, _, (ix2_eta y).symm⟩
  have ht : t.val < 4 := t.isLt
  blk_simp
  rw [after0_5, out5]
  refine (bH_at m c t i j).trans ((v20_at _ _ _ _ _ _).symm.trans ?_)
  generalize val_main_v20 (F := Ideal) (A0 m c) (A1 m c) (A2 m c) (A3 m c) = X
  blk_ext! [idx t]

theorem final6 : (dats m 0 c).arrAt 6 cfg0.N = val_main_v7 (F := Ideal) (A0 m c) := by
  refine (dats m 0 c).arrAt_eq_of_covers 6 _ (by decide +kernel) fun t _ y => ?_
  obtain ⟨i, j, rfl⟩ : ∃ i j, y = ix2 (n0 := 512) (n1 := 1) i j := ⟨_, _, (ix2_eta y).symm⟩
  obtain rfl : j = 0 := Subsingleton.elim _ _
  have ht : t.val < 4 := t.isLt
  blk_simp
  rw [after0_6, out6]
  refine (pay1 _ i).trans ((rms_at m c t i).trans ((v7_at _ _).symm.trans ?_))
  generalize val_main_v7 (F := Ideal) (A0 m c) = X
  blk_ext! [idx t]

theorem final7 : (dats m 0 c).arrAt 7 cfg0.N = val_main_v23 (F := Ideal) (A0 m c) (A1 m c) (A2 m c) (A3 m c) (A4 m c) := by
  refine (dats m 0 c).arrAt_eq_of_covers 7 _ (by decide +kernel) fun t _ y => ?_
  obtain ⟨i, j, rfl⟩ : ∃ i j, y = ix2 (n0 := 512) (n1 := 2048) i j := ⟨_, _, (ix2_eta y).symm⟩
  have ht : t.val < 4 := t.isLt
  blk_simp
  rw [after0_7, out7]
  refine (pay3 _ _ i j).trans ((Finset.sum_congr rfl fun k _ => mul2 (bH_at m c t i k) (blk4 m c t k j)).trans ((v23_at _ _ _ _ _ _ _).symm.trans ?_))
  generalize val_main_v23 (F := Ideal) (A0 m c) (A1 m c) (A2 m c) (A3 m c) (A4 m c) = X
  blk_ext! [idx t]

/-! ## The claims -/

theorem algebraic : Cert.algebraic_Kernel17Ideal_Reference17Ideal := by
  pair_intro
  · run_from Cert.Kernel17Ideal.Value.run_blocks m g
  · refine Idealize.ShloMosaic.θ_run_mono (Cert.Reference17Ideal.Value.run m' g') ?_
    intro r hr c
    obtain ⟨e0, e1, e2, e3, e4⟩ := hagree c
    have q5 : val_main_v20 (F := Ideal) (A0 m c) (A1 m c) (A2 m c) (A3 m c) = (dats m 0 c).arrAt 5 cfg0.N := (final5 m c).symm
    have q6 : val_main_v7 (F := Ideal) (A0 m c) = (dats m 0 c).arrAt 6 cfg0.N := (final6 m c).symm
    have q7 : val_main_v23 (F := Ideal) (A0 m c) (A1 m c) (A2 m c) (A3 m c) (A4 m c) = (dats m 0 c).arrAt 7 cfg0.N := (final7 m c).symm
    refine ⟨(hr c).1.trans ?_, (hr c).2.1.trans ?_, (hr c).2.2.1.trans ?_, (hr c).2.2.2⟩
    · refine (Reference17Ideal.Read.val_main_v20_eq _ _ _ _).trans ?_
      rw [e0, e1, e2, e3]
      exact q5
    · refine (Reference17Ideal.Read.val_main_v7_eq _).trans ?_
      rw [e0]
      exact q6
    · refine (Reference17Ideal.Read.val_main_v23_eq _ _ _ _ _).trans ?_
      rw [e0, e1, e2, e3, e4]
      exact q7

theorem frame_reference : Cert.quiescent_Reference17Ideal := fun m g _ =>
  (θ_run Reference17Ideal.defs _ _).mono (fun r h => ⟨fun c => (h c).2.2.2, sem_eq_zero_of_no_sems (by decide) r.2⟩) (Reference17Ideal.Value.run m g)

end Cert.NormIn17

end
-- ==== Proof.NormIn18.lean ====
/- The input projection of the normalised latent and context rows, four parts. -/
module

public import proofs.«01_k».proof.Defs
public import proofs.«01_k».proof.Proof.SegMath
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pointwise

@[expose] public section

set_option maxRecDepth 16384

noncomputable section

namespace Cert.NormIn18

open Idealize.ShloMosaic Idealize.ShloMosaic.TcCoe Idealize.SL.Sem
open Idealize.ShloMosaic.Pipeline (Dat)
open Cert.LatentMath (rms msq chans mul2)
open Cert.SegMath (masked row_cond)
open Cert.Kernel18Ideal Cert.Kernel18Ideal.Gen
open Cert.Reference18Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0] ∧ win0_3.index t = ![0, 0, 0]
    ∧ win0_4.index t = ![0, 0] ∧ win0_5.index t = ![t.val, 0] ∧ win0_6.index t = ![t.val, 0] ∧ win0_7.index t = ![t.val, 0] :=
  (by decide +kernel : ∀ t : Fin grid0.N, _)

/-! ## What the body computes, and the reference, index by index -/

section Pay
variable (X : FVec Ideal S768x1024 .f32) (g : FVec Ideal S1x1024 .f32) (s h : FVec Ideal S1x1x1024 .f32)

theorem pay1 (a : Fin 768) : k0_pay3 (F := Ideal) X (ix2 a 0) = rms (fun k => X (ix2 a k)) := by
  unfold rms msq
  pointwise [k0_pay3]

theorem mask_at (n : ℕ) (hn : n < 3) (a : Fin 768) : k0_pay4 (BitVec.ofNat 32 n) (ix2 a 0) = 1#1 ↔ 2048 ≤ n * 768 + a.val := by
  pointwise [k0_pay4]
  exact row_cond 768 n a.val (by omega)

/-- What the body stores of the projection's operand. -/
abbrev operand (n : ℕ) (X : FVec Ideal S768x1024 .f32) (g : FVec Ideal S1x1024 .f32) (s s' h h' : FVec Ideal S1x1x1024 .f32) : FVec Ideal S768x1024 .bf16 :=
  k0_pay1 (F := Ideal) (k0_pay4 (BitVec.ofNat 32 n)) (k0_pay5 (BitVec.ofNat 32 n) X g s' s) (k0_pay6 h') (k0_pay7 h)

theorem operand_at (s' h' : FVec Ideal S1x1x1024 .f32) (n : ℕ) (hn : n < 3) (a : Fin 768) (j : Fin 1024) : operand n X g s s' h h' (ix2 a j)
    = X (ix2 a j) * rms (fun k => X (ix2 a k)) * g (ix2 0 j) * (1 + if 2048 ≤ n * 768 + a.val then s' (ix3 0 0 j) else s (ix3 0 0 j))
      + if 2048 ≤ n * 768 + a.val then h' (ix3 0 0 j) else h (ix3 0 0 j) := by
  rw [← pay1, ← masked (mask_at n hn a), ← masked (mask_at n hn a)]
  pointwise [operand, k0_pay1, k0_pay5, k0_pay6, k0_pay7]

theorem pay3 (H : FVec Ideal S768x1024 .bf16) (W : FVec Ideal S1024x4096 .bf16) (a : Fin 768) (j : Fin 4096) :
    k0_pay2 (F := Ideal) H W (ix2 a j) = ∑ k : Fin 1024, H (ix2 a k) * W (ix2 k j) := by
  pointwise [k0_pay2]
end Pay

section Ref
variable (x0 : FVec Ideal Reference18Ideal.S2304x1024 .f32) (x1 : FVec Ideal Reference18Ideal.S1x1024 .f32)
  (x2 x3 : FVec Ideal Reference18Ideal.S2x1x1024 .f32) (x4 : FVec Ideal Reference18Ideal.S1024x4096 .bf16)

/-- A row of the projection's operand. -/
def hrow (r : Fin 2304) (j : Fin 1024) : EReal :=
  x0 (ix2 r j) * rms (fun k => x0 (ix2 r k)) * x1 (ix2 0 j) * (1 + if 2048 ≤ r.val then x2 (ix3 1 0 j) else x2 (ix3 0 0 j))
    + if 2048 ≤ r.val then x3 (ix3 1 0 j) else x3 (ix3 0 0 j)

theorem v7_at (r : Fin 2304) : val_main_v7 (F := Ideal) x0 (ix2 r 0) = rms (fun k => x0 (ix2 r k)) := by
  unfold rms msq
  pointwise [val_main_v7, val_main_v6, val_main_v5, val_main_cst_1, val_main_v4, val_main_v3, val_main_cst_0, val_main_v2, val_main_v1, val_main_cst, val_main_v0]

theorem v18_at (r : Fin 2304) (j : Fin 1024) : val_main_v18 (F := Ideal) x2 (ix2 r j) = if 2048 ≤ r.val then x2 (ix3 1 0 j) else x2 (ix3 0 0 j) := by
  pointwise [val_main_v18, val_main_v17, val_main_v16, val_main_v15, val_main_v14, val_main_v13, val_main_v12]
  by_cases h : 2048 ≤ r.val
  · rw [dif_neg (by omega), if_pos h]
  · rw [dif_pos (by omega), if_neg h]

theorem v28_at (r : Fin 2304) (j : Fin 1024) : val_main_v28 (F := Ideal) x3 (ix2 r j) = if 2048 ≤ r.val then x3 (ix3 1 0 j) else x3 (ix3 0 0 j) := by
  pointwise [val_main_v28, val_main_v27, val_main_v26, val_main_v25, val_main_v24, val_main_v23, val_main_v22]
  by_cases h : 2048 ≤ r.val
  · rw [dif_neg (by omega), if_pos h]
  · rw [dif_pos (by omega), if_neg h]

theorem v29_at (r : Fin 2304) (j : Fin 1024) : val_main_v29 (F := Ideal) x0 x1 x2 x3 (ix2 r j) = hrow x0 x1 x2 x3 r j := by
  unfold hrow
  rw [← v7_at, ← v18_at, ← v28_at]
  pointwise [val_main_v29, val_main_v21, val_main_v20, val_main_v19, val_main_cst_2, val_main_v11, val_main_v10, val_main_v9, val_main_v8]

theorem v30_at (r : Fin 2304) (j : Fin 1024) : val_main_v30 (F := Ideal) x0 x1 x2 x3 (ix2 r j) = hrow x0 x1 x2 x3 r j := by
  rw [← v29_at]
  pointwise [val_main_v30]

theorem v33_at (r : Fin 2304) (j : Fin 4096) : val_main_v33 (F := Ideal) x0 x1 x2 x3 x4 (ix2 r j) = ∑ k : Fin 1024, hrow x0 x1 x2 x3 r k * x4 (ix2 k j) := by
  simp only [← v29_at]
  pointwise [val_main_v33, val_main_v32, val_main_v31]
end Ref

/-! ## The result arrays -/

abbrev A0 : FVec Ideal S2304x1024 .f32 := m ((c : Thread nD τ).loc main_arg0)
abbrev A1 : FVec Ideal S1x1024 .f32 := m ((c : Thread nD τ).loc main_arg1)
abbrev A2 : FVec Ideal S2x1x1024 .f32 := m ((c : Thread nD τ).loc main_arg2)
abbrev A3 : FVec Ideal S2x1x1024 .f32 := m ((c : Thread nD τ).loc main_arg3)
abbrev A4 : FVec Ideal S1024x4096 .bf16 := m ((c : Thread nD τ).loc main_arg4)

abbrev b0 (t : Fin cfg0.N) : FVec Ideal S768x1024 .f32 := iblk m c 0 t
abbrev b1 (t : Fin cfg0.N) : FVec Ideal S1x1024 .f32 := iblk m c 1 t
abbrev b2 (t : Fin cfg0.N) : FVec Ideal S2x1x1024 .f32 := iblk m c 2 t
abbrev b3 (t : Fin cfg0.N) : FVec Ideal S2x1x1024 .f32 := iblk m c 3 t
abbrev b4 (t : Fin cfg0.N) : FVec Ideal S1024x4096 .bf16 := iblk m c 4 t

abbrev s0 (t : Fin cfg0.N) : FVec Ideal S1x1x1024 .f32 := View.ld (Val := Elt Ideal) (S := S2x1x1024) (e' := .f32) (b2 m c t) (Rect.unit (s := S2x1x1024) ![0, 0, 0] ![1, 1, 1024] inb_S2x1x1024_S1x1x1024_0_0_0)
abbrev s1 (t : Fin cfg0.N) : FVec Ideal S1x1x1024 .f32 := View.ld (Val := Elt Ideal) (S := S2x1x1024) (e' := .f32) (b2 m c t) (Rect.unit (s := S2x1x1024) ![1, 0, 0] ![1, 1, 1024] inb_S2x1x1024_S1x1x1024_1_0_0)
abbrev h0 (t : Fin cfg0.N) : FVec Ideal S1x1x1024 .f32 := View.ld (Val := Elt Ideal) (S := S2x1x1024) (e' := .f32) (b3 m c t) (Rect.unit (s := S2x1x1024) ![0, 0, 0] ![1, 1, 1024] inb_S2x1x1024_S1x1x1024_0_0_0)
abbrev h1 (t : Fin cfg0.N) : FVec Ideal S1x1x1024 .f32 := View.ld (Val := Elt Ideal) (S := S2x1x1024) (e' := .f32) (b3 m c t) (Rect.unit (s := S2x1x1024) ![1, 0, 0] ![1, 1, 1024] inb_S2x1x1024_S1x1x1024_1_0_0)

theorem at0 : ∀ t : Fin grid0.N, (grid0.coords t 0).val = t.val := by decide +kernel

/-- The row of the latents a block's row is. -/
abbrev at_ (t : Fin cfg0.N) (r : Fin 768) : Fin 2304 := ⟨t.val * 768 + r.val, by have : t.val < 3 := t.isLt; omega⟩

theorem blk0 (t : Fin cfg0.N) (r : Fin 768) (j : Fin 1024) : b0 m c t (ix2 r j) = A0 m c (ix2 (at_ t r) j) := by
  blk_ext! [b0, iblk, V, idx t]
theorem blk1 (t : Fin cfg0.N) (j : Fin 1024) : b1 m c t (ix2 0 j) = A1 m c (ix2 0 j) := by
  blk_ext! [b1, iblk, V, idx t]
theorem s0_at (t : Fin cfg0.N) (j : Fin 1024) : s0 m c t (ix3 0 0 j) = A2 m c (ix3 0 0 j) := by
  blk_ext! [s0, b2, iblk, V, idx t]
theorem s1_at (t : Fin cfg0.N) (j : Fin 1024) : s1 m c t (ix3 0 0 j) = A2 m c (ix3 1 0 j) := by
  blk_ext! [s1, b2, iblk, V, idx t]
theorem h0_at (t : Fin cfg0.N) (j : Fin 1024) : h0 m c t (ix3 0 0 j) = A3 m c (ix3 0 0 j) := by
  blk_ext! [h0, b3, iblk, V, idx t]
theorem h1_at (t : Fin cfg0.N) (j : Fin 1024) : h1 m c t (ix3 0 0 j) = A3 m c (ix3 1 0 j) := by
  blk_ext! [h1, b3, iblk, V, idx t]
theorem blk4 (t : Fin cfg0.N) (i : Fin 1024) (j : Fin 4096) : b4 m c t (ix2 i j) = A4 m c (ix2 i j) := by
  blk_ext! [b4, iblk, V, idx t]

theorem rms_at (t : Fin cfg0.N) (r : Fin 768) : rms (fun k => b0 m c t (ix2 r k)) = rms (fun k => A0 m c (ix2 (at_ t r) k)) :=
  congrArg rms (funext fun k => blk0 m c t r k)

/-- The block's rows of the projection's operand. -/
abbrev bH (t : Fin cfg0.N) : FVec Ideal S768x1024 .bf16 := operand (grid0.coords t 0).val (b0 m c t) (b1 m c t) (s0 m c t) (s1 m c t) (h0 m c t) (h1 m c t)

theorem bH_at (t : Fin cfg0.N) (r : Fin 768) (j : Fin 1024) : bH m c t (ix2 r j) = hrow (A0 m c) (A1 m c) (A2 m c) (A3 m c) (at_ t r) j := by
  have ht : t.val < 3 := t.isLt
  refine (operand_at _ _ _ _ _ _ _ (by rw [at0]; exact ht) r j).trans ?_
  unfold hrow
  rw [blk0, rms_at, blk1, s0_at, s1_at, h0_at, h1_at, at0]

theorem out5 (t : Fin cfg0.N) : (outsAt0 m c t).1 = bH m c t := by
  unfold outsAt0; frame_out

theorem out6 (t : Fin cfg0.N) : (outsAt0 m c t).2.1 = k0_pay3 (F := Ideal) (b0 m c t) := by
  unfold outsAt0; frame_out

theorem out7 (t : Fin cfg0.N) : (outsAt0 m c t).2.2 = k0_pay2 (F := Ideal) (bH m c t) (b4 m c t) := by
  unfold outsAt0; frame_out

theorem final5 : (dats m 0 c).arrAt 5 cfg0.N = val_main_v30 (F := Ideal) (A0 m c) (A1 m c) (A2 m c) (A3 m c) := by
  refine (dats m 0 c).arrAt_eq_of_covers 5 _ (by decide +kernel) fun t _ y => ?_
  obtain ⟨i, j, rfl⟩ : ∃ i j, y = ix2 (n0 := 768) (n1 := 1024) i j := ⟨_, _, (ix2_eta y).symm⟩
  have ht : t.val < 3 := t.isLt
  blk_simp
  rw [after0_5, out5]
  refine (bH_at m c t i j).trans ((v30_at _ _ _ _ _ _).symm.trans ?_)
  generalize val_main_v30 (F := Ideal) (A0 m c) (A1 m c) (A2 m c) (A3 m c) = X
  blk_ext! [idx t]

theorem final6 : (dats m 0 c).arrAt 6 cfg0.N = val_main_v7 (F := Ideal) (A0 m c) := by
  refine (dats m 0 c).arrAt_eq_of_covers 6 _ (by decide +kernel) fun t _ y => ?_
  obtain ⟨i, j, rfl⟩ : ∃ i j, y = ix2 (n0 := 768) (n1 := 1) i j := ⟨_, _, (ix2_eta y).symm⟩
  obtain rfl : j = 0 := Subsingleton.elim _ _
  have ht : t.val < 3 := t.isLt
  blk_simp
  rw [after0_6, out6]
  refine (pay1 _ i).trans ((rms_at m c t i).trans ((v7_at _ _).symm.trans ?_))
  generalize val_main_v7 (F := Ideal) (A0 m c) = X
  blk_ext! [idx t]

theorem final7 : (dats m 0 c).arrAt 7 cfg0.N = val_main_v33 (F := Ideal) (A0 m c) (A1 m c) (A2 m c) (A3 m c) (A4 m c) := by
  refine (dats m 0 c).arrAt_eq_of_covers 7 _ (by decide +kernel) fun t _ y => ?_
  obtain ⟨i, j, rfl⟩ : ∃ i j, y = ix2 (n0 := 768) (n1 := 4096) i j := ⟨_, _, (ix2_eta y).symm⟩
  have ht : t.val < 3 := t.isLt
  blk_simp
  rw [after0_7, out7]
  refine (pay3 _ _ i j).trans ((Finset.sum_congr rfl fun k _ => mul2 (bH_at m c t i k) (blk4 m c t k j)).trans ((v33_at _ _ _ _ _ _ _).symm.trans ?_))
  generalize val_main_v33 (F := Ideal) (A0 m c) (A1 m c) (A2 m c) (A3 m c) (A4 m c) = X
  blk_ext! [idx t]

/-! ## The claims -/

theorem algebraic : Cert.algebraic_Kernel18Ideal_Reference18Ideal := by
  pair_intro
  · run_from Cert.Kernel18Ideal.Value.run_blocks m g
  · refine Idealize.ShloMosaic.θ_run_mono (Cert.Reference18Ideal.Value.run m' g') ?_
    intro r hr c
    obtain ⟨e0, e1, e2, e3, e4⟩ := hagree c
    have q5 : val_main_v30 (F := Ideal) (A0 m c) (A1 m c) (A2 m c) (A3 m c) = (dats m 0 c).arrAt 5 cfg0.N := (final5 m c).symm
    have q6 : val_main_v7 (F := Ideal) (A0 m c) = (dats m 0 c).arrAt 6 cfg0.N := (final6 m c).symm
    have q7 : val_main_v33 (F := Ideal) (A0 m c) (A1 m c) (A2 m c) (A3 m c) (A4 m c) = (dats m 0 c).arrAt 7 cfg0.N := (final7 m c).symm
    refine ⟨(hr c).1.trans ?_, (hr c).2.1.trans ?_, (hr c).2.2.1.trans ?_, (hr c).2.2.2⟩
    · refine (Reference18Ideal.Read.val_main_v30_eq _ _ _ _).trans ?_
      rw [e0, e1, e2, e3]
      exact q5
    · refine (Reference18Ideal.Read.val_main_v7_eq _).trans ?_
      rw [e0]
      exact q6
    · refine (Reference18Ideal.Read.val_main_v33_eq _ _ _ _ _).trans ?_
      rw [e0, e1, e2, e3, e4]
      exact q7

theorem frame_reference : Cert.quiescent_Reference18Ideal := fun m g _ =>
  (θ_run Reference18Ideal.defs _ _).mono (fun r h => ⟨fun c => (h c).2.2.2, sem_eq_zero_of_no_sems (by decide) r.2⟩) (Reference18Ideal.Value.run m g)

end Cert.NormIn18

end
-- ==== Proof.NormIn19.lean ====
/- The input projection of the normalised latent and context rows, joined by the call. -/
module

public import proofs.«01_k».proof.Defs
public import proofs.«01_k».proof.Proof.SegMath
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise

@[expose] public section

set_option maxRecDepth 16384

noncomputable section

namespace Cert.NormIn19

open Idealize.ShloMosaic Idealize.ShloMosaic.TcCoe Idealize.SL.Sem
open Idealize.ShloMosaic.Pipeline (Dat)
open Cert.LatentMath (rms msq chans mul2)
open Cert.SegMath (masked row_cond)
open Cert.Kernel19Ideal Cert.Kernel19Ideal.Gen
open Cert.Reference19Ideal.Read

variable (m : (ℓ : Loc nD τ sig) → Buf (Elt Ideal) ℓ) (c : Dev nD)

theorem idx : ∀ t : Fin cfg0.N, win0_0.index t = ![min (t.val * 3) 7, 0] ∧ win0_1.index t = ![min (t.val * 3 + 1) 7, 0] ∧ win0_2.index t = ![min (t.val * 3 + 2) 7, 0]
    ∧ win0_3.index t = ![0, 0] ∧ win0_4.index t = ![0, 0] ∧ win0_5.index t = ![0, 0, 0] ∧ win0_6.index t = ![0, 0, 0] ∧ win0_7.index t = ![0, 0]
    ∧ win0_8.index t = ![t.val, 0] ∧ win0_9.index t = ![t.val, 0] ∧ win0_10.index t = ![t.val, 0] ∧ win0_11.index t = ![t.val, 0] :=
  (by decide +kernel : ∀ t : Fin grid0.N, _)

/-! ## What the body computes, and the reference, index by index -/

section Pay
variable (C B0 B1 B2 : FVec Ideal S256x1024 .f32) (X : FVec Ideal S768x1024 .f32) (R : FVec Ideal S768x1 .f32) (g : FVec Ideal S1x1024 .f32)
  (s s' h h' : FVec Ideal S1x1x1024 .f32)

theorem sub_cond : ∀ n : Fin 3,
    (Scalar.cmpi .sge (Scalar.addi (Scalar.muli (BitVec.ofNat 32 n.val) 3#32) 0#32) 8#32 = 1#1 ↔ 8 ≤ n.val * 3)
    ∧ (Scalar.cmpi .sge (Scalar.addi (Scalar.muli (BitVec.ofNat 32 n.val) 3#32) 1#32) 8#32 = 1#1 ↔ 8 ≤ n.val * 3 + 1)
    ∧ (Scalar.cmpi .sge (Scalar.addi (Scalar.muli (BitVec.ofNat 32 n.val) 3#32) 2#32) 8#32 = 1#1 ↔ 8 ≤ n.val * 3 + 2) := by
  decide

theorem masked_vec {α : Type} {p : Prop} [Decidable p] {b : BitVec 1} (h : b = 1#1 ↔ p) (x y : α) : Scalar.select b x y = if p then x else y := by
  by_cases hp : p
  · rw [if_pos hp]; exact if_pos (h.mpr hp)
  · rw [if_neg hp]; exact if_neg fun hb => hp (h.mp hb)

/-- The rows the body puts together of three blocks of latent rows and the context rows. -/
abbrev joined (n : ℕ) (C B0 B1 B2 : FVec Ideal S256x1024 .f32) : FVec Ideal S768x1024 .f32 := k0_pay3 (F := Ideal) (BitVec.ofNat 32 n) C B0 C B1 C B2

theorem joined_at (n : Fin 3) (a : Fin 768) (j : Fin 1024) : joined n.val C B0 B1 B2 (ix2 a j)
    = if h0 : a.val < 256 then (if 8 ≤ n.val * 3 then C else B0) (ix2 ⟨a.val, h0⟩ j)
      else if h1 : a.val < 512 then (if 8 ≤ n.val * 3 + 1 then C else B1) (ix2 ⟨a.val - 256, by omega⟩ j)
      else (if 8 ≤ n.val * 3 + 2 then C else B2) (ix2 ⟨a.val - 512, by omega⟩ j) := by
  rw [← masked_vec (sub_cond n).1, ← masked_vec (sub_cond n).2.1, ← masked_vec (sub_cond n).2.2]
  pointwise [joined, k0_pay3]
  by_cases h0 : a.val < 256
  · simp only [dif_pos h0]
  · by_cases h1 : a.val < 512
    · simp only [dif_neg h0, dif_pos h1, dif_pos (show a.val - 256 < 256 by omega)]
    · simp only [dif_neg h0, dif_neg h1, dif_neg (show ¬a.val - 256 < 256 by omega), Nat.sub_sub]

theorem pay1 (n : ℕ) (a : Fin 768) : k0_pay4 (F := Ideal) (BitVec.ofNat 32 n) C B0 C B1 C B2 (ix2 a 0) = rms (fun k => joined n C B0 B1 B2 (ix2 a k)) := by
  unfold rms msq joined
  pointwise [k0_pay4]

theorem mask_at (n : ℕ) (hn : n < 3) (a : Fin 768) : IntOp.cmpi CmpIPredicate.sge (k0_pay5 (BitVec.ofNat 32 n) (ix2 a 0)) 2048#32 = 1#1 ↔ 2048 ≤ n * 768 + a.val := by
  pointwise [k0_pay5]
  exact row_cond 768 n a.val (by omega)

/-- What the body stores of the projection's operand. -/
abbrev operand (n : ℕ) (X : FVec Ideal S768x1024 .f32) (R : FVec Ideal S768x1 .f32) (g : FVec Ideal S1x1024 .f32) (s s' h h' : FVec Ideal S1x1x1024 .f32) : FVec Ideal S768x1024 .bf16 :=
  k0_pay1 (F := Ideal) X R (k0_pay5 (BitVec.ofNat 32 n)) g s' s h' h

theorem operand_at (n : ℕ) (hn : n < 3) (a : Fin 768) (j : Fin 1024) : operand n X R g s s' h h' (ix2 a j)
    = X (ix2 a j) * R (ix2 a 0) * g (ix2 0 j) * (1 + if 2048 ≤ n * 768 + a.val then s' (ix3 0 0 j) else s (ix3 0 0 j))
      + if 2048 ≤ n * 768 + a.val then h' (ix3 0 0 j) else h (ix3 0 0 j) := by
  rw [← masked (mask_at n hn a), ← masked (mask_at n hn a)]
  pointwise [operand, k0_pay1]

theorem pay3 (H : FVec Ideal S768x1024 .bf16) (W : FVec Ideal S1024x2048 .bf16) (a : Fin 768) (j : Fin 2048) :
    k0_pay2 (F := Ideal) H W (ix2 a j) = ∑ k : Fin 1024, H (ix2 a k) * W (ix2 k j) := by
  pointwise [k0_pay2]
end Pay

section Ref
variable (x0 : FVec Ideal Reference19Ideal.S2048x1024 .f32) (x1 : FVec Ideal Reference19Ideal.S256x1024 .f32) (x2 : FVec Ideal Reference19Ideal.S1x1024 .f32)
  (x3 x4 : FVec Ideal Reference19Ideal.S2x1x1024 .f32) (x5 : FVec Ideal Reference19Ideal.S1024x2048 .bf16)

/-- The latent rows, then the context rows. -/
def both (r : Fin 2304) (j : Fin 1024) : EReal := if h : r.val < 2048 then x0 (ix2 ⟨r.val, h⟩ j) else x1 (ix2 ⟨r.val - 2048, by omega⟩ j)

/-- A row of the projection's operand. -/
def hrow (r : Fin 2304) (j : Fin 1024) : EReal :=
  both x0 x1 r j * rms (fun k => both x0 x1 r k) * x2 (ix2 0 j) * (1 + if 2048 ≤ r.val then x3 (ix3 1 0 j) else x3 (ix3 0 0 j))
    + if 2048 ≤ r.val then x4 (ix3 1 0 j) else x4 (ix3 0 0 j)

theorem v0_at (r : Fin 2304) (j : Fin 1024) : val_main_v0 (F := Ideal) x0 x1 (ix2 r j) = both x0 x1 r j := by
  unfold both
  pointwise [val_main_v0]

theorem v8_at (r : Fin 2304) : val_main_v8 (F := Ideal) x0 x1 (ix2 r 0) = rms (fun k => both x0 x1 r k) := by
  simp only [← v0_at]
  unfold rms msq
  pointwise [val_main_v8, val_main_v7, val_main_v6, val_main_cst_1, val_main_v5, val_main_v4, val_main_cst_0, val_main_v3, val_main_v2, val_main_cst, val_main_v1]

theorem v19_at (r : Fin 2304) (j : Fin 1024) : val_main_v19 (F := Ideal) x3 (ix2 r j) = if 2048 ≤ r.val then x3 (ix3 1 0 j) else x3 (ix3 0 0 j) := by
  pointwise [val_main_v19, val_main_v18, val_main_v17, val_main_v16, val_main_v15, val_main_v14, val_main_v13]
  by_cases h : 2048 ≤ r.val
  · rw [dif_neg (by omega), if_pos h]
  · rw [dif_pos (by omega), if_neg h]

theorem v29_at (r : Fin 2304) (j : Fin 1024) : val_main_v29 (F := Ideal) x4 (ix2 r j) = if 2048 ≤ r.val then x4 (ix3 1 0 j) else x4 (ix3 0 0 j) := by
  pointwise [val_main_v29, val_main_v28, val_main_v27, val_main_v26, val_main_v25, val_main_v24, val_main_v23]
  by_cases h : 2048 ≤ r.val
  · rw [dif_neg (by omega), if_pos h]
  · rw [dif_pos (by omega), if_neg h]

theorem v30_at (r : Fin 2304) (j : Fin 1024) : val_main_v30 (F := Ideal) x0 x1 x2 x3 x4 (ix2 r j) = hrow x0 x1 x2 x3 x4 r j := by
  unfold hrow
  rw [← v8_at, ← v0_at, ← v19_at, ← v29_at]
  pointwise [val_main_v30, val_main_v22, val_main_v21, val_main_v20, val_main_cst_2, val_main_v12, val_main_v11, val_main_v10, val_main_v9]

theorem v31_at (r : Fin 2304) (j : Fin 1024) : val_main_v31 (F := Ideal) x0 x1 x2 x3 x4 (ix2 r j) = hrow x0 x1 x2 x3 x4 r j := by
  rw [← v30_at]
  pointwise [val_main_v31]

theorem v34_at (r : Fin 2304) (j : Fin 2048) : val_main_v34 (F := Ideal) x0 x1 x2 x3 x4 x5 (ix2 r j) = ∑ k : Fin 1024, hrow x0 x1 x2 x3 x4 r k * x5 (ix2 k j) := by
  simp only [← v30_at]
  pointwise [val_main_v34, val_main_v33, val_main_v32]
end Ref

/-! ## The result arrays -/

abbrev A0 : FVec Ideal S2048x1024 .f32 := m ((c : Thread nD τ).loc main_arg0)
abbrev A1 : FVec Ideal S256x1024 .f32 := m ((c : Thread nD τ).loc main_arg1)
abbrev A2 : FVec Ideal S1x1024 .f32 := m ((c : Thread nD τ).loc main_arg2)
abbrev A3 : FVec Ideal S2x1x1024 .f32 := m ((c : Thread nD τ).loc main_arg3)
abbrev A4 : FVec Ideal S2x1x1024 .f32 := m ((c : Thread nD τ).loc main_arg4)
abbrev A5 : FVec Ideal S1024x2048 .bf16 := m ((c : Thread nD τ).loc main_arg5)

abbrev b0 (t : Fin cfg0.N) : FVec Ideal S256x1024 .f32 := iblk m c 0 t
abbrev b1 (t : Fin cfg0.N) : FVec Ideal S256x1024 .f32 := iblk m c 1 t
abbrev b2 (t : Fin cfg0.N) : FVec Ideal S256x1024 .f32 := iblk m c 2 t
abbrev b3 (t : Fin cfg0.N) : FVec Ideal S256x1024 .f32 := iblk m c 3 t
abbrev b4 (t : Fin cfg0.N) : FVec Ideal S1x1024 .f32 := iblk m c 4 t
abbrev b5 (t : Fin cfg0.N) : FVec Ideal S2x1x1024 .f32 := iblk m c 5 t
abbrev b6 (t : Fin cfg0.N) : FVec Ideal S2x1x1024 .f32 := iblk m c 6 t
abbrev b7 (t : Fin cfg0.N) : FVec Ideal S1024x2048 .bf16 := iblk m c 7 t
abbrev s0 (t : Fin cfg0.N) : FVec Ideal S1x1x1024 .f32 := View.ld (Val := Elt Ideal) (S := S2x1x1024) (e' := .f32) (b5 m c t) (Rect.unit (s := S2x1x1024) ![0, 0, 0] ![1, 1, 1024] inb_S2x1x1024_S1x1x1024_0_0_0)
abbrev s1 (t : Fin cfg0.N) : FVec Ideal S1x1x1024 .f32 := View.ld (Val := Elt Ideal) (S := S2x1x1024) (e' := .f32) (b5 m c t) (Rect.unit (s := S2x1x1024) ![1, 0, 0] ![1, 1, 1024] inb_S2x1x1024_S1x1x1024_1_0_0)
abbrev h0 (t : Fin cfg0.N) : FVec Ideal S1x1x1024 .f32 := View.ld (Val := Elt Ideal) (S := S2x1x1024) (e' := .f32) (b6 m c t) (Rect.unit (s := S2x1x1024) ![0, 0, 0] ![1, 1, 1024] inb_S2x1x1024_S1x1x1024_0_0_0)
abbrev h1 (t : Fin cfg0.N) : FVec Ideal S1x1x1024 .f32 := View.ld (Val := Elt Ideal) (S := S2x1x1024) (e' := .f32) (b6 m c t) (Rect.unit (s := S2x1x1024) ![1, 0, 0] ![1, 1, 1024] inb_S2x1x1024_S1x1x1024_1_0_0)

theorem at0 : ∀ t : Fin grid0.N, (grid0.coords t 0).val = t.val := by decide +kernel

/-- The row of the latents and the context a block's row is. -/
abbrev at_ (t : Fin cfg0.N) (r : Fin 768) : Fin 2304 := ⟨t.val * 768 + r.val, by have : t.val < 3 := t.isLt; omega⟩

theorem blk0 (t : Fin cfg0.N) (r : Fin 256) (j : Fin 1024) : b0 m c t (ix2 r j) = A0 m c (ix2 ⟨min (t.val * 3) 7 * 256 + r.val, by omega⟩ j) := by
  blk_ext! [b0, iblk, V, idx t]
theorem blk1 (t : Fin cfg0.N) (r : Fin 256) (j : Fin 1024) : b1 m c t (ix2 r j) = A0 m c (ix2 ⟨min (t.val * 3 + 1) 7 * 256 + r.val, by omega⟩ j) := by
  blk_ext! [b1, iblk, V, idx t]
theorem blk2 (t : Fin cfg0.N) (r : Fin 256) (j : Fin 1024) : b2 m c t (ix2 r j) = A0 m c (ix2 ⟨min (t.val * 3 + 2) 7 * 256 + r.val, by omega⟩ j) := by
  blk_ext! [b2, iblk, V, idx t]
theorem blk3 (t : Fin cfg0.N) (r : Fin 256) (j : Fin 1024) : b3 m c t (ix2 r j) = A1 m c (ix2 r j) := by
  blk_ext! [b3, iblk, V, idx t]
theorem blk4 (t : Fin cfg0.N) (j : Fin 1024) : b4 m c t (ix2 0 j) = A2 m c (ix2 0 j) := by
  blk_ext! [b4, iblk, V, idx t]
theorem s0_at (t : Fin cfg0.N) (j : Fin 1024) : s0 m c t (ix3 0 0 j) = A3 m c (ix3 0 0 j) := by
  blk_ext! [s0, b5, iblk, V, idx t]
theorem s1_at (t : Fin cfg0.N) (j : Fin 1024) : s1 m c t (ix3 0 0 j) = A3 m c (ix3 1 0 j) := by
  blk_ext! [s1, b5, iblk, V, idx t]
theorem h0_at (t : Fin cfg0.N) (j : Fin 1024) : h0 m c t (ix3 0 0 j) = A4 m c (ix3 0 0 j) := by
  blk_ext! [h0, b6, iblk, V, idx t]
theorem h1_at (t : Fin cfg0.N) (j : Fin 1024) : h1 m c t (ix3 0 0 j) = A4 m c (ix3 1 0 j) := by
  blk_ext! [h1, b6, iblk, V, idx t]
theorem blk7 (t : Fin cfg0.N) (i : Fin 1024) (j : Fin 2048) : b7 m c t (ix2 i j) = A5 m c (ix2 i j) := by
  blk_ext! [b7, iblk, V, idx t]

/-- The block's rows, joined. -/
abbrev bX (t : Fin cfg0.N) : FVec Ideal S768x1024 .f32 := joined (grid0.coords t 0).val (b3 m c t) (b0 m c t) (b1 m c t) (b2 m c t)

theorem bX_at (t : Fin cfg0.N) (r : Fin 768) (j : Fin 1024) : bX m c t (ix2 r j) = both (A0 m c) (A1 m c) (at_ t r) j := by
  have ht : t.val < 3 := t.isLt
  have hr := r.isLt
  unfold bX
  rw [at0]
  refine (joined_at _ _ _ _ ⟨t.val, ht⟩ r j).trans ?_
  unfold both
  have low (h : t.val * 768 + r.val < 2048) (q : Fin 2048) (e : q.val = t.val * 768 + r.val) :
      A0 m c (ix2 q j) = if h : t.val * 768 + r.val < 2048 then A0 m c (ix2 ⟨t.val * 768 + r.val, h⟩ j) else A1 m c (ix2 ⟨t.val * 768 + r.val - 2048, by omega⟩ j) := by
    rw [dif_pos h]; exact congrArg (fun z => A0 m c (ix2 z j)) (Fin.ext e)
  have high (h : ¬t.val * 768 + r.val < 2048) (q : Fin 256) (e : q.val = t.val * 768 + r.val - 2048) :
      A1 m c (ix2 q j) = if h : t.val * 768 + r.val < 2048 then A0 m c (ix2 ⟨t.val * 768 + r.val, h⟩ j) else A1 m c (ix2 ⟨t.val * 768 + r.val - 2048, by omega⟩ j) := by
    rw [dif_neg h]; exact congrArg (fun z => A1 m c (ix2 z j)) (Fin.ext e)
  by_cases h0 : r.val < 256
  · rw [dif_pos h0, if_neg (by omega)]
    exact (blk0 m c t _ j).trans (low (by omega) _ (by show min (t.val * 3) 7 * 256 + r.val = _; omega))
  · rw [dif_neg h0]
    by_cases h1 : r.val < 512
    · rw [dif_pos h1, if_neg (by omega)]
      exact (blk1 m c t _ j).trans (low (by omega) _ (by show min (t.val * 3 + 1) 7 * 256 + (r.val - 256) = _; omega))
    · rw [dif_neg h1]
      by_cases h2 : 8 ≤ t.val * 3 + 2
      · rw [if_pos h2]
        exact (blk3 m c t _ j).trans (high (by omega) _ (by show r.val - 512 = _; omega))
      · rw [if_neg h2]
        exact (blk2 m c t _ j).trans (low (by omega) _ (by show min (t.val * 3 + 2) 7 * 256 + (r.val - 512) = _; omega))

/-- The block's rows' factors. -/
abbrev bR (t : Fin cfg0.N) : FVec Ideal S768x1 .f32 :=
  k0_pay4 (F := Ideal) (BitVec.ofNat 32 (grid0.coords t 0).val) (b3 m c t) (b0 m c t) (b3 m c t) (b1 m c t) (b3 m c t) (b2 m c t)

theorem bR_at (t : Fin cfg0.N) (r : Fin 768) : bR m c t (ix2 r 0) = rms (fun k => both (A0 m c) (A1 m c) (at_ t r) k) :=
  (pay1 _ _ _ _ _ r).trans (congrArg rms (funext fun k => bX_at m c t r k))

/-- The block's rows of the projection's operand. -/
abbrev bH (t : Fin cfg0.N) : FVec Ideal S768x1024 .bf16 :=
  operand (grid0.coords t 0).val (bX m c t) (bR m c t) (b4 m c t) (s0 m c t) (s1 m c t) (h0 m c t) (h1 m c t)

theorem bH_at (t : Fin cfg0.N) (r : Fin 768) (j : Fin 1024) : bH m c t (ix2 r j) = hrow (A0 m c) (A1 m c) (A2 m c) (A3 m c) (A4 m c) (at_ t r) j := by
  have ht : t.val < 3 := t.isLt
  refine (operand_at _ _ _ _ _ _ _ _ (by rw [at0]; exact ht) r j).trans ?_
  unfold hrow
  rw [bX_at, bR_at, blk4, s0_at, s1_at, h0_at, h1_at, at0]

theorem out8 (t : Fin cfg0.N) : (outsAt0 m c t).1 = bX m c t := by
  unfold outsAt0; frame_out

theorem out9 (t : Fin cfg0.N) : (outsAt0 m c t).2.1 = bH m c t := by
  unfold outsAt0; frame_out

theorem out10 (t : Fin cfg0.N) : (outsAt0 m c t).2.2.1 = bR m c t := by
  unfold outsAt0; frame_out

theorem out11 (t : Fin cfg0.N) : (outsAt0 m c t).2.2.2 = k0_pay2 (F := Ideal) (bH m c t) (b7 m c t) := by
  unfold outsAt0; frame_out

theorem final8 : (dats m 0 c).arrAt 8 cfg0.N = val_main_v0 (F := Ideal) (A0 m c) (A1 m c) := by
  refine (dats m 0 c).arrAt_eq_of_covers 8 _ (by decide +kernel) fun t _ y => ?_
  obtain ⟨i, j, rfl⟩ : ∃ i j, y = ix2 (n0 := 768) (n1 := 1024) i j := ⟨_, _, (ix2_eta y).symm⟩
  have ht : t.val < 3 := t.isLt
  blk_simp
  rw [after0_8, out8]
  refine (bX_at m c t i j).trans ((v0_at _ _ _ _).symm.trans ?_)
  generalize val_main_v0 (F := Ideal) (A0 m c) (A1 m c) = X
  blk_ext! [idx t]

theorem final9 : (dats m 0 c).arrAt 9 cfg0.N = val_main_v31 (F := Ideal) (A0 m c) (A1 m c) (A2 m c) (A3 m c) (A4 m c) := by
  refine (dats m 0 c).arrAt_eq_of_covers 9 _ (by decide +kernel) fun t _ y => ?_
  obtain ⟨i, j, rfl⟩ : ∃ i j, y = ix2 (n0 := 768) (n1 := 1024) i j := ⟨_, _, (ix2_eta y).symm⟩
  have ht : t.val < 3 := t.isLt
  blk_simp
  rw [after0_9, out9]
  refine (bH_at m c t i j).trans ((v31_at _ _ _ _ _ _ _).symm.trans ?_)
  generalize val_main_v31 (F := Ideal) (A0 m c) (A1 m c) (A2 m c) (A3 m c) (A4 m c) = X
  blk_ext! [idx t]

theorem final10 : (dats m 0 c).arrAt 10 cfg0.N = val_main_v8 (F := Ideal) (A0 m c) (A1 m c) := by
  refine (dats m 0 c).arrAt_eq_of_covers 10 _ (by decide +kernel) fun t _ y => ?_
  obtain ⟨i, j, rfl⟩ : ∃ i j, y = ix2 (n0 := 768) (n1 := 1) i j := ⟨_, _, (ix2_eta y).symm⟩
  obtain rfl : j = 0 := Subsingleton.elim _ _
  have ht : t.val < 3 := t.isLt
  blk_simp
  rw [after0_10, out10]
  refine (bR_at m c t i).trans ((v8_at _ _ _).symm.trans ?_)
  generalize val_main_v8 (F := Ideal) (A0 m c) (A1 m c) = X
  blk_ext! [idx t]

theorem final11 : (dats m 0 c).arrAt 11 cfg0.N = val_main_v34 (F := Ideal) (A0 m c) (A1 m c) (A2 m c) (A3 m c) (A4 m c) (A5 m c) := by
  refine (dats m 0 c).arrAt_eq_of_covers 11 _ (by decide +kernel) fun t _ y => ?_
  obtain ⟨i, j, rfl⟩ : ∃ i j, y = ix2 (n0 := 768) (n1 := 2048) i j := ⟨_, _, (ix2_eta y).symm⟩
  have ht : t.val < 3 := t.isLt
  blk_simp
  rw [after0_11, out11]
  refine (pay3 _ _ i j).trans ((Finset.sum_congr rfl fun k _ => mul2 (bH_at m c t i k) (blk7 m c t k j)).trans ((v34_at _ _ _ _ _ _ _ _).symm.trans ?_))
  generalize val_main_v34 (F := Ideal) (A0 m c) (A1 m c) (A2 m c) (A3 m c) (A4 m c) (A5 m c) = X
  blk_ext! [idx t]

/-! ## The claims -/

theorem algebraic : Cert.algebraic_Kernel19Ideal_Reference19Ideal := by
  pair_intro
  · run_from Cert.Kernel19Ideal.Value.run_blocks m g
  · refine Idealize.ShloMosaic.θ_run_mono (Cert.Reference19Ideal.Value.run m' g') ?_
    intro r hr c
    obtain ⟨e0, e1, e2, e3, e4, e5⟩ := hagree c
    have q8 : val_main_v0 (F := Ideal) (A0 m c) (A1 m c) = (dats m 0 c).arrAt 8 cfg0.N := (final8 m c).symm
    have q9 : val_main_v31 (F := Ideal) (A0 m c) (A1 m c) (A2 m c) (A3 m c) (A4 m c) = (dats m 0 c).arrAt 9 cfg0.N := (final9 m c).symm
    have q10 : val_main_v8 (F := Ideal) (A0 m c) (A1 m c) = (dats m 0 c).arrAt 10 cfg0.N := (final10 m c).symm
    have q11 : val_main_v34 (F := Ideal) (A0 m c) (A1 m c) (A2 m c) (A3 m c) (A4 m c) (A5 m c) = (dats m 0 c).arrAt 11 cfg0.N := (final11 m c).symm
    refine ⟨(hr c).1.trans ?_, (hr c).2.1.trans ?_, (hr c).2.2.1.trans ?_, (hr c).2.2.2.1.trans ?_, (hr c).2.2.2.2⟩
    · refine (Reference19Ideal.Read.val_main_v0_eq _ _).trans ?_
      rw [e0, e1]
      exact q8
    · refine (Reference19Ideal.Read.val_main_v31_eq _ _ _ _ _).trans ?_
      rw [e0, e1, e2, e3, e4]
      exact q9
    · refine (Reference19Ideal.Read.val_main_v8_eq _ _).trans ?_
      rw [e0, e1]
      exact q10
    · refine (Reference19Ideal.Read.val_main_v34_eq _ _ _ _ _ _).trans ?_
      rw [e0, e1, e2, e3, e4, e5]
      exact q11

theorem frame_reference : Cert.quiescent_Reference19Ideal := fun m g _ =>
  (θ_run Reference19Ideal.defs _ _).mono (fun r h => ⟨fun c => (h c).2.2.2.2, sem_eq_zero_of_no_sems (by decide) r.2⟩) (Reference19Ideal.Value.run m g)

end Cert.NormIn19

end
-- ==== Proof.Resid20.lean ====
/- The output projection over the latent rows, with the gated residual added. -/
module

public import proofs.«01_k».proof.Defs
public import proofs.«01_k».proof.Proof.LatentMath
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise

@[expose] public section

set_option maxRecDepth 16384

noncomputable section

namespace Cert.Resid20

open Idealize.ShloMosaic Idealize.ShloMosaic.TcCoe Idealize.SL.Sem
open Idealize.ShloMosaic.Pipeline (Dat)
open Cert.LatentMath (mul2)
open Cert.Kernel20Ideal Cert.Kernel20Ideal.Gen
open Cert.Reference20Ideal.Read (val_main_v0 val_main_v1 val_main_v2 val_main_v3 val_main_v4 val_main_v5 val_main_v6 val_main_v7)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0, 0]
    ∧ win0_4.index t = ![t.val, 0] ∧ win0_5.index t = ![t.val, 0] :=
  (by decide +kernel : ∀ t : Fin grid0.N, _)

/-! ## What the body computes, and the reference, index by index -/

section Pay
variable (X : FVec Ideal S512x1024 .bf16) (W : FVec Ideal S1024x1024 .bf16) (Y : FVec Ideal S512x1024 .f32) (G : FVec Ideal S1x1x1024 .f32)

theorem pay2 (r : Fin 512) (j : Fin 1024) : k0_pay2 (F := Ideal) X W (ix2 r j) = ∑ k : Fin 1024, X (ix2 r k) * W (ix2 k j) := by
  pointwise [k0_pay2, k0_pay1]

theorem pay3 (r : Fin 512) (j : Fin 1024) :
    k0_pay3 (F := Ideal) X W Y G (ix2 r j) = Y (ix2 r j) + G (ix3 0 0 j) * ∑ k : Fin 1024, X (ix2 r k) * W (ix2 k j) := by
  pointwise [k0_pay3, k0_pay1]
end Pay

section Ref
variable (x0 : FVec Ideal Reference20Ideal.S2048x1024 .bf16) (x1 : FVec Ideal Reference20Ideal.S1024x1024 .bf16)
  (x2 : FVec Ideal Reference20Ideal.S2048x1024 .f32) (x3 : FVec Ideal Reference20Ideal.S1x1x1024 .f32)

theorem v3_at (r : Fin 2048) (j : Fin 1024) : val_main_v3 (F := Ideal) x0 x1 (ix2 r j) = ∑ k : Fin 1024, x0 (ix2 r k) * x1 (ix2 k j) := by
  pointwise [val_main_v3, val_main_v2, val_main_v1, val_main_v0]

theorem v7_at (r : Fin 2048) (j : Fin 1024) :
    val_main_v7 (F := Ideal) x0 x1 x2 x3 (ix2 r j) = x2 (ix2 r j) + x3 (ix3 0 0 j) * ∑ k : Fin 1024, x0 (ix2 r k) * x1 (ix2 k j) := by
  pointwise [val_main_v7, val_main_v6, val_main_v5, val_main_v4, val_main_v2, val_main_v1, val_main_v0]
end Ref

/-! ## The result arrays -/

abbrev A0 : FVec Ideal S2048x1024 .bf16 := m ((c : Thread nD τ).loc main_arg0)
abbrev A1 : FVec Ideal S1024x1024 .bf16 := m ((c : Thread nD τ).loc main_arg1)
abbrev A2 : FVec Ideal S2048x1024 .f32 := m ((c : Thread nD τ).loc main_arg2)
abbrev A3 : FVec Ideal S1x1x1024 .f32 := m ((c : Thread nD τ).loc main_arg3)

abbrev b0 (t : Fin cfg0.N) : FVec Ideal S512x1024 .bf16 := iblk m c 0 t
abbrev b1 (t : Fin cfg0.N) : FVec Ideal S1024x1024 .bf16 := iblk m c 1 t
abbrev b2 (t : Fin cfg0.N) : FVec Ideal S512x1024 .f32 := iblk m c 2 t
abbrev b3 (t : Fin cfg0.N) : FVec Ideal S1x1x1024 .f32 := iblk m c 3 t

/-- The row of the latents a block's row is. -/
abbrev at_ (t : Fin cfg0.N) (r : Fin 512) : Fin 2048 := ⟨t.val * 512 + r.val, by have : t.val < 4 := t.isLt; omega⟩

theorem blk0 (t : Fin cfg0.N) (r : Fin 512) (j : Fin 1024) : b0 m c t (ix2 r j) = A0 m c (ix2 (at_ t r) j) := by
  blk_ext! [b0, iblk, V, idx t]
theorem blk1 (t : Fin cfg0.N) (i j : Fin 1024) : b1 m c t (ix2 i j) = A1 m c (ix2 i j) := by
  blk_ext! [b1, iblk, V, idx t]
theorem blk2 (t : Fin cfg0.N) (r : Fin 512) (j : Fin 1024) : b2 m c t (ix2 r j) = A2 m c (ix2 (at_ t r) j) := by
  blk_ext! [b2, iblk, V, idx t]
theorem blk3 (t : Fin cfg0.N) (j : Fin 1024) : b3 m c t (ix3 0 0 j) = A3 m c (ix3 0 0 j) := by
  blk_ext! [b3, iblk, V, idx t]

theorem prod_at (t : Fin cfg0.N) (r : Fin 512) (j : Fin 1024) :
    ∑ k : Fin 1024, b0 m c t (ix2 r k) * b1 m c t (ix2 k j) = ∑ k : Fin 1024, A0 m c (ix2 (at_ t r) k) * A1 m c (ix2 k j) :=
  Finset.sum_congr rfl fun k _ => mul2 (blk0 m c t r k) (blk1 m c t k j)

theorem out4 (t : Fin cfg0.N) : (dats m 0 c).after 4 t = k0_pay2 (F := Ideal) (b0 m c t) (b1 m c t) := by
  rw [after0_4]; frame_out

theorem out5 (t : Fin cfg0.N) : (dats m 0 c).after 5 t = k0_pay3 (F := Ideal) (b0 m c t) (b1 m c t) (b2 m c t) (b3 m c t) := by
  rw [after0_5]; frame_out

theorem final4 : (dats m 0 c).arrAt 4 cfg0.N = val_main_v3 (F := Ideal) (A0 m c) (A1 m c) := by
  refine (dats m 0 c).arrAt_eq_of_covers 4 _ (by decide +kernel) fun t _ y => ?_
  obtain ⟨i, j, rfl⟩ : ∃ i j, y = ix2 (n0 := 512) (n1 := 1024) i j := ⟨_, _, (ix2_eta y).symm⟩
  have ht : t.val < 4 := t.isLt
  blk_simp
  rw [out4]
  refine (pay2 _ _ i j).trans ((prod_at m c t i j).trans ((v3_at _ _ _ _).symm.trans ?_))
  generalize val_main_v3 (F := Ideal) (A0 m c) (A1 m c) = X
  blk_ext! [idx t]

theorem final5 : (dats m 0 c).arrAt 5 cfg0.N = val_main_v7 (F := Ideal) (A0 m c) (A1 m c) (A2 m c) (A3 m c) := by
  refine (dats m 0 c).arrAt_eq_of_covers 5 _ (by decide +kernel) fun t _ y => ?_
  obtain ⟨i, j, rfl⟩ : ∃ i j, y = ix2 (n0 := 512) (n1 := 1024) i j := ⟨_, _, (ix2_eta y).symm⟩
  have ht : t.val < 4 := t.isLt
  blk_simp
  rw [out5]
  refine (pay3 _ _ _ _ i j).trans ((congrArg₂ (· + ·) (blk2 m c t i j) (mul2 (blk3 m c t j) (prod_at m c t i j))).trans ((v7_at _ _ _ _ (at_ t i) j).symm.trans ?_))
  generalize val_main_v7 (F := Ideal) (A0 m c) (A1 m c) (A2 m c) (A3 m c) = X
  blk_ext! [idx t]

/-! ## The claims -/

theorem algebraic : Cert.algebraic_Kernel20Ideal_Reference20Ideal := by
  pair_intro
  · run_from Cert.Kernel20Ideal.Value.run_blocks m g
  · refine Idealize.ShloMosaic.θ_run_mono (Cert.Reference20Ideal.Value.run m' g') ?_
    intro r hr c
    obtain ⟨e0, e1, e2, e3⟩ := hagree c
    have q4 : val_main_v3 (F := Ideal) (A0 m c) (A1 m c) = (dats m 0 c).arrAt 4 cfg0.N := (final4 m c).symm
    have q5 : val_main_v7 (F := Ideal) (A0 m c) (A1 m c) (A2 m c) (A3 m c) = (dats m 0 c).arrAt 5 cfg0.N := (final5 m c).symm
    refine ⟨(hr c).1.trans ?_, (hr c).2.1.trans ?_, (hr c).2.2⟩
    · refine (Reference20Ideal.Read.val_main_v3_eq _ _).trans ?_
      rw [e0, e1]
      exact q4
    · refine (Reference20Ideal.Read.val_main_v7_eq _ _ _ _).trans ?_
      rw [e0, e1, e2, e3]
      exact q5

theorem frame_reference : Cert.quiescent_Reference20Ideal := fun m g _ =>
  (θ_run Reference20Ideal.defs _ _).mono (fun r h => ⟨fun c => (h c).2.2, sem_eq_zero_of_no_sems (by decide) r.2⟩) (Reference20Ideal.Value.run m g)

end Cert.Resid20

end
-- ==== Proof.Resid21.lean ====
/- The output projection over the last level's leading rows, with the gated residual added. -/
module

public import proofs.«01_k».proof.Defs
public import proofs.«01_k».proof.Proof.LatentMath
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise

@[expose] public section

set_option maxRecDepth 16384

noncomputable section

namespace Cert.Resid21

open Idealize.ShloMosaic Idealize.ShloMosaic.TcCoe Idealize.SL.Sem
open Idealize.ShloMosaic.Pipeline (Dat)
open Cert.LatentMath (mul2)
open Cert.Kernel21Ideal Cert.Kernel21Ideal.Gen
open Cert.Reference21Ideal.Read (val_main_v0 val_main_v1 val_main_v2 val_main_v3 val_main_v4 val_main_v5 val_main_v6 val_main_v7 val_main_v8)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0, 0]
    ∧ win0_4.index t = ![t.val, 0] ∧ win0_5.index t = ![t.val, 0] :=
  (by decide +kernel : ∀ t : Fin grid0.N, _)

/-! ## What the body computes, and the reference, index by index -/

section Pay
variable (X : FVec Ideal S512x1024 .bf16) (W : FVec Ideal S1024x1024 .bf16) (Y : FVec Ideal S512x1024 .f32) (G : FVec Ideal S1x1x1024 .f32)

theorem pay2 (r : Fin 512) (j : Fin 1024) : k0_pay2 (F := Ideal) X W (ix2 r j) = ∑ k : Fin 1024, X (ix2 r k) * W (ix2 k j) := by
  pointwise [k0_pay2, k0_pay1]

theorem pay3 (r : Fin 512) (j : Fin 1024) :
    k0_pay3 (F := Ideal) X W Y G (ix2 r j) = Y (ix2 r j) + G (ix3 0 0 j) * ∑ k : Fin 1024, X (ix2 r k) * W (ix2 k j) := by
  pointwise [k0_pay3, k0_pay1]
end Pay

section Ref
variable (x0 : FVec Ideal Reference21Ideal.S2048x1024 .bf16) (x1 : FVec Ideal Reference21Ideal.S1024x1024 .bf16)
  (x2 : FVec Ideal Reference21Ideal.S2304x1024 .f32) (x3 : FVec Ideal Reference21Ideal.S1x1x1024 .f32)

theorem v3_at (r : Fin 2048) (j : Fin 1024) : val_main_v3 (F := Ideal) x0 x1 (ix2 r j) = ∑ k : Fin 1024, x0 (ix2 r k) * x1 (ix2 k j) := by
  pointwise [val_main_v3, val_main_v2, val_main_v1, val_main_v0]

theorem v8_at (r : Fin 2048) (j : Fin 1024) :
    val_main_v8 (F := Ideal) x0 x1 x2 x3 (ix2 r j) = x2 (ix2 ⟨r.val, by omega⟩ j) + x3 (ix3 0 0 j) * ∑ k : Fin 1024, x0 (ix2 r k) * x1 (ix2 k j) := by
  pointwise [val_main_v8, val_main_v7, val_main_v6, val_main_v5, val_main_v4, val_main_v2, val_main_v1, val_main_v0]
end Ref

/-! ## The result arrays -/

abbrev A0 : FVec Ideal S2048x1024 .bf16 := m ((c : Thread nD τ).loc main_arg0)
abbrev A1 : FVec Ideal S1024x1024 .bf16 := m ((c : Thread nD τ).loc main_arg1)
abbrev A2 : FVec Ideal S2304x1024 .f32 := m ((c : Thread nD τ).loc main_arg2)
abbrev A3 : FVec Ideal S1x1x1024 .f32 := m ((c : Thread nD τ).loc main_arg3)

abbrev b0 (t : Fin cfg0.N) : FVec Ideal S512x1024 .bf16 := iblk m c 0 t
abbrev b1 (t : Fin cfg0.N) : FVec Ideal S1024x1024 .bf16 := iblk m c 1 t
abbrev b2 (t : Fin cfg0.N) : FVec Ideal S512x1024 .f32 := X0_2 m c t
abbrev b3 (t : Fin cfg0.N) : FVec Ideal S1x1x1024 .f32 := iblk m c 3 t

/-- The row of the latents a block's row is. -/
abbrev at_ (t : Fin cfg0.N) (r : Fin 512) : Fin 2048 := ⟨t.val * 512 + r.val, by have : t.val < 4 := t.isLt; omega⟩

theorem blk0 (t : Fin cfg0.N) (r : Fin 512) (j : Fin 1024) : b0 m c t (ix2 r j) = A0 m c (ix2 (at_ t r) j) := by
  blk_ext! [b0, iblk, V, idx t]
theorem blk1 (t : Fin cfg0.N) (i j : Fin 1024) : b1 m c t (ix2 i j) = A1 m c (ix2 i j) := by
  blk_ext! [b1, iblk, V, idx t]
theorem blk2 (t : Fin cfg0.N) (r : Fin 512) (j : Fin 1024) : b2 m c t (ix2 r j) = A2 m c (ix2 ⟨t.val * 512 + r.val, by have : t.val < 4 := t.isLt; omega⟩ j) := by
  refine (show X0_2 m c t (ix2 r j) = _ from dif_pos (moved0_2 t (ix2 r j))).trans ?_
  blk_ext! [iblk, V, idx t]
theorem blk3 (t : Fin cfg0.N) (j : Fin 1024) : b3 m c t (ix3 0 0 j) = A3 m c (ix3 0 0 j) := by
  blk_ext! [b3, iblk, V, idx t]

theorem prod_at (t : Fin cfg0.N) (r : Fin 512) (j : Fin 1024) :
    ∑ k : Fin 1024, b0 m c t (ix2 r k) * b1 m c t (ix2 k j) = ∑ k : Fin 1024, A0 m c (ix2 (at_ t r) k) * A1 m c (ix2 k j) :=
  Finset.sum_congr rfl fun k _ => mul2 (blk0 m c t r k) (blk1 m c t k j)

theorem out4 (t : Fin cfg0.N) : (dats m 0 c).after 4 t = k0_pay2 (F := Ideal) (b0 m c t) (b1 m c t) := by
  rw [after0_4]; frame_out

theorem out5 (t : Fin cfg0.N) : (dats m 0 c).after 5 t = k0_pay3 (F := Ideal) (b0 m c t) (b1 m c t) (b2 m c t) (b3 m c t) := by
  rw [after0_5]; frame_out

theorem final4 : (dats m 0 c).arrAt 4 cfg0.N = val_main_v3 (F := Ideal) (A0 m c) (A1 m c) := by
  refine (dats m 0 c).arrAt_eq_of_covers 4 _ (by decide +kernel) fun t _ y => ?_
  obtain ⟨i, j, rfl⟩ : ∃ i j, y = ix2 (n0 := 512) (n1 := 1024) i j := ⟨_, _, (ix2_eta y).symm⟩
  have ht : t.val < 4 := t.isLt
  blk_simp
  rw [out4]
  refine (pay2 _ _ i j).trans ((prod_at m c t i j).trans ((v3_at _ _ _ _).symm.trans ?_))
  generalize val_main_v3 (F := Ideal) (A0 m c) (A1 m c) = X
  blk_ext! [idx t]

theorem final5 : (dats m 0 c).arrAt 5 cfg0.N = val_main_v8 (F := Ideal) (A0 m c) (A1 m c) (A2 m c) (A3 m c) := by
  refine (dats m 0 c).arrAt_eq_of_covers 5 _ (by decide +kernel) fun t _ y => ?_
  obtain ⟨i, j, rfl⟩ : ∃ i j, y = ix2 (n0 := 512) (n1 := 1024) i j := ⟨_, _, (ix2_eta y).symm⟩
  have ht : t.val < 4 := t.isLt
  blk_simp
  rw [out5]
  refine (pay3 _ _ _ _ i j).trans ((congrArg₂ (· + ·) (blk2 m c t i j) (mul2 (blk3 m c t j) (prod_at m c t i j))).trans ((v8_at _ _ _ _ (at_ t i) j).symm.trans ?_))
  generalize val_main_v8 (F := Ideal) (A0 m c) (A1 m c) (A2 m c) (A3 m c) = X
  blk_ext! [idx t]

/-! ## The claims -/

theorem algebraic : Cert.algebraic_Kernel21Ideal_Reference21Ideal := by
  pair_intro
  · run_from Cert.Kernel21Ideal.Value.run_blocks m g
  · refine Idealize.ShloMosaic.θ_run_mono (Cert.Reference21Ideal.Value.run m' g') ?_
    intro r hr c
    obtain ⟨e0, e1, e2, e3⟩ := hagree c
    have q4 : val_main_v3 (F := Ideal) (A0 m c) (A1 m c) = (dats m 0 c).arrAt 4 cfg0.N := (final4 m c).symm
    have q5 : val_main_v8 (F := Ideal) (A0 m c) (A1 m c) (A2 m c) (A3 m c) = (dats m 0 c).arrAt 5 cfg0.N := (final5 m c).symm
    refine ⟨(hr c).1.trans ?_, (hr c).2.1.trans ?_, (hr c).2.2⟩
    · refine (Reference21Ideal.Read.val_main_v3_eq _ _).trans ?_
      rw [e0, e1]
      exact q4
    · refine (Reference21Ideal.Read.val_main_v8_eq _ _ _ _).trans ?_
      rw [e0, e1, e2, e3]
      exact q5

theorem frame_reference : Cert.quiescent_Reference21Ideal := fun m g _ =>
  (θ_run Reference21Ideal.defs _ _).mono (fun r h => ⟨fun c => (h c).2.2, sem_eq_zero_of_no_sems (by decide) r.2⟩) (Reference21Ideal.Value.run m g)

end Cert.Resid21

end
-- ==== Proof.Resid22.lean ====
/- The output projection with its gate and the residual, over the latent and the context rows. -/
module

public import proofs.«01_k».proof.Defs
public import proofs.«01_k».proof.Proof.SegMath
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pointwise

@[expose] public section

set_option maxRecDepth 16384

noncomputable section

namespace Cert.Resid22

open Idealize.ShloMosaic Idealize.ShloMosaic.TcCoe Idealize.SL.Sem
open Idealize.ShloMosaic.Pipeline (Dat)
open Cert.LatentMath (mul2)
open Cert.SegMath (masked row_cond)
open Cert.Kernel22Ideal Cert.Kernel22Ideal.Gen
open Cert.Reference22Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0, 0]
    ∧ win0_4.index t = ![t.val, 0] ∧ win0_5.index t = ![t.val, 0] :=
  (by decide +kernel : ∀ t : Fin grid0.N, _)

/-! ## What the body computes, and the reference, index by index -/

section Pay
variable (X : FVec Ideal S768x1024 .bf16) (W : FVec Ideal S1024x1024 .bf16) (Y : FVec Ideal S768x1024 .f32) (G H : FVec Ideal S1x1x1024 .f32) (i : grid0.Coords)

theorem pay2 (r : Fin 768) (j : Fin 1024) : k0_pay2 (F := Ideal) X W (ix2 r j) = ∑ k : Fin 1024, X (ix2 r k) * W (ix2 k j) := by
  pointwise [k0_pay2, k0_pay1]

theorem pay3 (r : Fin 768) (j : Fin 1024) :
    k0_pay3 (F := Ideal) i X W Y H G (ix2 r j)
      = Y (ix2 r j) + (if 2048 ≤ (i 0).val * 768 + r.val then H (ix3 0 0 j) else G (ix3 0 0 j)) * ∑ k : Fin 1024, X (ix2 r k) * W (ix2 k j) := by
  pointwise [k0_pay3, k0_pay1]
  have hi : (i 0).val < 3 := (i 0).isLt
  exact congrArg (Y (ix2 r j) + ·) (mul2 (masked (row_cond 768 _ _ (by omega)) _ _) rfl)
end Pay

section Ref
variable (x0 : FVec Ideal Reference22Ideal.S2304x1024 .bf16) (x1 : FVec Ideal Reference22Ideal.S1024x1024 .bf16)
  (x2 : FVec Ideal Reference22Ideal.S2304x1024 .f32) (x3 : FVec Ideal Reference22Ideal.S2x1x1024 .f32)

theorem v3_at (r : Fin 2304) (j : Fin 1024) : val_main_v3 (F := Ideal) x0 x1 (ix2 r j) = ∑ k : Fin 1024, x0 (ix2 r k) * x1 (ix2 k j) := by
  pointwise [val_main_v3, val_main_v2, val_main_v1, val_main_v0]

theorem v12_at (r : Fin 2304) (j : Fin 1024) :
    val_main_v12 (F := Ideal) x0 x1 x2 x3 (ix2 r j)
      = x2 (ix2 r j) + (if 2048 ≤ r.val then x3 (ix3 1 0 j) else x3 (ix3 0 0 j)) * ∑ k : Fin 1024, x0 (ix2 r k) * x1 (ix2 k j) := by
  pointwise [val_main_v12, val_main_v11, val_main_v10, val_main_v9, val_main_v8, val_main_v7, val_main_v6, val_main_v5, val_main_v4, val_main_v2, val_main_v1, val_main_v0]
  refine congrArg (x2 (ix2 r j) + ·) (mul2 ?_ rfl)
  by_cases h : 2048 ≤ r.val
  · rw [dif_neg (by omega), if_pos h]
  · rw [dif_pos (by omega), if_neg h]
end Ref

/-! ## The result arrays -/

abbrev A0 : FVec Ideal S2304x1024 .bf16 := m ((c : Thread nD τ).loc main_arg0)
abbrev A1 : FVec Ideal S1024x1024 .bf16 := m ((c : Thread nD τ).loc main_arg1)
abbrev A2 : FVec Ideal S2304x1024 .f32 := m ((c : Thread nD τ).loc main_arg2)
abbrev A3 : FVec Ideal S2x1x1024 .f32 := m ((c : Thread nD τ).loc main_arg3)

abbrev b0 (t : Fin cfg0.N) : FVec Ideal S768x1024 .bf16 := iblk m c 0 t
abbrev b1 (t : Fin cfg0.N) : FVec Ideal S1024x1024 .bf16 := iblk m c 1 t
abbrev b2 (t : Fin cfg0.N) : FVec Ideal S768x1024 .f32 := iblk m c 2 t
abbrev b3 (t : Fin cfg0.N) : FVec Ideal S2x1x1024 .f32 := iblk m c 3 t

abbrev bG (t : Fin cfg0.N) : FVec Ideal S1x1x1024 .f32 := View.ld (Val := Elt Ideal) (S := S2x1x1024) (e' := .f32) (b3 m c t) (Rect.unit (s := S2x1x1024) ![0, 0, 0] ![1, 1, 1024] inb_S2x1x1024_S1x1x1024_0_0_0)
abbrev bH (t : Fin cfg0.N) : FVec Ideal S1x1x1024 .f32 := View.ld (Val := Elt Ideal) (S := S2x1x1024) (e' := .f32) (b3 m c t) (Rect.unit (s := S2x1x1024) ![1, 0, 0] ![1, 1, 1024] inb_S2x1x1024_S1x1x1024_1_0_0)

theorem at0 : ∀ t : Fin grid0.N, (grid0.coords t 0).val = t.val := by decide +kernel

/-- The row of the latents a block's row is. -/
abbrev at_ (t : Fin cfg0.N) (r : Fin 768) : Fin 2304 := ⟨t.val * 768 + r.val, by have : t.val < 3 := t.isLt; omega⟩

theorem blk0 (t : Fin cfg0.N) (r : Fin 768) (j : Fin 1024) : b0 m c t (ix2 r j) = A0 m c (ix2 (at_ t r) j) := by
  blk_ext! [b0, iblk, V, idx t]
theorem blk1 (t : Fin cfg0.N) (i j : Fin 1024) : b1 m c t (ix2 i j) = A1 m c (ix2 i j) := by
  blk_ext! [b1, iblk, V, idx t]
theorem blk2 (t : Fin cfg0.N) (r : Fin 768) (j : Fin 1024) : b2 m c t (ix2 r j) = A2 m c (ix2 (at_ t r) j) := by
  blk_ext! [b2, iblk, V, idx t]
theorem blkG (t : Fin cfg0.N) (j : Fin 1024) : bG m c t (ix3 0 0 j) = A3 m c (ix3 0 0 j) := by
  blk_ext! [bG, b3, iblk, V, idx t]
theorem blkH (t : Fin cfg0.N) (j : Fin 1024) : bH m c t (ix3 0 0 j) = A3 m c (ix3 1 0 j) := by
  blk_ext! [bH, b3, iblk, V, idx t]

theorem prod_at (t : Fin cfg0.N) (r : Fin 768) (j : Fin 1024) :
    ∑ k : Fin 1024, b0 m c t (ix2 r k) * b1 m c t (ix2 k j) = ∑ k : Fin 1024, A0 m c (ix2 (at_ t r) k) * A1 m c (ix2 k j) :=
  Finset.sum_congr rfl fun k _ => mul2 (blk0 m c t r k) (blk1 m c t k j)

theorem out4 (t : Fin cfg0.N) : (dats m 0 c).after 4 t = k0_pay2 (F := Ideal) (b0 m c t) (b1 m c t) := by
  rw [after0_4]; frame_out

theorem out5 (t : Fin cfg0.N) : (dats m 0 c).after 5 t = k0_pay3 (F := Ideal) (grid0.coords t) (b0 m c t) (b1 m c t) (b2 m c t) (bH m c t) (bG m c t) := by
  rw [after0_5]; frame_out

theorem final4 : (dats m 0 c).arrAt 4 cfg0.N = val_main_v3 (F := Ideal) (A0 m c) (A1 m c) := by
  refine (dats m 0 c).arrAt_eq_of_covers 4 _ (by decide +kernel) fun t _ y => ?_
  obtain ⟨i, j, rfl⟩ : ∃ i j, y = ix2 (n0 := 768) (n1 := 1024) i j := ⟨_, _, (ix2_eta y).symm⟩
  have ht : t.val < 3 := t.isLt
  blk_simp
  rw [out4]
  refine (pay2 _ _ i j).trans ((prod_at m c t i j).trans ((v3_at _ _ _ _).symm.trans ?_))
  generalize val_main_v3 (F := Ideal) (A0 m c) (A1 m c) = X
  blk_ext! [idx t]

theorem final5 : (dats m 0 c).arrAt 5 cfg0.N = val_main_v12 (F := Ideal) (A0 m c) (A1 m c) (A2 m c) (A3 m c) := by
  refine (dats m 0 c).arrAt_eq_of_covers 5 _ (by decide +kernel) fun t _ y => ?_
  obtain ⟨i, j, rfl⟩ : ∃ i j, y = ix2 (n0 := 768) (n1 := 1024) i j := ⟨_, _, (ix2_eta y).symm⟩
  have ht : t.val < 3 := t.isLt
  blk_simp
  rw [out5]
  refine (pay3 _ _ _ _ _ _ i j).trans ((congrArg₂ (· + ·) (blk2 m c t i j) (mul2 (by rw [blkG, blkH, at0]) (prod_at m c t i j))).trans ((v12_at _ _ _ _ (at_ t i) j).symm.trans ?_))
  generalize val_main_v12 (F := Ideal) (A0 m c) (A1 m c) (A2 m c) (A3 m c) = X
  blk_ext! [idx t]

/-! ## The claims -/

theorem algebraic : Cert.algebraic_Kernel22Ideal_Reference22Ideal := by
  pair_intro
  · run_from Cert.Kernel22Ideal.Value.run_blocks m g
  · refine Idealize.ShloMosaic.θ_run_mono (Cert.Reference22Ideal.Value.run m' g') ?_
    intro r hr c
    obtain ⟨e0, e1, e2, e3⟩ := hagree c
    have q4 : val_main_v3 (F := Ideal) (A0 m c) (A1 m c) = (dats m 0 c).arrAt 4 cfg0.N := (final4 m c).symm
    have q5 : val_main_v12 (F := Ideal) (A0 m c) (A1 m c) (A2 m c) (A3 m c) = (dats m 0 c).arrAt 5 cfg0.N := (final5 m c).symm
    refine ⟨(hr c).1.trans ?_, (hr c).2.1.trans ?_, (hr c).2.2⟩
    · refine (Reference22Ideal.Read.val_main_v3_eq _ _).trans ?_
      rw [e0, e1]
      exact q4
    · refine (Reference22Ideal.Read.val_main_v12_eq _ _ _ _).trans ?_
      rw [e0, e1, e2, e3]
      exact q5

theorem frame_reference : Cert.quiescent_Reference22Ideal := fun m g _ =>
  (θ_run Reference22Ideal.defs _ _).mono (fun r h => ⟨fun c => (h c).2.2, sem_eq_zero_of_no_sems (by decide) r.2⟩) (Reference22Ideal.Value.run m g)

end Cert.Resid22

end
-- ==== Proof.Loss23.lean ====
/- The last output projection with the final norm and the loss: the projection, the loss and its two gradients. -/
module

public import proofs.«01_k».proof.Defs
public import proofs.«01_k».proof.Proof.LatentMath
public import proofs.«01_k».proof.Proof.Gen.Pre_finite23
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pointwise

@[expose] public section

set_option maxRecDepth 16384

noncomputable section

namespace Cert.Loss23

open Idealize.ShloMosaic Idealize.ShloMosaic.TcCoe Idealize.SL.Sem
open Idealize.ShloMosaic.Pipeline (Dat)
open Cert.ConvMath (Real')
open Cert.LatentMath (off off_eq pull rms msq chans chans_eq div_coe mul2 real_of_bit Real'.sum Real'.one)
open Cert.Kernel23Ideal Cert.Kernel23Ideal.Gen
open Cert.Reference23Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0, 0]
    ∧ win0_4.index t = ![0, 0] ∧ win0_5.index t = ![t.val, 0] ∧ win0_6.index t = ![t.val, 0] ∧ win0_7.index t = ![0, 0]
    ∧ win0_8.index t = ![t.val, 0] ∧ win0_9.index t = ![0, 0] :=
  (by decide +kernel : ∀ t : Fin grid0.N, _)

/-- One over the number of channels, as the program writes it. -/
abbrev inv : EReal := Ideal.ofBits .f32 0x3A800000#32

/-- One half, as the program writes it. -/
abbrev half : EReal := Ideal.ofBits .f32 0x3F000000#32

/-- Two, as the program writes it. -/
abbrev two : EReal := Ideal.ofBits .f32 0x40000000#32

theorem inv_eq : inv = ((1 / 1024 : ℝ) : EReal) := by
  simp [inv, Ideal.ofBits, Ideal.ieee, -EReal.coe_mul]; norm_num

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

theorem Real'.sub {x y : EReal} (hx : Real' x) (hy : Real' y) : Real' (x - y) := by
  obtain ⟨a, rfl⟩ := hx
  obtain ⟨b, rfl⟩ := hy
  exact ⟨a - b, (EReal.coe_sub a b).symm⟩

/-- The derivative of half the mean of squares is the error over the number of channels. -/
theorem mean_grad (e : EReal) : Ideal.div (half * 1) chans * (two * e) = e * inv := by
  rw [mul_one, half_eq, chans_eq, div_coe _ _ (by norm_num), two_eq, inv_eq, ← mul_assoc, ← EReal.coe_mul, mul_comm]
  norm_num

/-! ## What the body computes, and the reference, index by index -/

section Pay
variable (A : FVec Ideal S512x1024 .bf16) (W : FVec Ideal S1024x1024 .bf16) (X : FVec Ideal S512x1024 .f32) (q : FVec Ideal S1x1x1024 .f32)
  (g : FVec Ideal S1x1024 .f32) (T : FVec Ideal S512x1024 .f32)

theorem pay9 (a : Fin 512) (j : Fin 1024) : k0_pay9 (F := Ideal) A W (ix2 a j) = ∑ k : Fin 1024, A (ix2 a k) * W (ix2 k j) := by
  pointwise [k0_pay9, k0_pay8]

theorem pay10 (a : Fin 512) (j : Fin 1024) : k0_pay10 (F := Ideal) A W X q (ix2 a j)
    = X (ix2 a j) + q (ix3 0 0 j) * ∑ k : Fin 1024, A (ix2 a k) * W (ix2 k j) := by
  pointwise [k0_pay10, k0_pay8]

theorem pay11 (a : Fin 512) : k0_pay11 (F := Ideal) A W X q (ix2 a 0) = rms (fun k => k0_pay10 (F := Ideal) A W X q (ix2 a k)) := by
  unfold rms msq
  pointwise [k0_pay11]

theorem pay12 (a : Fin 512) (j : Fin 1024) : k0_pay12 (F := Ideal) A W X q (ix2 a j)
    = k0_pay10 (F := Ideal) A W X q (ix2 a j) * k0_pay11 (F := Ideal) A W X q (ix2 a 0) := by
  pointwise [k0_pay12]

theorem pay13 (a : Fin 512) (j : Fin 1024) : k0_pay13 (F := Ideal) A W X q g T (ix2 a j)
    = k0_pay12 (F := Ideal) A W X q (ix2 a j) * g (ix2 0 j) - T (ix2 a j) := by
  pointwise [k0_pay13]

theorem pay14 (a : Fin 512) (j : Fin 1024) : k0_pay14 (F := Ideal) A W X q g T (ix2 a j) = k0_pay13 (F := Ideal) A W X q g T (ix2 a j) * inv := by
  pointwise [k0_pay14]

theorem pay15 (a : Fin 512) (j : Fin 1024) : k0_pay15 (F := Ideal) A W X q g T (ix2 a j) = k0_pay14 (F := Ideal) A W X q g T (ix2 a j) * g (ix2 0 j) := by
  pointwise [k0_pay15]

theorem pay1 (a : Fin 512) (j : Fin 1024) :
    k0_pay1 (F := Ideal) (k0_pay11 A W X q) (k0_pay12 A W X q) (k0_pay15 A W X q g T) (k0_pay16 A W X q g T) (ix2 a j)
    = k0_pay11 (F := Ideal) A W X q (ix2 a 0) * (k0_pay15 (F := Ideal) A W X q g T (ix2 a j)
      - k0_pay12 (F := Ideal) A W X q (ix2 a j)
        * Ideal.div (∑ k : Fin 1024, k0_pay15 (F := Ideal) A W X q g T (ix2 a k) * k0_pay12 (F := Ideal) A W X q (ix2 a k)) chans) := by
  pointwise [k0_pay1, k0_pay16]

theorem pay2 (N D : FVec Ideal S512x1024 .f32) (j : Fin 1024) : k0_pay2 (F := Ideal) N D (ix2 0 j) = ∑ k : Fin 512, D (ix2 k j) * N (ix2 k j) := by
  pointwise [k0_pay2]

theorem pay5 (N D : FVec Ideal S512x1024 .f32) (S : FVec Ideal S1x1024 .f32) (j : Fin 1024) :
    k0_pay5 (F := Ideal) N D S (ix2 0 j) = S (ix2 0 j) + ∑ k : Fin 512, D (ix2 k j) * N (ix2 k j) := by
  pointwise [k0_pay5, k0_pay2]

theorem pay4 (E : FVec Ideal S512x1024 .f32) : k0_pay4 (F := Ideal) E (ix2 0 0) = ∑ r : Fin 512, Ideal.div (∑ k : Fin 1024, E (ix2 r k) * E (ix2 r k)) chans := by
  pointwise [k0_pay4, k0_pay3]

theorem pay6 (E : FVec Ideal S512x1024 .f32) (S : FVec Ideal S1x1 .f32) :
    k0_pay6 (F := Ideal) E S (ix2 0 0) = S (ix2 0 0) + ∑ r : Fin 512, Ideal.div (∑ k : Fin 1024, E (ix2 r k) * E (ix2 r k)) chans := by
  pointwise [k0_pay6, k0_pay3]

theorem pay7 (S : FVec Ideal S1x1 .f32) (l : Fin 128) : k0_pay7 (F := Ideal) S (ix2 0 l) = half * S (ix2 0 0) := by
  pointwise [k0_pay7]
end Pay

section Ref
variable (x0 : FVec Ideal Reference23Ideal.S2048x1024 .bf16) (x1 : FVec Ideal Reference23Ideal.S1024x1024 .bf16) (x2 : FVec Ideal Reference23Ideal.S2048x1024 .f32)
  (x3 : FVec Ideal Reference23Ideal.S1x1x1024 .f32) (x4 : FVec Ideal Reference23Ideal.S1x1024 .f32) (x5 : FVec Ideal Reference23Ideal.S2048x1024 .f32)

/-- A row of the last layer's output. -/
def out (r : Fin 2048) (j : Fin 1024) : EReal := x2 (ix2 r j) + x3 (ix3 0 0 j) * ∑ k : Fin 1024, x0 (ix2 r k) * x1 (ix2 k j)

/-- The error of a row. -/
def err (r : Fin 2048) (j : Fin 1024) : EReal := out x0 x1 x2 x3 r j * rms (out x0 x1 x2 x3 r) * x4 (ix2 0 j) - x5 (ix2 r j)

/-- The cotangent of the normalised row. -/
def up (r : Fin 2048) (j : Fin 1024) : EReal := err x0 x1 x2 x3 x4 x5 r j * inv * x4 (ix2 0 j)

theorem v3_at (r : Fin 2048) (j : Fin 1024) : val_main_v3 (F := Ideal) x0 x1 (ix2 r j) = ∑ k : Fin 1024, x0 (ix2 r k) * x1 (ix2 k j) := by
  pointwise [val_main_v3, val_main_v2, val_main_v1, val_main_v0]

theorem v7_at (r : Fin 2048) (j : Fin 1024) : val_main_v7 (F := Ideal) x0 x1 x2 x3 (ix2 r j) = out x0 x1 x2 x3 r j := by
  unfold out
  pointwise [val_main_v7, val_main_v6, val_main_v5, val_main_v4, val_main_v2, val_main_v1, val_main_v0]

theorem v14_at (r : Fin 2048) : val_main_v14 (F := Ideal) x0 x1 x2 x3 (ix2 r 0) = msq (out x0 x1 x2 x3 r) := by
  rw [show out x0 x1 x2 x3 r = fun k => val_main_v7 (F := Ideal) x0 x1 x2 x3 (ix2 r k) from funext fun k => (v7_at x0 x1 x2 x3 r k).symm]
  unfold msq
  pointwise [val_main_v14, val_main_v13, val_main_cst_1, val_main_v12, val_main_v11, val_main_cst_0, val_main_v10, val_main_v9, val_main_cst, val_main_v8]

theorem v15_at (r : Fin 2048) : val_main_v15 (F := Ideal) x0 x1 x2 x3 (ix2 r 0) = rms (out x0 x1 x2 x3 r) := by
  unfold rms
  rw [← v14_at]
  pointwise [val_main_v15]

theorem v20_at (r : Fin 2048) (j : Fin 1024) : val_main_v20 (F := Ideal) x0 x1 x2 x3 (ix2 r j) = out x0 x1 x2 x3 r j * rms (out x0 x1 x2 x3 r) := by
  rw [← v15_at, ← v7_at]
  pointwise [val_main_v20, val_main_v19]

theorem v23_at (r : Fin 2048) (j : Fin 1024) : val_main_v23 (F := Ideal) x0 x1 x2 x3 x4 x5 (ix2 r j) = err x0 x1 x2 x3 x4 x5 r j := by
  unfold err
  rw [← v20_at]
  pointwise [val_main_v23, val_main_v22, val_main_v21]

theorem v37_at (r : Fin 2048) (j : Fin 1024) : val_main_v37 (F := Ideal) x0 x1 x2 x3 x4 x5 (ix2 r j) = err x0 x1 x2 x3 x4 x5 r j * inv := by
  rw [← v23_at, ← mean_grad]
  pointwise [val_main_v37, val_main_v36, val_main_v35, val_main_v34, val_main_cst_10, val_main_v33, val_main_v32, val_main_cst_8, val_main_cst_9, val_main_v26, val_main_v25, val_main_cst_3]

theorem v42_at (r : Fin 2048) (j : Fin 1024) : val_main_v42 (F := Ideal) x0 x1 x2 x3 x4 x5 (ix2 r j) = up x0 x1 x2 x3 x4 x5 r j := by
  unfold up
  rw [← v37_at]
  pointwise [val_main_v42, val_main_v41]

theorem v56_at (r : Fin 2048) (j : Fin 1024) : val_main_v56 (F := Ideal) x0 x1 x2 x3 x4 x5 (ix2 r j)
    = up x0 x1 x2 x3 x4 x5 r j * rms (out x0 x1 x2 x3 r) + out x0 x1 x2 x3 r j * pull (up x0 x1 x2 x3 x4 x5 r) (out x0 x1 x2 x3 r)
      + pull (up x0 x1 x2 x3 x4 x5 r) (out x0 x1 x2 x3 r) * out x0 x1 x2 x3 r j := by
  pointwise [val_main_v56, val_main_v55, val_main_v54, val_main_v53, val_main_v52, val_main_v51, val_main_cst_14, val_main_v50, val_main_v49, val_main_cst_13,
    val_main_v48, val_main_v47, val_main_v46, val_main_v45, val_main_v44, val_main_cst_12, val_main_v43, val_main_v18, val_main_v17, val_main_cst_2, val_main_v16]
  simp only [Fin.sum_univ_one, v42_at, v15_at, v14_at, v7_at]
  rfl

theorem v40_at (j : Fin 1024) : val_main_v40 (F := Ideal) x0 x1 x2 x3 x4 x5 (ix2 0 j)
    = ∑ r : Fin 2048, err x0 x1 x2 x3 x4 x5 r j * inv * (out x0 x1 x2 x3 r j * rms (out x0 x1 x2 x3 r)) := by
  pointwise [val_main_v40, val_main_v39, val_main_cst_11, val_main_v38]
  simp only [v37_at, v20_at]
  exact Finset.sum_congr rfl fun r _ => mul_comm _ _

theorem v57_at (l : Fin 128) : val_main_v57 (F := Ideal) x0 x1 x2 x3 x4 x5 (ix2 0 l)
    = half * ∑ r : Fin 2048, Ideal.div (∑ k : Fin 1024, err x0 x1 x2 x3 x4 x5 r k * err x0 x1 x2 x3 x4 x5 r k) chans := by
  pointwise [val_main_v57, val_main_v31, val_main_cst_7, val_main_v30, val_main_cst_6, val_main_v29, val_main_v28, val_main_cst_5, val_main_v27, val_main_cst_4, val_main_v24]
  simp only [v23_at]
end Ref

/-! ## The result arrays -/

abbrev A0 : FVec Ideal S2048x1024 .bf16 := m ((c : Thread nD τ).loc main_arg0)
abbrev A1 : FVec Ideal S1024x1024 .bf16 := m ((c : Thread nD τ).loc main_arg1)
abbrev A2 : FVec Ideal S2048x1024 .f32 := m ((c : Thread nD τ).loc main_arg2)
abbrev A3 : FVec Ideal S1x1x1024 .f32 := m ((c : Thread nD τ).loc main_arg3)
abbrev A4 : FVec Ideal S1x1024 .f32 := m ((c : Thread nD τ).loc main_arg4)
abbrev A5 : FVec Ideal S2048x1024 .f32 := m ((c : Thread nD τ).loc main_arg5)

abbrev b0 (t : Fin cfg0.N) : FVec Ideal S512x1024 .bf16 := iblk m c 0 t
abbrev b1 (t : Fin cfg0.N) : FVec Ideal S1024x1024 .bf16 := iblk m c 1 t
abbrev b2 (t : Fin cfg0.N) : FVec Ideal S512x1024 .f32 := iblk m c 2 t
abbrev b3 (t : Fin cfg0.N) : FVec Ideal S1x1x1024 .f32 := iblk m c 3 t
abbrev b4 (t : Fin cfg0.N) : FVec Ideal S1x1024 .f32 := iblk m c 4 t
abbrev b5 (t : Fin cfg0.N) : FVec Ideal S512x1024 .f32 := iblk m c 5 t

/-- The row of the latents a block's row is. -/
abbrev at_ (t : Fin cfg0.N) (r : Fin 512) : Fin 2048 := ⟨t.val * 512 + r.val, by have : t.val < 4 := t.isLt; omega⟩

theorem blk0 (t : Fin cfg0.N) (r : Fin 512) (k : Fin 1024) : b0 m c t (ix2 r k) = A0 m c (ix2 (at_ t r) k) := by
  blk_ext! [b0, iblk, V, idx t]
theorem blk1 (t : Fin cfg0.N) (j k : Fin 1024) : b1 m c t (ix2 j k) = A1 m c (ix2 j k) := by
  blk_ext! [b1, iblk, V, idx t]
theorem blk2 (t : Fin cfg0.N) (r : Fin 512) (j : Fin 1024) : b2 m c t (ix2 r j) = A2 m c (ix2 (at_ t r) j) := by
  blk_ext! [b2, iblk, V, idx t]
theorem blk3 (t : Fin cfg0.N) (j : Fin 1024) : b3 m c t (ix3 0 0 j) = A3 m c (ix3 0 0 j) := by
  blk_ext! [b3, iblk, V, idx t]
theorem blk4 (t : Fin cfg0.N) (j : Fin 1024) : b4 m c t (ix2 0 j) = A4 m c (ix2 0 j) := by
  blk_ext! [b4, iblk, V, idx t]
theorem blk5 (t : Fin cfg0.N) (r : Fin 512) (j : Fin 1024) : b5 m c t (ix2 r j) = A5 m c (ix2 (at_ t r) j) := by
  blk_ext! [b5, iblk, V, idx t]

theorem early (t : Fin cfg0.N) (h : t.val % 4 = 0) : ¬1 ≤ t.val := by
  have : t.val < 4 := t.isLt
  omega

theorem late (t : Fin cfg0.N) (h : ¬t.val % 4 = 0) : 1 ≤ t.val := by
  omega

/-- A row of the last layer's output. -/
abbrev orow (r : Fin 2048) : Fin 1024 → EReal := out (A0 m c) (A1 m c) (A2 m c) (A3 m c) r

/-- The error of a row. -/
abbrev erow (r : Fin 2048) : Fin 1024 → EReal := err (A0 m c) (A1 m c) (A2 m c) (A3 m c) (A4 m c) (A5 m c) r

/-- The cotangent of the normalised row. -/
abbrev urow (r : Fin 2048) : Fin 1024 → EReal := up (A0 m c) (A1 m c) (A2 m c) (A3 m c) (A4 m c) (A5 m c) r

abbrev bN (t : Fin cfg0.N) : FVec Ideal S512x1024 .f32 := k0_pay12 (F := Ideal) (b0 m c t) (b1 m c t) (b2 m c t) (b3 m c t)
abbrev bE (t : Fin cfg0.N) : FVec Ideal S512x1024 .f32 := k0_pay13 (F := Ideal) (b0 m c t) (b1 m c t) (b2 m c t) (b3 m c t) (b4 m c t) (b5 m c t)
abbrev bD (t : Fin cfg0.N) : FVec Ideal S512x1024 .f32 := k0_pay14 (F := Ideal) (b0 m c t) (b1 m c t) (b2 m c t) (b3 m c t) (b4 m c t) (b5 m c t)

theorem prod_at (t : Fin cfg0.N) (r : Fin 512) (j : Fin 1024) : ∑ k : Fin 1024, b0 m c t (ix2 r k) * b1 m c t (ix2 k j)
    = ∑ k : Fin 1024, A0 m c (ix2 (at_ t r) k) * A1 m c (ix2 k j) :=
  Finset.sum_congr rfl fun k _ => mul2 (blk0 m c t r k) (blk1 m c t k j)

theorem bX_at (t : Fin cfg0.N) (r : Fin 512) (j : Fin 1024) :
    k0_pay10 (F := Ideal) (b0 m c t) (b1 m c t) (b2 m c t) (b3 m c t) (ix2 r j) = orow m c (at_ t r) j := by
  refine (pay10 _ _ _ _ r j).trans ?_
  unfold orow out
  exact congrArg₂ (· + ·) (blk2 m c t r j) (mul2 (blk3 m c t j) (prod_at m c t r j))

theorem bR_at (t : Fin cfg0.N) (r : Fin 512) :
    k0_pay11 (F := Ideal) (b0 m c t) (b1 m c t) (b2 m c t) (b3 m c t) (ix2 r 0) = rms (orow m c (at_ t r)) :=
  (pay11 _ _ _ _ r).trans (congrArg rms (funext fun k => bX_at m c t r k))

theorem bN_at (t : Fin cfg0.N) (r : Fin 512) (j : Fin 1024) : bN m c t (ix2 r j) = orow m c (at_ t r) j * rms (orow m c (at_ t r)) :=
  (pay12 _ _ _ _ r j).trans (mul2 (bX_at m c t r j) (bR_at m c t r))

theorem bE_at (t : Fin cfg0.N) (r : Fin 512) (j : Fin 1024) : bE m c t (ix2 r j) = erow m c (at_ t r) j :=
  (pay13 _ _ _ _ _ _ r j).trans (congrArg₂ (fun x y : EReal => x - y) (mul2 (bN_at m c t r j) (blk4 m c t j)) (blk5 m c t r j))

theorem bD_at (t : Fin cfg0.N) (r : Fin 512) (j : Fin 1024) : bD m c t (ix2 r j) = erow m c (at_ t r) j * inv :=
  (pay14 _ _ _ _ _ _ r j).trans (mul2 (bE_at m c t r j) rfl)

theorem bU_at (t : Fin cfg0.N) (r : Fin 512) (j : Fin 1024) :
    k0_pay15 (F := Ideal) (b0 m c t) (b1 m c t) (b2 m c t) (b3 m c t) (b4 m c t) (b5 m c t) (ix2 r j) = urow m c (at_ t r) j :=
  (pay15 _ _ _ _ _ _ r j).trans (mul2 (bD_at m c t r j) (blk4 m c t j))

theorem bG_at (t : Fin cfg0.N) (r : Fin 512) (j : Fin 1024) :
    k0_pay1 (F := Ideal) (k0_pay11 (b0 m c t) (b1 m c t) (b2 m c t) (b3 m c t)) (bN m c t)
      (k0_pay15 (b0 m c t) (b1 m c t) (b2 m c t) (b3 m c t) (b4 m c t) (b5 m c t)) (k0_pay16 (b0 m c t) (b1 m c t) (b2 m c t) (b3 m c t) (b4 m c t) (b5 m c t)) (ix2 r j)
      = off (urow m c (at_ t r)) (orow m c (at_ t r)) j := by
  refine (pay1 _ _ _ _ _ _ r j).trans ?_
  unfold off
  have e : ∀ k, k0_pay12 (F := Ideal) (b0 m c t) (b1 m c t) (b2 m c t) (b3 m c t) (ix2 r k) = _ := bN_at m c t r
  rw [bR_at, bU_at, e j, Finset.sum_congr rfl fun k _ => mul2 (bU_at m c t r k) (e k)]

theorem out6 (t : Fin cfg0.N) (r : Fin 512) (j : Fin 1024) : (outsAt0 m c t.val t.isLt).1 (ix2 r j)
    = ∑ k : Fin 1024, A0 m c (ix2 (at_ t r) k) * A1 m c (ix2 k j) := by
  by_cases h : t.val % 4 = 0
  · rw [outsAt0_A m c t h (early t h) (by omega)]; frame_out
    exact (pay9 _ _ r j).trans (prod_at m c t r j)
  · by_cases h' : t.val % 4 = 3
    · rw [outsAt0_C m c t h (late t h) h']; frame_out
      exact (pay9 _ _ r j).trans (prod_at m c t r j)
    · rw [outsAt0_B m c t h (late t h) h']; frame_out
      exact (pay9 _ _ r j).trans (prod_at m c t r j)

theorem out8 (t : Fin cfg0.N) (r : Fin 512) (j : Fin 1024) : (outsAt0 m c t.val t.isLt).2.2.1 (ix2 r j) = off (urow m c (at_ t r)) (orow m c (at_ t r)) j := by
  by_cases h : t.val % 4 = 0
  · rw [outsAt0_A m c t h (early t h) (by omega)]; frame_out
    exact bG_at m c t r j
  · by_cases h' : t.val % 4 = 3
    · rw [outsAt0_C m c t h (late t h) h']; frame_out
      exact bG_at m c t r j
    · rw [outsAt0_B m c t h (late t h) h']; frame_out
      exact bG_at m c t r j

theorem row (j : S1x1024.Idx) : ∃ l : Fin 1024, j = ix2 (n0 := 1) (n1 := 1024) 0 l :=
  ⟨j 1, (ix2_eta j).symm.trans (by rw [show j 0 = (0 : Fin 1) from Subsingleton.elim (α := Fin 1) _ _])⟩

theorem lane (j : S1x128.Idx) : ∃ l : Fin 128, j = ix2 (n0 := 1) (n1 := 128) 0 l :=
  ⟨j 1, (ix2_eta j).symm.trans (by rw [show j 0 = (0 : Fin 1) from Subsingleton.elim (α := Fin 1) _ _])⟩

theorem one (j : S1x1.Idx) : j = ix2 (n0 := 1) (n1 := 1) 0 0 :=
  (ix2_eta j).symm.trans (by rw [show j 0 = (0 : Fin 1) from Subsingleton.elim (α := Fin 1) _ _, show j 1 = (0 : Fin 1) from Subsingleton.elim (α := Fin 1) _ _])

/-- What a point adds to the gain's gradient. -/
def part9 (t : Fin cfg0.N) (j : S1x1024.Idx) : EReal := ∑ k : Fin 512, (bD m c t (ix2 k (j 1)) : EReal) * (bN m c t (ix2 k (j 1)) : EReal)

/-- What a point adds to the sum of the rows' mean squared errors. -/
def part10 (t : Fin cfg0.N) (j : S1x1.Idx) : EReal :=
  ∑ r : Fin 512, Ideal.div (∑ k : Fin 1024, (bE m c t (ix2 r k) : EReal) * (bE m c t (ix2 r k) : EReal)) chans

theorem out9_first (t : Fin cfg0.N) (h : t.val % 4 = 0) (j : S1x1024.Idx) : (outsAt0 m c t.val t.isLt).2.2.2.1 j = 0 + part9 m c t j := by
  rw [outsAt0_A m c t h (early t h) (by omega)]; frame_out
  obtain ⟨l, rfl⟩ := row j
  rw [zero_add]
  exact pay2 _ _ _

theorem out9_next (t : Fin cfg0.N) (h : ¬t.val % 4 = 0) (j : S1x1024.Idx) :
    (outsAt0 m c t.val t.isLt).2.2.2.1 j = (outsAt0 m c (t.val - 1) (Nat.lt_of_le_of_lt (Nat.sub_le _ _) t.isLt)).2.2.2.1 j + part9 m c t j := by
  by_cases h' : t.val % 4 = 3
  · rw [outsAt0_C m c t h (late t h) h']; frame_out
    obtain ⟨l, rfl⟩ := row j
    exact pay5 _ _ _ _
  · rw [outsAt0_B m c t h (late t h) h']; frame_out
    obtain ⟨l, rfl⟩ := row j
    exact pay5 _ _ _ _

theorem out10_first (t : Fin cfg0.N) (h : t.val % 4 = 0) (j : S1x1.Idx) : (outsAt0 m c t.val t.isLt).2.2.2.2 j = 0 + part10 m c t j := by
  rw [outsAt0_A m c t h (early t h) (by omega)]; frame_out
  obtain rfl := one j
  rw [zero_add]
  exact pay4 _

theorem out10_next (t : Fin cfg0.N) (h : ¬t.val % 4 = 0) (j : S1x1.Idx) :
    (outsAt0 m c t.val t.isLt).2.2.2.2 j = (outsAt0 m c (t.val - 1) (Nat.lt_of_le_of_lt (Nat.sub_le _ _) t.isLt)).2.2.2.2 j + part10 m c t j := by
  by_cases h' : t.val % 4 = 3
  · rw [outsAt0_C m c t h (late t h) h']; frame_out
    obtain rfl := one j
    refine (pay6 _ _).trans (congrArg₂ (fun x y : EReal => x + y) ?_ rfl)
    exact congrFun (Memref.IsWhole.read_unread _ _) (ix2 0 0)
  · rw [outsAt0_B m c t h (late t h) h']; frame_out
    obtain rfl := one j
    refine (pay6 _ _).trans (congrArg₂ (fun x y : EReal => x + y) ?_ rfl)
    exact congrFun (Memref.IsWhole.read_unread _ _) (ix2 0 0)

theorem out7 (t : Fin cfg0.N) (h' : t.val % 4 = 3) (l : Fin 128) :
    (outsAt0 m c t.val t.isLt).2.1 (ix2 0 l) = half * (outsAt0 m c t.val t.isLt).2.2.2.2 (ix2 0 0) := by
  have h : ¬t.val % 4 = 0 := by omega
  rw [outsAt0_C m c t h (late t h) h']; frame_out
  exact pay7 _ _

theorem final6 : (dats m 0 c).arrAt 6 cfg0.N = val_main_v3 (F := Ideal) (A0 m c) (A1 m c) := by
  refine (dats m 0 c).arrAt_eq_of_covers 6 _ (by decide +kernel) fun t _ y => ?_
  obtain ⟨i, j, rfl⟩ : ∃ i j, y = ix2 (n0 := 512) (n1 := 1024) i j := ⟨_, _, (ix2_eta y).symm⟩
  blk_simp
  rw [after0_6]
  refine (out6 m c t i j).trans ((v3_at (A0 m c) (A1 m c) (at_ t i) j).symm.trans ?_)
  have ht : t.val < 4 := t.isLt
  generalize val_main_v3 (F := Ideal) (A0 m c) (A1 m c) = X
  blk_ext! [idx t]

theorem final8 (hy : ∀ r k, Real' (urow m c r k)) (hx : ∀ r k, Real' (orow m c r k)) :
    (dats m 0 c).arrAt 8 cfg0.N = val_main_v56 (F := Ideal) (A0 m c) (A1 m c) (A2 m c) (A3 m c) (A4 m c) (A5 m c) := by
  refine (dats m 0 c).arrAt_eq_of_covers 8 _ (by decide +kernel) fun t _ y => ?_
  obtain ⟨i, j, rfl⟩ : ∃ i j, y = ix2 (n0 := 512) (n1 := 1024) i j := ⟨_, _, (ix2_eta y).symm⟩
  blk_simp
  rw [after0_8]
  refine (out8 m c t i j).trans ((add_zero _).symm.trans ((off_eq (hy _) (hx _) 0 j).trans ((by rw [zero_add] : _ = _).trans
    ((v56_at (A0 m c) (A1 m c) (A2 m c) (A3 m c) (A4 m c) (A5 m c) (at_ t i) j).symm.trans ?_))))
  have ht : t.val < 4 := t.isLt
  generalize val_main_v56 (F := Ideal) (A0 m c) (A1 m c) (A2 m c) (A3 m c) (A4 m c) (A5 m c) = X
  blk_ext! [idx t]

theorem final9 : (dats m 0 c).arrAt 9 cfg0.N = val_main_v40 (F := Ideal) (A0 m c) (A1 m c) (A2 m c) (A3 m c) (A4 m c) (A5 m c) := by
  refine (dats m 0 c).arrAt_eq_of_after_last 9 t0_3 (by decide +kernel) _ fun j => ?_
  blk_simp
  rw [after0_9]
  refine (Pipeline.eq_sum_fin_of_reset_step_apply_last (fun n h => (outsAt0 m c n h).2.2.2.1) 4 (fun _ => (0 : EReal)) (part9 m c)
    (out9_first m c) (out9_next m c) (le_of_eq N_0) t0_3 rfl j).trans ?_
  obtain ⟨l, rfl⟩ := row j
  rw [zero_add, v40_at]
  refine Fin.sum_mul_add_congr (S := 4) (n := 512) (L := 2048) fun s k hl => ?_
  exact mul2 (bD_at m c s k l) (bN_at m c s k l)

theorem final7 : (dats m 0 c).arrAt 7 cfg0.N = val_main_v57 (F := Ideal) (A0 m c) (A1 m c) (A2 m c) (A3 m c) (A4 m c) (A5 m c) := by
  refine (dats m 0 c).arrAt_eq_of_after_last 7 t0_3 (by decide +kernel) _ fun j => ?_
  blk_simp
  rw [after0_7]
  obtain ⟨l, rfl⟩ := lane j
  refine (out7 m c t0_3 rfl l).trans ?_
  rw [v57_at]
  refine mul2 rfl ?_
  refine (Pipeline.eq_sum_fin_of_reset_step_apply_last (fun n h => (outsAt0 m c n h).2.2.2.2) 4 (fun _ => (0 : EReal)) (part10 m c)
    (out10_first m c) (out10_next m c) (le_of_eq N_0) t0_3 rfl _).trans ?_
  rw [zero_add]
  refine Fin.sum_mul_add_congr (S := 4) (n := 512) (L := 2048) fun s k hl => ?_
  exact congrArg (fun x : EReal => Ideal.div x chans) (Finset.sum_congr rfl fun l _ => mul2 (bE_at m c s k l) (bE_at m c s k l))

/-! ## The precondition, and the claim -/

section Pre
variable (x0 : FVec Ideal Pre_finite23.S2048x1024 .bf16) (x1 : FVec Ideal Pre_finite23.S1024x1024 .bf16) (x2 : FVec Ideal Pre_finite23.S2048x1024 .f32)
  (x3 : FVec Ideal Pre_finite23.S1x1x1024 .f32) (x4 : FVec Ideal Pre_finite23.S1x1024 .f32) (x5 : FVec Ideal Pre_finite23.S2048x1024 .f32)

theorem real0 (h : (Pre_finite23.fn (F := Ideal) x0 x1 x2 x3 x4 x5).1 = fun _ => 1#1) (r : Fin 2048) (k : Fin 1024) : Real' (x0 (ix2 r k)) := by
  refine real_of_bit (Eq.trans ?_ (congrFun h (ix2 r k)))
  pointwise [Pre_finite23.fn]
  rfl

theorem real1 (h : (Pre_finite23.fn (F := Ideal) x0 x1 x2 x3 x4 x5).2.1 = fun _ => 1#1) (r k : Fin 1024) : Real' (x1 (ix2 r k)) := by
  refine real_of_bit (Eq.trans ?_ (congrFun h (ix2 r k)))
  pointwise [Pre_finite23.fn]
  rfl

theorem real2 (h : (Pre_finite23.fn (F := Ideal) x0 x1 x2 x3 x4 x5).2.2.1 = fun _ => 1#1) (r : Fin 2048) (k : Fin 1024) : Real' (x2 (ix2 r k)) := by
  refine real_of_bit (Eq.trans ?_ (congrFun h (ix2 r k)))
  pointwise [Pre_finite23.fn]
  rfl

theorem real3 (h : (Pre_finite23.fn (F := Ideal) x0 x1 x2 x3 x4 x5).2.2.2.1 = fun _ => 1#1) (k : Fin 1024) : Real' (x3 (ix3 0 0 k)) := by
  refine real_of_bit (Eq.trans ?_ (congrFun h (ix3 0 0 k)))
  pointwise [Pre_finite23.fn]
  rfl

theorem real4 (h : (Pre_finite23.fn (F := Ideal) x0 x1 x2 x3 x4 x5).2.2.2.2.1 = fun _ => 1#1) (k : Fin 1024) : Real' (x4 (ix2 0 k)) := by
  refine real_of_bit (Eq.trans ?_ (congrFun h (ix2 0 k)))
  pointwise [Pre_finite23.fn]
  rfl

theorem real5 (h : (Pre_finite23.fn (F := Ideal) x0 x1 x2 x3 x4 x5).2.2.2.2.2 = fun _ => 1#1) (r : Fin 2048) (k : Fin 1024) : Real' (x5 (ix2 r k)) := by
  refine real_of_bit (Eq.trans ?_ (congrFun h (ix2 r k)))
  pointwise [Pre_finite23.fn]
  rfl

theorem real_rms {x : Fin 1024 → EReal} (hx : ∀ k, Real' (x k)) : Real' (rms x) := by
  choose x' hx using hx
  obtain rfl : x = fun k => (x' k : EReal) := funext hx
  obtain ⟨e, he, hee⟩ := LatentMath.eps_pos
  have hu : msq (fun k => (x' k : EReal)) = (((∑ k, x' k * x' k) / 1024 + e : ℝ) : EReal) := by
    unfold msq
    rw [show ∑ k, (x' k : EReal) * (x' k : EReal) = ((∑ k, x' k * x' k : ℝ) : EReal) from by rw [← LatentMath.coe_sum]; rfl,
      chans_eq, div_coe _ _ (by norm_num), hee, ← EReal.coe_add]
  have hp : 0 < (∑ k, x' k * x' k) / 1024 + e := by
    have : 0 ≤ ∑ k, x' k * x' k := Finset.sum_nonneg fun k _ => mul_self_nonneg _
    positivity
  refine ⟨(Real.sqrt ((∑ k, x' k * x' k) / 1024 + e))⁻¹, ?_⟩
  unfold rms
  rw [hu, Ideal.rsqrt_coe, if_neg (not_lt.mpr hp.le), if_neg hp.ne']

theorem real_out (h0 : ∀ r k, Real' (x0 (ix2 r k))) (h1 : ∀ j k, Real' (x1 (ix2 j k))) (h2 : ∀ r k, Real' (x2 (ix2 r k))) (h3 : ∀ k, Real' (x3 (ix3 0 0 k)))
    (r : Fin 2048) (k : Fin 1024) : Real' (out x0 x1 x2 x3 r k) :=
  (h2 r k).add ((h3 k).mul (Real'.sum fun l => (h0 r l).mul (h1 l k)))

theorem real_up (h0 : ∀ r k, Real' (x0 (ix2 r k))) (h1 : ∀ j k, Real' (x1 (ix2 j k))) (h2 : ∀ r k, Real' (x2 (ix2 r k))) (h3 : ∀ k, Real' (x3 (ix3 0 0 k)))
    (h4 : ∀ k, Real' (x4 (ix2 0 k))) (h5 : ∀ r k, Real' (x5 (ix2 r k))) (r : Fin 2048) (k : Fin 1024) : Real' (up x0 x1 x2 x3 x4 x5 r k) :=
  ((Real'.sub (((real_out x0 x1 x2 x3 h0 h1 h2 h3 r k).mul (real_rms (real_out x0 x1 x2 x3 h0 h1 h2 h3 r))).mul (h4 k)) (h5 r k)).mul ⟨_, inv_eq⟩).mul (h4 k)
end Pre

theorem algebraic : Cert.algebraic_Kernel23Ideal_Reference23Ideal_pre_finite23 := by
  pair_intro
  · run_from Cert.Kernel23Ideal.Value.run_blocks m g
  · refine Idealize.ShloMosaic.θ_run_mono (Cert.Reference23Ideal.Value.run m' g') ?_
    intro r hr c
    obtain ⟨e0, e1, e2, e3, e4, e5⟩ := hagree c
    obtain ⟨h0, h1, h2, h3, h4, h5⟩ := hpre c
    have r0 := real0 _ _ _ _ _ _ h0
    have r1 := real1 _ _ _ _ _ _ h1
    have r2 := real2 _ _ _ _ _ _ h2
    have r3 := real3 _ _ _ _ _ _ h3
    have r4 := real4 _ _ _ _ _ _ h4
    have r5 := real5 _ _ _ _ _ _ h5
    have q6 : val_main_v3 (F := Ideal) (A0 m c) (A1 m c) = (dats m 0 c).arrAt 6 cfg0.N := (final6 m c).symm
    have q7 : val_main_v57 (F := Ideal) (A0 m c) (A1 m c) (A2 m c) (A3 m c) (A4 m c) (A5 m c) = (dats m 0 c).arrAt 7 cfg0.N := (final7 m c).symm
    have q8 : val_main_v56 (F := Ideal) (A0 m c) (A1 m c) (A2 m c) (A3 m c) (A4 m c) (A5 m c) = (dats m 0 c).arrAt 8 cfg0.N :=
      (final8 m c (real_up _ _ _ _ _ _ r0 r1 r2 r3 r4 r5) (real_out _ _ _ _ r0 r1 r2 r3)).symm
    have q9 : val_main_v40 (F := Ideal) (A0 m c) (A1 m c) (A2 m c) (A3 m c) (A4 m c) (A5 m c) = (dats m 0 c).arrAt 9 cfg0.N := (final9 m c).symm
    refine ⟨(hr c).1.trans ?_, (hr c).2.1.trans ?_, (hr c).2.2.1.trans ?_, (hr c).2.2.2.1.trans ?_, (hr c).2.2.2.2⟩
    · refine (Reference23Ideal.Read.val_main_v3_eq _ _).trans ?_
      rw [e0, e1]
      exact q6
    · refine (Reference23Ideal.Read.val_main_v57_eq _ _ _ _ _ _).trans ?_
      rw [e0, e1, e2, e3, e4, e5]
      exact q7
    · refine (Reference23Ideal.Read.val_main_v56_eq _ _).trans ?_
      rw [e0, e1, e2, e3, e4, e5]
      exact q8
    · refine (Reference23Ideal.Read.val_main_v40_eq _ _ _ _ _ _).trans ?_
      rw [e0, e1, e2, e3, e4, e5]
      exact q9

theorem frame_reference : Cert.quiescent_Reference23Ideal := fun m g _ =>
  (θ_run Reference23Ideal.defs _ _).mono (fun r h => ⟨fun c => (h c).2.2.2.2, sem_eq_zero_of_no_sems (by decide) r.2⟩) (Reference23Ideal.Value.run m g)

end Cert.Loss23

end
-- ==== Proof.ConvFwd24.lean ====
/- The short convolution going forward: the gated convolution of the projected channels. -/
module

public import proofs.«01_k».proof.Defs
public import proofs.«01_k».proof.Proof.ConvKernel
public import proofs.«01_k».proof.Proof.LatentMath
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pointwise

@[expose] public section

set_option maxRecDepth 16384

noncomputable section

namespace Cert.ConvFwd24

open Idealize.ShloMosaic Idealize.ShloMosaic.TcCoe Idealize.SL.Sem
open Idealize.ShloMosaic.Pipeline (Dat)
open Cert.ConvMath (Col prev next lgst conv)
open Cert.ConvKernel (select_rot_one select_rot_back)
open Cert.Kernel24Ideal Cert.Kernel24Ideal.Gen
open Cert.Reference24Ideal.Read

/-! ## The body's value at a row and a column -/

section Block
variable (B C V G : FVec Ideal S2048x128 .bf16) (W : FVec Ideal S3x128 .f32) (D : FVec Ideal S1x128 .f32)
variable (r : Fin 2048) (l : Fin 128)

/-- Column `l` of a block. -/
abbrev col (X : FVec Ideal S2048x128 .bf16) (l : Fin 128) : Col := fun r => X (ix2 r l)

/-- The gated convolution of four columns. -/
def gated (b cg v g : Col) (w0 w1 w2 d : EReal) (r : Fin 2048) : EReal :=
  b r * conv w0 w1 w2 d (fun r => cg r * v r) r * (g r * lgst (g r))

theorem pay2_at (w0 w1 w2 : FVec Ideal S1x128 .f32) : k0_pay2 (F := Ideal) C V w0 w1 w2 D B (ix2 r l)
    = col B l r * conv (w0 (ix2 0 l)) (w1 (ix2 0 l)) (w2 (ix2 0 l)) (D (ix2 0 l)) (fun r => col C l r * col V l r) r := by
  unfold conv
  rw [← select_rot_one, ← select_rot_back]
  pointwise [k0_pay2]

theorem pay1_at (P : FVec Ideal S2048x128 .f32) : k0_pay1 (F := Ideal) P (k0_pay3 G) (Scalar.ofBits .f32 0x00000000#32) (ix2 r l)
    = P (ix2 r l) * (col G l r * lgst (col G l r)) := by
  unfold lgst
  rw [← zero_sub (col G l r)]
  pointwise [k0_pay1, k0_pay3]

theorem ld0 (X : Vec Ideal S2048x128 .bf16) : View.ld (Val := Elt Ideal) (e' := .bf16) X r0_0 = X := View.ld_unit_lit _ X (by decide)

theorem ld1 (X : Vec Ideal S3x128 .f32) : View.ld (Val := Elt Ideal) (e' := .f32) X r0_1 (ix2 0 l) = X (ix2 0 l) := by pointwise

theorem ld2 (X : Vec Ideal S3x128 .f32) : View.ld (Val := Elt Ideal) (e' := .f32) X r0_2 (ix2 0 l) = X (ix2 1 l) := by pointwise

theorem ld3 (X : Vec Ideal S3x128 .f32) : View.ld (Val := Elt Ideal) (e' := .f32) X r0_3 (ix2 0 l) = X (ix2 2 l) := by pointwise

theorem ld4 (X : Vec Ideal S1x128 .f32) : View.ld (Val := Elt Ideal) (e' := .f32) X r0_4 = X := View.ld_unit_lit _ X (by decide)

/-- What the body leaves in its block. -/
theorem out6_at : out0_6 (F := Ideal) B C V G W D (ix2 r l)
    = gated (col B l) (col C l) (col V l) (col G l) (W (ix2 0 l)) (W (ix2 1 l)) (W (ix2 2 l)) (D (ix2 0 l)) r := by
  rw [← ld1 l W, ← ld2 l W, ← ld3 l W]
  unfold out0_6
  canon_tiles x h
  obtain ⟨r', l', rfl⟩ : ∃ r' l', x = ix2 (n0 := 2048) (n1 := 128) r' l' := ⟨_, _, (ix2_eta x).symm⟩
  obtain rfl : r = r' := Fin.ext h0
  obtain rfl : l = l' := Fin.ext h1
  simp only [ld0, ld4]
  unfold gated
  rw [← pay2_at]
  exact pay1_at G r l _
end Block

/-! ## The reference at an index -/

section Ref
variable (P : FVec Ideal Reference24Ideal.S2048x4096 .bf16) (W : FVec Ideal Reference24Ideal.S3x1024 .f32) (D : FVec Ideal Reference24Ideal.S1x1024 .f32)
variable (r : Fin 2048) (n : Fin 1024)

/-- Channel `n` of part `q` of the projected channels. -/
abbrev colP (q : Fin 4) (n : Fin 1024) : Col := fun r => P (ix2 r ⟨1024 * q.val + n.val, by omega⟩)

theorem v1_at : val_main_v1 (F := Ideal) P (ix2 r n) = colP P 0 n r := by
  pointwise [val_main_v1, val_main_v0]
  exact congrArg (fun j => P (ix2 r j)) (Fin.ext (show n.val = 0 + n.val by omega))

theorem v2_at : val_main_v2 (F := Ideal) P (ix2 r n) = colP P 1 n r := by
  pointwise [val_main_v2, val_main_v0]
  exact congrArg (fun j => P (ix2 r j)) (Fin.ext rfl)

theorem v3_at : val_main_v3 (F := Ideal) P (ix2 r n) = colP P 2 n r := by
  pointwise [val_main_v3, val_main_v0]
  exact congrArg (fun j => P (ix2 r j)) (Fin.ext rfl)

theorem v4_at : val_main_v4 (F := Ideal) P (ix2 r n) = colP P 3 n r := by
  pointwise [val_main_v4, val_main_v0]
  exact congrArg (fun j => P (ix2 r j)) (Fin.ext rfl)

theorem v5_at : val_main_v5 (F := Ideal) P (ix2 r n) = colP P 1 n r * colP P 2 n r := by
  rw [← v2_at, ← v3_at]
  pointwise [val_main_v5]

theorem v8_at : val_main_v8 (F := Ideal) P (ix2 r n) = prev (fun r => colP P 1 n r * colP P 2 n r) r := by
  rw [← funext (v5_at P · n)]
  unfold prev
  pointwise [val_main_v8, val_main_v7, val_main_v6, val_main_cst]
  by_cases h : r.val < 1
  · rw [dif_pos h, dif_neg (by omega)]
  · rw [dif_neg h, dif_pos (by omega)]

theorem v10_at : val_main_v10 (F := Ideal) P (ix2 r n) = next (fun r => colP P 1 n r * colP P 2 n r) r := by
  rw [← funext (v5_at P · n)]
  unfold next
  pointwise [val_main_v10, val_main_v9]
  by_cases h : r.val < 2047
  · rw [dif_pos h, dif_pos h]
    exact congrArg (fun j => val_main_v5 (F := Ideal) P (ix2 j n)) (Fin.ext (Nat.add_comm 1 r.val))
  · rw [dif_neg h, dif_neg h]
    pointwise [val_main_v6, val_main_cst]

theorem v29_at : val_main_v29 (F := Ideal) P W D (ix2 r n) = conv (W (ix2 0 n)) (W (ix2 1 n)) (W (ix2 2 n)) (D (ix2 0 n))
    (fun r => colP P 1 n r * colP P 2 n r) r := by
  unfold conv
  rw [← v8_at, ← v10_at, ← funext (v5_at P · n)]
  pointwise [val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11]

theorem s_at : val_main_call0_v5 (F := Ideal) P (ix2 r n) = lgst (colP P 3 n r) := by
  unfold lgst
  rw [← v4_at]
  pointwise [val_main_call0_v5, val_main_call0_v4, val_main_call0_v3, val_main_call0_v2, val_main_call0_v1, val_main_call0_v0,
    val_main_call0_cst, val_main_call0_cst_0]

theorem v33_at : val_main_v33 (F := Ideal) P W D (ix2 r n)
    = gated (colP P 0 n) (colP P 1 n) (colP P 2 n) (colP P 3 n) (W (ix2 0 n)) (W (ix2 1 n)) (W (ix2 2 n)) (D (ix2 0 n)) r := by
  unfold gated
  rw [← v29_at, ← v1_at, ← s_at, ← v4_at]
  pointwise [val_main_v33, val_main_v32, val_main_v31, val_main_v30]
end Ref

/-! ## The result array -/

theorem idx : ∀ t : Fin cfg0.N, win0_0.index t = ![0, t.val] ∧ win0_1.index t = ![0, 8 + t.val] ∧ win0_2.index t = ![0, 16 + t.val]
    ∧ win0_3.index t = ![0, 24 + t.val] ∧ win0_4.index t = ![0, t.val] ∧ win0_5.index t = ![0, t.val] ∧ win0_6.index t = ![0, t.val] :=
  (by decide +kernel : ∀ t : Fin grid0.N, _)

variable (m : (ℓ : Loc nD τ sig) → Buf (Elt Ideal) ℓ) (c : Dev nD)

abbrev A0 : FVec Ideal S2048x4096 .bf16 := m ((c : Thread nD τ).loc main_arg0)
abbrev A1 : FVec Ideal S3x1024 .f32 := m ((c : Thread nD τ).loc main_arg1)
abbrev A2 : FVec Ideal S1x1024 .f32 := m ((c : Thread nD τ).loc main_arg2)

/-- The array channel of column `l` of block `t`. -/
abbrev chan (t : Fin cfg0.N) (l : Fin 128) : Fin 1024 := ⟨t.val * 128 + l.val, by have := t.isLt; have : cfg0.N = 8 := N_0; omega⟩

theorem col0 (t : Fin cfg0.N) (l : Fin 128) : col (iblk m c 0 t) l = colP (A0 m c) 0 (chan t l) := by
  funext r; show (iblk m c 0 t : FVec Ideal S2048x128 .bf16) (ix2 r l) = A0 m c (ix2 r _); blk_ext! [iblk, V, idx t]
theorem col1 (t : Fin cfg0.N) (l : Fin 128) : col (iblk m c 1 t) l = colP (A0 m c) 1 (chan t l) := by
  funext r; show (iblk m c 1 t : FVec Ideal S2048x128 .bf16) (ix2 r l) = A0 m c (ix2 r _); blk_ext! [iblk, V, idx t]
theorem col2 (t : Fin cfg0.N) (l : Fin 128) : col (iblk m c 2 t) l = colP (A0 m c) 2 (chan t l) := by
  funext r; show (iblk m c 2 t : FVec Ideal S2048x128 .bf16) (ix2 r l) = A0 m c (ix2 r _); blk_ext! [iblk, V, idx t]
theorem col3 (t : Fin cfg0.N) (l : Fin 128) : col (iblk m c 3 t) l = colP (A0 m c) 3 (chan t l) := by
  funext r; show (iblk m c 3 t : FVec Ideal S2048x128 .bf16) (ix2 r l) = A0 m c (ix2 r _); blk_ext! [iblk, V, idx t]
theorem tap4 (t : Fin cfg0.N) (k : Fin 3) (l : Fin 128) : (iblk m c 4 t : FVec Ideal S3x128 .f32) (ix2 k l) = A1 m c (ix2 k (chan t l)) := by
  blk_ext! [iblk, V, idx t]
theorem bias5 (t : Fin cfg0.N) (l : Fin 128) : (iblk m c 5 t : FVec Ideal S1x128 .f32) (ix2 0 l) = A2 m c (ix2 0 (chan t l)) := by
  blk_ext! [iblk, V, idx t]

theorem final6 : (dats m 0 c).arrAt 6 cfg0.N = val_main_v33 (F := Ideal) (A0 m c) (A1 m c) (A2 m c) := by
  refine (dats m 0 c).arrAt_eq_of_covers 6 _ (by decide +kernel) fun t _ y => ?_
  obtain ⟨r, l, rfl⟩ : ∃ r l, y = ix2 (n0 := 2048) (n1 := 128) r l := ⟨_, _, (ix2_eta y).symm⟩
  blk_simp
  rw [after0_6]
  refine (out6_at _ _ _ _ _ _ r l).trans ?_
  rw [col0, col1, col2, col3, tap4, tap4, tap4, bias5]
  refine (v33_at (A0 m c) (A1 m c) (A2 m c) r (chan t l)).symm.trans ?_
  generalize val_main_v33 (F := Ideal) (A0 m c) (A1 m c) (A2 m c) = X
  blk_ext! [idx t]

theorem algebraic : Cert.algebraic_Kernel24Ideal_Reference24Ideal := by
  pair_intro
  · run_from Cert.Kernel24Ideal.Value.run_blocks m g
  · refine Idealize.ShloMosaic.θ_run_mono (Cert.Reference24Ideal.Value.run m' g') ?_
    intro r hr c
    obtain ⟨e0, e1, e2⟩ := hagree c
    have q : val_main_v33 (F := Ideal) (A0 m c) (A1 m c) (A2 m c) = (dats m 0 c).arrAt 6 cfg0.N := (final6 m c).symm
    refine ⟨(hr c).1.trans ?_, (hr c).2⟩
    refine (Reference24Ideal.Read.val_main_v33_eq _ _ _).trans ?_
    rw [e0, e1, e2]
    exact q

theorem frame_reference : Cert.quiescent_Reference24Ideal := fun m g _ =>
  (θ_run Reference24Ideal.defs _ _).mono (fun r h => ⟨fun c => (h c).2, sem_eq_zero_of_no_sems (by decide) r.2⟩) (Reference24Ideal.Value.run m g)

end Cert.ConvFwd24

end
-- ==== Proof.PoolMath.lean ====
/- Centred windows of a padded column: sums by doubling, rotated back by half a window, are sums over the rows near a row. -/
module

public import Idealize.ShloMosaic.Lib.Pipeline.ValueKit
public import Idealize.ShloMosaic.Lib.Pointwise

@[expose] public section

noncomputable section

namespace Cert.PoolMath

open Idealize.ShloMosaic

/-- A column of the padded buffer. -/
abbrev Buf := Fin 2096 → EReal

/-- The column read at any row, around the end. -/
def wrap (f : Buf) (n : ℕ) : EReal := f ⟨n % 2096, Nat.mod_lt _ (by decide)⟩

/-- The sum of `k` rows from row `r` on, around the end. -/
def win (k : ℕ) (f : Buf) (r : ℕ) : EReal := ∑ i ∈ Finset.range k, wrap f (r + i)

theorem wrap_mod (f : Buf) (n k : ℕ) : wrap f (n % 2096 + k) = wrap f (n + k) := by
  unfold wrap
  exact congrArg f (Fin.ext (Nat.mod_add_mod n 2096 k))

theorem win_mod (k : ℕ) (f : Buf) (n : ℕ) : win k f (n % 2096) = win k f n :=
  Finset.sum_congr rfl fun i _ => wrap_mod f n i

theorem win_one (f : Buf) (r : Fin 2096) : win 1 f r.val = f r := by
  unfold win wrap
  rw [Finset.sum_range_one]
  exact congrArg f (Fin.ext (Nat.mod_eq_of_lt r.isLt))

theorem win_double (k : ℕ) (f : Buf) (r : ℕ) : win k f r + win k f (r + k) = win (k + k) f r := by
  unfold win
  rw [Finset.sum_range_add]
  exact congrArg _ (Finset.sum_congr rfl fun i _ => by rw [Nat.add_assoc])

/-- A column between sixteen rows of zeros above and thirty-two below. -/
def padded (u : Fin 2048 → EReal) : Buf := fun r => if h : 16 ≤ r.val ∧ r.val < 2064 then u ⟨r.val - 16, by omega⟩ else 0

/-- The band: rows `s` near row `t`. -/
def band (h t s : ℕ) : EReal := if t ≤ s + h ∧ s < t + h then 1 else 0

theorem win_padded (u : Fin 2048 → EReal) (h : ℕ) (hh : h ≤ 16) (t : Fin 2048) :
    win (h + h) (padded u) (16 + t.val - h) = ∑ s : Fin 2048, band h t.val s.val * u s := by
  have ht := t.isLt
  let U : ℕ → EReal := fun n => if hn : n < 2048 then u ⟨n, hn⟩ else 0
  have hR : ∑ s : Fin 2048, band h t.val s.val * u s = ∑ s ∈ Finset.range 2048, if t.val ≤ s + h ∧ s < t.val + h then U s else 0 := by
    rw [← Fin.sum_univ_eq_sum_range (fun s => if t.val ≤ s + h ∧ s < t.val + h then U s else 0) 2048]
    refine Finset.sum_congr rfl fun s _ => ?_
    unfold band
    have : U s.val = u s := dif_pos s.isLt
    rw [this]
    by_cases c : t.val ≤ s.val + h ∧ s.val < t.val + h
    · rw [if_pos c, if_pos c, one_mul]
    · rw [if_neg c, if_neg c, zero_mul]
  have hL : win (h + h) (padded u) (16 + t.val - h)
      = ∑ i ∈ Finset.range (h + h), if h ≤ t.val + i ∧ t.val + i - h < 2048 then U (t.val + i - h) else 0 := by
    unfold win
    refine Finset.sum_congr rfl fun i hi => ?_
    have hi' := Finset.mem_range.mp hi
    unfold wrap padded
    have e : (16 + t.val - h + i) % 2096 = 16 + t.val - h + i := Nat.mod_eq_of_lt (by omega)
    by_cases c : h ≤ t.val + i ∧ t.val + i - h < 2048
    · rw [if_pos c, dif_pos (show 16 ≤ (16 + t.val - h + i) % 2096 ∧ (16 + t.val - h + i) % 2096 < 2064 by rw [e]; omega)]
      refine Eq.trans ?_ (dif_pos c.2).symm
      exact congrArg u (Fin.ext (by show (16 + t.val - h + i) % 2096 - 16 = t.val + i - h; rw [e]; omega))
    · rw [if_neg c, dif_neg (show ¬(16 ≤ (16 + t.val - h + i) % 2096 ∧ (16 + t.val - h + i) % 2096 < 2064) by rw [e]; omega)]
  rw [hL, hR, ← Finset.sum_filter, ← Finset.sum_filter]
  refine Finset.sum_nbij' (fun i => t.val + i - h) (fun s => s + h - t.val) ?_ ?_ ?_ ?_ ?_
  · intro i hi
    simp only [Finset.mem_filter, Finset.mem_range] at hi ⊢
    omega
  · intro s hs
    simp only [Finset.mem_filter, Finset.mem_range] at hs ⊢
    omega
  · intro i hi
    simp only [Finset.mem_filter, Finset.mem_range] at hi
    show t.val + i - h + h - t.val = i
    omega
  · intro s hs
    simp only [Finset.mem_filter, Finset.mem_range] at hs
    show t.val + (s + h - t.val) - h = s
    omega
  · intro i hi
    rfl

/-- How many rows are near row `t`, in words. -/
def cnt (h : BitVec 32) (t : ℕ) : EReal :=
  FloatOps.sitofp (F := Ideal) .f32 (IntOp.subi (IntOp.minsi (IntOp.addi (BitVec.ofNat 32 t) h) 2048#32) (IntOp.maxsi (IntOp.subi (BitVec.ofNat 32 t) h) 0#32))

/-- The centred mean, less the row itself. -/
def centred (h : ℕ) (u : Fin 2048 → EReal) (t : Fin 2048) : EReal :=
  Ideal.div (∑ s : Fin 2048, band h t.val s.val * u s) (cnt (BitVec.ofNat 32 h) t.val) - u t

end Cert.PoolMath

end
-- ==== Proof.PoolRef.lean ====
/- The pooled mixer's reference, index by index. -/
module

public import proofs.«01_k».proof.Defs
public import proofs.«01_k».proof.Proof.ConvMath
public import proofs.«01_k».proof.Proof.LatentMath
public import proofs.«01_k».proof.Proof.PoolMath
public import proofs.«01_k».proof.Proof.Gen.Reference25Ideal.Run
public import proofs.«01_k».proof.Proof.Gen.Reference25Ideal.Read
public import Idealize.ShloMosaic.Lib.WordCmp
public import Idealize.ShloMosaic.Lib.Pipeline.ValueKit
public import Idealize.ShloMosaic.Lib.Pointwise

@[expose] public section

set_option maxRecDepth 16384

noncomputable section

namespace Cert.PoolRef

open Idealize.ShloMosaic
open Cert.ConvMath (lgst)
open Cert.LatentMath (mul2)
open Cert.PoolMath (band cnt centred)
open Cert.Reference25Ideal Cert.Reference25Ideal.Read

/-- The band, in words. -/
theorem select_band (h : ℕ) (hh : h ≤ 16) (t s : Fin 2048) :
    Scalar.select (IntOp.andi (IntOp.cmpi .sge (IntOp.addi (BitVec.ofNat 32 s.val) (BitVec.ofNat 32 h)) (BitVec.ofNat 32 t.val))
      (IntOp.cmpi .slt (BitVec.ofNat 32 s.val) (IntOp.addi (BitVec.ofNat 32 t.val) (BitVec.ofNat 32 h)))) (1 : EReal) 0 = band h t.val s.val := by
  have ht := t.isLt
  have hs := s.isLt
  rw [show IntOp.addi (BitVec.ofNat 32 s.val) (BitVec.ofNat 32 h) = BitVec.ofNat 32 (s.val + h) from (BitVec.ofNat_add _ _).symm,
    show IntOp.addi (BitVec.ofNat 32 t.val) (BitVec.ofNat 32 h) = BitVec.ofNat 32 (t.val + h) from (BitVec.ofNat_add _ _).symm,
    WordCmp.cmpi_sge_ofNat (by omega) (by omega), WordCmp.cmpi_slt_ofNat (by omega) (by omega), WordCmp.andi_ofBool]
  unfold Scalar.select band
  by_cases c : t.val ≤ s.val + h ∧ s.val < t.val + h
  · simp [c]
  · rw [if_neg c]
    refine if_neg fun e => c ?_
    rw [← Bool.decide_and] at e
    exact (WordCmp.ofBool_decide_eq_one_iff _).1 e

variable (X : FVec Ideal S2048x2048 .bf16) (W : FVec Ideal S4x256x256 .bf16) (D : FVec Ideal S1x1024 .f32)

/-- Channel `j` of group `g`. -/
abbrev chan (g : Fin 4) (j : Fin 256) : Fin 1024 := ⟨256 * g.val + j.val, by omega⟩

/-- Its column of the mixed half. -/
abbrev col (g : Fin 4) (j : Fin 256) : Fin 2048 → EReal := fun s => X (ix2 s ⟨256 * g.val + j.val, by omega⟩)

theorem band0 (t s : Fin 2048) : val_main_v35 (F := Ideal) (ix2 t s) = band 1 t.val s.val := by
  rw [← select_band 1 (by decide) t s]
  show val_main_v34 (F := Ideal) (ix2 t s) = _
  pointwise [val_main_v34, val_main_v23, val_main_v22, val_main_v21, val_main_v20, val_main_v19, val_main_v18, val_main_v17, val_main_v16, val_main_v15, val_main_v14, val_main_v13, val_main_v12, val_main_v11, val_main_v10, val_main_v9, val_main_v8, val_main_call0_v0, val_main_call0_v1, val_main_c_0, val_main_c_1, val_main_c_2, val_main_c_3, val_main_c_4, val_main_c, val_main_cst_5, val_main_cst]

theorem count0 (t : Fin 2048) : val_main_v33 (F := Ideal) (ix1 t) = cnt 1#32 t.val := by
  unfold cnt
  pointwise [val_main_v33, val_main_v32, val_main_v31, val_main_v30, val_main_v29, val_main_v28, val_main_v27, val_main_v26, val_main_v25, val_main_v24, val_main_v8, val_main_c_0, val_main_c_1, val_main_c_2, val_main_c_3, val_main_c_4, val_main_c]

theorem z0 (t : Fin 2048) (j : Fin 256) : val_main_v40 (F := Ideal) X (ix2 t j) = centred 1 (col X 0 j) t := by
  unfold centred
  have e : ∀ s : Fin 2048, val_main_v4 (F := Ideal) X (ix2 s j) = col X 0 j s := fun s => by
    pointwise [val_main_v4, val_main_v1, val_main_v0]
    exact congrArg (fun k => X (ix2 s k)) (Fin.ext (by simp))
  rw [← count0, ← e t, ← Finset.sum_congr rfl fun s _ => mul2 (band0 t s) (e s)]
  pointwise [val_main_v40, val_main_v39, val_main_v38, val_main_v37, val_main_v36]

theorem mix0 (t : Fin 2048) (j : Fin 256) : val_main_v143 (F := Ideal) X W (ix2 t j) = ∑ k : Fin 256, centred 1 (col X 0 k) t * W (ix3 0 k j) := by
  rw [← Finset.sum_congr rfl fun k _ => mul2 (z0 X t k) rfl]
  pointwise [val_main_v143, val_main_v142, val_main_v141, val_main_v140]

theorem band1 (t s : Fin 2048) : val_main_v68 (F := Ideal) (ix2 t s) = band 2 t.val s.val := by
  rw [← select_band 2 (by decide) t s]
  show val_main_v67 (F := Ideal) (ix2 t s) = _
  pointwise [val_main_v67, val_main_v56, val_main_v55, val_main_v54, val_main_v53, val_main_v52, val_main_v51, val_main_v50, val_main_v49, val_main_v48, val_main_v47, val_main_v46, val_main_v45, val_main_v44, val_main_v43, val_main_v42, val_main_v41, val_main_call1_v0, val_main_call1_v1, val_main_c_6, val_main_c_7, val_main_c_8, val_main_c_9, val_main_c_10, val_main_c_11, val_main_cst_12, val_main_cst_13]

theorem count1 (t : Fin 2048) : val_main_v66 (F := Ideal) (ix1 t) = cnt 2#32 t.val := by
  unfold cnt
  pointwise [val_main_v66, val_main_v65, val_main_v64, val_main_v63, val_main_v62, val_main_v61, val_main_v60, val_main_v59, val_main_v58, val_main_v57, val_main_v41, val_main_c_6, val_main_c_7, val_main_c_8, val_main_c_9, val_main_c_10, val_main_c_11]

theorem z1 (t : Fin 2048) (j : Fin 256) : val_main_v73 (F := Ideal) X (ix2 t j) = centred 2 (col X 1 j) t := by
  unfold centred
  have e : ∀ s : Fin 2048, val_main_v5 (F := Ideal) X (ix2 s j) = col X 1 j s := fun s => by
    pointwise [val_main_v5, val_main_v1, val_main_v0]
    exact congrArg (fun k => X (ix2 s k)) (Fin.ext (by simp))
  rw [← count1, ← e t, ← Finset.sum_congr rfl fun s _ => mul2 (band1 t s) (e s)]
  pointwise [val_main_v73, val_main_v72, val_main_v71, val_main_v70, val_main_v69]

theorem mix1 (t : Fin 2048) (j : Fin 256) : val_main_v147 (F := Ideal) X W (ix2 t j) = ∑ k : Fin 256, centred 2 (col X 1 k) t * W (ix3 1 k j) := by
  rw [← Finset.sum_congr rfl fun k _ => mul2 (z1 X t k) rfl]
  pointwise [val_main_v147, val_main_v146, val_main_v145, val_main_v144]

theorem band2 (t s : Fin 2048) : val_main_v101 (F := Ideal) (ix2 t s) = band 4 t.val s.val := by
  rw [← select_band 4 (by decide) t s]
  show val_main_v100 (F := Ideal) (ix2 t s) = _
  pointwise [val_main_v100, val_main_v89, val_main_v88, val_main_v87, val_main_v86, val_main_v85, val_main_v84, val_main_v83, val_main_v82, val_main_v81, val_main_v80, val_main_v79, val_main_v78, val_main_v77, val_main_v76, val_main_v75, val_main_v74, val_main_call2_v0, val_main_call2_v1, val_main_c_14, val_main_c_15, val_main_c_16, val_main_c_17, val_main_c_18, val_main_c_19, val_main_cst_20, val_main_cst_21]

theorem count2 (t : Fin 2048) : val_main_v99 (F := Ideal) (ix1 t) = cnt 4#32 t.val := by
  unfold cnt
  pointwise [val_main_v99, val_main_v98, val_main_v97, val_main_v96, val_main_v95, val_main_v94, val_main_v93, val_main_v92, val_main_v91, val_main_v90, val_main_v74, val_main_c_14, val_main_c_15, val_main_c_16, val_main_c_17, val_main_c_18, val_main_c_19]

theorem z2 (t : Fin 2048) (j : Fin 256) : val_main_v106 (F := Ideal) X (ix2 t j) = centred 4 (col X 2 j) t := by
  unfold centred
  have e : ∀ s : Fin 2048, val_main_v6 (F := Ideal) X (ix2 s j) = col X 2 j s := fun s => by
    pointwise [val_main_v6, val_main_v1, val_main_v0]
    exact congrArg (fun k => X (ix2 s k)) (Fin.ext (by simp))
  rw [← count2, ← e t, ← Finset.sum_congr rfl fun s _ => mul2 (band2 t s) (e s)]
  pointwise [val_main_v106, val_main_v105, val_main_v104, val_main_v103, val_main_v102]

theorem mix2 (t : Fin 2048) (j : Fin 256) : val_main_v151 (F := Ideal) X W (ix2 t j) = ∑ k : Fin 256, centred 4 (col X 2 k) t * W (ix3 2 k j) := by
  rw [← Finset.sum_congr rfl fun k _ => mul2 (z2 X t k) rfl]
  pointwise [val_main_v151, val_main_v150, val_main_v149, val_main_v148]

theorem band3 (t s : Fin 2048) : val_main_v134 (F := Ideal) (ix2 t s) = band 8 t.val s.val := by
  rw [← select_band 8 (by decide) t s]
  show val_main_v133 (F := Ideal) (ix2 t s) = _
  pointwise [val_main_v133, val_main_v122, val_main_v121, val_main_v120, val_main_v119, val_main_v118, val_main_v117, val_main_v116, val_main_v115, val_main_v114, val_main_v113, val_main_v112, val_main_v111, val_main_v110, val_main_v109, val_main_v108, val_main_v107, val_main_call3_v0, val_main_call3_v1, val_main_c_22, val_main_c_23, val_main_c_24, val_main_c_25, val_main_c_26, val_main_c_27, val_main_cst_28, val_main_cst_29]

theorem count3 (t : Fin 2048) : val_main_v132 (F := Ideal) (ix1 t) = cnt 8#32 t.val := by
  unfold cnt
  pointwise [val_main_v132, val_main_v131, val_main_v130, val_main_v129, val_main_v128, val_main_v127, val_main_v126, val_main_v125, val_main_v124, val_main_v123, val_main_v107, val_main_c_22, val_main_c_23, val_main_c_24, val_main_c_25, val_main_c_26, val_main_c_27]

theorem z3 (t : Fin 2048) (j : Fin 256) : val_main_v139 (F := Ideal) X (ix2 t j) = centred 8 (col X 3 j) t := by
  unfold centred
  have e : ∀ s : Fin 2048, val_main_v7 (F := Ideal) X (ix2 s j) = col X 3 j s := fun s => by
    pointwise [val_main_v7, val_main_v1, val_main_v0]
    exact congrArg (fun k => X (ix2 s k)) (Fin.ext (by simp))
  rw [← count3, ← e t, ← Finset.sum_congr rfl fun s _ => mul2 (band3 t s) (e s)]
  pointwise [val_main_v139, val_main_v138, val_main_v137, val_main_v136, val_main_v135]

theorem mix3 (t : Fin 2048) (j : Fin 256) : val_main_v155 (F := Ideal) X W (ix2 t j) = ∑ k : Fin 256, centred 8 (col X 3 k) t * W (ix3 3 k j) := by
  rw [← Finset.sum_congr rfl fun k _ => mul2 (z3 X t k) rfl]
  pointwise [val_main_v155, val_main_v154, val_main_v153, val_main_v152]

/-- The mixed value of a channel. -/
def mixed (g : Fin 4) (t : Fin 2048) (j : Fin 256) : EReal := ∑ k : Fin 256, centred (2 ^ g.val) (col X g k) t * W (ix3 g k j)

theorem v158_at (g : Fin 4) (t : Fin 2048) (j : Fin 256) : val_main_v158 (F := Ideal) X (ix2 t (chan g j)) = centred (2 ^ g.val) (col X g j) t := by
  have hj := j.isLt
  pointwise [val_main_v158, val_main_v156]
  match g with
  | 0 => rw [dif_pos (by simp)]; refine Eq.trans ?_ (z0 X t j); exact congrArg (fun k => val_main_v40 (F := Ideal) X (ix2 t k)) (Fin.ext (by simp))
  | 1 => rw [dif_neg (by simp), dif_pos (by simp)]; refine Eq.trans ?_ (z1 X t j); exact congrArg (fun k => val_main_v73 (F := Ideal) X (ix2 t k)) (Fin.ext (by simp))
  | 2 => rw [dif_neg (by simp; omega), dif_neg (by simp; omega), dif_pos (by simp; omega)]; refine Eq.trans ?_ (z2 X t j); exact congrArg (fun k => val_main_v106 (F := Ideal) X (ix2 t k)) (Fin.ext (by simp; omega))
  | 3 => rw [dif_neg (by simp; omega), dif_neg (by simp; omega), dif_neg (by simp; omega)]; refine Eq.trans ?_ (z3 X t j); exact congrArg (fun k => val_main_v139 (F := Ideal) X (ix2 t k)) (Fin.ext (by simp; omega))

theorem v157_at (g : Fin 4) (t : Fin 2048) (j : Fin 256) : val_main_v157 (F := Ideal) X W (ix2 t (chan g j)) = mixed X W g t j := by
  have hj := j.isLt
  unfold mixed
  pointwise [val_main_v157]
  match g with
  | 0 => rw [dif_pos (by simp)]; refine Eq.trans ?_ (mix0 X W t j); exact congrArg (fun k => val_main_v143 (F := Ideal) X W (ix2 t k)) (Fin.ext (by simp))
  | 1 => rw [dif_neg (by simp), dif_pos (by simp)]; refine Eq.trans ?_ (mix1 X W t j); exact congrArg (fun k => val_main_v147 (F := Ideal) X W (ix2 t k)) (Fin.ext (by simp))
  | 2 => rw [dif_neg (by simp; omega), dif_neg (by simp; omega), dif_pos (by simp; omega)]; refine Eq.trans ?_ (mix2 X W t j); exact congrArg (fun k => val_main_v151 (F := Ideal) X W (ix2 t k)) (Fin.ext (by simp; omega))
  | 3 => rw [dif_neg (by simp; omega), dif_neg (by simp; omega), dif_neg (by simp; omega)]; refine Eq.trans ?_ (mix3 X W t j); exact congrArg (fun k => val_main_v155 (F := Ideal) X W (ix2 t k)) (Fin.ext (by simp; omega))

theorem v159_at (g : Fin 4) (t : Fin 2048) (j : Fin 256) : val_main_v159 (F := Ideal) X W (ix2 t (chan g j)) = mixed X W g t j := by
  rw [← v157_at]
  pointwise [val_main_v159]

/-- The gate of a channel. -/
abbrev gate (g : Fin 4) (t : Fin 2048) (j : Fin 256) : EReal := X (ix2 t ⟨1024 + (256 * g.val + j.val), by omega⟩)

theorem v3_at (g : Fin 4) (t : Fin 2048) (j : Fin 256) : val_main_v3 (F := Ideal) X (ix2 t (chan g j)) = gate X g t j := by
  pointwise [val_main_v3, val_main_v2]

theorem s_at (g : Fin 4) (t : Fin 2048) (j : Fin 256) : val_main_call4_v5 (F := Ideal) X (ix2 t (chan g j)) = lgst (gate X g t j) := by
  unfold lgst
  rw [← v3_at]
  pointwise [val_main_call4_v5, val_main_call4_v4, val_main_call4_v3, val_main_call4_v2, val_main_call4_v1, val_main_call4_v0,
    val_main_call4_cst, val_main_call4_cst_0]

theorem v164_at (g : Fin 4) (t : Fin 2048) (j : Fin 256) : val_main_v164 (F := Ideal) X W D (ix2 t (chan g j))
    = mixed X W g t j * D (ix2 0 (chan g j)) * (gate X g t j * lgst (gate X g t j)) := by
  rw [← v157_at, ← s_at, ← v3_at]
  pointwise [val_main_v164, val_main_v163, val_main_v162, val_main_v161, val_main_v160]

end Cert.PoolRef

end
-- ==== Proof.Pool25.lean ====
/- The pooled mixer going forward. -/
module

public import proofs.«01_k».proof.Defs
public import proofs.«01_k».proof.Proof.ConvMath
public import proofs.«01_k».proof.Proof.LatentMath
public import proofs.«01_k».proof.Proof.PoolMath
public import proofs.«01_k».proof.Proof.PoolRef
public import proofs.«01_k».proof.Proof.Gen.Kernel25Ideal.Value
public import Idealize.ShloMosaic.Lib.KernelVsHost
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Pool25

open Idealize.ShloMosaic Idealize.ShloMosaic.TcCoe Idealize.SL.Sem
open Idealize.ShloMosaic.Pipeline (Dat)
open Cert.ConvMath (lgst)
open Cert.LatentMath (mul2)
open Cert.PoolMath (wrap win win_mod win_one win_double padded band cnt centred win_padded)
open Cert.Kernel25Ideal Cert.Kernel25Ideal.Gen

/-! ## Windows by doubling -/

section Windows
variable (v : FVec Ideal S2096x256 .f32) (f : PoolMath.Buf) (j : Fin 256)

theorem rot_at (sb : BitVec 32) (n : ℕ) (hsb : sb.toNat = n) (hn : n < 2096) (r : Fin 2096) :
    dynamicRotate (0 : Fin S2096x256.rank) sb none v rotates_S2096x256_d0 (ix2 r j) = v (ix2 ⟨(r.val + 2096 - n) % 2096, Nat.mod_lt _ (by decide)⟩ j) := by
  refine Idealize.ShloMosaic.dynamicRotate_apply (s := S2096x256) 0 sb v _ _ _ fun b => ?_
  match b with
  | 0 =>
    show (r.val + 2096 - n) % 2096 = (r.val + 2096 - sb.toNat % 2096) % 2096
    rw [hsb, Nat.mod_eq_of_lt hn]
  | 1 => rfl

theorem one_at (hv : ∀ r, v (ix2 r j) = f r) (r : Fin 2096) : v (ix2 r j) = win 1 f r.val := (hv r).trans (win_one f r).symm

/-- A window doubled: the rows' windows and the windows `k` rows on, added. -/
theorem double_at (sb : BitVec 32) (k : ℕ) (hsb : sb.toNat = 2096 - k) (h0 : 0 < k) (hk : k < 2096) (hv : ∀ r : Fin 2096, v (ix2 r j) = win k f r.val) (r : Fin 2096) :
    addf v (dynamicRotate (0 : Fin S2096x256.rank) sb none v rotates_S2096x256_d0) (ix2 r j) = win (k + k) f r.val := by
  refine Eq.trans (show _ = v (ix2 r j) + dynamicRotate (0 : Fin S2096x256.rank) sb none v rotates_S2096x256_d0 (ix2 r j) from rfl) ?_
  rw [rot_at v j sb (2096 - k) hsb (by omega), hv, hv, ← win_double]
  refine congrArg (fun x : EReal => win k f r.val + x) ?_
  show win k f ((r.val + 2096 - (2096 - k)) % 2096) = _
  rw [win_mod]
  exact congrArg (win k f) (by omega)

/-- A window of `h + h` rows, moved back by `h`. -/
theorem back_at (sb : BitVec 32) (h : ℕ) (hsb : sb.toNat = h) (hh : h ≤ 16) (hv : ∀ r : Fin 2096, v (ix2 r j) = win (h + h) f r.val) (t : Fin 2048) :
    shapeCast S2096x256 (dynamicRotate (0 : Fin S2096x256.rank) sb none v rotates_S2096x256_d0) shapeCasts_S2096x256_S2096x256 (ix2 ⟨16 + t.val, by omega⟩ j)
      = win (h + h) f (16 + t.val - h) := by
  have e : shapeCast S2096x256 (dynamicRotate (0 : Fin S2096x256.rank) sb none v rotates_S2096x256_d0) shapeCasts_S2096x256_S2096x256 (ix2 ⟨16 + t.val, by omega⟩ j)
      = dynamicRotate (0 : Fin S2096x256.rank) sb none v rotates_S2096x256_d0 (ix2 ⟨16 + t.val, by omega⟩ j) := by
    generalize dynamicRotate (0 : Fin S2096x256.rank) sb none v rotates_S2096x256_d0 = x
    pointwise
  rw [e, rot_at v j sb h hsb (by omega), hv]
  show win (h + h) f ((16 + t.val + 2096 - h) % 2096) = _
  exact congrArg (win (h + h) f) (by have := t.isLt; omega)
end Windows

section Pays
variable (v : FVec Ideal S2096x256 .f32) (u : Fin 2048 → EReal) (j : Fin 256) (hv : ∀ r, v (ix2 r j) = padded u r) (t : Fin 2048)
include hv

theorem win6 : k0_pay6 (F := Ideal) v (ix2 ⟨16 + t.val, by omega⟩ j) = ∑ s : Fin 2048, band 1 t.val s.val * u s :=
  (back_at _ (padded u) j 1#32 1 rfl (by decide)
    (double_at _ _ j 2095#32 1 rfl (by decide) (by decide) (one_at v _ j hv)) t).trans (win_padded u 1 (by decide) t)

theorem win12 : k0_pay12 (F := Ideal) v (ix2 ⟨16 + t.val, by omega⟩ j) = ∑ s : Fin 2048, band 2 t.val s.val * u s :=
  (back_at _ (padded u) j 2#32 2 rfl (by decide)
    (double_at _ _ j 2094#32 2 rfl (by decide) (by decide)
    (double_at _ _ j 2095#32 1 rfl (by decide) (by decide) (one_at v _ j hv))) t).trans (win_padded u 2 (by decide) t)

theorem win18 : k0_pay18 (F := Ideal) v (ix2 ⟨16 + t.val, by omega⟩ j) = ∑ s : Fin 2048, band 4 t.val s.val * u s :=
  (back_at _ (padded u) j 4#32 4 rfl (by decide)
    (double_at _ _ j 2092#32 4 rfl (by decide) (by decide)
    (double_at _ _ j 2094#32 2 rfl (by decide) (by decide)
    (double_at _ _ j 2095#32 1 rfl (by decide) (by decide) (one_at v _ j hv)))) t).trans (win_padded u 4 (by decide) t)

theorem win25 : k0_pay25 (F := Ideal) v (ix2 ⟨16 + t.val, by omega⟩ j) = ∑ s : Fin 2048, band 8 t.val s.val * u s :=
  (back_at _ (padded u) j 8#32 8 rfl (by decide)
    (double_at _ _ j 2088#32 8 rfl (by decide) (by decide)
    (double_at _ _ j 2092#32 4 rfl (by decide) (by decide)
    (double_at _ _ j 2094#32 2 rfl (by decide) (by decide)
    (double_at _ _ j 2095#32 1 rfl (by decide) (by decide) (one_at v _ j hv))))) t).trans (win_padded u 8 (by decide) t)
end Pays

/-! ## The buffer, written in three pieces and read back -/

section Reads
variable {κ : Kind} {sp : Space} (B : View sig κ sp S2096x256 .f32) (Z : FVec Ideal S32x256 .f32) (M : FVec Ideal S2048x256 .f32) (T : FVec Ideal S16x256 .f32)

abbrev rAll : Rect S2096x256 := Rect.unit ![0, 0] ![2096, 256] inb_S2096x256_S2096x256_0_0
abbrev rMid : Rect S2096x256 := Rect.unit ![16, 0] ![2048, 256] inb_S2096x256_S2048x256_16_0
abbrev rTop : Rect S2096x256 := Rect.unit ![0, 0] ![16, 256] inb_S2096x256_S16x256_0_0
abbrev rEnd : Rect S2096x256 := Rect.unit ![2064, 0] ![32, 256] inb_S2096x256_S32x256_2064_0

/-- The three stores. -/
abbrev stores : List (View.Piece (Elt Ideal) S2096x256 .f32) :=
  [⟨rEnd, Z⟩,
    ⟨rMid, M⟩,
    ⟨rTop, T⟩]

/-- The buffer after them. -/
abbrev filled : FVec Ideal S2096x256 .f32 :=
  B.readCov (Val := Elt Ideal) (stores Z M T) rAll.toLoadRect

/-- The padded block. -/
def pad (y : S2096x256.Idx) : EReal := padded (fun s => M (ix2 s (y 1))) (y 0)

theorem padded_out (u : Fin 2048 → EReal) (r : Fin 2096) (h : ¬(16 ≤ r.val ∧ r.val < 2064)) : padded u r = 0 := dif_neg h

theorem padded_in (u : Fin 2048 → EReal) (r : Fin 2096) (s : Fin 2048) (h : r.val = 16 + s.val) : padded u r = u s := by
  have hs := s.isLt
  exact (dif_pos (show 16 ≤ r.val ∧ r.val < 2064 by omega)).trans (congrArg u (Fin.ext (show r.val - 16 = s.val by omega)))

theorem pad_bottom (hZ : ∀ i, Z i = 0) (x : rEnd.shape.Idx) :
    Z x = pad M (rEnd.emb x) := by
  rw [hZ]
  unfold pad
  exact (padded_out _ _ (show ¬(16 ≤ 2064 + 1 * (x 0).val ∧ 2064 + 1 * (x 0).val < 2064) by omega)).symm

theorem pad_top (hT : ∀ i, T i = 0) (x : rTop.shape.Idx) :
    T x = pad M (rTop.emb x) := by
  rw [hT]
  have hx : (x 0).val < 16 := (x 0).isLt
  unfold pad
  exact (padded_out _ _ (show ¬(16 ≤ 0 + 1 * (x 0).val ∧ 0 + 1 * (x 0).val < 2064) by omega)).symm

theorem pad_mid (x : rMid.shape.Idx) :
    M x = pad M (rMid.emb x) := by
  unfold pad
  refine Eq.trans ?_ (padded_in _ _ (x 0) (show 16 + 1 * (x 0).val = 16 + (x 0).val by omega)).symm
  refine congrArg M (funext fun a => Fin.ext ?_)
  match a with
  | 0 => rfl
  | 1 => show (x 1).val = 0 + 1 * (x 1).val; omega

theorem filled_at (hZ : ∀ i, Z i = 0) (hT : ∀ i, T i = 0) (u : Fin 2048 → EReal) (j : Fin 256)
    (hM : ∀ s, M (ix2 s j) = u s) (r : Fin 2096) : filled B Z M T (ix2 r j) = padded u r := by
  have hr := r.isLt
  have hj := j.isLt
  have e : filled B Z M T (ix2 r j) = View.canon (stores Z M T) (ix2 r j) := by
    refine (congrFun (View.readCov_eq_canon' B (stores Z M T) rAll.toLoadRect) (ix2 r j)).trans ?_
    refine congrArg (View.canon (stores Z M T)) (funext fun a => Fin.ext ?_)
    match a with
    | 0 => show 0 + 1 * r.val = r.val; omega
    | 1 => show 0 + 1 * j.val = j.val; omega
  rw [e]
  have hcov : ∃ p ∈ stores Z M T, (ix2 r j : S2096x256.Idx) ∈ p.1.set := by
    by_cases h1 : 2064 ≤ r.val
    · refine ⟨_, List.mem_cons_self, (Rect.mem_set_unit (inb := inb_S2096x256_S32x256_2064_0)).2 fun a => ?_⟩
      match a with
      | 0 => exact ⟨h1, show r.val < 2064 + 32 by omega⟩
      | 1 => exact ⟨Nat.zero_le _, show j.val < 0 + 256 by omega⟩
    by_cases h2 : 16 ≤ r.val
    · refine ⟨_, List.mem_cons_of_mem _ List.mem_cons_self, (Rect.mem_set_unit (inb := inb_S2096x256_S2048x256_16_0)).2 fun a => ?_⟩
      match a with
      | 0 => exact ⟨h2, show r.val < 16 + 2048 by omega⟩
      | 1 => exact ⟨Nat.zero_le _, show j.val < 0 + 256 by omega⟩
    · refine ⟨_, List.mem_cons_of_mem _ (List.mem_cons_of_mem _ List.mem_cons_self), (Rect.mem_set_unit (inb := inb_S2096x256_S16x256_0_0)).2 fun a => ?_⟩
      match a with
      | 0 => exact ⟨Nat.zero_le _, show r.val < 0 + 16 by omega⟩
      | 1 => exact ⟨Nat.zero_le _, show j.val < 0 + 256 by omega⟩
  have hp : View.PiecesOf (Val := Elt Ideal) (e := .f32) (pad M) (stores Z M T) := ⟨pad_bottom Z M hZ, pad_mid M, pad_top M T hT, trivial⟩
  refine (View.canon_apply_of_pieces (Val := Elt Ideal) (e := .f32) (pad M) (stores Z M T) (View.PiecesOf.mem hp) (ix2 r j) hcov).trans ?_
  show padded (fun s => M (ix2 s j)) r = padded u r
  rw [funext hM]

/-- The rows of a stored buffer that the body loads. -/
theorem rows_at (P : FVec Ideal S2096x256 .f32) (L : List (View.Piece (Elt Ideal) S2096x256 .f32)) (t : Fin 2048) (j : Fin 256) :
    B.readCov (Val := Elt Ideal) (⟨rAll, P⟩ :: L)
      rMid.toLoadRect (ix2 t j) = P (ix2 ⟨16 + t.val, by omega⟩ j) := by
  have e := View.readCov_eq_canon' (Val := Elt Ideal) (e := .f32) B ((⟨rAll, P⟩ : View.Piece (Elt Ideal) S2096x256 .f32) :: L) rMid.toLoadRect
  have q := View.canon_cons_emb (Val := Elt Ideal) (e := .f32) rAll P L (ix2 ⟨16 + t.val, by omega⟩ j)
  have k : rMid.toLoadRect.idx (ix2 t j) = rAll.emb (ix2 ⟨16 + t.val, by omega⟩ j) := funext fun a => Fin.ext (match a with
    | 0 => show 16 + 1 * t.val = 0 + 1 * (16 + t.val) by omega
    | 1 => rfl)
  rw [e]
  rw [← k] at q
  exact q
end Reads

/-! ## The body in its four cases -/

section Cases
variable {κ : Kind} {sp : Space} (B : View sig κ sp S2096x256 .f32) (U : FVec Ideal S2048x256 .bf16) (R : FVec Ideal S2048x256 .f32) (t : Fin 2048) (j : Fin 256)

/-- The rows' sums in case A. -/
abbrev sumsA : FVec Ideal S2048x256 .f32 :=
  B.readCov (Val := Elt Ideal) (⟨rAll, k0_pay6 (F := Ideal) (filled B (k0_pay5 (F := Ideal)) (k0_pay4 U) (k0_pay3 (F := Ideal)))⟩
      :: stores (k0_pay5 (F := Ideal)) (k0_pay4 U) (k0_pay3 (F := Ideal)))
    rMid.toLoadRect

theorem zeroA5 (i : S32x256.Idx) : k0_pay5 (F := Ideal) i = 0 := by pointwise [k0_pay5]

theorem zeroA3 (i : S16x256.Idx) : k0_pay3 (F := Ideal) i = 0 := by pointwise [k0_pay3]

theorem sumsA_at : sumsA B U (ix2 t j) = ∑ s : Fin 2048, band 1 t.val s.val * U (ix2 s j) :=
  (rows_at B _ _ t j).trans (win6 _ (fun s => U (ix2 s j)) j (filled_at B (k0_pay5 (F := Ideal)) (k0_pay4 U) (k0_pay3 (F := Ideal)) (zeroA5) (zeroA3)
    (fun s => U (ix2 s j)) j (fun s => by pointwise [k0_pay4, k0_pay2])) t)

theorem lessA_at : k0_pay27 (F := Ideal) (k0_pay2 U) (k0_pay7 R) (ix2 t j) = Ideal.div (R (ix2 t j)) (cnt 1#32 t.val) - U (ix2 t j) := by
  unfold cnt
  pointwise [k0_pay27, k0_pay2, k0_pay7]

/-- The centred values in case A. -/
abbrev zsA : FVec Ideal S2048x256 .bf16 := k0_pay27 (F := Ideal) (k0_pay2 U) (k0_pay7 (sumsA B U))

theorem zsA_at : zsA B U (ix2 t j) = centred 1 (fun s => U (ix2 s j)) t := by
  unfold centred
  rw [← sumsA_at]
  exact lessA_at U (sumsA B U) t j

/-- The rows' sums in case B. -/
abbrev sumsB : FVec Ideal S2048x256 .f32 :=
  B.readCov (Val := Elt Ideal) (⟨rAll, k0_pay12 (F := Ideal) (filled B (k0_pay11 (F := Ideal)) (k0_pay10 U) (k0_pay9 (F := Ideal)))⟩
      :: stores (k0_pay11 (F := Ideal)) (k0_pay10 U) (k0_pay9 (F := Ideal)))
    rMid.toLoadRect

theorem zeroB5 (i : S32x256.Idx) : k0_pay11 (F := Ideal) i = 0 := by pointwise [k0_pay11]

theorem zeroB3 (i : S16x256.Idx) : k0_pay9 (F := Ideal) i = 0 := by pointwise [k0_pay9]

theorem sumsB_at : sumsB B U (ix2 t j) = ∑ s : Fin 2048, band 2 t.val s.val * U (ix2 s j) :=
  (rows_at B _ _ t j).trans (win12 _ (fun s => U (ix2 s j)) j (filled_at B (k0_pay11 (F := Ideal)) (k0_pay10 U) (k0_pay9 (F := Ideal)) (zeroB5) (zeroB3)
    (fun s => U (ix2 s j)) j (fun s => by pointwise [k0_pay10, k0_pay8])) t)

theorem lessB_at : k0_pay28 (F := Ideal) (k0_pay8 U) R k0_pay13 (ix2 t j) = Ideal.div (R (ix2 t j)) (cnt 2#32 t.val) - U (ix2 t j) := by
  unfold cnt
  pointwise [k0_pay28, k0_pay8, k0_pay13]

/-- The centred values in case B. -/
abbrev zsB : FVec Ideal S2048x256 .bf16 := k0_pay28 (F := Ideal) (k0_pay8 U) (sumsB B U) k0_pay13

theorem zsB_at : zsB B U (ix2 t j) = centred 2 (fun s => U (ix2 s j)) t := by
  unfold centred
  rw [← sumsB_at]
  exact lessB_at U (sumsB B U) t j

/-- The rows' sums in case C. -/
abbrev sumsC : FVec Ideal S2048x256 .f32 :=
  B.readCov (Val := Elt Ideal) (⟨rAll, k0_pay18 (F := Ideal) (filled B (k0_pay17 (F := Ideal)) (k0_pay16 U) (k0_pay15 (F := Ideal)))⟩
      :: stores (k0_pay17 (F := Ideal)) (k0_pay16 U) (k0_pay15 (F := Ideal)))
    rMid.toLoadRect

theorem zeroC5 (i : S32x256.Idx) : k0_pay17 (F := Ideal) i = 0 := by pointwise [k0_pay17]

theorem zeroC3 (i : S16x256.Idx) : k0_pay15 (F := Ideal) i = 0 := by pointwise [k0_pay15]

theorem sumsC_at : sumsC B U (ix2 t j) = ∑ s : Fin 2048, band 4 t.val s.val * U (ix2 s j) :=
  (rows_at B _ _ t j).trans (win18 _ (fun s => U (ix2 s j)) j (filled_at B (k0_pay17 (F := Ideal)) (k0_pay16 U) (k0_pay15 (F := Ideal)) (zeroC5) (zeroC3)
    (fun s => U (ix2 s j)) j (fun s => by pointwise [k0_pay16, k0_pay14])) t)

theorem lessC_at : k0_pay29 (F := Ideal) (k0_pay14 U) R k0_pay19 k0_pay20 0#32 (ix2 t j) = Ideal.div (R (ix2 t j)) (cnt 4#32 t.val) - U (ix2 t j) := by
  unfold cnt
  pointwise [k0_pay29, k0_pay14, k0_pay19, k0_pay20]

/-- The centred values in case C. -/
abbrev zsC : FVec Ideal S2048x256 .bf16 := k0_pay29 (F := Ideal) (k0_pay14 U) (sumsC B U) k0_pay19 k0_pay20 0#32

theorem zsC_at : zsC B U (ix2 t j) = centred 4 (fun s => U (ix2 s j)) t := by
  unfold centred
  rw [← sumsC_at]
  exact lessC_at U (sumsC B U) t j

/-- The rows' sums in case D. -/
abbrev sumsD : FVec Ideal S2048x256 .f32 :=
  B.readCov (Val := Elt Ideal) (⟨rAll, k0_pay25 (F := Ideal) (filled B (k0_pay24 (F := Ideal)) (k0_pay23 U) (k0_pay22 (F := Ideal)))⟩
      :: stores (k0_pay24 (F := Ideal)) (k0_pay23 U) (k0_pay22 (F := Ideal)))
    rMid.toLoadRect

theorem zeroD5 (i : S32x256.Idx) : k0_pay24 (F := Ideal) i = 0 := by pointwise [k0_pay24]

theorem zeroD3 (i : S16x256.Idx) : k0_pay22 (F := Ideal) i = 0 := by pointwise [k0_pay22]

theorem sumsD_at : sumsD B U (ix2 t j) = ∑ s : Fin 2048, band 8 t.val s.val * U (ix2 s j) :=
  (rows_at B _ _ t j).trans (win25 _ (fun s => U (ix2 s j)) j (filled_at B (k0_pay24 (F := Ideal)) (k0_pay23 U) (k0_pay22 (F := Ideal)) (zeroD5) (zeroD3)
    (fun s => U (ix2 s j)) j (fun s => by pointwise [k0_pay23, k0_pay21])) t)

theorem lessD_at : k0_pay30 (F := Ideal) (k0_pay21 U) R (iota .tc S2048x1 32 [0] iota_S2048x1_d0_w32) k0_pay26 8#32 (ix2 t j) = Ideal.div (R (ix2 t j)) (cnt 8#32 t.val) - U (ix2 t j) := by
  unfold cnt
  pointwise [k0_pay30, k0_pay21, k0_pay26]

/-- The centred values in case D. -/
abbrev zsD : FVec Ideal S2048x256 .bf16 := k0_pay30 (F := Ideal) (k0_pay21 U) (sumsD B U) (iota .tc S2048x1 32 [0] iota_S2048x1_d0_w32) k0_pay26 8#32

theorem zsD_at : zsD B U (ix2 t j) = centred 8 (fun s => U (ix2 s j)) t := by
  unfold centred
  rw [← sumsD_at]
  exact lessD_at U (sumsD B U) t j
end Cases

section Tail
variable (z : FVec Ideal S2048x256 .bf16) (w : FVec Ideal S1x256x256 .bf16) (d : FVec Ideal S1x256 .f32) (g : FVec Ideal S2048x256 .bf16) (t : Fin 2048) (j : Fin 256)

theorem mix_at : k0_pay32 (F := Ideal) z w (ix2 t j) = ∑ k : Fin 256, z (ix2 t k) * w (ix3 0 k j) := by
  pointwise [k0_pay32, k0_pay31]

theorem scaled_at : k0_pay33 (F := Ideal) z w d (ix2 t j) = (∑ k : Fin 256, z (ix2 t k) * w (ix3 0 k j)) * d (ix2 0 j) := by
  rw [← mix_at]
  pointwise [k0_pay33, k0_pay32]

theorem act_at : k0_pay1 (F := Ideal) (k0_pay33 z w d) (k0_pay34 g) (k0_pay35 g) (ix2 t j)
    = (∑ k : Fin 256, z (ix2 t k) * w (ix3 0 k j)) * d (ix2 0 j) * (g (ix2 t j) * lgst (g (ix2 t j))) := by
  rw [← scaled_at]
  unfold lgst
  rw [← zero_sub (g (ix2 t j))]
  generalize k0_pay33 (F := Ideal) z w d = q
  pointwise [k0_pay1, k0_pay35, k0_pay34]
end Tail

variable (m : (ℓ : Loc nD τ sig) → Buf (Elt Ideal) ℓ) (c : Dev nD)

theorem outA0 (t : Fin cfg0.N) (h : t.val % 4 = 0) (r : Fin 2048) (j : Fin 256) : (outsAt0 m c t.val t.isLt).1 (ix2 r j)
    = zsA (View.whole cc0_scratch0) (iblk m c 0 t) (ix2 r j) := by
  rw [outsAt0_A m c t h (by omega) (by omega) (by omega)]; frame_out

theorem outA1 (t : Fin cfg0.N) (h : t.val % 4 = 0) (r : Fin 2048) (j : Fin 256) : (outsAt0 m c t.val t.isLt).2.1 (ix2 r j)
    = k0_pay32 (zsA (View.whole cc0_scratch0) (iblk m c 0 t)) (iblk m c 2 t) (ix2 r j) := by
  rw [outsAt0_A m c t h (by omega) (by omega) (by omega)]; frame_out

theorem outA2 (t : Fin cfg0.N) (h : t.val % 4 = 0) (r : Fin 2048) (j : Fin 256) : (outsAt0 m c t.val t.isLt).2.2 (ix2 r j)
    = k0_pay1 (k0_pay33 (zsA (View.whole cc0_scratch0) (iblk m c 0 t)) (iblk m c 2 t) (iblk m c 3 t)) (k0_pay34 (iblk m c 1 t)) (k0_pay35 (iblk m c 1 t)) (ix2 r j) := by
  rw [outsAt0_A m c t h (by omega) (by omega) (by omega)]; frame_out

theorem outB0 (t : Fin cfg0.N) (h : t.val % 4 = 1) (r : Fin 2048) (j : Fin 256) : (outsAt0 m c t.val t.isLt).1 (ix2 r j)
    = zsB (View.whole cc0_scratch0) (iblk m c 0 t) (ix2 r j) := by
  rw [outsAt0_B m c t (by omega) h (by omega) (by omega)]; frame_out

theorem outB1 (t : Fin cfg0.N) (h : t.val % 4 = 1) (r : Fin 2048) (j : Fin 256) : (outsAt0 m c t.val t.isLt).2.1 (ix2 r j)
    = k0_pay32 (zsB (View.whole cc0_scratch0) (iblk m c 0 t)) (iblk m c 2 t) (ix2 r j) := by
  rw [outsAt0_B m c t (by omega) h (by omega) (by omega)]; frame_out

theorem outB2 (t : Fin cfg0.N) (h : t.val % 4 = 1) (r : Fin 2048) (j : Fin 256) : (outsAt0 m c t.val t.isLt).2.2 (ix2 r j)
    = k0_pay1 (k0_pay33 (zsB (View.whole cc0_scratch0) (iblk m c 0 t)) (iblk m c 2 t) (iblk m c 3 t)) (k0_pay34 (iblk m c 1 t)) (k0_pay35 (iblk m c 1 t)) (ix2 r j) := by
  rw [outsAt0_B m c t (by omega) h (by omega) (by omega)]; frame_out

theorem outC0 (t : Fin cfg0.N) (h : t.val % 4 = 2) (r : Fin 2048) (j : Fin 256) : (outsAt0 m c t.val t.isLt).1 (ix2 r j)
    = zsC (View.whole cc0_scratch0) (iblk m c 0 t) (ix2 r j) := by
  rw [outsAt0_C m c t (by omega) (by omega) h (by omega)]; frame_out

theorem outC1 (t : Fin cfg0.N) (h : t.val % 4 = 2) (r : Fin 2048) (j : Fin 256) : (outsAt0 m c t.val t.isLt).2.1 (ix2 r j)
    = k0_pay32 (zsC (View.whole cc0_scratch0) (iblk m c 0 t)) (iblk m c 2 t) (ix2 r j) := by
  rw [outsAt0_C m c t (by omega) (by omega) h (by omega)]; frame_out

theorem outC2 (t : Fin cfg0.N) (h : t.val % 4 = 2) (r : Fin 2048) (j : Fin 256) : (outsAt0 m c t.val t.isLt).2.2 (ix2 r j)
    = k0_pay1 (k0_pay33 (zsC (View.whole cc0_scratch0) (iblk m c 0 t)) (iblk m c 2 t) (iblk m c 3 t)) (k0_pay34 (iblk m c 1 t)) (k0_pay35 (iblk m c 1 t)) (ix2 r j) := by
  rw [outsAt0_C m c t (by omega) (by omega) h (by omega)]; frame_out

theorem outD0 (t : Fin cfg0.N) (h : t.val % 4 = 3) (r : Fin 2048) (j : Fin 256) : (outsAt0 m c t.val t.isLt).1 (ix2 r j)
    = zsD (View.whole cc0_scratch0) (iblk m c 0 t) (ix2 r j) := by
  rw [outsAt0_D m c t (by omega) (by omega) (by omega) h]; frame_out

theorem outD1 (t : Fin cfg0.N) (h : t.val % 4 = 3) (r : Fin 2048) (j : Fin 256) : (outsAt0 m c t.val t.isLt).2.1 (ix2 r j)
    = k0_pay32 (zsD (View.whole cc0_scratch0) (iblk m c 0 t)) (iblk m c 2 t) (ix2 r j) := by
  rw [outsAt0_D m c t (by omega) (by omega) (by omega) h]; frame_out

theorem outD2 (t : Fin cfg0.N) (h : t.val % 4 = 3) (r : Fin 2048) (j : Fin 256) : (outsAt0 m c t.val t.isLt).2.2 (ix2 r j)
    = k0_pay1 (k0_pay33 (zsD (View.whole cc0_scratch0) (iblk m c 0 t)) (iblk m c 2 t) (iblk m c 3 t)) (k0_pay34 (iblk m c 1 t)) (k0_pay35 (iblk m c 1 t)) (ix2 r j) := by
  rw [outsAt0_D m c t (by omega) (by omega) (by omega) h]; frame_out

/-! ## The blocks, and the three arrays -/

theorem idx : ∀ t : Fin cfg0.N, win0_0.index t = ![0, t.val] ∧ win0_1.index t = ![0, 4 + t.val] ∧ win0_2.index t = ![t.val, 0, 0]
    ∧ win0_3.index t = ![0, t.val] ∧ win0_4.index t = ![0, t.val] ∧ win0_5.index t = ![0, t.val] ∧ win0_6.index t = ![0, t.val] :=
  (by decide +kernel : ∀ t : Fin grid0.N, _)

abbrev A0 : FVec Ideal S2048x2048 .bf16 := m ((c : Thread nD τ).loc main_arg0)
abbrev A1 : FVec Ideal S4x256x256 .bf16 := m ((c : Thread nD τ).loc main_arg1)
abbrev A2 : FVec Ideal S1x1024 .f32 := m ((c : Thread nD τ).loc main_arg2)

/-- A grid point's group. -/
abbrev grp (t : Fin cfg0.N) : Fin 4 := ⟨t.val, by have := t.isLt; have : cfg0.N = 4 := N_0; omega⟩

theorem blk0 (t : Fin cfg0.N) (j : Fin 256) : (fun s => (iblk m c 0 t : FVec Ideal S2048x256 .bf16) (ix2 s j)) = PoolRef.col (A0 m c) (grp t) j := by
  funext s; show (iblk m c 0 t : FVec Ideal S2048x256 .bf16) (ix2 s j) = A0 m c (ix2 s _); blk_ext! [iblk, V, idx t]
theorem blk1 (t : Fin cfg0.N) (r : Fin 2048) (j : Fin 256) : (iblk m c 1 t : FVec Ideal S2048x256 .bf16) (ix2 r j) = PoolRef.gate (A0 m c) (grp t) r j := by
  show (iblk m c 1 t : FVec Ideal S2048x256 .bf16) (ix2 r j) = A0 m c (ix2 r _); blk_ext! [iblk, V, idx t]
theorem blk2 (t : Fin cfg0.N) (k j : Fin 256) : (iblk m c 2 t : FVec Ideal S1x256x256 .bf16) (ix3 0 k j) = A1 m c (ix3 (grp t) k j) := by
  blk_ext! [iblk, V, idx t]
theorem blk3 (t : Fin cfg0.N) (j : Fin 256) : (iblk m c 3 t : FVec Ideal S1x256 .f32) (ix2 0 j) = A2 m c (ix2 0 (PoolRef.chan (grp t) j)) := by
  blk_ext! [iblk, V, idx t]

theorem zs_eq (t : Fin cfg0.N) : ∃ z : FVec Ideal S2048x256 .bf16, (∀ r j, z (ix2 r j) = centred (2 ^ (grp t).val) (PoolRef.col (A0 m c) (grp t) j) r)
    ∧ (∀ r j, (outsAt0 m c t.val t.isLt).1 (ix2 r j) = z (ix2 r j))
    ∧ (∀ r j, (outsAt0 m c t.val t.isLt).2.1 (ix2 r j) = k0_pay32 z (iblk m c 2 t) (ix2 r j))
    ∧ (∀ r j, (outsAt0 m c t.val t.isLt).2.2 (ix2 r j)
      = k0_pay1 (k0_pay33 z (iblk m c 2 t) (iblk m c 3 t)) (k0_pay34 (iblk m c 1 t)) (k0_pay35 (iblk m c 1 t)) (ix2 r j)) := by
  have ht := t.isLt
  have hN : cfg0.N = 4 := N_0
  by_cases h0 : t.val = 0
  · refine ⟨zsA (View.whole cc0_scratch0) (iblk m c 0 t), fun r j => ?_, outA0 m c t (by omega), outA1 m c t (by omega), outA2 m c t (by omega)⟩
    rw [← blk0, show 2 ^ (grp t).val = 1 by show 2 ^ t.val = 1; rw [h0]; rfl]
    exact zsA_at _ _ r j
  by_cases h1 : t.val = 1
  · refine ⟨zsB (View.whole cc0_scratch0) (iblk m c 0 t), fun r j => ?_, outB0 m c t (by omega), outB1 m c t (by omega), outB2 m c t (by omega)⟩
    rw [← blk0, show 2 ^ (grp t).val = 2 by show 2 ^ t.val = 2; rw [h1]; rfl]
    exact zsB_at _ _ r j
  by_cases h2 : t.val = 2
  · refine ⟨zsC (View.whole cc0_scratch0) (iblk m c 0 t), fun r j => ?_, outC0 m c t (by omega), outC1 m c t (by omega), outC2 m c t (by omega)⟩
    rw [← blk0, show 2 ^ (grp t).val = 4 by show 2 ^ t.val = 4; rw [h2]; rfl]
    exact zsC_at _ _ r j
  · have h3 : t.val = 3 := by omega
    refine ⟨zsD (View.whole cc0_scratch0) (iblk m c 0 t), fun r j => ?_, outD0 m c t (by omega), outD1 m c t (by omega), outD2 m c t (by omega)⟩
    rw [← blk0, show 2 ^ (grp t).val = 8 by show 2 ^ t.val = 8; rw [h3]; rfl]
    exact zsD_at _ _ r j

theorem final4 : (dats m 0 c).arrAt 4 cfg0.N = Reference25Ideal.Read.val_main_v158 (F := Ideal) (A0 m c) := by
  refine (dats m 0 c).arrAt_eq_of_covers 4 _ (by decide +kernel) fun t _ y => ?_
  obtain ⟨r, j, rfl⟩ : ∃ r j, y = ix2 (n0 := 2048) (n1 := 256) r j := ⟨_, _, (ix2_eta y).symm⟩
  blk_simp
  rw [after0_4]
  obtain ⟨z, hz, h4, h5, h6⟩ := zs_eq m c t
  refine ((h4 r j).trans (hz r j)).trans ?_
  refine (PoolRef.v158_at (A0 m c) (grp t) r j).symm.trans ?_
  generalize Reference25Ideal.Read.val_main_v158 (F := Ideal) (A0 m c) = X
  blk_ext! [idx t]

theorem sum_eq (t : Fin cfg0.N) (z : FVec Ideal S2048x256 .bf16) (hz : ∀ r j, z (ix2 r j) = centred (2 ^ (grp t).val) (PoolRef.col (A0 m c) (grp t) j) r)
    (r : Fin 2048) (j : Fin 256) : ∑ k : Fin 256, z (ix2 r k) * (iblk m c 2 t : FVec Ideal S1x256x256 .bf16) (ix3 0 k j) = PoolRef.mixed (A0 m c) (A1 m c) (grp t) r j :=
  Finset.sum_congr rfl fun k _ => mul2 (hz r k) (blk2 m c t k j)

theorem final5 : (dats m 0 c).arrAt 5 cfg0.N = Reference25Ideal.Read.val_main_v159 (F := Ideal) (A0 m c) (A1 m c) := by
  refine (dats m 0 c).arrAt_eq_of_covers 5 _ (by decide +kernel) fun t _ y => ?_
  obtain ⟨r, j, rfl⟩ : ∃ r j, y = ix2 (n0 := 2048) (n1 := 256) r j := ⟨_, _, (ix2_eta y).symm⟩
  blk_simp
  rw [after0_5]
  obtain ⟨z, hz, h4, h5, h6⟩ := zs_eq m c t
  refine (((h5 r j).trans (mix_at _ _ r j)).trans (sum_eq m c t z hz r j)).trans ?_
  refine (PoolRef.v159_at (A0 m c) (A1 m c) (grp t) r j).symm.trans ?_
  generalize Reference25Ideal.Read.val_main_v159 (F := Ideal) (A0 m c) (A1 m c) = X
  blk_ext! [idx t]

theorem final6 : (dats m 0 c).arrAt 6 cfg0.N = Reference25Ideal.Read.val_main_v164 (F := Ideal) (A0 m c) (A1 m c) (A2 m c) := by
  refine (dats m 0 c).arrAt_eq_of_covers 6 _ (by decide +kernel) fun t _ y => ?_
  obtain ⟨r, j, rfl⟩ : ∃ r j, y = ix2 (n0 := 2048) (n1 := 256) r j := ⟨_, _, (ix2_eta y).symm⟩
  blk_simp
  rw [after0_6]
  obtain ⟨z, hz, h4, h5, h6⟩ := zs_eq m c t
  refine ((h6 r j).trans (act_at _ _ _ _ r j)).trans ?_
  rw [sum_eq m c t z hz r j, blk3, blk1]
  refine (PoolRef.v164_at (A0 m c) (A1 m c) (A2 m c) (grp t) r j).symm.trans ?_
  generalize Reference25Ideal.Read.val_main_v164 (F := Ideal) (A0 m c) (A1 m c) (A2 m c) = X
  blk_ext! [idx t]

theorem algebraic : Cert.algebraic_Kernel25Ideal_Reference25Ideal := by
  pair_intro
  · run_from Cert.Kernel25Ideal.Value.run_blocks m g
  · refine Idealize.ShloMosaic.θ_run_mono (Cert.Reference25Ideal.Value.run m' g') ?_
    intro r hr c
    obtain ⟨e0, e1, e2⟩ := hagree c
    change StableHlo.launchContents m' c (Proc.tc.devRef Reference25Ideal.main_arg0) = _ at e0
    change StableHlo.launchContents m' c (Proc.tc.devRef Reference25Ideal.main_arg1) = _ at e1
    change StableHlo.launchContents m' c (Proc.tc.devRef Reference25Ideal.main_arg2) = _ at e2
    refine ⟨(hr c).1.trans ((Reference25Ideal.Read.val_main_v158_eq _).trans ?_), (hr c).2.1.trans ((Reference25Ideal.Read.val_main_v159_eq _).trans ?_),
      (hr c).2.2.1.trans ((Reference25Ideal.Read.val_main_v164_eq _).trans ?_), (hr c).2.2.2⟩
    · rw [e0]; exact (final4 m c).symm
    · rw [e0, e1]; exact (final5 m c).symm
    · rw [e0, e1, e2]; exact (final6 m c).symm

theorem frame_reference : Cert.quiescent_Reference25Ideal := fun m g _ =>
  (θ_run Reference25Ideal.defs _ _).mono (fun r h => ⟨fun c => (h c).2.2.2, sem_eq_zero_of_no_sems (by decide) r.2⟩) (Reference25Ideal.Value.run m g)

end Cert.Pool25

end
-- ==== Proof.lean ====
/- The claims, assembled: the frames are the pipelines' own, the values are proved call by call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Pre_finite
public import proofs.«01_k».proof.Proof.Gen.Pre_finite12
public import proofs.«01_k».proof.Proof.Gen.Pre_finite13
public import proofs.«01_k».proof.Proof.Gen.Pre_finite14
public import proofs.«01_k».proof.Proof.Gen.Pre_finite15
public import proofs.«01_k».proof.Proof.Gen.Pre_finite23
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.ConvFinal
public import proofs.«01_k».proof.Proof.Wgrad2
public import proofs.«01_k».proof.Proof.Wgrad3
public import proofs.«01_k».proof.Proof.Wgrad4
public import proofs.«01_k».proof.Proof.Wgrad5
public import proofs.«01_k».proof.Proof.Wgrad6
public import proofs.«01_k».proof.Proof.Wgrad7
public import proofs.«01_k».proof.Proof.Wgrad8
public import proofs.«01_k».proof.Proof.Wgrad9
public import proofs.«01_k».proof.Proof.Gate10
public import proofs.«01_k».proof.Proof.Gate11
public import proofs.«01_k».proof.Proof.Latent12
public import proofs.«01_k».proof.Proof.Latent13
public import proofs.«01_k».proof.Proof.Latent14
public import proofs.«01_k».proof.Proof.Latent15
public import proofs.«01_k».proof.Proof.NormIn16
public import proofs.«01_k».proof.Proof.NormIn17
public import proofs.«01_k».proof.Proof.NormIn18
public import proofs.«01_k».proof.Proof.NormIn19
public import proofs.«01_k».proof.Proof.Resid20
public import proofs.«01_k».proof.Proof.Resid21
public import proofs.«01_k».proof.Proof.Resid22
public import proofs.«01_k».proof.Proof.Loss23
public import proofs.«01_k».proof.Proof.ConvFwd24
public import proofs.«01_k».proof.Proof.Pool25
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Pre_finite.Gen.facts, Cert.Pre_finite12.Gen.facts, Cert.Pre_finite13.Gen.facts, Cert.Pre_finite14.Gen.facts, Cert.Pre_finite15.Gen.facts, Cert.Pre_finite23.Gen.facts,
  fun m ρ _ => Cert.Kernel.Gen.frame m ρ,
  fun m ρ _ => Cert.KernelIdeal.Gen.frame m ρ,
  fun m ρ _ => Cert.KernelIdeal.Gen.frame m ρ,
  fun m ρ _ => Cert.ConvFinal.frame_reference m ρ,
  fun m ρ _ => Cert.ConvFinal.frame_reference m ρ,
  fun m ρ _ => Cert.Kernel2.Gen.frame m ρ,
  fun m ρ _ => Cert.Kernel2Ideal.Gen.frame m ρ,
  fun m ρ h => Cert.Wgrad2.frame_reference m ρ h,
  fun m ρ _ => Cert.Kernel3.Gen.frame m ρ,
  fun m ρ _ => Cert.Kernel3Ideal.Gen.frame m ρ,
  fun m ρ h => Cert.Wgrad3.frame_reference m ρ h,
  fun m ρ _ => Cert.Kernel4.Gen.frame m ρ,
  fun m ρ _ => Cert.Kernel4Ideal.Gen.frame m ρ,
  fun m ρ h => Cert.Wgrad4.frame_reference m ρ h,
  fun m ρ _ => Cert.Kernel5.Gen.frame m ρ,
  fun m ρ _ => Cert.Kernel5Ideal.Gen.frame m ρ,
  fun m ρ h => Cert.Wgrad5.frame_reference m ρ h,
  fun m ρ _ => Cert.Kernel6.Gen.frame m ρ,
  fun m ρ _ => Cert.Kernel6Ideal.Gen.frame m ρ,
  fun m ρ h => Cert.Wgrad6.frame_reference m ρ h,
  fun m ρ _ => Cert.Kernel7.Gen.frame m ρ,
  fun m ρ _ => Cert.Kernel7Ideal.Gen.frame m ρ,
  fun m ρ h => Cert.Wgrad7.frame_reference m ρ h,
  fun m ρ _ => Cert.Kernel8.Gen.frame m ρ,
  fun m ρ _ => Cert.Kernel8Ideal.Gen.frame m ρ,
  fun m ρ h => Cert.Wgrad8.frame_reference m ρ h,
  fun m ρ _ => Cert.Kernel9.Gen.frame m ρ,
  fun m ρ _ => Cert.Kernel9Ideal.Gen.frame m ρ,
  fun m ρ h => Cert.Wgrad9.frame_reference m ρ h,
  fun m ρ _ => Cert.Kernel10.Gen.frame m ρ,
  fun m ρ _ => Cert.Kernel10Ideal.Gen.frame m ρ,
  fun m ρ h => Cert.Gate10.frame_reference m ρ h,
  fun m ρ _ => Cert.Kernel11.Gen.frame m ρ,
  fun m ρ _ => Cert.Kernel11Ideal.Gen.frame m ρ,
  fun m ρ h => Cert.Gate11.frame_reference m ρ h,
  fun m ρ _ => Cert.Kernel12.Gen.frame m ρ,
  fun m ρ _ => Cert.Kernel12Ideal.Gen.frame m ρ,
  fun m ρ _ => Cert.Kernel12Ideal.Gen.frame m ρ,
  fun m ρ h => Cert.Latent12.frame_reference m ρ h,
  fun m ρ _ => Cert.Latent12.frame_reference m ρ trivial,
  fun m ρ _ => Cert.Kernel13.Gen.frame m ρ,
  fun m ρ _ => Cert.Kernel13Ideal.Gen.frame m ρ,
  fun m ρ _ => Cert.Kernel13Ideal.Gen.frame m ρ,
  fun m ρ h => Cert.Latent13.frame_reference m ρ h,
  fun m ρ _ => Cert.Latent13.frame_reference m ρ trivial,
  fun m ρ _ => Cert.Kernel14.Gen.frame m ρ,
  fun m ρ _ => Cert.Kernel14Ideal.Gen.frame m ρ,
  fun m ρ _ => Cert.Kernel14Ideal.Gen.frame m ρ,
  fun m ρ h => Cert.Latent14.frame_reference m ρ h,
  fun m ρ _ => Cert.Latent14.frame_reference m ρ trivial,
  fun m ρ _ => Cert.Kernel15.Gen.frame m ρ,
  fun m ρ _ => Cert.Kernel15Ideal.Gen.frame m ρ,
  fun m ρ _ => Cert.Kernel15Ideal.Gen.frame m ρ,
  fun m ρ h => Cert.Latent15.frame_reference m ρ h,
  fun m ρ _ => Cert.Latent15.frame_reference m ρ trivial,
  fun m ρ _ => Cert.Kernel16.Gen.frame m ρ,
  fun m ρ _ => Cert.Kernel16Ideal.Gen.frame m ρ,
  fun m ρ h => Cert.NormIn16.frame_reference m ρ h,
  fun m ρ _ => Cert.Kernel17.Gen.frame m ρ,
  fun m ρ _ => Cert.Kernel17Ideal.Gen.frame m ρ,
  fun m ρ h => Cert.NormIn17.frame_reference m ρ h,
  fun m ρ _ => Cert.Kernel18.Gen.frame m ρ,
  fun m ρ _ => Cert.Kernel18Ideal.Gen.frame m ρ,
  fun m ρ h => Cert.NormIn18.frame_reference m ρ h,
  fun m ρ _ => Cert.Kernel19.Gen.frame m ρ,
  fun m ρ _ => Cert.Kernel19Ideal.Gen.frame m ρ,
  fun m ρ h => Cert.NormIn19.frame_reference m ρ h,
  fun m ρ _ => Cert.Kernel20.Gen.frame m ρ,
  fun m ρ _ => Cert.Kernel20Ideal.Gen.frame m ρ,
  fun m ρ h => Cert.Resid20.frame_reference m ρ h,
  fun m ρ _ => Cert.Kernel21.Gen.frame m ρ,
  fun m ρ _ => Cert.Kernel21Ideal.Gen.frame m ρ,
  fun m ρ h => Cert.Resid21.frame_reference m ρ h,
  fun m ρ _ => Cert.Kernel22.Gen.frame m ρ,
  fun m ρ _ => Cert.Kernel22Ideal.Gen.frame m ρ,
  fun m ρ h => Cert.Resid22.frame_reference m ρ h,
  fun m ρ _ => Cert.Kernel23.Gen.frame m ρ,
  fun m ρ _ => Cert.Kernel23Ideal.Gen.frame m ρ,
  fun m ρ _ => Cert.Kernel23Ideal.Gen.frame m ρ,
  fun m ρ h => Cert.Loss23.frame_reference m ρ h,
  fun m ρ _ => Cert.Loss23.frame_reference m ρ trivial,
  fun m ρ _ => Cert.Kernel24.Gen.frame m ρ,
  fun m ρ _ => Cert.Kernel24Ideal.Gen.frame m ρ,
  fun m ρ h => Cert.ConvFwd24.frame_reference m ρ h,
  fun m ρ _ => Cert.Kernel25.Gen.frame m ρ,
  fun m ρ _ => Cert.Kernel25Ideal.Gen.frame m ρ,
  fun m ρ h => Cert.Pool25.frame_reference m ρ h,
  trivial, Cert.ConvFinal.algebraic,
  trivial, Cert.Wgrad2.algebraic,
  trivial, Cert.Wgrad3.algebraic,
  trivial, Cert.Wgrad4.algebraic,
  trivial, Cert.Wgrad5.algebraic,
  trivial, Cert.Wgrad6.algebraic,
  trivial, Cert.Wgrad7.algebraic,
  trivial, Cert.Wgrad8.algebraic,
  trivial, Cert.Wgrad9.algebraic,
  trivial, Cert.Gate10.algebraic,
  trivial, Cert.Gate11.algebraic,
  trivial, Cert.Latent12.algebraic,
  trivial, Cert.Latent13.algebraic,
  trivial, Cert.Latent14.algebraic,
  trivial, Cert.Latent15.algebraic,
  trivial, Cert.NormIn16.algebraic,
  trivial, Cert.NormIn17.algebraic,
  trivial, Cert.NormIn18.algebraic,
  trivial, Cert.NormIn19.algebraic,
  trivial, Cert.Resid20.algebraic,
  trivial, Cert.Resid21.algebraic,
  trivial, Cert.Resid22.algebraic,
  trivial, Cert.Loss23.algebraic,
  trivial, Cert.ConvFwd24.algebraic,
  trivial, Cert.Pool25.algebraic⟩

end Cert.Proof

end
